-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  True

def algebraic_KernelIdeal_ReferenceIdeal_on_gate_lanes [hKernelIdeal : Cert.KernelIdeal.Facts] [hReferenceIdeal : Cert.ReferenceIdeal.Facts] [hOn_gate_lanes : Cert.On_gate_lanes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)) (v2 : (c : Dev Cert.KernelIdeal.nD) → Buf (Elt Ideal) ((c.tc : Thread Cert.KernelIdeal.nD Cert.KernelIdeal.τ).loc Cert.KernelIdeal.main_v22_2)) (v3 : (c : Dev Cert.KernelIdeal.nD) → Buf (Elt Ideal) ((c.tc : Thread Cert.KernelIdeal.nD Cert.KernelIdeal.τ).loc Cert.KernelIdeal.main_v22_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![16384, 1024]⟩ : Shape).Idx, (Cert.On_gate_lanes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 i = 1#1 → r.2.mem ((c.tc : Thread Cert.KernelIdeal.nD Cert.KernelIdeal.τ).loc Cert.KernelIdeal.main_v22_0) i = v0 c i)
          ∧ (∀ i : (⟨4, ![8, 4, 256, 256]⟩ : Shape).Idx, (Cert.On_gate_lanes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 i = 1#1 → r.2.mem ((c.tc : Thread Cert.KernelIdeal.nD Cert.KernelIdeal.τ).loc Cert.KernelIdeal.main_v22_1) i = v1 c i)
          ∧ (∀ i : (⟨4, ![8, 4, 8, 256]⟩ : Shape).Idx, (Cert.On_gate_lanes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 i = 1#1 → r.2.mem ((c.tc : Thread Cert.KernelIdeal.nD Cert.KernelIdeal.τ).loc Cert.KernelIdeal.main_v22_2) i = v2 c i)
          ∧ (∀ i : (⟨3, ![8, 8, 128]⟩ : Shape).Idx, (Cert.On_gate_lanes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2 i = 1#1 → r.2.mem ((c.tc : Thread Cert.KernelIdeal.nD Cert.KernelIdeal.τ).loc Cert.KernelIdeal.main_v22_3) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![16384, 1024]⟩ : Shape).Idx, (Cert.On_gate_lanes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 i = 1#1 → r.2.mem ((c.tc : Thread Cert.ReferenceIdeal.nD Cert.ReferenceIdeal.τ).loc Cert.ReferenceIdeal.main_v112) i = v0 c i)
          ∧ (∀ i : (⟨4, ![8, 4, 256, 256]⟩ : Shape).Idx, (Cert.On_gate_lanes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 i = 1#1 → r.2.mem ((c.tc : Thread Cert.ReferenceIdeal.nD Cert.ReferenceIdeal.τ).loc Cert.ReferenceIdeal.main_v77_7) i = v1 c i)
          ∧ (∀ i : (⟨4, ![8, 4, 8, 256]⟩ : Shape).Idx, (Cert.On_gate_lanes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 i = 1#1 → r.2.mem ((c.tc : Thread Cert.ReferenceIdeal.nD Cert.ReferenceIdeal.τ).loc Cert.ReferenceIdeal.main_v114) i = v2 c i)
          ∧ (∀ i : (⟨3, ![8, 8, 128]⟩ : Shape).Idx, (Cert.On_gate_lanes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2 i = 1#1 → r.2.mem ((c.tc : Thread Cert.ReferenceIdeal.nD Cert.ReferenceIdeal.τ).loc Cert.ReferenceIdeal.main_v117) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v16_0)) (v1 : (c : Dev Cert.Kernel2Ideal.nD) → Buf (Elt Ideal) ((c.tc : Thread Cert.Kernel2Ideal.nD Cert.Kernel2Ideal.τ).loc Cert.Kernel2Ideal.main_v16_1)) (v2 : (c : Dev Cert.Kernel2Ideal.nD) → Buf (Elt Ideal) ((c.tc : Thread Cert.Kernel2Ideal.nD Cert.Kernel2Ideal.τ).loc Cert.Kernel2Ideal.main_v16_2)) (v3 : (c : Dev Cert.Kernel2Ideal.nD) → Buf (Elt Ideal) ((c.tc : Thread Cert.Kernel2Ideal.nD Cert.Kernel2Ideal.τ).loc Cert.Kernel2Ideal.main_v16_3)) (v4 : (c : Dev Cert.Kernel2Ideal.nD) → Buf (Elt Ideal) ((c.tc : Thread Cert.Kernel2Ideal.nD Cert.Kernel2Ideal.τ).loc Cert.Kernel2Ideal.main_v16_4)) (v5 : (c : Dev Cert.Kernel2Ideal.nD) → Buf (Elt Ideal) ((c.tc : Thread Cert.Kernel2Ideal.nD Cert.Kernel2Ideal.τ).loc Cert.Kernel2Ideal.main_v16_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16_0) = v0 c
          ∧ r.2.mem ((c.tc : Thread Cert.Kernel2Ideal.nD Cert.Kernel2Ideal.τ).loc Cert.Kernel2Ideal.main_v16_1) = v1 c
          ∧ r.2.mem ((c.tc : Thread Cert.Kernel2Ideal.nD Cert.Kernel2Ideal.τ).loc Cert.Kernel2Ideal.main_v16_2) = v2 c
          ∧ r.2.mem ((c.tc : Thread Cert.Kernel2Ideal.nD Cert.Kernel2Ideal.τ).loc Cert.Kernel2Ideal.main_v16_3) = v3 c
          ∧ r.2.mem ((c.tc : Thread Cert.Kernel2Ideal.nD Cert.Kernel2Ideal.τ).loc Cert.Kernel2Ideal.main_v16_4) = v4 c
          ∧ r.2.mem ((c.tc : Thread Cert.Kernel2Ideal.nD Cert.Kernel2Ideal.τ).loc Cert.Kernel2Ideal.main_v16_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v16) = v0 c
          ∧ r.2.mem ((c.tc : Thread Cert.Reference2Ideal.nD Cert.Reference2Ideal.τ).loc Cert.Reference2Ideal.main_v17) = v1 c
          ∧ r.2.mem ((c.tc : Thread Cert.Reference2Ideal.nD Cert.Reference2Ideal.τ).loc Cert.Reference2Ideal.main_v18) = v2 c
          ∧ r.2.mem ((c.tc : Thread Cert.Reference2Ideal.nD Cert.Reference2Ideal.τ).loc Cert.Reference2Ideal.main_v19) = v3 c
          ∧ r.2.mem ((c.tc : Thread Cert.Reference2Ideal.nD Cert.Reference2Ideal.τ).loc Cert.Reference2Ideal.main_v20) = v4 c
          ∧ r.2.mem ((c.tc : Thread Cert.Reference2Ideal.nD Cert.Reference2Ideal.τ).loc Cert.Reference2Ideal.main_v15) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v37) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_v14) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hOn_gate_lanes : Cert.On_gate_lanes.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_on_gate_lanes (hKernelIdeal := hKernelIdeal) (hReferenceIdeal := hReferenceIdeal) (hOn_gate_lanes := hOn_gate_lanes)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== On_gate_lanes.lean ====
abbrev S16384x1024 : Shape := ⟨2, ![16384, 1024]⟩
abbrev S16384x256 : Shape := ⟨2, ![16384, 256]⟩
abbrev S1x4x1024 : Shape := ⟨3, ![1, 4, 1024]⟩
abbrev S1x1024 : Shape := ⟨2, ![1, 1024]⟩
abbrev S1x4x256x256 : Shape := ⟨4, ![1, 4, 256, 256]⟩
abbrev S1x4 : Shape := ⟨2, ![1, 4]⟩
abbrev S1x4x256 : Shape := ⟨3, ![1, 4, 256]⟩
abbrev S8x8x128 : Shape := ⟨3, ![8, 8, 128]⟩
abbrev S_ : Shape := ⟨0, ![]⟩
abbrev S8x4x256x256 : Shape := ⟨4, ![8, 4, 256, 256]⟩
abbrev S8x4x8x256 : Shape := ⟨4, ![8, 4, 8, 256]⟩

class Facts : Prop where
  bcast_S_S16384x1024 : S_.BroadcastsInDim S16384x1024 (![] : Fin 0 → Fin S16384x1024.rank)
  bcast_S_S8x4x256x256 : S_.BroadcastsInDim S8x4x256x256 (![] : Fin 0 → Fin S8x4x256x256.rank)
  bcast_S_S8x4x8x256 : S_.BroadcastsInDim S8x4x8x256 (![] : Fin 0 → Fin S8x4x8x256.rank)
  bcast_S_S8x8x128 : S_.BroadcastsInDim S8x8x128 (![] : Fin 0 → Fin S8x8x128.rank)

variable [Facts]

def fn {F : FTy → Type} [FloatOps F] (main_arg0 : FVec F S16384x1024 .f32) (main_arg1 : FVec F S16384x1024 .f32) (main_arg2 : FVec F S16384x1024 .f32) (main_arg3 : FVec F S16384x256 .f32) (main_arg4 : FVec F S1x4x1024 .f32) (main_arg5 : FVec F S1x1024 .f32) (main_arg6 : FVec F S1x4x256x256 .f32) (main_arg7 : FVec F S1x4x256x256 .f32) (main_arg8 : FVec F S1x4 .f32) (main_arg9 : FVec F S1x4 .f32) (main_arg10 : FVec F S1x4x256 .f32) : IVec S16384x1024 1 × IVec S8x4x256x256 1 × IVec S8x4x8x256 1 × IVec S8x8x128 1 :=
  let main_v0 : IVec S8x8x128 32 := iotaInDim S8x8x128 32 2
  let main_c : IVec S_ 1 := constantI S_ 1 1#1
  let main_v1 : IVec S16384x1024 1 := broadcastInDim S16384x1024 ![] bcast_S_S16384x1024 main_c
  let main_c_0 : IVec S_ 1 := constantI S_ 1 1#1
  let main_v2 : IVec S8x4x256x256 1 := broadcastInDim S8x4x256x256 ![] bcast_S_S8x4x256x256 main_c_0
  let main_c_1 : IVec S_ 1 := constantI S_ 1 1#1
  let main_v3 : IVec S8x4x8x256 1 := broadcastInDim S8x4x8x256 ![] bcast_S_S8x4x8x256 main_c_1
  let main_c_2 : IVec S_ 32 := constantI S_ 32 16#32
  let main_v4 : IVec S8x8x128 32 := broadcastInDim S8x8x128 ![] bcast_S_S8x8x128 main_c_2
  let main_v5 : IVec S8x8x128 1 := cmpi .sge main_v0 main_v4
  let main_c_3 : IVec S_ 32 := constantI S_ 32 20#32
  let main_v6 : IVec S8x8x128 32 := broadcastInDim S8x8x128 ![] bcast_S_S8x8x128 main_c_3
  let main_v7 : IVec S8x8x128 1 := cmpi .slt main_v0 main_v6
  let main_v8 : IVec S8x8x128 1 := andi main_v5 main_v7
  (main_v1, main_v2, main_v3, main_v8)
-- ==== Kernel.lean ====
abbrev S16384x1024 : Shape := ⟨2, ![16384, 1024]⟩
abbrev S16384x256 : Shape := ⟨2, ![16384, 256]⟩
abbrev S1x4x1024 : Shape := ⟨3, ![1, 4, 1024]⟩
abbrev S1x1024 : Shape := ⟨2, ![1, 1024]⟩
abbrev S1x4x256x256 : Shape := ⟨4, ![1, 4, 256, 256]⟩
abbrev S1x4 : Shape := ⟨2, ![1, 4]⟩
abbrev S1x4x256 : Shape := ⟨3, ![1, 4, 256]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1024 : Shape := ⟨2, ![4, 1024]⟩
abbrev S1024 : Shape := ⟨1, ![1024]⟩
abbrev S4x256x256 : Shape := ⟨3, ![4, 256, 256]⟩
abbrev S4 : Shape := ⟨1, ![4]⟩
abbrev S_ : Shape := ⟨0, ![]⟩
abbrev S4x256 : Shape := ⟨2, ![4, 256]⟩
abbrev S8x4x256x256 : Shape := ⟨4, ![8, 4, 256, 256]⟩
abbrev S8x4x8x256 : Shape := ⟨4, ![8, 4, 8, 256]⟩
abbrev S8x8x128 : Shape := ⟨3, ![8, 8, 128]⟩
abbrev S128x1024 : Shape := ⟨2, ![128, 1024]⟩
abbrev S128x256 : Shape := ⟨2, ![128, 256]⟩
abbrev S1x4x8x256 : Shape := ⟨4, ![1, 4, 8, 256]⟩
abbrev S1x8x128 : Shape := ⟨3, ![1, 8, 128]⟩
abbrev S136x1024 : Shape := ⟨2, ![136, 1024]⟩
abbrev S4x8x256 : Shape := ⟨3, ![4, 8, 256]⟩
abbrev S8x128 : Shape := ⟨2, ![8, 128]⟩
abbrev S8x1024 : Shape := ⟨2, ![8, 1024]⟩
abbrev S1x256x256 : Shape := ⟨3, ![1, 256, 256]⟩
abbrev S256x256 : Shape := ⟨2, ![256, 256]⟩
abbrev S1x8x256 : Shape := ⟨3, ![1, 8, 256]⟩
abbrev S8x256 : Shape := ⟨2, ![8, 256]⟩
abbrev S1x256 : Shape := ⟨2, ![1, 256]⟩
abbrev S256x128 : Shape := ⟨2, ![256, 128]⟩
abbrev S1x1 : Shape := ⟨2, ![1, 1]⟩
abbrev S256 : Shape := ⟨1, ![256]⟩

abbrev nBuf : Space → Nat
  | .hbm => 41
  | .vmem => 28
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x256, .f32⟩
  | .hbm, ⟨4, _⟩ => ⟨S1x4x1024, .f32⟩
  | .hbm, ⟨5, _⟩ => ⟨S1x1024, .f32⟩
  | .hbm, ⟨6, _⟩ => ⟨S1x4x256x256, .f32⟩
  | .hbm, ⟨7, _⟩ => ⟨S1x4x256x256, .f32⟩
  | .hbm, ⟨8, _⟩ => ⟨S1x4, .f32⟩
  | .hbm, ⟨9, _⟩ => ⟨S1x4, .f32⟩
  | .hbm, ⟨10, _⟩ => ⟨S1x4x256, .f32⟩
  | .hbm, ⟨11, _⟩ => ⟨S128, .i32⟩
  | .hbm, ⟨12, _⟩ => ⟨S128x1, .i32⟩
  | .hbm, ⟨13, _⟩ => ⟨S1x128, .i32⟩
  | .hbm, ⟨14, _⟩ => ⟨S128x128, .i32⟩
  | .hbm, ⟨15, _⟩ => ⟨S128x128, .i32⟩
  | .hbm, ⟨16, _⟩ => ⟨S128x128, .i1⟩
  | .hbm, ⟨17, _⟩ => ⟨S128x128, .bf16⟩
  | .hbm, ⟨18, _⟩ => ⟨S4x1024, .f32⟩
  | .hbm, ⟨19, _⟩ => ⟨S1024, .f32⟩
  | .hbm, ⟨20, _⟩ => ⟨S1x1024, .f32⟩
  | .hbm, ⟨21, _⟩ => ⟨S4x256x256, .f32⟩
  | .hbm, ⟨22, _⟩ => ⟨S4x256x256, .bf16⟩
  | .hbm, ⟨23, _⟩ => ⟨S4x256x256, .f32⟩
  | .hbm, ⟨24, _⟩ => ⟨S4x256x256, .bf16⟩
  | .hbm, ⟨25, _⟩ => ⟨S4, .f32⟩
  | .hbm, ⟨26, _⟩ => ⟨S_, .i32⟩
  | .hbm, ⟨27, _⟩ => ⟨S_, .f32⟩
  | .hbm, ⟨28, _⟩ => ⟨S128, .f32⟩
  | .hbm, ⟨29, _⟩ => ⟨S1x128, .f32⟩
  | .hbm, ⟨30, _⟩ => ⟨S4, .f32⟩
  | .hbm, ⟨31, _⟩ => ⟨S_, .i32⟩
  | .hbm, ⟨32, _⟩ => ⟨S_, .f32⟩
  | .hbm, ⟨33, _⟩ => ⟨S128, .f32⟩
  | .hbm, ⟨34, _⟩ => ⟨S1x128, .f32⟩
  | .hbm, ⟨35, _⟩ => ⟨S4x256, .f32⟩
  | .hbm, ⟨36, _⟩ => ⟨S1x1024, .f32⟩
  | .hbm, ⟨37, _⟩ => ⟨S16384x1024, .bf16⟩
  | .hbm, ⟨38, _⟩ => ⟨S8x4x256x256, .f32⟩
  | .hbm, ⟨39, _⟩ => ⟨S8x4x8x256, .f32⟩
  | .hbm, ⟨40, _⟩ => ⟨S8x8x128, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x256, .f32⟩
  | .local _ .vmem, ⟨7, _⟩ => ⟨S128x256, .f32⟩
  | .local _ .vmem, ⟨8, _⟩ => ⟨S4x1024, .f32⟩
  | .local _ .vmem, ⟨9, _⟩ => ⟨S1x1024, .f32⟩
  | .local _ .vmem, ⟨10, _⟩ => ⟨S4x256x256, .bf16⟩
  | .local _ .vmem, ⟨11, _⟩ => ⟨S4x256x256, .bf16⟩
  | .local _ .vmem, ⟨12, _⟩ => ⟨S1x128, .f32⟩
  | .local _ .vmem, ⟨13, _⟩ => ⟨S1x128, .f32⟩
  | .local _ .vmem, ⟨14, _⟩ => ⟨S1x1024, .f32⟩
  | .local _ .vmem, ⟨15, _⟩ => ⟨S128x128, .bf16⟩
  | .local _ .vmem, ⟨16, _⟩ => ⟨S128x1024, .bf16⟩
  | .local _ .vmem, ⟨17, _⟩ => ⟨S128x1024, .bf16⟩
  | .local _ .vmem, ⟨18, _⟩ => ⟨S1x4x256x256, .f32⟩
  | .local _ .vmem, ⟨19, _⟩ => ⟨S1x4x256x256, .f32⟩
  | .local _ .vmem, ⟨20, _⟩ => ⟨S1x4x8x256, .f32⟩
  | .local _ .vmem, ⟨21, _⟩ => ⟨S1x4x8x256, .f32⟩
  | .local _ .vmem, ⟨22, _⟩ => ⟨S1x8x128, .f32⟩
  | .local _ .vmem, ⟨23, _⟩ => ⟨S1x8x128, .f32⟩
  | .local _ .vmem, ⟨24, _⟩ => ⟨S136x1024, .f32⟩
  | .local _ .vmem, ⟨25, _⟩ => ⟨S4x256x256, .f32⟩
  | .local _ .vmem, ⟨26, _⟩ => ⟨S4x8x256, .f32⟩
  | .local _ .vmem, ⟨27, _⟩ => ⟨S8x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_call0_v0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_0 : Ref sig .tc := ⟨.hbm, 31, rfl⟩
abbrev main_call1_v0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22_0 : Ref sig .tc := ⟨.hbm, 37, rfl⟩
abbrev main_v22_1 : Ref sig .tc := ⟨.hbm, 38, rfl⟩
abbrev main_v22_2 : Ref sig .tc := ⟨.hbm, 39, rfl⟩
abbrev main_v22_3 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v574 : BitVec 1 := Scalar.cmpi .eq arg1 c15_i32
  let v575 : BitVec 32 := Scalar.extui v574
  let c0_i32_227 : BitVec 32 := 0#32
  let v576 : BitVec 1 := Scalar.cmpi .ne v575 c0_i32_227
  v576

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S128x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x4x256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x4x8x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x8x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== ReferenceIdeal.lean ====
abbrev S16384x1024 : Shape := ⟨2, ![16384, 1024]⟩
abbrev S16384x256 : Shape := ⟨2, ![16384, 256]⟩
abbrev S1x4x1024 : Shape := ⟨3, ![1, 4, 1024]⟩
abbrev S1x1024 : Shape := ⟨2, ![1, 1024]⟩
abbrev S1x4x256x256 : Shape := ⟨4, ![1, 4, 256, 256]⟩
abbrev S1x4 : Shape := ⟨2, ![1, 4]⟩
abbrev S1x4x256 : Shape := ⟨3, ![1, 4, 256]⟩
abbrev S8x2048x1024 : Shape := ⟨3, ![8, 2048, 1024]⟩
abbrev S16384x4 : Shape := ⟨2, ![16384, 4]⟩
abbrev S8x2048x4 : Shape := ⟨3, ![8, 2048, 4]⟩
abbrev S_ : Shape := ⟨0, ![]⟩
abbrev S8x3x1024 : Shape := ⟨3, ![8, 3, 1024]⟩
abbrev S4x1024 : Shape := ⟨2, ![4, 1024]⟩
abbrev S1024 : Shape := ⟨1, ![1024]⟩
abbrev S8x2051x1024 : Shape := ⟨3, ![8, 2051, 1024]⟩
abbrev S1x1x1024 : Shape := ⟨3, ![1, 1, 1024]⟩
abbrev S8x2048x4x256 : Shape := ⟨4, ![8, 2048, 4, 256]⟩
abbrev S4x256x256 : Shape := ⟨3, ![4, 256, 256]⟩
abbrev S4x256x8x2048 : Shape := ⟨4, ![4, 256, 8, 2048]⟩
abbrev S4 : Shape := ⟨1, ![4]⟩
abbrev S1x1x4 : Shape := ⟨3, ![1, 1, 4]⟩
abbrev S8x4x256x256 : Shape := ⟨4, ![8, 4, 256, 256]⟩
abbrev S8x4x256 : Shape := ⟨3, ![8, 4, 256]⟩
abbrev S8x4 : Shape := ⟨2, ![8, 4]⟩
abbrev S128x128 : Shape := ⟨2, ![128, 128]⟩
abbrev S1x128x128x1 : Shape := ⟨4, ![1, 128, 128, 1]⟩
abbrev S8x16x128x4x256 : Shape := ⟨5, ![8, 16, 128, 4, 256]⟩
abbrev S16x8x128x4x256 : Shape := ⟨5, ![16, 8, 128, 4, 256]⟩
abbrev S8x16x128x4 : Shape := ⟨4, ![8, 16, 128, 4]⟩
abbrev S16x8x128x4 : Shape := ⟨4, ![16, 8, 128, 4]⟩
abbrev S1x8x128x4x256 : Shape := ⟨5, ![1, 8, 128, 4, 256]⟩
abbrev S8x128x4x256 : Shape := ⟨4, ![8, 128, 4, 256]⟩
abbrev S1x8x128x4 : Shape := ⟨4, ![1, 8, 128, 4]⟩
abbrev S8x128x4 : Shape := ⟨3, ![8, 128, 4]⟩
abbrev S8x128x1x4 : Shape := ⟨4, ![8, 128, 1, 4]⟩
abbrev S8x1x128x4 : Shape := ⟨4, ![8, 1, 128, 4]⟩
abbrev S8x128x128x4 : Shape := ⟨4, ![8, 128, 128, 4]⟩
abbrev S8x1x4 : Shape := ⟨3, ![8, 1, 4]⟩
abbrev S8x4x128x128 : Shape := ⟨4, ![8, 4, 128, 128]⟩
abbrev S8x4x256x128 : Shape := ⟨4, ![8, 4, 256, 128]⟩
abbrev S8x128x4x1 : Shape := ⟨4, ![8, 128, 4, 1]⟩
abbrev S8x4x128 : Shape := ⟨3, ![8, 4, 128]⟩
abbrev S8x4x1x1 : Shape := ⟨4, ![8, 4, 1, 1]⟩
abbrev S8x4x1 : Shape := ⟨3, ![8, 4, 1]⟩
abbrev S8x2048x4x1 : Shape := ⟨4, ![8, 2048, 4, 1]⟩
abbrev S4x256 : Shape := ⟨2, ![4, 256]⟩
abbrev S1x1x4x256 : Shape := ⟨4, ![1, 1, 4, 256]⟩
abbrev S8x4x1x256 : Shape := ⟨4, ![8, 4, 1, 256]⟩
abbrev S8x4x8x256 : Shape := ⟨4, ![8, 4, 8, 256]⟩
abbrev S8x128 : Shape := ⟨2, ![8, 128]⟩
abbrev S8x1x128 : Shape := ⟨3, ![8, 1, 128]⟩
abbrev S8x8x128 : Shape := ⟨3, ![8, 8, 128]⟩

abbrev nBuf : Space → Nat
  | .hbm => 307
  | .vmem => 0
  | .smem => 0
  | _ => 0

abbrev hbmTy0_0 (i : Nat) : BufTy := match i % 128 with
  | 0 => ⟨S16384x1024, .f32⟩
  | 1 => ⟨S16384x1024, .f32⟩
  | 2 => ⟨S16384x1024, .f32⟩
  | 3 => ⟨S16384x256, .f32⟩
  | 4 => ⟨S1x4x1024, .f32⟩
  | 5 => ⟨S1x1024, .f32⟩
  | 6 => ⟨S1x4x256x256, .f32⟩
  | 7 => ⟨S1x4x256x256, .f32⟩
  | 8 => ⟨S1x4, .f32⟩
  | 9 => ⟨S1x4, .f32⟩
  | 10 => ⟨S1x4x256, .f32⟩
  | 11 => ⟨S8x2048x1024, .f32⟩
  | 12 => ⟨S8x2048x1024, .f32⟩
  | 13 => ⟨S16384x4, .f32⟩
  | 14 => ⟨S8x2048x4, .f32⟩
  | 15 => ⟨S16384x4, .f32⟩
  | 16 => ⟨S8x2048x4, .f32⟩
  | 17 => ⟨S_, .f32⟩
  | 18 => ⟨S8x3x1024, .f32⟩
  | 19 => ⟨S4x1024, .f32⟩
  | 20 => ⟨S1024, .f32⟩
  | 21 => ⟨S8x2051x1024, .f32⟩
  | 22 => ⟨S8x2048x1024, .f32⟩
  | 23 => ⟨S1x1024, .f32⟩
  | 24 => ⟨S1024, .f32⟩
  | 25 => ⟨S1x1x1024, .f32⟩
  | 26 => ⟨S8x2048x1024, .f32⟩
  | 27 => ⟨S8x2048x1024, .f32⟩
  | 28 => ⟨S1x1x1024, .f32⟩
  | 29 => ⟨S8x2048x1024, .f32⟩
  | 30 => ⟨S8x2048x1024, .f32⟩
  | 31 => ⟨S8x2048x1024, .f32⟩
  | 32 => ⟨S1x1024, .f32⟩
  | 33 => ⟨S1024, .f32⟩
  | 34 => ⟨S1x1x1024, .f32⟩
  | 35 => ⟨S8x2048x1024, .f32⟩
  | 36 => ⟨S8x2048x1024, .f32⟩
  | 37 => ⟨S8x2048x1024, .f32⟩
  | 38 => ⟨S8x2048x1024, .f32⟩
  | 39 => ⟨S1x1024, .f32⟩
  | 40 => ⟨S1024, .f32⟩
  | 41 => ⟨S1x1x1024, .f32⟩
  | 42 => ⟨S8x2048x1024, .f32⟩
  | 43 => ⟨S8x2048x1024, .f32⟩
  | 44 => ⟨S8x2048x1024, .f32⟩
  | 45 => ⟨S8x2048x1024, .f32⟩
  | 46 => ⟨S1x1024, .f32⟩
  | 47 => ⟨S1024, .f32⟩
  | 48 => ⟨S1x1x1024, .f32⟩
  | 49 => ⟨S8x2048x1024, .f32⟩
  | 50 => ⟨S8x2048x1024, .f32⟩
  | 51 => ⟨S8x2048x1024, .f32⟩
  | 52 => ⟨S8x2048x1024, .f32⟩
  | 53 => ⟨S8x2048x1024, .f32⟩
  | 54 => ⟨S_, .f32⟩
  | 55 => ⟨S8x2048x1024, .f32⟩
  | 56 => ⟨S8x2048x1024, .f32⟩
  | 57 => ⟨S_, .f32⟩
  | 58 => ⟨S8x2048x1024, .f32⟩
  | 59 => ⟨S8x2048x1024, .f32⟩
  | 60 => ⟨S8x2048x1024, .f32⟩
  | 61 => ⟨S8x2048x4x256, .f32⟩
  | 62 => ⟨S4x256x256, .f32⟩
  | 63 => ⟨S4x256x8x2048, .f32⟩
  | 64 => ⟨S8x2048x4x256, .f32⟩
  | 65 => ⟨S4x256x256, .f32⟩
  | 66 => ⟨S4x256x8x2048, .f32⟩
  | 67 => ⟨S8x2048x4x256, .f32⟩
  | 68 => ⟨S_, .f32⟩
  | 69 => ⟨S8x2048x4x256, .f32⟩
  | 70 => ⟨S8x2048x4x256, .f32⟩
  | 71 => ⟨S8x2048x4x256, .f32⟩
  | 72 => ⟨S4, .f32⟩
  | 73 => ⟨S1x1x4, .f32⟩
  | 74 => ⟨S8x2048x4, .f32⟩
  | 75 => ⟨S8x2048x4, .f32⟩
  | 76 => ⟨S4, .f32⟩
  | 77 => ⟨S1x1x4, .f32⟩
  | 78 => ⟨S8x2048x4, .f32⟩
  | 79 => ⟨S8x2048x4, .f32⟩
  | 80 => ⟨S8x2048x4, .f32⟩
  | 81 => ⟨S_, .f32⟩
  | 82 => ⟨S8x2048x4, .f32⟩
  | 83 => ⟨S8x2048x4, .f32⟩
  | 84 => ⟨S8x2048x4, .f32⟩
  | 85 => ⟨S8x2048x4, .f32⟩
  | 86 => ⟨S8x2048x4, .i1⟩
  | 87 => ⟨S8x2048x4, .f32⟩
  | 88 => ⟨S8x2048x4, .f32⟩
  | 89 => ⟨S8x2048x4, .f32⟩
  | 90 => ⟨S8x2048x4, .f32⟩
  | 91 => ⟨S8x2048x4, .f32⟩
  | 92 => ⟨S8x2048x4, .f32⟩
  | 93 => ⟨S8x2048x4, .f32⟩
  | 94 => ⟨S8x2048x4, .f32⟩
  | 95 => ⟨S8x2048x4, .f32⟩
  | 96 => ⟨S_, .f32⟩
  | 97 => ⟨S8x4x256x256, .f32⟩
  | 98 => ⟨S_, .f32⟩
  | 99 => ⟨S8x4x256, .f32⟩
  | 100 => ⟨S_, .f32⟩
  | 101 => ⟨S8x4, .f32⟩
  | 102 => ⟨S_, .i1⟩
  | 103 => ⟨S128x128, .i1⟩
  | 104 => ⟨S128x128, .i32⟩
  | 105 => ⟨S_, .i32⟩
  | 106 => ⟨S128x128, .i32⟩
  | 107 => ⟨S128x128, .i32⟩
  | 108 => ⟨S128x128, .i32⟩
  | 109 => ⟨S128x128, .i1⟩
  | 110 => ⟨S_, .i1⟩
  | 111 => ⟨S128x128, .i1⟩
  | 112 => ⟨S128x128, .i1⟩
  | 113 => ⟨S1x128x128x1, .i1⟩
  | 114 => ⟨S8x16x128x4x256, .f32⟩
  | 115 => ⟨S16x8x128x4x256, .f32⟩
  | 116 => ⟨S8x16x128x4x256, .f32⟩
  | 117 => ⟨S16x8x128x4x256, .f32⟩
  | 118 => ⟨S8x16x128x4x256, .f32⟩
  | 119 => ⟨S16x8x128x4x256, .f32⟩
  | 120 => ⟨S8x16x128x4, .f32⟩
  | 121 => ⟨S16x8x128x4, .f32⟩
  | 122 => ⟨S8x16x128x4, .f32⟩
  | 123 => ⟨S16x8x128x4, .f32⟩
  | 124 => ⟨S_, .f32⟩
  | 125 => ⟨S16x8x128x4x256, .f32⟩
  | 126 => ⟨S_, .i32⟩
  | 127 => ⟨S16x8x128x4x256, .f32⟩
  | _ => ⟨S16384x1024, .f32⟩

abbrev hbmTy0_1 (i : Nat) : BufTy := match i % 128 with
  | 0 => ⟨S16x8x128x4x256, .f32⟩
  | 1 => ⟨S16x8x128x4x256, .f32⟩
  | 2 => ⟨S16x8x128x4, .f32⟩
  | 3 => ⟨S16x8x128x4, .f32⟩
  | 4 => ⟨S1x128x128x1, .i1⟩
  | 5 => ⟨S_, .i32⟩
  | 6 => ⟨S8x4x256x256, .f32⟩
  | 7 => ⟨S8x4x256, .f32⟩
  | 8 => ⟨S8x4, .f32⟩
  | 9 => ⟨S16x8x128x4x256, .f32⟩
  | 10 => ⟨S_, .i32⟩
  | 11 => ⟨S_, .i1⟩
  | 12 => ⟨S_, .i32⟩
  | 13 => ⟨S_, .i32⟩
  | 14 => ⟨S_, .i32⟩
  | 15 => ⟨S_, .i32⟩
  | 16 => ⟨S1x8x128x4x256, .f32⟩
  | 17 => ⟨S8x128x4x256, .f32⟩
  | 18 => ⟨S_, .i32⟩
  | 19 => ⟨S_, .i32⟩
  | 20 => ⟨S_, .i32⟩
  | 21 => ⟨S_, .i32⟩
  | 22 => ⟨S1x8x128x4x256, .f32⟩
  | 23 => ⟨S8x128x4x256, .f32⟩
  | 24 => ⟨S_, .i32⟩
  | 25 => ⟨S_, .i32⟩
  | 26 => ⟨S_, .i32⟩
  | 27 => ⟨S_, .i32⟩
  | 28 => ⟨S1x8x128x4x256, .f32⟩
  | 29 => ⟨S8x128x4x256, .f32⟩
  | 30 => ⟨S_, .i32⟩
  | 31 => ⟨S_, .i32⟩
  | 32 => ⟨S_, .i32⟩
  | 33 => ⟨S1x8x128x4, .f32⟩
  | 34 => ⟨S8x128x4, .f32⟩
  | 35 => ⟨S_, .i32⟩
  | 36 => ⟨S_, .i32⟩
  | 37 => ⟨S_, .i32⟩
  | 38 => ⟨S1x8x128x4, .f32⟩
  | 39 => ⟨S8x128x4, .f32⟩
  | 40 => ⟨S_, .f32⟩
  | 41 => ⟨S_, .f32⟩
  | 42 => ⟨S8x128x4, .f32⟩
  | 43 => ⟨S8x128x1x4, .f32⟩
  | 44 => ⟨S8x1x128x4, .f32⟩
  | 45 => ⟨S8x128x128x4, .f32⟩
  | 46 => ⟨S8x128x128x4, .f32⟩
  | 47 => ⟨S8x128x128x4, .f32⟩
  | 48 => ⟨S8x1x128x4, .f32⟩
  | 49 => ⟨S8x128x128x4, .f32⟩
  | 50 => ⟨S8x128x128x4, .f32⟩
  | 51 => ⟨S_, .f32⟩
  | 52 => ⟨S_, .f32⟩
  | 53 => ⟨S8x128x128x4, .i1⟩
  | 54 => ⟨S8x128x128x4, .f32⟩
  | 55 => ⟨S8x128x128x4, .f32⟩
  | 56 => ⟨S8x1x4, .f32⟩
  | 57 => ⟨S8x128x4, .f32⟩
  | 58 => ⟨S8x128x4, .f32⟩
  | 59 => ⟨S_, .f32⟩
  | 60 => ⟨S8x128x4, .f32⟩
  | 61 => ⟨S8x128x4, .f32⟩
  | 62 => ⟨S8x128x4, .f32⟩
  | 63 => ⟨S8x128x4, .f32⟩
  | 64 => ⟨S8x4x128x128, .f32⟩
  | 65 => ⟨S8x128x128x4, .f32⟩
  | 66 => ⟨S8x128x1x4, .f32⟩
  | 67 => ⟨S8x128x128x4, .f32⟩
  | 68 => ⟨S8x128x128x4, .f32⟩
  | 69 => ⟨S8x128x128x4, .f32⟩
  | 70 => ⟨S8x128x128x4, .f32⟩
  | 71 => ⟨S8x4x256x128, .f32⟩
  | 72 => ⟨S8x128x4x256, .f32⟩
  | 73 => ⟨S8x128x4x1, .f32⟩
  | 74 => ⟨S8x4x256x128, .f32⟩
  | 75 => ⟨S8x128x4x256, .f32⟩
  | 76 => ⟨S8x128x4x256, .f32⟩
  | 77 => ⟨S8x128x4x256, .f32⟩
  | 78 => ⟨S8x128x4x256, .f32⟩
  | 79 => ⟨S_, .f32⟩
  | 80 => ⟨S8x128x4, .f32⟩
  | 81 => ⟨S8x4x128, .f32⟩
  | 82 => ⟨S8x128x4, .f32⟩
  | 83 => ⟨S8x128x4, .f32⟩
  | 84 => ⟨S8x128x4, .f32⟩
  | 85 => ⟨S8x128x4, .f32⟩
  | 86 => ⟨S8x128x4, .f32⟩
  | 87 => ⟨S8x128x4, .f32⟩
  | 88 => ⟨S8x128x4, .f32⟩
  | 89 => ⟨S8x128x4x1, .f32⟩
  | 90 => ⟨S8x128x4x256, .f32⟩
  | 91 => ⟨S8x128x4x256, .f32⟩
  | 92 => ⟨S8x1x4, .f32⟩
  | 93 => ⟨S8x4, .f32⟩
  | 94 => ⟨S8x1x4, .f32⟩
  | 95 => ⟨S8x128x4, .f32⟩
  | 96 => ⟨S8x128x4, .f32⟩
  | 97 => ⟨S8x128x4, .f32⟩
  | 98 => ⟨S8x4, .f32⟩
  | 99 => ⟨S_, .f32⟩
  | 100 => ⟨S8x4, .f32⟩
  | 101 => ⟨S8x4, .f32⟩
  | 102 => ⟨S8x4, .f32⟩
  | 103 => ⟨S8x4, .f32⟩
  | 104 => ⟨S8x4, .f32⟩
  | 105 => ⟨S8x1x4, .f32⟩
  | 106 => ⟨S8x128x4, .f32⟩
  | 107 => ⟨S8x128x4, .f32⟩
  | 108 => ⟨S8x128x4, .f32⟩
  | 109 => ⟨S8x4x1x1, .f32⟩
  | 110 => ⟨S8x4x256x256, .f32⟩
  | 111 => ⟨S8x4x256x256, .f32⟩
  | 112 => ⟨S8x128x4x1, .f32⟩
  | 113 => ⟨S8x128x4x256, .f32⟩
  | 114 => ⟨S8x128x4x256, .f32⟩
  | 115 => ⟨S8x4x256x256, .f32⟩
  | 116 => ⟨S8x4x256x256, .f32⟩
  | 117 => ⟨S8x4x1, .f32⟩
  | 118 => ⟨S8x4x256, .f32⟩
  | 119 => ⟨S8x4x256, .f32⟩
  | 120 => ⟨S8x4x256, .f32⟩
  | 121 => ⟨S8x4x256, .f32⟩
  | 122 => ⟨S1x8x128x4x256, .f32⟩
  | 123 => ⟨S_, .i32⟩
  | 124 => ⟨S_, .i32⟩
  | 125 => ⟨S_, .i32⟩
  | 126 => ⟨S_, .i32⟩
  | 127 => ⟨S16x8x128x4x256, .f32⟩
  | _ => ⟨S16384x1024, .f32⟩

abbrev hbmTy0_2 (i : Nat) : BufTy := match i % 128 with
  | 0 => ⟨S_, .i32⟩
  | 1 => ⟨S_, .i32⟩
  | 2 => ⟨S8x16x128x4x256, .f32⟩
  | 3 => ⟨S8x2048x4x256, .f32⟩
  | 4 => ⟨S_, .f32⟩
  | 5 => ⟨S8x2048x4, .f32⟩
  | 6 => ⟨S8x2048x4x1, .f32⟩
  | 7 => ⟨S_, .f32⟩
  | 8 => ⟨S8x2048x4x1, .f32⟩
  | 9 => ⟨S8x2048x4x1, .f32⟩
  | 10 => ⟨S8x2048x4x256, .f32⟩
  | 11 => ⟨S8x2048x4x256, .f32⟩
  | 12 => ⟨S8x2048x4x256, .f32⟩
  | 13 => ⟨S_, .f32⟩
  | 14 => ⟨S8x2048x4, .f32⟩
  | 15 => ⟨S8x2048x4x1, .f32⟩
  | 16 => ⟨S_, .f32⟩
  | 17 => ⟨S8x2048x4x1, .f32⟩
  | 18 => ⟨S8x2048x4x1, .f32⟩
  | 19 => ⟨S8x2048x4x256, .f32⟩
  | 20 => ⟨S8x2048x4x256, .f32⟩
  | 21 => ⟨S_, .f32⟩
  | 22 => ⟨S8x2048x4x1, .f32⟩
  | 23 => ⟨S8x2048x4x1, .f32⟩
  | 24 => ⟨S8x2048x4x1, .f32⟩
  | 25 => ⟨S8x2048x4x256, .f32⟩
  | 26 => ⟨S8x2048x4x256, .f32⟩
  | 27 => ⟨S4x256, .f32⟩
  | 28 => ⟨S1x1x4x256, .f32⟩
  | 29 => ⟨S8x2048x4x256, .f32⟩
  | 30 => ⟨S8x2048x4x256, .f32⟩
  | 31 => ⟨S8x2048x1024, .f32⟩
  | 32 => ⟨S8x2048x1024, .f32⟩
  | 33 => ⟨S8x2048x1024, .f32⟩
  | 34 => ⟨S_, .f32⟩
  | 35 => ⟨S8x2048x1024, .f32⟩
  | 36 => ⟨S8x2048x1024, .f32⟩
  | 37 => ⟨S_, .f32⟩
  | 38 => ⟨S8x2048x1024, .f32⟩
  | 39 => ⟨S8x2048x1024, .f32⟩
  | 40 => ⟨S8x2048x4x256, .f32⟩
  | 41 => ⟨S8x2048x4x256, .f32⟩
  | 42 => ⟨S16384x1024, .f32⟩
  | 43 => ⟨S16384x1024, .bf16⟩
  | 44 => ⟨S8x4x1x256, .f32⟩
  | 45 => ⟨S8x4x8x256, .f32⟩
  | 46 => ⟨S_, .i32⟩
  | 47 => ⟨S_, .f32⟩
  | 48 => ⟨S8x128, .f32⟩
  | 49 => ⟨S8x1x128, .f32⟩
  | 50 => ⟨S8x8x128, .f32⟩
  | _ => ⟨S16384x1024, .f32⟩

abbrev hbmTy (i : Nat) : BufTy := match i / 128 with
  | 0 => hbmTy0_0 i
  | 1 => hbmTy0_1 i
  | 2 => hbmTy0_2 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_0 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_call1_v0 : Ref sig .tc := ⟨.hbm, 80, rfl⟩
abbrev main_call1_call0_cst : Ref sig .tc := ⟨.hbm, 81, rfl⟩
abbrev main_call1_call0_v0 : Ref sig .tc := ⟨.hbm, 82, rfl⟩
abbrev main_call1_call0_v1 : Ref sig .tc := ⟨.hbm, 83, rfl⟩
abbrev main_call1_call0_v2 : Ref sig .tc := ⟨.hbm, 84, rfl⟩
abbrev main_call1_call0_v3 : Ref sig .tc := ⟨.hbm, 85, rfl⟩
abbrev main_call1_call0_v4 : Ref sig .tc := ⟨.hbm, 86, rfl⟩
abbrev main_call1_call0_v5 : Ref sig .tc := ⟨.hbm, 87, rfl⟩
abbrev main_call1_call0_v6 : Ref sig .tc := ⟨.hbm, 88, rfl⟩
abbrev main_call1_call0_v7 : Ref sig .tc := ⟨.hbm, 89, rfl⟩
abbrev main_call1_call0_v8 : Ref sig .tc := ⟨.hbm, 90, rfl⟩
abbrev main_call1_call0_v9 : Ref sig .tc := ⟨.hbm, 91, rfl⟩
abbrev main_call1_call0_v10 : Ref sig .tc := ⟨.hbm, 92, rfl⟩
abbrev main_call1_call0_v11 : Ref sig .tc := ⟨.hbm, 93, rfl⟩
abbrev main_call1_v1 : Ref sig .tc := ⟨.hbm, 94, rfl⟩
abbrev main_v59 : Ref sig .tc := ⟨.hbm, 95, rfl⟩
abbrev main_cst_1 : Ref sig .tc := ⟨.hbm, 96, rfl⟩
abbrev main_v60 : Ref sig .tc := ⟨.hbm, 97, rfl⟩
abbrev main_cst_2 : Ref sig .tc := ⟨.hbm, 98, rfl⟩
abbrev main_v61 : Ref sig .tc := ⟨.hbm, 99, rfl⟩
abbrev main_cst_3 : Ref sig .tc := ⟨.hbm, 100, rfl⟩
abbrev main_v62 : Ref sig .tc := ⟨.hbm, 101, rfl⟩
abbrev main_c : Ref sig .tc := ⟨.hbm, 102, rfl⟩
abbrev main_v63 : Ref sig .tc := ⟨.hbm, 103, rfl⟩
abbrev main_call2_v0 : Ref sig .tc := ⟨.hbm, 104, rfl⟩
abbrev main_call2_c : Ref sig .tc := ⟨.hbm, 105, rfl⟩
abbrev main_call2_v1 : Ref sig .tc := ⟨.hbm, 106, rfl⟩
abbrev main_call2_v2 : Ref sig .tc := ⟨.hbm, 107, rfl⟩
abbrev main_call2_v3 : Ref sig .tc := ⟨.hbm, 108, rfl⟩
abbrev main_call2_v4 : Ref sig .tc := ⟨.hbm, 109, rfl⟩
abbrev main_call2_c_0 : Ref sig .tc := ⟨.hbm, 110, rfl⟩
abbrev main_call2_v5 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_cst_4 : Ref sig .tc := ⟨.hbm, 124, rfl⟩
abbrev main_v76 : Ref sig .tc := ⟨.hbm, 125, rfl⟩
abbrev main_c_5 : Ref sig .tc := ⟨.hbm, 126, rfl⟩
abbrev main_v77_0 : Ref sig .tc := ⟨.hbm, 127, rfl⟩
abbrev main_v77_1 : Ref sig .tc := ⟨.hbm, 128, rfl⟩
abbrev main_v77_2 : Ref sig .tc := ⟨.hbm, 129, rfl⟩
abbrev main_v77_3 : Ref sig .tc := ⟨.hbm, 130, rfl⟩
abbrev main_v77_4 : Ref sig .tc := ⟨.hbm, 131, rfl⟩
abbrev main_v77_5 : Ref sig .tc := ⟨.hbm, 132, rfl⟩
abbrev main_v77_6 : Ref sig .tc := ⟨.hbm, 133, rfl⟩
abbrev main_v77_7 : Ref sig .tc := ⟨.hbm, 134, rfl⟩
abbrev main_v77_8 : Ref sig .tc := ⟨.hbm, 135, rfl⟩
abbrev main_v77_9 : Ref sig .tc := ⟨.hbm, 136, rfl⟩
abbrev main_v77_10 : Ref sig .tc := ⟨.hbm, 137, rfl⟩
abbrev main_while0c_c_24 : Ref sig .tc := ⟨.hbm, 138, rfl⟩
abbrev main_while0c_v118 : Ref sig .tc := ⟨.hbm, 139, rfl⟩
abbrev main_while0b_call3_c : Ref sig .tc := ⟨.hbm, 140, rfl⟩
abbrev main_while0b_call3_c_0 : Ref sig .tc := ⟨.hbm, 141, rfl⟩
abbrev main_while0b_call3_c_1 : Ref sig .tc := ⟨.hbm, 142, rfl⟩
abbrev main_while0b_call3_c_2 : Ref sig .tc := ⟨.hbm, 143, rfl⟩
abbrev main_while0b_call3_v0 : Ref sig .tc := ⟨.hbm, 144, rfl⟩
abbrev main_while0b_v118 : Ref sig .tc := ⟨.hbm, 145, rfl⟩
abbrev main_while0b_call4_c : Ref sig .tc := ⟨.hbm, 146, rfl⟩
abbrev main_while0b_call4_c_0 : Ref sig .tc := ⟨.hbm, 147, rfl⟩
abbrev main_while0b_call4_c_1 : Ref sig .tc := ⟨.hbm, 148, rfl⟩
abbrev main_while0b_call4_c_2 : Ref sig .tc := ⟨.hbm, 149, rfl⟩
abbrev main_while0b_call4_v0 : Ref sig .tc := ⟨.hbm, 150, rfl⟩
abbrev main_while0b_v119 : Ref sig .tc := ⟨.hbm, 151, rfl⟩
abbrev main_while0b_call5_c : Ref sig .tc := ⟨.hbm, 152, rfl⟩
abbrev main_while0b_call5_c_0 : Ref sig .tc := ⟨.hbm, 153, rfl⟩
abbrev main_while0b_call5_c_1 : Ref sig .tc := ⟨.hbm, 154, rfl⟩
abbrev main_while0b_call5_c_2 : Ref sig .tc := ⟨.hbm, 155, rfl⟩
abbrev main_while0b_call5_v0 : Ref sig .tc := ⟨.hbm, 156, rfl⟩
abbrev main_while0b_v120 : Ref sig .tc := ⟨.hbm, 157, rfl⟩
abbrev main_while0b_call6_c : Ref sig .tc := ⟨.hbm, 158, rfl⟩
abbrev main_while0b_call6_c_0 : Ref sig .tc := ⟨.hbm, 159, rfl⟩
abbrev main_while0b_call6_c_1 : Ref sig .tc := ⟨.hbm, 160, rfl⟩
abbrev main_while0b_call6_v0 : Ref sig .tc := ⟨.hbm, 161, rfl⟩
abbrev main_while0b_v121 : Ref sig .tc := ⟨.hbm, 162, rfl⟩
abbrev main_while0b_call7_c : Ref sig .tc := ⟨.hbm, 163, rfl⟩
abbrev main_while0b_call7_c_0 : Ref sig .tc := ⟨.hbm, 164, rfl⟩
abbrev main_while0b_call7_c_1 : Ref sig .tc := ⟨.hbm, 165, rfl⟩
abbrev main_while0b_call7_v0 : Ref sig .tc := ⟨.hbm, 166, rfl⟩
abbrev main_while0b_v122 : Ref sig .tc := ⟨.hbm, 167, rfl⟩
abbrev main_while0b_call8_call0_cst : Ref sig .tc := ⟨.hbm, 168, rfl⟩
abbrev main_while0b_call8_call0_v0 : Ref sig .tc := ⟨.hbm, 169, rfl⟩
abbrev main_while0b_v123 : Ref sig .tc := ⟨.hbm, 170, rfl⟩
abbrev main_while0b_v124 : Ref sig .tc := ⟨.hbm, 171, rfl⟩
abbrev main_while0b_v125 : Ref sig .tc := ⟨.hbm, 172, rfl⟩
abbrev main_while0b_v126 : Ref sig .tc := ⟨.hbm, 173, rfl⟩
abbrev main_while0b_v127 : Ref sig .tc := ⟨.hbm, 174, rfl⟩
abbrev main_while0b_v128 : Ref sig .tc := ⟨.hbm, 175, rfl⟩
abbrev main_while0b_v129 : Ref sig .tc := ⟨.hbm, 176, rfl⟩
abbrev main_while0b_v130 : Ref sig .tc := ⟨.hbm, 177, rfl⟩
abbrev main_while0b_v131 : Ref sig .tc := ⟨.hbm, 178, rfl⟩
abbrev main_while0b_cst_24 : Ref sig .tc := ⟨.hbm, 179, rfl⟩
abbrev main_while0b_call9_v0 : Ref sig .tc := ⟨.hbm, 180, rfl⟩
abbrev main_while0b_call9_v1 : Ref sig .tc := ⟨.hbm, 181, rfl⟩
abbrev main_while0b_call9_v2 : Ref sig .tc := ⟨.hbm, 182, rfl⟩
abbrev main_while0b_v132 : Ref sig .tc := ⟨.hbm, 183, rfl⟩
abbrev main_while0b_v133 : Ref sig .tc := ⟨.hbm, 184, rfl⟩
abbrev main_while0b_v134 : Ref sig .tc := ⟨.hbm, 185, rfl⟩
abbrev main_while0b_v135 : Ref sig .tc := ⟨.hbm, 186, rfl⟩
abbrev main_while0b_cst_25 : Ref sig .tc := ⟨.hbm, 187, rfl⟩
abbrev main_while0b_v136 : Ref sig .tc := ⟨.hbm, 188, rfl⟩
abbrev main_while0b_v137 : Ref sig .tc := ⟨.hbm, 189, rfl⟩
abbrev main_while0b_v138 : Ref sig .tc := ⟨.hbm, 190, rfl⟩
abbrev main_while0b_v139 : Ref sig .tc := ⟨.hbm, 191, rfl⟩
abbrev main_while0b_v140 : Ref sig .tc := ⟨.hbm, 192, rfl⟩
abbrev main_while0b_v141 : Ref sig .tc := ⟨.hbm, 193, rfl⟩
abbrev main_while0b_v142 : Ref sig .tc := ⟨.hbm, 194, rfl⟩
abbrev main_while0b_v143 : Ref sig .tc := ⟨.hbm, 195, rfl⟩
abbrev main_while0b_v144 : Ref sig .tc := ⟨.hbm, 196, rfl⟩
abbrev main_while0b_v145 : Ref sig .tc := ⟨.hbm, 197, rfl⟩
abbrev main_while0b_v146 : Ref sig .tc := ⟨.hbm, 198, rfl⟩
abbrev main_while0b_v147 : Ref sig .tc := ⟨.hbm, 199, rfl⟩
abbrev main_while0b_v148 : Ref sig .tc := ⟨.hbm, 200, rfl⟩
abbrev main_while0b_v149 : Ref sig .tc := ⟨.hbm, 201, rfl⟩
abbrev main_while0b_v150 : Ref sig .tc := ⟨.hbm, 202, rfl⟩
abbrev main_while0b_v151 : Ref sig .tc := ⟨.hbm, 203, rfl⟩
abbrev main_while0b_v152 : Ref sig .tc := ⟨.hbm, 204, rfl⟩
abbrev main_while0b_v153 : Ref sig .tc := ⟨.hbm, 205, rfl⟩
abbrev main_while0b_v154 : Ref sig .tc := ⟨.hbm, 206, rfl⟩
abbrev main_while0b_cst_26 : Ref sig .tc := ⟨.hbm, 207, rfl⟩
abbrev main_while0b_v155 : Ref sig .tc := ⟨.hbm, 208, rfl⟩
abbrev main_while0b_v156 : Ref sig .tc := ⟨.hbm, 209, rfl⟩
abbrev main_while0b_v157 : Ref sig .tc := ⟨.hbm, 210, rfl⟩
abbrev main_while0b_v158 : Ref sig .tc := ⟨.hbm, 211, rfl⟩
abbrev main_while0b_v159 : Ref sig .tc := ⟨.hbm, 212, rfl⟩
abbrev main_while0b_v160 : Ref sig .tc := ⟨.hbm, 213, rfl⟩
abbrev main_while0b_v161 : Ref sig .tc := ⟨.hbm, 214, rfl⟩
abbrev main_while0b_v162 : Ref sig .tc := ⟨.hbm, 215, rfl⟩
abbrev main_while0b_v163 : Ref sig .tc := ⟨.hbm, 216, rfl⟩
abbrev main_while0b_v164 : Ref sig .tc := ⟨.hbm, 217, rfl⟩
abbrev main_while0b_v165 : Ref sig .tc := ⟨.hbm, 218, rfl⟩
abbrev main_while0b_v166 : Ref sig .tc := ⟨.hbm, 219, rfl⟩
abbrev main_while0b_v167 : Ref sig .tc := ⟨.hbm, 220, rfl⟩
abbrev main_while0b_v168 : Ref sig .tc := ⟨.hbm, 221, rfl⟩
abbrev main_while0b_v169 : Ref sig .tc := ⟨.hbm, 222, rfl⟩
abbrev main_while0b_v170 : Ref sig .tc := ⟨.hbm, 223, rfl⟩
abbrev main_while0b_v171 : Ref sig .tc := ⟨.hbm, 224, rfl⟩
abbrev main_while0b_v172 : Ref sig .tc := ⟨.hbm, 225, rfl⟩
abbrev main_while0b_v173 : Ref sig .tc := ⟨.hbm, 226, rfl⟩
abbrev main_while0b_cst_27 : Ref sig .tc := ⟨.hbm, 227, rfl⟩
abbrev main_while0b_v174 : Ref sig .tc := ⟨.hbm, 228, rfl⟩
abbrev main_while0b_v175 : Ref sig .tc := ⟨.hbm, 229, rfl⟩
abbrev main_while0b_v176 : Ref sig .tc := ⟨.hbm, 230, rfl⟩
abbrev main_while0b_v177 : Ref sig .tc := ⟨.hbm, 231, rfl⟩
abbrev main_while0b_v178 : Ref sig .tc := ⟨.hbm, 232, rfl⟩
abbrev main_while0b_v179 : Ref sig .tc := ⟨.hbm, 233, rfl⟩
abbrev main_while0b_v180 : Ref sig .tc := ⟨.hbm, 234, rfl⟩
abbrev main_while0b_v181 : Ref sig .tc := ⟨.hbm, 235, rfl⟩
abbrev main_while0b_v182 : Ref sig .tc := ⟨.hbm, 236, rfl⟩
abbrev main_while0b_v183 : Ref sig .tc := ⟨.hbm, 237, rfl⟩
abbrev main_while0b_v184 : Ref sig .tc := ⟨.hbm, 238, rfl⟩
abbrev main_while0b_v185 : Ref sig .tc := ⟨.hbm, 239, rfl⟩
abbrev main_while0b_v186 : Ref sig .tc := ⟨.hbm, 240, rfl⟩
abbrev main_while0b_v187 : Ref sig .tc := ⟨.hbm, 241, rfl⟩
abbrev main_while0b_v188 : Ref sig .tc := ⟨.hbm, 242, rfl⟩
abbrev main_while0b_v189 : Ref sig .tc := ⟨.hbm, 243, rfl⟩
abbrev main_while0b_v190 : Ref sig .tc := ⟨.hbm, 244, rfl⟩
abbrev main_while0b_v191 : Ref sig .tc := ⟨.hbm, 245, rfl⟩
abbrev main_while0b_v192 : Ref sig .tc := ⟨.hbm, 246, rfl⟩
abbrev main_while0b_v193 : Ref sig .tc := ⟨.hbm, 247, rfl⟩
abbrev main_while0b_v194 : Ref sig .tc := ⟨.hbm, 248, rfl⟩
abbrev main_while0b_v195 : Ref sig .tc := ⟨.hbm, 249, rfl⟩
abbrev main_while0b_call10_v0 : Ref sig .tc := ⟨.hbm, 250, rfl⟩
abbrev main_while0b_call10_c : Ref sig .tc := ⟨.hbm, 251, rfl⟩
abbrev main_while0b_call10_c_0 : Ref sig .tc := ⟨.hbm, 252, rfl⟩
abbrev main_while0b_call10_c_1 : Ref sig .tc := ⟨.hbm, 253, rfl⟩
abbrev main_while0b_call10_c_2 : Ref sig .tc := ⟨.hbm, 254, rfl⟩
abbrev main_while0b_v196 : Ref sig .tc := ⟨.hbm, 255, rfl⟩
abbrev main_while0b_c_28 : Ref sig .tc := ⟨.hbm, 256, rfl⟩
abbrev main_while0b_v197 : Ref sig .tc := ⟨.hbm, 257, rfl⟩
abbrev main_v78 : Ref sig .tc := ⟨.hbm, 258, rfl⟩
abbrev main_v79 : Ref sig .tc := ⟨.hbm, 259, rfl⟩
abbrev main_cst_6 : Ref sig .tc := ⟨.hbm, 260, rfl⟩
abbrev main_v80 : Ref sig .tc := ⟨.hbm, 261, rfl⟩
abbrev main_v81 : Ref sig .tc := ⟨.hbm, 262, rfl⟩
abbrev main_cst_7 : Ref sig .tc := ⟨.hbm, 263, rfl⟩
abbrev main_v82 : Ref sig .tc := ⟨.hbm, 264, rfl⟩
abbrev main_v83 : Ref sig .tc := ⟨.hbm, 265, rfl⟩
abbrev main_v84 : Ref sig .tc := ⟨.hbm, 266, rfl⟩
abbrev main_v85 : Ref sig .tc := ⟨.hbm, 267, rfl⟩
abbrev main_v86 : Ref sig .tc := ⟨.hbm, 268, rfl⟩
abbrev main_cst_8 : Ref sig .tc := ⟨.hbm, 269, rfl⟩
abbrev main_v87 : Ref sig .tc := ⟨.hbm, 270, rfl⟩
abbrev main_v88 : Ref sig .tc := ⟨.hbm, 271, rfl⟩
abbrev main_cst_9 : Ref sig .tc := ⟨.hbm, 272, rfl⟩
abbrev main_v89 : Ref sig .tc := ⟨.hbm, 273, rfl⟩
abbrev main_v90 : Ref sig .tc := ⟨.hbm, 274, rfl⟩
abbrev main_v91 : Ref sig .tc := ⟨.hbm, 275, rfl⟩
abbrev main_v92 : Ref sig .tc := ⟨.hbm, 276, rfl⟩
abbrev main_cst_10 : Ref sig .tc := ⟨.hbm, 277, rfl⟩
abbrev main_v93 : Ref sig .tc := ⟨.hbm, 278, rfl⟩
abbrev main_v94 : Ref sig .tc := ⟨.hbm, 279, rfl⟩
abbrev main_v95 : Ref sig .tc := ⟨.hbm, 280, rfl⟩
abbrev main_v96 : Ref sig .tc := ⟨.hbm, 281, rfl⟩
abbrev main_v97 : Ref sig .tc := ⟨.hbm, 282, rfl⟩
abbrev main_v98 : Ref sig .tc := ⟨.hbm, 283, rfl⟩
abbrev main_v99 : Ref sig .tc := ⟨.hbm, 284, rfl⟩
abbrev main_v100 : Ref sig .tc := ⟨.hbm, 285, rfl⟩
abbrev main_v101 : Ref sig .tc := ⟨.hbm, 286, rfl⟩
abbrev main_v102 : Ref sig .tc := ⟨.hbm, 287, rfl⟩
abbrev main_v103 : Ref sig .tc := ⟨.hbm, 288, rfl⟩
abbrev main_v104 : Ref sig .tc := ⟨.hbm, 289, rfl⟩
abbrev main_cst_11 : Ref sig .tc := ⟨.hbm, 290, rfl⟩
abbrev main_v105 : Ref sig .tc := ⟨.hbm, 291, rfl⟩
abbrev main_v106 : Ref sig .tc := ⟨.hbm, 292, rfl⟩
abbrev main_cst_12 : Ref sig .tc := ⟨.hbm, 293, rfl⟩
abbrev main_v107 : Ref sig .tc := ⟨.hbm, 294, rfl⟩
abbrev main_v108 : Ref sig .tc := ⟨.hbm, 295, rfl⟩
abbrev main_v109 : Ref sig .tc := ⟨.hbm, 296, rfl⟩
abbrev main_v110 : Ref sig .tc := ⟨.hbm, 297, rfl⟩
abbrev main_v111 : Ref sig .tc := ⟨.hbm, 298, rfl⟩
abbrev main_v112 : Ref sig .tc := ⟨.hbm, 299, rfl⟩
abbrev main_v113 : Ref sig .tc := ⟨.hbm, 300, rfl⟩
abbrev main_v114 : Ref sig .tc := ⟨.hbm, 301, rfl⟩
abbrev main_c_13 : Ref sig .tc := ⟨.hbm, 302, rfl⟩
abbrev main_call11_v0 : Ref sig .tc := ⟨.hbm, 303, rfl⟩
abbrev main_v115 : Ref sig .tc := ⟨.hbm, 304, rfl⟩
abbrev main_v116 : Ref sig .tc := ⟨.hbm, 305, rfl⟩
abbrev main_v117 : Ref sig .tc := ⟨.hbm, 306, rfl⟩

abbrev nD : Nat := 1
abbrev τ : Topo := Topo.v7x

variable {F : FTy → Type} [FloatOps F]

abbrev main_while0_count : Scf.Loop 32 := ⟨0#32, 16#32, 1#32⟩
-- ==== Kernel2.lean ====
abbrev S8x2048x1024 : Shape := ⟨3, ![8, 2048, 1024]⟩
abbrev S1x1024x5656 : Shape := ⟨3, ![1, 1024, 5656]⟩
abbrev S1024x5656 : Shape := ⟨2, ![1024, 5656]⟩
abbrev S1024x1024 : Shape := ⟨2, ![1024, 1024]⟩
abbrev S1024x1536 : Shape := ⟨2, ![1024, 1536]⟩
abbrev S1024x16 : Shape := ⟨2, ![1024, 16]⟩
abbrev S1024x4 : Shape := ⟨2, ![1024, 4]⟩
abbrev S_ : Shape := ⟨0, ![]⟩
abbrev S1024x20 : Shape := ⟨2, ![1024, 20]⟩
abbrev S1024x128 : Shape := ⟨2, ![1024, 128]⟩
abbrev S1024x5888 : Shape := ⟨2, ![1024, 5888]⟩
abbrev S16384x1024 : Shape := ⟨2, ![16384, 1024]⟩
abbrev S16384x1536 : Shape := ⟨2, ![16384, 1536]⟩
abbrev S16384x256 : Shape := ⟨2, ![16384, 256]⟩
abbrev S256x1024 : Shape := ⟨2, ![256, 1024]⟩
abbrev S256x1536 : Shape := ⟨2, ![256, 1536]⟩
abbrev S256x256 : Shape := ⟨2, ![256, 256]⟩
abbrev S1024x256 : Shape := ⟨2, ![1024, 256]⟩

abbrev nBuf : Space → Nat
  | .hbm => 30
  | .vmem => 15
  | .smem => 0
  | _ => 0

abbrev bufTy : (tb : Table) → Fin (tcTables nBuf tb) → BufTy
  | .hbm, ⟨0, _⟩ => ⟨S8x2048x1024, .f32⟩
  | .hbm, ⟨1, _⟩ => ⟨S1x1024x5656, .f32⟩
  | .hbm, ⟨2, _⟩ => ⟨S1024x5656, .f32⟩
  | .hbm, ⟨3, _⟩ => ⟨S1024x1024, .f32⟩
  | .hbm, ⟨4, _⟩ => ⟨S1024x1536, .f32⟩
  | .hbm, ⟨5, _⟩ => ⟨S1024x16, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x4, .f32⟩
  | .hbm, ⟨10, _⟩ => ⟨S1024x4, .f32⟩
  | .hbm, ⟨11, _⟩ => ⟨S_, .i32⟩
  | .hbm, ⟨12, _⟩ => ⟨S_, .f32⟩
  | .hbm, ⟨13, _⟩ => ⟨S1024x16, .f32⟩
  | .hbm, ⟨14, _⟩ => ⟨S1024x20, .f32⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S_, .i32⟩
  | .hbm, ⟨19, _⟩ => ⟨S_, .f32⟩
  | .hbm, ⟨20, _⟩ => ⟨S1024x128, .f32⟩
  | .hbm, ⟨21, _⟩ => ⟨S1024x5888, .f32⟩
  | .hbm, ⟨22, _⟩ => ⟨S1024x5888, .bf16⟩
  | .hbm, ⟨23, _⟩ => ⟨S16384x1024, .f32⟩
  | .hbm, ⟨24, _⟩ => ⟨S16384x1024, .f32⟩
  | .hbm, ⟨25, _⟩ => ⟨S16384x1536, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x256, .f32⟩
  | .local _ .vmem, ⟨0, _⟩ => ⟨S256x1024, .f32⟩
  | .local _ .vmem, ⟨1, _⟩ => ⟨S256x1024, .f32⟩
  | .local _ .vmem, ⟨2, _⟩ => ⟨S1024x5888, .bf16⟩
  | .local _ .vmem, ⟨3, _⟩ => ⟨S256x1024, .f32⟩
  | .local _ .vmem, ⟨4, _⟩ => ⟨S256x1024, .f32⟩
  | .local _ .vmem, ⟨5, _⟩ => ⟨S256x1536, .f32⟩
  | .local _ .vmem, ⟨6, _⟩ => ⟨S256x1536, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x256, .f32⟩
  | .local _ .vmem, ⟨14, _⟩ => ⟨S256x256, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_call0_v0 : Ref sig .tc := ⟨.hbm, 12, rfl⟩
abbrev main_v9 : Ref sig .tc := ⟨.hbm, 13, rfl⟩
abbrev main_v10 : Ref sig .tc := ⟨.hbm, 14, rfl⟩
abbrev main_c_0 : Ref sig .tc := ⟨.hbm, 15, rfl⟩
abbrev main_call1_v0 : Ref sig .tc := ⟨.hbm, 16, rfl⟩
abbrev main_v11 : Ref sig .tc := ⟨.hbm, 17, rfl⟩
abbrev main_c_1 : Ref sig .tc := ⟨.hbm, 18, rfl⟩
abbrev main_call2_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v16_2 : Ref sig .tc := ⟨.hbm, 26, rfl⟩
abbrev main_v16_3 : Ref sig .tc := ⟨.hbm, 27, rfl⟩
abbrev main_v16_4 : Ref sig .tc := ⟨.hbm, 28, rfl⟩
abbrev main_v16_5 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5888 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S8x2048x1024 : Shape := ⟨3, ![8, 2048, 1024]⟩
abbrev S1x1024x5656 : Shape := ⟨3, ![1, 1024, 5656]⟩
abbrev S1024x5656 : Shape := ⟨2, ![1024, 5656]⟩
abbrev S8x2048x5656 : Shape := ⟨3, ![8, 2048, 5656]⟩
abbrev S8x2048x1536 : Shape := ⟨3, ![8, 2048, 1536]⟩
abbrev S8x2048x16 : Shape := ⟨3, ![8, 2048, 16]⟩
abbrev S8x2048x4 : Shape := ⟨3, ![8, 2048, 4]⟩
abbrev S16384x16 : Shape := ⟨2, ![16384, 16]⟩
abbrev S16384x4 : Shape := ⟨2, ![16384, 4]⟩
abbrev S_ : Shape := ⟨0, ![]⟩
abbrev S16384x124 : Shape := ⟨2, ![16384, 124]⟩
abbrev S16384x108 : Shape := ⟨2, ![16384, 108]⟩
abbrev S16384x256 : Shape := ⟨2, ![16384, 256]⟩
abbrev S16384x1024 : Shape := ⟨2, ![16384, 1024]⟩
abbrev S16384x1536 : Shape := ⟨2, ![16384, 1536]⟩

abbrev nBuf : Space → Nat
  | .hbm => 25
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024x5656, .f32⟩
  | .hbm, ⟨2, _⟩ => ⟨S1024x5656, .f32⟩
  | .hbm, ⟨3, _⟩ => ⟨S8x2048x5656, .f32⟩
  | .hbm, ⟨4, _⟩ => ⟨S8x2048x1024, .f32⟩
  | .hbm, ⟨5, _⟩ => ⟨S8x2048x1536, .f32⟩
  | .hbm, ⟨6, _⟩ => ⟨S8x2048x16, .f32⟩
  | .hbm, ⟨7, _⟩ => ⟨S8x2048x1024, .f32⟩
  | .hbm, ⟨8, _⟩ => ⟨S8x2048x1024, .f32⟩
  | .hbm, ⟨9, _⟩ => ⟨S8x2048x1024, .f32⟩
  | .hbm, ⟨10, _⟩ => ⟨S8x2048x4, .f32⟩
  | .hbm, ⟨11, _⟩ => ⟨S8x2048x4, .f32⟩
  | .hbm, ⟨12, _⟩ => ⟨S16384x16, .f32⟩
  | .hbm, ⟨13, _⟩ => ⟨S16384x4, .f32⟩
  | .hbm, ⟨14, _⟩ => ⟨S_, .f32⟩
  | .hbm, ⟨15, _⟩ => ⟨S16384x124, .f32⟩
  | .hbm, ⟨16, _⟩ => ⟨S16384x4, .f32⟩
  | .hbm, ⟨17, _⟩ => ⟨S_, .f32⟩
  | .hbm, ⟨18, _⟩ => ⟨S16384x108, .f32⟩
  | .hbm, ⟨19, _⟩ => ⟨S16384x256, .f32⟩
  | .hbm, ⟨20, _⟩ => ⟨S16384x1024, .f32⟩
  | .hbm, ⟨21, _⟩ => ⟨S16384x1536, .f32⟩
  | .hbm, ⟨22, _⟩ => ⟨S16384x1024, .f32⟩
  | .hbm, ⟨23, _⟩ => ⟨S16384x1024, .f32⟩
  | .hbm, ⟨24, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩

abbrev nD : Nat := 1
abbrev τ : Topo := Topo.v7x

variable {F : FTy → Type} [FloatOps F]
-- ==== Kernel3.lean ====
abbrev S16384x1024 : Shape := ⟨2, ![16384, 1024]⟩
abbrev S8x2048x1024 : Shape := ⟨3, ![8, 2048, 1024]⟩
abbrev S1x2048x1024 : Shape := ⟨3, ![1, 2048, 1024]⟩
abbrev S1x1024 : Shape := ⟨2, ![1, 1024]⟩
abbrev S2048x1024 : Shape := ⟨2, ![2048, 1024]⟩
abbrev S1024 : Shape := ⟨1, ![1024]⟩
abbrev S1024x16384 : Shape := ⟨2, ![1024, 16384]⟩
abbrev S512x1024 : Shape := ⟨2, ![512, 1024]⟩
abbrev S1024x512 : Shape := ⟨2, ![1024, 512]⟩
abbrev S256x1024 : Shape := ⟨2, ![256, 1024]⟩
abbrev S1024x1024 : Shape := ⟨2, ![1024, 1024]⟩
abbrev S256 : Shape := ⟨1, ![256]⟩
abbrev S256x1 : Shape := ⟨2, ![256, 1]⟩
abbrev S1024x256 : Shape := ⟨2, ![1024, 256]⟩

abbrev nBuf : Space → Nat
  | .hbm => 14
  | .vmem => 11
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S8x2048x1024, .f32⟩
  | .hbm, ⟨3, _⟩ => ⟨S1x2048x1024, .f32⟩
  | .hbm, ⟨4, _⟩ => ⟨S1x1024, .f32⟩
  | .hbm, ⟨5, _⟩ => ⟨S1x1024, .f32⟩
  | .hbm, ⟨6, _⟩ => ⟨S2048x1024, .f32⟩
  | .hbm, ⟨7, _⟩ => ⟨S2048x1024, .bf16⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S16384x1024, .f32⟩
  | .hbm, ⟨13, _⟩ => ⟨S1024x16384, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S2048x1024, .bf16⟩
  | .local _ .vmem, ⟨7, _⟩ => ⟨S1x1024, .f32⟩
  | .local _ .vmem, ⟨8, _⟩ => ⟨S1x1024, .f32⟩
  | .local _ .vmem, ⟨9, _⟩ => ⟨S1024x512, .f32⟩
  | .local _ .vmem, ⟨10, _⟩ => ⟨S1024x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S16384x1024 : Shape := ⟨2, ![16384, 1024]⟩
abbrev S8x2048x1024 : Shape := ⟨3, ![8, 2048, 1024]⟩
abbrev S1x2048x1024 : Shape := ⟨3, ![1, 2048, 1024]⟩
abbrev S1x1024 : Shape := ⟨2, ![1, 1024]⟩
abbrev S8x2048x2048 : Shape := ⟨3, ![8, 2048, 2048]⟩
abbrev S2048x1024 : Shape := ⟨2, ![2048, 1024]⟩
abbrev S_ : Shape := ⟨0, ![]⟩
abbrev S1024 : Shape := ⟨1, ![1024]⟩
abbrev S8x2048 : Shape := ⟨2, ![8, 2048]⟩
abbrev S8x2048x1 : Shape := ⟨3, ![8, 2048, 1]⟩
abbrev S1x1x1024 : Shape := ⟨3, ![1, 1, 1024]⟩
abbrev S1024x16384 : Shape := ⟨2, ![1024, 16384]⟩

abbrev nBuf : Space → Nat
  | .hbm => 50
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S8x2048x1024, .f32⟩
  | .hbm, ⟨3, _⟩ => ⟨S1x2048x1024, .f32⟩
  | .hbm, ⟨4, _⟩ => ⟨S1x1024, .f32⟩
  | .hbm, ⟨5, _⟩ => ⟨S1x1024, .f32⟩
  | .hbm, ⟨6, _⟩ => ⟨S16384x1024, .f32⟩
  | .hbm, ⟨7, _⟩ => ⟨S8x2048x1024, .f32⟩
  | .hbm, ⟨8, _⟩ => ⟨S16384x1024, .f32⟩
  | .hbm, ⟨9, _⟩ => ⟨S8x2048x1024, .f32⟩
  | .hbm, ⟨10, _⟩ => ⟨S8x2048x2048, .f32⟩
  | .hbm, ⟨11, _⟩ => ⟨S2048x1024, .f32⟩
  | .hbm, ⟨12, _⟩ => ⟨S8x2048x1024, .f32⟩
  | .hbm, ⟨13, _⟩ => ⟨S_, .f32⟩
  | .hbm, ⟨14, _⟩ => ⟨S8x2048x1024, .f32⟩
  | .hbm, ⟨15, _⟩ => ⟨S8x2048x1024, .f32⟩
  | .hbm, ⟨16, _⟩ => ⟨S8x2048x1024, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S8x2048, .f32⟩
  | .hbm, ⟨21, _⟩ => ⟨S8x2048x1, .f32⟩
  | .hbm, ⟨22, _⟩ => ⟨S_, .f32⟩
  | .hbm, ⟨23, _⟩ => ⟨S8x2048x1, .f32⟩
  | .hbm, ⟨24, _⟩ => ⟨S8x2048x1, .f32⟩
  | .hbm, ⟨25, _⟩ => ⟨S8x2048x1024, .f32⟩
  | .hbm, ⟨26, _⟩ => ⟨S8x2048x1024, .f32⟩
  | .hbm, ⟨27, _⟩ => ⟨S8x2048x1024, .f32⟩
  | .hbm, ⟨28, _⟩ => ⟨S_, .f32⟩
  | .hbm, ⟨29, _⟩ => ⟨S8x2048, .f32⟩
  | .hbm, ⟨30, _⟩ => ⟨S8x2048x1, .f32⟩
  | .hbm, ⟨31, _⟩ => ⟨S_, .f32⟩
  | .hbm, ⟨32, _⟩ => ⟨S8x2048x1, .f32⟩
  | .hbm, ⟨33, _⟩ => ⟨S8x2048x1, .f32⟩
  | .hbm, ⟨34, _⟩ => ⟨S8x2048x1024, .f32⟩
  | .hbm, ⟨35, _⟩ => ⟨S8x2048x1024, .f32⟩
  | .hbm, ⟨36, _⟩ => ⟨S_, .f32⟩
  | .hbm, ⟨37, _⟩ => ⟨S8x2048x1, .f32⟩
  | .hbm, ⟨38, _⟩ => ⟨S8x2048x1, .f32⟩
  | .hbm, ⟨39, _⟩ => ⟨S8x2048x1, .f32⟩
  | .hbm, ⟨40, _⟩ => ⟨S8x2048x1024, .f32⟩
  | .hbm, ⟨41, _⟩ => ⟨S8x2048x1024, .f32⟩
  | .hbm, ⟨42, _⟩ => ⟨S1x1x1024, .f32⟩
  | .hbm, ⟨43, _⟩ => ⟨S8x2048x1024, .f32⟩
  | .hbm, ⟨44, _⟩ => ⟨S8x2048x1024, .f32⟩
  | .hbm, ⟨45, _⟩ => ⟨S1x1x1024, .f32⟩
  | .hbm, ⟨46, _⟩ => ⟨S8x2048x1024, .f32⟩
  | .hbm, ⟨47, _⟩ => ⟨S8x2048x1024, .f32⟩
  | .hbm, ⟨48, _⟩ => ⟨S16384x1024, .f32⟩
  | .hbm, ⟨49, _⟩ => ⟨S1024x16384, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Kernel4.lean ====
abbrev S1024x16384 : Shape := ⟨2, ![1024, 16384]⟩
abbrev S1x1024x2048 : Shape := ⟨3, ![1, 1024, 2048]⟩
abbrev S1x8x2x128x128 : Shape := ⟨5, ![1, 8, 2, 128, 128]⟩
abbrev S1024x2048 : Shape := ⟨2, ![1024, 2048]⟩
abbrev S2048x1024 : Shape := ⟨2, ![2048, 1024]⟩
abbrev S8x2x128x128 : Shape := ⟨4, ![8, 2, 128, 128]⟩
abbrev S8x128x128x128 : Shape := ⟨4, ![8, 128, 128, 128]⟩
abbrev S4x8x16384 : Shape := ⟨3, ![4, 8, 16384]⟩
abbrev S16x8x16384 : Shape := ⟨3, ![16, 8, 16384]⟩
abbrev S1024x256 : Shape := ⟨2, ![1024, 256]⟩
abbrev S4x8x256 : Shape := ⟨3, ![4, 8, 256]⟩
abbrev S16x8x256 : Shape := ⟨3, ![16, 8, 256]⟩
abbrev S2048x256 : Shape := ⟨2, ![2048, 256]⟩
abbrev S1x1x128x128 : Shape := ⟨4, ![1, 1, 128, 128]⟩
abbrev S128x128 : Shape := ⟨2, ![128, 128]⟩
abbrev S128x256 : Shape := ⟨2, ![128, 256]⟩
abbrev S8x128 : Shape := ⟨2, ![8, 128]⟩
abbrev S1x128 : Shape := ⟨2, ![1, 128]⟩
abbrev S1x1x128 : Shape := ⟨3, ![1, 1, 128]⟩
abbrev S1x8x128 : Shape := ⟨3, ![1, 8, 128]⟩

abbrev nBuf : Space → Nat
  | .hbm => 13
  | .vmem => 16
  | .smem => 0
  | _ => 0

abbrev bufTy : (tb : Table) → Fin (tcTables nBuf tb) → BufTy
  | .hbm, ⟨0, _⟩ => ⟨S1024x16384, .f32⟩
  | .hbm, ⟨1, _⟩ => ⟨S1x1024x2048, .f32⟩
  | .hbm, ⟨2, _⟩ => ⟨S1x8x2x128x128, .f32⟩
  | .hbm, ⟨3, _⟩ => ⟨S1024x2048, .f32⟩
  | .hbm, ⟨4, _⟩ => ⟨S2048x1024, .f32⟩
  | .hbm, ⟨5, _⟩ => ⟨S2048x1024, .bf16⟩
  | .hbm, ⟨6, _⟩ => ⟨S8x2x128x128, .f32⟩
  | .hbm, ⟨7, _⟩ => ⟨S8x2x128x128, .bf16⟩
  | .hbm, ⟨8, _⟩ => ⟨S8x128x128x128, .f32⟩
  | .hbm, ⟨9, _⟩ => ⟨S8x128x128x128, .f32⟩
  | .hbm, ⟨10, _⟩ => ⟨S4x8x16384, .f32⟩
  | .hbm, ⟨11, _⟩ => ⟨S16x8x16384, .f32⟩
  | .hbm, ⟨12, _⟩ => ⟨S16x8x16384, .f32⟩
  | .local _ .vmem, ⟨0, _⟩ => ⟨S1024x256, .f32⟩
  | .local _ .vmem, ⟨1, _⟩ => ⟨S1024x256, .f32⟩
  | .local _ .vmem, ⟨2, _⟩ => ⟨S2048x1024, .bf16⟩
  | .local _ .vmem, ⟨3, _⟩ => ⟨S8x2x128x128, .bf16⟩
  | .local _ .vmem, ⟨4, _⟩ => ⟨S8x2x128x128, .f32⟩
  | .local _ .vmem, ⟨5, _⟩ => ⟨S8x2x128x128, .f32⟩
  | .local _ .vmem, ⟨6, _⟩ => ⟨S8x2x128x128, .f32⟩
  | .local _ .vmem, ⟨7, _⟩ => ⟨S8x2x128x128, .f32⟩
  | .local _ .vmem, ⟨8, _⟩ => ⟨S4x8x256, .f32⟩
  | .local _ .vmem, ⟨9, _⟩ => ⟨S4x8x256, .f32⟩
  | .local _ .vmem, ⟨10, _⟩ => ⟨S16x8x256, .f32⟩
  | .local _ .vmem, ⟨11, _⟩ => ⟨S16x8x256, .f32⟩
  | .local _ .vmem, ⟨12, _⟩ => ⟨S16x8x256, .f32⟩
  | .local _ .vmem, ⟨13, _⟩ => ⟨S16x8x256, .f32⟩
  | .local _ .vmem, ⟨14, _⟩ => ⟨S2048x256, .f32⟩
  | .local _ .vmem, ⟨15, _⟩ => ⟨S16x8x256, .f32⟩
  | _, _ => ⟨S1024x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v5_3 : Ref sig .tc := ⟨.hbm, 11, rfl⟩
abbrev main_v5_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x2x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x2x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x2x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S1024x16384 : Shape := ⟨2, ![1024, 16384]⟩
abbrev S1x1024x2048 : Shape := ⟨3, ![1, 1024, 2048]⟩
abbrev S1x8x2x128x128 : Shape := ⟨5, ![1, 8, 2, 128, 128]⟩
abbrev S16384x1024 : Shape := ⟨2, ![16384, 1024]⟩
abbrev S1024x2048 : Shape := ⟨2, ![1024, 2048]⟩
abbrev S16384x2048 : Shape := ⟨2, ![16384, 2048]⟩
abbrev S16384x8x2x128 : Shape := ⟨4, ![16384, 8, 2, 128]⟩
abbrev S8x2x128x128 : Shape := ⟨4, ![8, 2, 128, 128]⟩
abbrev S8x2x128x16384 : Shape := ⟨4, ![8, 2, 128, 16384]⟩
abbrev S16384x8x1x128 : Shape := ⟨4, ![16384, 8, 1, 128]⟩
abbrev S16384x8x128 : Shape := ⟨3, ![16384, 8, 128]⟩
abbrev S128x128x8x128 : Shape := ⟨4, ![128, 128, 8, 128]⟩
abbrev S8x128x128x128 : Shape := ⟨4, ![8, 128, 128, 128]⟩

abbrev nBuf : Space → Nat
  | .hbm => 18
  | .vmem => 0
  | .smem => 0
  | _ => 0

abbrev bufTy : (tb : Table) → Fin (tcTables nBuf tb) → BufTy
  | .hbm, ⟨0, _⟩ => ⟨S1024x16384, .f32⟩
  | .hbm, ⟨1, _⟩ => ⟨S1x1024x2048, .f32⟩
  | .hbm, ⟨2, _⟩ => ⟨S1x8x2x128x128, .f32⟩
  | .hbm, ⟨3, _⟩ => ⟨S16384x1024, .f32⟩
  | .hbm, ⟨4, _⟩ => ⟨S1024x2048, .f32⟩
  | .hbm, ⟨5, _⟩ => ⟨S16384x2048, .f32⟩
  | .hbm, ⟨6, _⟩ => ⟨S16384x8x2x128, .f32⟩
  | .hbm, ⟨7, _⟩ => ⟨S8x2x128x128, .f32⟩
  | .hbm, ⟨8, _⟩ => ⟨S8x2x128x16384, .f32⟩
  | .hbm, ⟨9, _⟩ => ⟨S16384x8x2x128, .f32⟩
  | .hbm, ⟨10, _⟩ => ⟨S16384x8x1x128, .f32⟩
  | .hbm, ⟨11, _⟩ => ⟨S16384x8x128, .f32⟩
  | .hbm, ⟨12, _⟩ => ⟨S128x128x8x128, .f32⟩
  | .hbm, ⟨13, _⟩ => ⟨S8x128x128x128, .f32⟩
  | .hbm, ⟨14, _⟩ => ⟨S16384x8x1x128, .f32⟩
  | .hbm, ⟨15, _⟩ => ⟨S16384x8x128, .f32⟩
  | .hbm, ⟨16, _⟩ => ⟨S128x128x8x128, .f32⟩
  | .hbm, ⟨17, _⟩ => ⟨S8x128x128x128, .f32⟩
  | _, _ => ⟨S1024x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Proof.Gates.lean ====
module

public import proofs.«01_k».proof.On_gate_lanes
public import Idealize.ShloMosaic.Lib.Pointwise

/-!
The lanes of the stabiliser result that the claim speaks of.
-/

@[expose] public section
noncomputable section
open Idealize.ShloMosaic

namespace Cert.On_gate_lanes.Gen

/-- The shape relations that the lane predicate states. -/
instance facts : Cert.On_gate_lanes.Facts where
  bcast_S_S16384x1024 := by decide
  bcast_S_S8x4x256x256 := by decide
  bcast_S_S8x4x8x256 := by decide
  bcast_S_S8x8x128 := by decide

end Cert.On_gate_lanes.Gen

namespace Cert.Gates

open Cert.On_gate_lanes

/-- The lane test, at each of the 128 lanes, holds only from lane 16 to lane 19. -/
theorem lanes (l : Fin 128) (h : (BitVec.ofBool ((16#32).sle (BitVec.ofNat 32 l.val)) &&& BitVec.ofBool ((BitVec.ofNat 32 l.val).slt 20#32)) = 1#1) :
    16 ≤ l.val ∧ l.val < 20 := by
  revert l
  decide

/-- The predicate on the stabiliser result holds only in the four gate lanes. -/
theorem gate (a0 a1 a2 a3 a4 a5 a6 a7 a8 a9 a10) (i : (⟨3, ![8, 8, 128]⟩ : Shape).Idx)
    (h : (Cert.On_gate_lanes.fn (F := Ideal) a0 a1 a2 a3 a4 a5 a6 a7 a8 a9 a10).2.2.2 i = 1#1) :
    16 ≤ (i 2).val ∧ (i 2).val < 20 := by
  refine lanes (i 2) ?_
  rw [← h]
  rfl

end Cert.Gates
-- ==== Proof.Spec.lean ====
module

public import Idealize.ShloMosaic.Lib.Pointwise

/-!
The mathematics of one chunk of the matrix-memory recurrence, for one batch and one head, as plain
formulas over extended reals.  Both programs are brought to these formulas.
-/

@[expose] public section
noncomputable section
open Idealize.ShloMosaic

namespace Cert.MemSpec

/-- What one chunk of 128 time steps reads for one head: queries, keys, values and the two log gates. -/
structure Chunk where
  q : Fin 128 → Fin 256 → EReal
  k : Fin 128 → Fin 256 → EReal
  v : Fin 128 → Fin 256 → EReal
  i : Fin 128 → EReal
  f : Fin 128 → EReal

/-- What is carried from chunk to chunk for one head: the matrix, the normaliser and the stabiliser. -/
structure Carry where
  C : Fin 256 → Fin 256 → EReal
  n : Fin 256 → EReal
  m : EReal

/-- The value the masked entries take, and the value a maximum starts from. -/
abbrev low : EReal := Ideal.ofBits .f32 4286578688#32

/-- The sum of the log forget gates up to step `t`. -/
def bcs (f : Fin 128 → EReal) (t : Fin 128) : EReal := ∑ s, if s ≤ t then f s else 0

/-- The log weight of step `s` at step `t`, masked above the diagonal. -/
def dmat (f i : Fin 128 → EReal) (t s : Fin 128) : EReal := if s ≤ t then bcs f t - bcs f s + i s else low

/-- The stabiliser at step `t`. -/
def mt (f i : Fin 128 → EReal) (m : EReal) (t : Fin 128) : EReal :=
  max (bcs f t + m) (Finset.univ.fold max low (dmat f i t))

/-- The weight of the carried state at step `t`. -/
def wint (f i : Fin 128 → EReal) (m : EReal) (t : Fin 128) : EReal := Ideal.exp (bcs f t + m - mt f i m t)

/-- The weighted score of step `s` at step `t`. -/
def att (x : Chunk) (m : EReal) (t s : Fin 128) : EReal :=
  (∑ d, x.q t d * x.k s d) * Ideal.exp (dmat x.f x.i t s - mt x.f x.i m t)

/-- The numerator at step `t`, component `e`. -/
def num (x : Chunk) (s : Carry) (t : Fin 128) (e : Fin 256) : EReal :=
  (∑ r, att x s.m t r * x.v r e) + wint x.f x.i s.m t * ∑ d, x.q t d * s.C d e

/-- The denominator at step `t`, before its lower bound. -/
def den (x : Chunk) (s : Carry) (t : Fin 128) : EReal :=
  (∑ r, att x s.m t r) + wint x.f x.i s.m t * ∑ d, x.q t d * s.n d

/-- The output of the recurrence at step `t`, component `e`. -/
def hout (x : Chunk) (s : Carry) (t : Fin 128) (e : Fin 256) : EReal :=
  Ideal.div (num x s t e) (max (max (den x s t) (-(den x s t))) (Ideal.exp (-(mt x.f x.i s.m t))))

/-- The log weight of step `s` at the end of the chunk. -/
def gend (f i : Fin 128 → EReal) (s : Fin 128) : EReal := bcs f 127 - bcs f s + i s

/-- The stabiliser after the chunk. -/
def mnew (f i : Fin 128 → EReal) (m : EReal) : EReal :=
  max (bcs f 127 + m) (Finset.univ.fold max low (gend f i))

/-- The weight the carried state keeps over the chunk. -/
def wold (f i : Fin 128 → EReal) (m : EReal) : EReal := Ideal.exp (bcs f 127 + m - mnew f i m)

/-- The weight step `s` enters the new state with. -/
def ws (f i : Fin 128 → EReal) (m : EReal) (s : Fin 128) : EReal := Ideal.exp (gend f i s - mnew f i m)

/-- The carried state after the chunk. -/
def step (x : Chunk) (s : Carry) : Carry where
  C d e := wold x.f x.i s.m * s.C d e + ∑ r, ws x.f x.i s.m r * x.k r d * x.v r e
  n d := wold x.f x.i s.m * s.n d + ∑ r, ws x.f x.i s.m r * x.k r d
  m := mnew x.f x.i s.m

/-- The state before the first chunk. -/
def zero : Carry := ⟨fun _ _ => 0, fun _ => 0, 0⟩

/-- The state after `c` chunks. -/
def carry (x : ℕ → Chunk) : ℕ → Carry
  | 0 => zero
  | c + 1 => step (x c) (carry x c)

/-- The sum of a row over its 256 components, divided by 256. -/
def mean (h : Fin 256 → EReal) : EReal := Ideal.div (∑ e, h e) (Ideal.ofBits .f32 1132462080#32)

/-- A row brought to mean zero and variance one. -/
def norm (h : Fin 256 → EReal) (e : Fin 256) : EReal :=
  (h e - mean h) * Ideal.rsqrt (mean (fun d => (h d - mean h) * (h d - mean h)) + Ideal.ofBits .f32 925353388#32)

/-- The logistic function. -/
def sgm (x : EReal) : EReal := Ideal.div 1 (1 + Ideal.exp (-x))

/-- The log of the logistic function. -/
def logsig (x : EReal) : EReal := -(max (-x) 0 + Ideal.log1p (Ideal.exp (-(max (-x) (- -x)))))

/-- The four-tap causal filter over a row of past inputs `x`, and the gate by its own logistic function. -/
def conv (w : Fin 4 → EReal) (b : EReal) (x : Fin 4 → EReal) : EReal :=
  b + w 0 * x 0 + w 1 * x 1 + w 2 * x 2 + w 3 * x 3

/-- A value times its own logistic function. -/
def silu (x : EReal) : EReal := x * sgm x

end Cert.MemSpec
-- ==== Proof.Args.lean ====
module

public import proofs.«01_k».proof.Proof.Spec

/-!
What the arguments give the recurrence: the filtered inputs, their projections, the gates, cut in chunks, for
each batch and each head.
-/

@[expose] public section
noncomputable section
open Idealize.ShloMosaic

namespace Cert.MemSpec

/-- The arguments that the recurrence reads. -/
structure Args where
  u : Fin 16384 → Fin 1024 → EReal
  v : Fin 16384 → Fin 1024 → EReal
  g : Fin 16384 → Fin 256 → EReal
  w : Fin 4 → Fin 1024 → EReal
  b : Fin 1024 → EReal
  wq : Fin 4 → Fin 256 → Fin 256 → EReal
  wk : Fin 4 → Fin 256 → Fin 256 → EReal
  bi : Fin 4 → EReal
  bf : Fin 4 → EReal

/-- The row of time `τ` of batch `b`. -/
def row (b : Fin 8) (τ : Fin 2048) : Fin 16384 := ⟨b.val * 2048 + τ.val, by omega⟩

/-- The time of step `t` of chunk `c`. -/
def time (c : Fin 16) (t : Fin 128) : Fin 2048 := ⟨c.val * 128 + t.val, by omega⟩

/-- The column of component `e` of head `h`. -/
def col (h : Fin 4) (e : Fin 256) : Fin 1024 := ⟨h.val * 256 + e.val, by omega⟩

/-- The input three, two, one and no steps before time `τ`: zero before the batch begins. -/
def past (u : Fin 16384 → Fin 1024 → EReal) (b : Fin 8) (τ : Fin 2048) (e : Fin 1024) (j : Fin 4) : EReal :=
  if h : τ.val + j.val < 3 then 0 else u (row b ⟨τ.val + j.val - 3, by omega⟩) e

/-- The filtered input at time `τ`. -/
def filt (A : Args) (b : Fin 8) (τ : Fin 2048) (e : Fin 1024) : EReal :=
  silu (conv (fun j => A.w j e) (A.b e) (past A.u b τ e))

/-- What chunk `c` of head `h` of batch `b` reads. -/
def chunkOf (A : Args) (b : Fin 8) (h : Fin 4) (c : Fin 16) : Chunk where
  q t e := ∑ d, filt A b (time c t) (col h d) * A.wq h d e
  k t e := (∑ d, filt A b (time c t) (col h d) * A.wk h d e) * Ideal.ofBits .f32 1031798784#32
  v t e := A.v (row b (time c t)) (col h e)
  i t := A.g (row b (time c t)) ⟨16 + h.val, by omega⟩ + A.bi h
  f t := logsig (A.g (row b (time c t)) ⟨144 + h.val, by omega⟩ + A.bf h)

/-- The chunk that a number names. -/
def chunksOf (A : Args) (b : Fin 8) (h : Fin 4) (c : ℕ) : Chunk := chunkOf A b h (Fin.ofNat 16 c)

/-- The output of the call at time `τ` of batch `b`, component `e` of head `h`: the recurrence's output brought to
    mean zero and variance one, scaled by `g` and by the logistic of `o`. -/
def result (A : Args) (g : Fin 4 → Fin 256 → EReal) (o : Fin 16384 → Fin 1024 → EReal) (b : Fin 8) (c : Fin 16) (t : Fin 128) (h : Fin 4)
    (e : Fin 256) : EReal :=
  sgm (o (row b (time c t)) (col h e)) * (norm (hout (chunkOf A b h c) (carry (chunksOf A b h) c.val) t) e * g h e)

/-- The arguments as the arrays hold them. -/
def argsOf (u v : (⟨2, ![16384, 1024]⟩ : Shape).Idx → EReal) (g : (⟨2, ![16384, 256]⟩ : Shape).Idx → EReal)
    (w : (⟨3, ![1, 4, 1024]⟩ : Shape).Idx → EReal) (b : (⟨2, ![1, 1024]⟩ : Shape).Idx → EReal)
    (wq wk : (⟨4, ![1, 4, 256, 256]⟩ : Shape).Idx → EReal) (bi bf : (⟨2, ![1, 4]⟩ : Shape).Idx → EReal) : Args where
  u r e := u (ix2 r e)
  v r e := v (ix2 r e)
  g r e := g (ix2 r e)
  w j e := w (ix3 0 j e)
  b e := b (ix2 0 e)
  wq h d e := wq (ix4 0 h d e)
  wk h d e := wk (ix4 0 h d e)
  bi h := bi (ix2 0 h)
  bf h := bf (ix2 0 h)

/-- Tap 0 of the window reads the input 3 tokens back. -/
theorem past_0 (u : Fin 16384 → Fin 1024 → EReal) (b : Fin 8) (τ : Fin 2048) (e : Fin 1024) :
    past u b τ e 0 = if h : τ.val < 3 then 0 else u ⟨b.val * 2048 + (τ.val - 3), by omega⟩ e := by
  show (if h : τ.val + 0 < 3 then 0 else u (row b ⟨τ.val + 0 - 3, by omega⟩) e) = _
  by_cases h : τ.val + 0 < 3
  · rw [dif_pos h, dif_pos (show τ.val < 3 by omega)]
  · rw [dif_neg h, dif_neg (show ¬ τ.val < 3 by omega)]
    exact congrArg (fun r => u r e) (Fin.ext (by show b.val * 2048 + (τ.val + 0 - 3) = b.val * 2048 + (τ.val - 3); omega))

/-- Tap 1 of the window reads the input 2 tokens back. -/
theorem past_1 (u : Fin 16384 → Fin 1024 → EReal) (b : Fin 8) (τ : Fin 2048) (e : Fin 1024) :
    past u b τ e 1 = if h : 1 + τ.val < 3 then 0 else u ⟨b.val * 2048 + (1 + τ.val - 3), by omega⟩ e := by
  show (if h : τ.val + 1 < 3 then 0 else u (row b ⟨τ.val + 1 - 3, by omega⟩) e) = _
  by_cases h : τ.val + 1 < 3
  · rw [dif_pos h, dif_pos (show 1 + τ.val < 3 by omega)]
  · rw [dif_neg h, dif_neg (show ¬ 1 + τ.val < 3 by omega)]
    exact congrArg (fun r => u r e) (Fin.ext (by show b.val * 2048 + (τ.val + 1 - 3) = b.val * 2048 + (1 + τ.val - 3); omega))

/-- Tap 2 of the window reads the input 1 tokens back. -/
theorem past_2 (u : Fin 16384 → Fin 1024 → EReal) (b : Fin 8) (τ : Fin 2048) (e : Fin 1024) :
    past u b τ e 2 = if h : 2 + τ.val < 3 then 0 else u ⟨b.val * 2048 + (2 + τ.val - 3), by omega⟩ e := by
  show (if h : τ.val + 2 < 3 then 0 else u (row b ⟨τ.val + 2 - 3, by omega⟩) e) = _
  by_cases h : τ.val + 2 < 3
  · rw [dif_pos h, dif_pos (show 2 + τ.val < 3 by omega)]
  · rw [dif_neg h, dif_neg (show ¬ 2 + τ.val < 3 by omega)]
    exact congrArg (fun r => u r e) (Fin.ext (by show b.val * 2048 + (τ.val + 2 - 3) = b.val * 2048 + (2 + τ.val - 3); omega))

/-- Tap 3 of the window reads the token itself. -/
theorem past_3 (u : Fin 16384 → Fin 1024 → EReal) (b : Fin 8) (τ : Fin 2048) (e : Fin 1024) :
    past u b τ e 3 = u ⟨b.val * 2048 + τ.val, by omega⟩ e := by
  show (if h : τ.val + 3 < 3 then 0 else u (row b ⟨τ.val + 3 - 3, by omega⟩) e) = _
  rw [dif_neg (show ¬ τ.val + 3 < 3 by omega)]
  rfl

/-- Two chunks with the same entries are the same. -/
theorem chunk_ext {x y : Chunk} (hq : ∀ t d, x.q t d = y.q t d) (hk : ∀ t d, x.k t d = y.k t d) (hv : ∀ t d, x.v t d = y.v t d)
    (hi : ∀ t, x.i t = y.i t) (hf : ∀ t, x.f t = y.f t) : x = y := by
  obtain ⟨q, k, v, i, f⟩ := x
  obtain ⟨q', k', v', i', f'⟩ := y
  obtain rfl : q = q' := funext fun t => funext (hq t)
  obtain rfl : k = k' := funext fun t => funext (hk t)
  obtain rfl : v = v' := funext fun t => funext (hv t)
  obtain rfl : i = i' := funext hi
  obtain rfl : f = f' := funext hf
  rfl

/-- Two states with the same entries are the same. -/
theorem carry_ext {s s' : Carry} (hC : ∀ d e, s.C d e = s'.C d e) (hn : ∀ d, s.n d = s'.n d) (hm : s.m = s'.m) : s = s' := by
  obtain ⟨C, n, m⟩ := s
  obtain ⟨C', n', m'⟩ := s'
  obtain rfl : C = C' := funext fun d => funext (hC d)
  obtain rfl : n = n' := funext hn
  obtain rfl : m = m' := hm
  rfl

end Cert.MemSpec
-- ==== Proof.RefPre.lean ====
module

public import proofs.«01_k».proof.Proof.Gen.ReferenceIdeal.Run
public import proofs.«01_k».proof.Proof.Args
public import Idealize.ShloMosaic.Lib.Pointwise
public import Idealize.ShloMosaic.Lib.WordCmp

@[expose] public section
set_option maxRecDepth 16384
noncomputable section
open Idealize.ShloMosaic Idealize.ShloMosaic.TcCoe Idealize.SL.Sem
open Cert.MemSpec Cert.ReferenceIdeal Cert.ReferenceIdeal.Gen Cert.ReferenceIdeal.Value
open Idealize.ShloMosaic Idealize.ShloMosaic.TcCoe
open Idealize.SL Idealize.SL.RA Idealize.SL.BI
open scoped Idealize.SL.BI
open Idealize.SL.BI.BIBase Idealize.SL.Sem
open Cert.ReferenceIdeal Cert.ReferenceIdeal.Gen
open Idealize.ShloMosaic Idealize.ShloMosaic.TcCoe Idealize.ShloMosaic.Tactic
open Idealize.SL.BI.BIBase Idealize.SL.BI.Laws Idealize.SL.ProofMode Idealize.SL.Sem
open Idealize.ShloMosaic.StableHlo
open Idealize.ShloMosaic.Pipeline (ucRefs sub_ucRefs)
/-!
What the reference's operations before its loop make of the arguments, entry by entry.
-/
set_option maxHeartbeats 1000000
namespace Cert.ReferenceIdeal.Pre
variable (X : Valuation τ sig (Elt Ideal))

/-- The filtered input times its own logistic. -/
theorem s40 (b : Fin 8) (s : Fin 2048) (e : Fin 1024) :
    after hostOps0_1 X (Proc.devRef .tc main_v40) (ix3 b s e) = silu (X (Proc.devRef .tc main_v39) (ix3 b s e)) := by
  after_reads_simp
  simp only [StableHlo.TRef.ofBuf_toBuf]
  simp only [StableHlo.TRef.toBuf, StableHlo.TRef.ofBuf, StableHlo.TRef.of, cast_eq]
  pointwise
  rfl

/-- The queries. -/
theorem s44 (b : Fin 8) (s : Fin 2048) (h : Fin 4) (e : Fin 256) :
    after hostOps0_2 X (Proc.devRef .tc main_v44) (ix4 b s h e)
      = ∑ d, HMul.hMul (α := EReal) (β := EReal) (γ := EReal) (X (Proc.devRef .tc main_v40) (ix3 b s (col h d)))
          (X (Proc.devRef .tc main_arg6) (ix4 0 h d e)) := by
  after_reads_simp
  pointwise
  exact Finset.sum_congr (M := EReal) rfl fun d _ => mul_comm (G := EReal) _ _

/-- The keys. -/
theorem s49 (b : Fin 8) (s : Fin 2048) (h : Fin 4) (e : Fin 256) :
    after hostOps0_2 X (Proc.devRef .tc main_v49) (ix4 b s h e)
      = (∑ d, HMul.hMul (α := EReal) (β := EReal) (γ := EReal) (X (Proc.devRef .tc main_v40) (ix3 b s (col h d)))
          (X (Proc.devRef .tc main_arg7) (ix4 0 h d e))) * Ideal.ofBits .f32 1031798784#32 := by
  after_reads_simp
  pointwise
  exact congrArg (fun z : EReal => z * _) (Finset.sum_congr (M := EReal) rfl fun d _ => mul_comm (G := EReal) _ _)

/-- The values. -/
theorem s50 (b : Fin 8) (s : Fin 2048) (h : Fin 4) (e : Fin 256) :
    after hostOps0_2 X (Proc.devRef .tc main_v50) (ix4 b s h e) = X (Proc.devRef .tc main_v1) (ix3 b s (col h e)) := by
  after_reads_simp
  pointwise
  rfl

/-- The log input gates. -/
theorem s54 (b : Fin 8) (s : Fin 2048) (h : Fin 4) :
    after hostOps0_2 X (Proc.devRef .tc main_v54) (ix3 b s h)
      = HAdd.hAdd (α := EReal) (β := EReal) (γ := EReal) (X (Proc.devRef .tc main_v3) (ix3 b s h)) (X (Proc.devRef .tc main_arg8) (ix2 0 h)) := by
  after_reads_simp
  pointwise

/-- The forget gates before their log. -/
theorem s58 (b : Fin 8) (s : Fin 2048) (h : Fin 4) :
    after hostOps0_2 X (Proc.devRef .tc main_v58) (ix3 b s h)
      = HAdd.hAdd (α := EReal) (β := EReal) (γ := EReal) (X (Proc.devRef .tc main_v5) (ix3 b s h)) (X (Proc.devRef .tc main_arg9) (ix2 0 h)) := by
  after_reads_simp
  pointwise

/-- The log of the forget gates. -/
theorem s59 (b : Fin 8) (s : Fin 2048) (h : Fin 4) :
    after hostOps0_3 X (Proc.devRef .tc main_v59) (ix3 b s h) = logsig (X (Proc.devRef .tc main_v58) (ix3 b s h)) := by
  after_reads_simp
  simp only [StableHlo.TRef.ofBuf_toBuf]
  simp only [StableHlo.TRef.toBuf, StableHlo.TRef.ofBuf, StableHlo.TRef.of, cast_eq]
  pointwise
  rw [if_neg (fun h => h rfl)]
  rfl

/-- The triangle. -/
theorem s64 (t s : Fin 128) :
    after hostOps0_5 (after hostOps0_4 X) (Proc.devRef .tc main_v64) (ix2 t s) = if s ≤ t then 1#1 else 0#1 := by
  after_reads_simp
  simp only [StableHlo.TRef.ofBuf_toBuf]
  simp only [StableHlo.TRef.toBuf, StableHlo.TRef.ofBuf, StableHlo.TRef.of, cast_eq]
  pointwise
  have ht := t.isLt
  have hs := s.isLt
  have e1 : (BitVec.ofNat 32 t.val).toInt = t.val := WordCmp.toInt_ofNat_of_lt (by omega)
  have e2 : (BitVec.ofNat 32 s.val).toInt = s.val := WordCmp.toInt_ofNat_of_lt (by omega)
  by_cases h : s ≤ t
  · have h' : s.val ≤ t.val := h
    simp [IntOp.cmpi, IntOp.addi, Scalar.select, BitVec.sle, e1, e2, h, h']
  · have h' : ¬ s.val ≤ t.val := h
    simp [IntOp.cmpi, IntOp.addi, Scalar.select, BitVec.sle, e1, e2, h, h']

/-- The queries in chunks. -/
theorem s770 (b : Fin 8) (t : Fin 128) (h : Fin 4) (e : Fin 256) (c : Fin 16) :
    after hostOps0_6 X (Proc.devRef .tc main_v77_0) (ix5 c b t h e) = X (Proc.devRef .tc main_v44) (ix4 b (time c t) h e) := by
  after_reads_simp
  pointwise [id]
  rfl

/-- The keys in chunks. -/
theorem s771 (b : Fin 8) (t : Fin 128) (h : Fin 4) (e : Fin 256) (c : Fin 16) :
    after hostOps0_6 X (Proc.devRef .tc main_v77_1) (ix5 c b t h e) = X (Proc.devRef .tc main_v49) (ix4 b (time c t) h e) := by
  after_reads_simp
  pointwise [id]
  rfl

/-- The values in chunks. -/
theorem s772 (b : Fin 8) (t : Fin 128) (h : Fin 4) (e : Fin 256) (c : Fin 16) :
    after hostOps0_6 X (Proc.devRef .tc main_v77_2) (ix5 c b t h e) = X (Proc.devRef .tc main_v50) (ix4 b (time c t) h e) := by
  after_reads_simp
  pointwise [id]
  rfl

/-- The log input gates in chunks. -/
theorem s773 (b : Fin 8) (t : Fin 128) (h : Fin 4) (c : Fin 16) :
    after hostOps0_6 X (Proc.devRef .tc main_v77_3) (ix4 c b t h) = X (Proc.devRef .tc main_v54) (ix3 b (time c t) h) := by
  after_reads_simp
  pointwise [id]
  rfl

/-- The log forget gates in chunks. -/
theorem s774 (b : Fin 8) (t : Fin 128) (h : Fin 4) (c : Fin 16) :
    after hostOps0_6 X (Proc.devRef .tc main_v77_4) (ix4 c b t h) = X (Proc.devRef .tc main_v59) (ix3 b (time c t) h) := by
  after_reads_simp
  pointwise [id]
  rfl

/-- The mask. -/
theorem s775 (t s : Fin 128) :
    after hostOps0_6 X (Proc.devRef .tc main_v77_5) (ix4 0 t s 0) = X (Proc.devRef .tc main_v64) (ix2 t s) := by
  after_reads_simp
  pointwise [id]

/-- The filtered input. -/
theorem s39 (b : Fin 8) (s : Fin 2048) (e : Fin 1024) :
    after hostOps0 X (Proc.devRef .tc main_v39) (ix3 b s e)
      = conv (fun j => X (Proc.devRef .tc main_arg4) (ix3 0 j e)) (X (Proc.devRef .tc main_arg5) (ix2 0 e))
          (past (fun r e => X (Proc.devRef .tc main_arg0) (ix2 r e)) b s e) := by
  unfold conv
  rw [past_0, past_1, past_2, past_3]
  after_results
  pointwise
  refine congrArg₂ (fun y z : EReal => y + z) (congrArg₂ (fun y z : EReal => y + z) (congrArg₂ (fun y z : EReal => y + z) (congrArg₂ (fun y z : EReal => y + z) rfl ?_) ?_) ?_) ?_ <;>
    exact mul_comm (G := EReal) _ _

/-- The values by batch and time. -/
theorem s1 (b : Fin 8) (s : Fin 2048) (e : Fin 1024) :
    after hostOps0 X (Proc.devRef .tc main_v1) (ix3 b s e) = X (Proc.devRef .tc main_arg1) (ix2 (row b s) e) := by
  after_results
  pointwise
  rfl

/-- The input gates by batch and time. -/
theorem s3 (b : Fin 8) (s : Fin 2048) (h : Fin 4) :
    after hostOps0 X (Proc.devRef .tc main_v3) (ix3 b s h) = X (Proc.devRef .tc main_arg3) (ix2 (row b s) ⟨16 + h.val, by omega⟩) := by
  after_results
  pointwise
  rfl

/-- The forget gates by batch and time. -/
theorem s5 (b : Fin 8) (s : Fin 2048) (h : Fin 4) :
    after hostOps0 X (Proc.devRef .tc main_v5) (ix3 b s h) = X (Proc.devRef .tc main_arg3) (ix2 (row b s) ⟨144 + h.val, by omega⟩) := by
  after_results
  pointwise
  rfl

/-- The matrices, the normalisers, the stabilisers and the counter before the loop are zero. -/
theorem s777 (i) : after hostOps0_6 (after hostOps0_5 (after hostOps0_4 X)) (Proc.devRef .tc main_v77_7) i = (0 : EReal) := by
  after_reads_simp
  exact Ideal.ofBits_zero_f32

theorem s778 (i) : after hostOps0_6 (after hostOps0_5 (after hostOps0_4 X)) (Proc.devRef .tc main_v77_8) i = (0 : EReal) := by
  after_reads_simp
  exact Ideal.ofBits_zero_f32

theorem s779 (i) : after hostOps0_6 (after hostOps0_5 (after hostOps0_4 X)) (Proc.devRef .tc main_v77_9) i = (0 : EReal) := by
  after_reads_simp
  exact Ideal.ofBits_zero_f32

variable (m : (ℓ : Loc nD τ sig) → Buf (Elt Ideal) ℓ) (c : Dev nD)

/-- The arguments, as this program's memory holds them at the launch. -/
def args : Args :=
  argsOf (m ((c.tc : Thread nD τ).loc main_arg0)) (m ((c.tc : Thread nD τ).loc main_arg1)) (m ((c.tc : Thread nD τ).loc main_arg3))
    (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) (m ((c.tc : Thread nD τ).loc main_arg9))

/-- The contents before the loop, stretch by stretch. -/
theorem entry_eq : entryContents preI m c = after hostOps0_6 (after hostOps0_5 (after hostOps0_4 (after hostOps0_3 (after hostOps0_2
    (after hostOps0_1 (after hostOps0 (launchContents m c))))))) := rfl

theorem keep1 (r : Ref sig .tc) (h : r ∉ hostOps0_1_W) : after hostOps0_1 X (Proc.devRef .tc r) = X (Proc.devRef .tc r) :=
  after_of_writes_sub hostOps0_1 X hostOps0_1_writes h
theorem keep2 (r : Ref sig .tc) (h : r ∉ hostOps0_2_W) : after hostOps0_2 X (Proc.devRef .tc r) = X (Proc.devRef .tc r) :=
  after_of_writes_sub hostOps0_2 X hostOps0_2_writes h
theorem keep3 (r : Ref sig .tc) (h : r ∉ hostOps0_3_W) : after hostOps0_3 X (Proc.devRef .tc r) = X (Proc.devRef .tc r) :=
  after_of_writes_sub hostOps0_3 X hostOps0_3_writes h
theorem keep4 (r : Ref sig .tc) (h : r ∉ hostOps0_4_W) : after hostOps0_4 X (Proc.devRef .tc r) = X (Proc.devRef .tc r) :=
  after_of_writes_sub hostOps0_4 X hostOps0_4_writes h
theorem keep5 (r : Ref sig .tc) (h : r ∉ hostOps0_5_W) : after hostOps0_5 X (Proc.devRef .tc r) = X (Proc.devRef .tc r) :=
  after_of_writes_sub hostOps0_5 X hostOps0_5_writes h
theorem keep0 (r : Ref sig .tc) (h : r ∉ hostOps0_W) : after hostOps0 X (Proc.devRef .tc r) = X (Proc.devRef .tc r) :=
  after_of_writes_sub hostOps0 X hostOps0_writes h

/-- The filtered input, of the arguments. -/
theorem u_entry (b : Fin 8) (s : Fin 2048) (e : Fin 1024) :
    after hostOps0_1 (after hostOps0 (launchContents m c)) (Proc.devRef .tc main_v40) (ix3 b s e) = filt (args m c) b s e := by
  rw [s40, s39]
  rfl

/-- The queries before the loop. -/
theorem q_entry (k : Fin 16) (b : Fin 8) (t : Fin 128) (h : Fin 4) (e : Fin 256) :
    entryContents preI m c (Proc.devRef .tc main_v77_0) (ix5 k b t h e) = (chunkOf (args m c) b h k).q t e := by
  rw [entry_eq, s770, keep5 _ main_v44 (by decide +kernel), keep4 _ main_v44 (by decide +kernel), keep3 _ main_v44 (by decide +kernel), s44]
  show _ = ∑ d : Fin 256, filt (args m c) b (time k t) (col h d) * (args m c).wq h d e
  refine Finset.sum_congr (M := EReal) rfl fun d _ => ?_
  rw [u_entry, keep1 _ main_arg6 (by decide +kernel), keep0 _ main_arg6 (by decide +kernel)]
  rfl

/-- The keys before the loop. -/
theorem k_entry (k : Fin 16) (b : Fin 8) (t : Fin 128) (h : Fin 4) (e : Fin 256) :
    entryContents preI m c (Proc.devRef .tc main_v77_1) (ix5 k b t h e) = (chunkOf (args m c) b h k).k t e := by
  rw [entry_eq, s771, keep5 _ main_v49 (by decide +kernel), keep4 _ main_v49 (by decide +kernel), keep3 _ main_v49 (by decide +kernel), s49]
  show _ = (∑ d : Fin 256, filt (args m c) b (time k t) (col h d) * (args m c).wk h d e) * Ideal.ofBits .f32 1031798784#32
  refine congrArg (fun z : EReal => z * _) (Finset.sum_congr (M := EReal) rfl fun d _ => ?_)
  rw [u_entry, keep1 _ main_arg7 (by decide +kernel), keep0 _ main_arg7 (by decide +kernel)]
  rfl

/-- The values before the loop. -/
theorem v_entry (k : Fin 16) (b : Fin 8) (t : Fin 128) (h : Fin 4) (e : Fin 256) :
    entryContents preI m c (Proc.devRef .tc main_v77_2) (ix5 k b t h e) = (chunkOf (args m c) b h k).v t e := by
  rw [entry_eq, s772, keep5 _ main_v50 (by decide +kernel), keep4 _ main_v50 (by decide +kernel), keep3 _ main_v50 (by decide +kernel), s50,
    keep1 _ main_v1 (by decide +kernel), s1]
  rfl

/-- The log input gates before the loop. -/
theorem i_entry (k : Fin 16) (b : Fin 8) (t : Fin 128) (h : Fin 4) :
    entryContents preI m c (Proc.devRef .tc main_v77_3) (ix4 k b t h) = (chunkOf (args m c) b h k).i t := by
  rw [entry_eq, s773, keep5 _ main_v54 (by decide +kernel), keep4 _ main_v54 (by decide +kernel), keep3 _ main_v54 (by decide +kernel), s54,
    keep1 _ main_v3 (by decide +kernel), s3, keep1 _ main_arg8 (by decide +kernel), keep0 _ main_arg8 (by decide +kernel)]
  rfl

/-- The log forget gates before the loop. -/
theorem f_entry (k : Fin 16) (b : Fin 8) (t : Fin 128) (h : Fin 4) :
    entryContents preI m c (Proc.devRef .tc main_v77_4) (ix4 k b t h) = (chunkOf (args m c) b h k).f t := by
  rw [entry_eq, s774, keep5 _ main_v59 (by decide +kernel), keep4 _ main_v59 (by decide +kernel), s59, s58,
    keep1 _ main_v5 (by decide +kernel), s5, keep1 _ main_arg9 (by decide +kernel), keep0 _ main_arg9 (by decide +kernel)]
  rfl

end Cert.ReferenceIdeal.Pre
-- ==== Proof.RefStep.lean ====
module

public import proofs.«01_k».proof.Proof.Gen.ReferenceIdeal.Run
public import proofs.«01_k».proof.Proof.Spec
public import Idealize.ShloMosaic.Lib.Pointwise
public import Idealize.ShloMosaic.Lib.WordCmp

@[expose] public section
set_option maxRecDepth 16384
noncomputable section
open Idealize.ShloMosaic Idealize.ShloMosaic.TcCoe Idealize.SL.Sem
open Cert.MemSpec Cert.ReferenceIdeal Cert.ReferenceIdeal.Gen Cert.ReferenceIdeal.Value
/-!
One trip of the reference's loop, read entry by entry: for each batch and each head it is one chunk of the
recurrence (`Spec.lean`).
-/
namespace Cert.ReferenceIdeal.Trip

/-- A fold over added terms is the start plus the sum of the terms. -/
theorem foldl_add {ι : Type} (g : ι → EReal) (l : List ι) (v : EReal) :
    l.foldl (fun r n => r + g n) v = v + (l.map g).sum := by
  induction l generalizing v with
  | nil => simp
  | cons a l ih => rw [List.foldl_cons, ih, List.map_cons, List.sum_cons, add_assoc]

/-- Shifting the window round the 128 places turns the places inside it into the places up to `t`. -/
theorem sum_shift (x : Fin 128 → EReal) (t : Fin 128) (g : Fin 128 → EReal)
    (h1 : ∀ n s : Fin 128, 127 ≤ t.val + n.val → s.val = t.val + n.val - 127 → g n = x s)
    (h0 : ∀ n : Fin 128, t.val + n.val < 127 → g n = 0) :
    ∑ n, g n = ∑ s, if s ≤ t then x s else 0 := by
  rw [← Equiv.sum_comp (Equiv.addLeft (t + 1)) (fun s => if s ≤ t then x s else 0)]
  refine Finset.sum_congr rfl fun n _ => ?_
  have hv : ((Equiv.addLeft (t + 1)) n).val = (t.val + 1 + n.val) % 128 := by
    show ((t + 1) + n : Fin 128).val = _
    rw [Fin.val_add, Fin.val_add]
    show ((t.val + 1) % 128 + n.val) % 128 = _
    omega
  have ht := t.isLt
  have hn := n.isLt
  by_cases h : 127 ≤ t.val + n.val
  · rw [if_pos (by rw [Fin.le_def, hv]; omega)]
    exact h1 n _ h (by rw [hv]; omega)
  · rw [if_neg (by rw [Fin.le_def, hv]; omega)]
    exact h0 n (by omega)

/-- The running sum along the middle axis, as a window of the whole height. -/
theorem cumsum_mid (x : S8x128x4.Idx → EReal) (v : S_.Idx → EReal) (hv : ∀ i, v i = 0)
    (hw : S8x128x4.ReduceWindows (![1, 128, 1] : Fin 3 → Nat) ![1, 1, 1] ![0, 127, 0] ![0, 0, 0] S8x128x4) (hu : 0 < S_.numel)
    (b : Fin 8) (t : Fin 128) (h : Fin 4) :
    Host.reduceWindow (fun a b : EReal => a + b) ![1, 128, 1] ![1, 1, 1] ![0, 127, 0] ![0, 0, 0] x v hw hu (ix3 b t h)
      = ∑ s, if s ≤ t then x (ix3 b s h) else 0 := by
  unfold Host.reduceWindow
  dsimp only
  rw [foldl_add, hv, zero_add]
  rw [show ∀ (N : Nat) (g : Fin N → EReal), ((List.finRange N).map g).sum = ∑ n, g n from fun N g => by
    rw [← List.ofFn_eq_map, List.sum_ofFn]]
  have hN : (⟨3, (![1, 128, 1] : Fin 3 → Nat)⟩ : Shape).numel = 128 := by decide
  rw [← Equiv.sum_comp (finCongr hN.symm)]
  have w0 : ∀ i : (⟨3, (![1, 128, 1] : Fin 3 → Nat)⟩ : Shape).Idx, (i 0).val = 0 := fun i => by
    have := (i 0).isLt
    change (i 0).val < 1 at this
    omega
  have w2 : ∀ i : (⟨3, (![1, 128, 1] : Fin 3 → Nat)⟩ : Shape).Idx, (i 2).val = 0 := fun i => by
    have := (i 2).isLt
    change (i 2).val < 1 at this
    omega
  have w1 : ∀ n : Fin 128, ((⟨3, (![1, 128, 1] : Fin 3 → Nat)⟩ : Shape).rowMajor.symm (finCongr hN.symm n) 1).val = n.val := fun n => by
    have e := Shape.rowMajor_val_three ((⟨3, (![1, 128, 1] : Fin 3 → Nat)⟩ : Shape).rowMajor.symm (finCongr hN.symm n))
    rw [Equiv.apply_symm_apply, w0, w2] at e
    change n.val = _ at e
    rw [e]
    show _ = (0 * 128 + _) * 1 + 0
    omega
  refine sum_shift (fun s => x (ix3 b s h)) t _ (fun n s hn hs => ?_) (fun n hn => ?_)
  · rw [dif_pos]
    · refine congrArg x (funext fun a => Fin.ext ?_)
      match a with
      | ⟨0, _⟩ =>
        show b.val * 1 + ((⟨3, (![1, 128, 1] : Fin 3 → Nat)⟩ : Shape).rowMajor.symm (finCongr hN.symm n) 0).val - 0 = b.val
        rw [w0]; omega
      | ⟨1, _⟩ =>
        show t.val * 1 + ((⟨3, (![1, 128, 1] : Fin 3 → Nat)⟩ : Shape).rowMajor.symm (finCongr hN.symm n) 1).val - 127 = s.val
        rw [w1]; omega
      | ⟨2, _⟩ =>
        show h.val * 1 + ((⟨3, (![1, 128, 1] : Fin 3 → Nat)⟩ : Shape).rowMajor.symm (finCongr hN.symm n) 2).val - 0 = h.val
        rw [w2]; omega
    · intro a
      have ht := t.isLt
      have hb := b.isLt
      have hh := h.isLt
      have hn' := n.isLt
      match a with
      | ⟨0, _⟩ =>
        show 0 ≤ b.val * 1 + ((⟨3, (![1, 128, 1] : Fin 3 → Nat)⟩ : Shape).rowMajor.symm (finCongr hN.symm n) 0).val
          ∧ b.val * 1 + ((⟨3, (![1, 128, 1] : Fin 3 → Nat)⟩ : Shape).rowMajor.symm (finCongr hN.symm n) 0).val - 0 < 8
        rw [w0]; omega
      | ⟨1, _⟩ =>
        show 127 ≤ t.val * 1 + ((⟨3, (![1, 128, 1] : Fin 3 → Nat)⟩ : Shape).rowMajor.symm (finCongr hN.symm n) 1).val
          ∧ t.val * 1 + ((⟨3, (![1, 128, 1] : Fin 3 → Nat)⟩ : Shape).rowMajor.symm (finCongr hN.symm n) 1).val - 127 < 128
        rw [w1]; omega
      | ⟨2, _⟩ =>
        show 0 ≤ h.val * 1 + ((⟨3, (![1, 128, 1] : Fin 3 → Nat)⟩ : Shape).rowMajor.symm (finCongr hN.symm n) 2).val
          ∧ h.val * 1 + ((⟨3, (![1, 128, 1] : Fin 3 → Nat)⟩ : Shape).rowMajor.symm (finCongr hN.symm n) 2).val - 0 < 4
        rw [w2]; omega
  · rw [dif_neg]
    intro hin
    have h1 := (hin 1).1
    change 127 ≤ t.val * 1 + ((⟨3, (![1, 128, 1] : Fin 3 → Nat)⟩ : Shape).rowMajor.symm (finCongr hN.symm n) 1).val at h1
    rw [w1] at h1
    omega

/-- A fold of maxima over the places of a filter is the fold over the index that runs through them. -/
theorem fold_through {ι κ : Type} [Fintype ι] [Fintype κ] (P : ι → Prop) [DecidablePred P] (g : κ → ι)
    (hg : Function.Injective g) (hP : ∀ i, P i ↔ ∃ k, g k = i) (f : ι → EReal) (lo : EReal) :
    (Finset.univ.filter P).fold max lo f = Finset.univ.fold max lo (fun k => f (g k)) := by
  have e : Finset.univ.filter P = Finset.univ.map ⟨g, hg⟩ := by
    ext i
    simp [hP]
  rw [e, Finset.fold_map]
  rfl

variable (V0 : Valuation τ sig (Elt Ideal))

/-- What chunk `k` of head `h` of batch `b` reads. -/
def chunkAt (b : Fin 8) (h : Fin 4) (k : Fin 16) : Chunk where
  q t d := V0 (Proc.devRef .tc main_v77_0) (ix5 k b t h d)
  k t d := V0 (Proc.devRef .tc main_v77_1) (ix5 k b t h d)
  v t d := V0 (Proc.devRef .tc main_v77_2) (ix5 k b t h d)
  i t := V0 (Proc.devRef .tc main_v77_3) (ix4 k b t h)
  f t := V0 (Proc.devRef .tc main_v77_4) (ix4 k b t h)

/-- The state of head `h` of batch `b`. -/
def carryAt (b : Fin 8) (h : Fin 4) : Carry where
  C d e := V0 (Proc.devRef .tc main_v77_7) (ix4 b h d e)
  n d := V0 (Proc.devRef .tc main_v77_8) (ix3 b h d)
  m := V0 (Proc.devRef .tc main_v77_9) (ix2 b h)

/-- The loop's counter stands at chunk `k`. -/
def At (k : Fin 16) : Prop := V0 (Proc.devRef .tc main_v77_6) = fun _ => BitVec.ofNat 32 k.val

/-- The mask holds one on and below the diagonal. -/
def Mask : Prop := ∀ t s : Fin 128, V0 (Proc.devRef .tc main_v77_5) (ix4 0 t s 0) = if s ≤ t then 1#1 else 0#1

variable {V0} {k : Fin 16}

theorem ix5_eq {n0 n1 n2 n3 n4 : Nat} {a a' : Fin n0} {b b' : Fin n1} {c c' : Fin n2} {d d' : Fin n3} {e e' : Fin n4}
    (ha : a = a') (hb : b = b') (hc : c = c') (hd : d = d') (he : e = e') : ix5 a b c d e = ix5 a' b' c' d' e' := by
  subst ha hb hc hd he; rfl

theorem ix4_eq {n0 n1 n2 n3 : Nat} {a a' : Fin n0} {b b' : Fin n1} {c c' : Fin n2} {d d' : Fin n3}
    (ha : a = a') (hb : b = b') (hc : c = c') (hd : d = d') : ix4 a b c d = ix4 a' b' c' d' := by
  subst ha hb hc hd; rfl

theorem word_at (hk : At V0 k) (i : S_.Idx) : (V0 (Proc.devRef .tc main_v77_6) i).toInt = (k.val : Int) := by
  rw [hk]
  exact WordCmp.toInt_ofNat_of_lt (by have := k.isLt; omega)

/-- A slice of one slab, without its leading axis, is the slab: five axes. -/
theorem slab5 (x : S16x8x128x4x256.Idx → EReal) (st : Fin 5 → Int) (h0 : st 0 = (k.val : Int)) (h1 : st 1 = 0) (h2 : st 2 = 0)
    (h3 : st 3 = 0) (h4 : st 4 = 0) (b : Fin 8) (t : Fin 128) (h : Fin 4) (d : Fin 256) :
    shapeCast S8x128x4x256 (Host.dynamicSlice S1x8x128x4x256 x st sliceFits_S16x8x128x4x256_S1x8x128x4x256) shapeCasts_S1x8x128x4x256_S8x128x4x256
      (ix4 b t h d) = x (ix5 k b t h d) := by
  pointwise
  have hk' := k.isLt
  refine congrArg x (ix5_eq ?_ ?_ ?_ ?_ ?_) <;> refine Fin.ext ?_
  · refine Host.clampedStart_of_le (s := S16x8x128x4x256) (t := S1x8x128x4x256) rfl st 0 k.val h0 ?_
    exact Nat.le_trans (Nat.add_le_add_right (show k.val ≤ 15 by omega) _) (by decide)
  · exact (congrArg (· + b.val) (Host.clampedStart_of_le _ _ _ 0 h1 (by decide))).trans (Nat.zero_add _)
  · exact (congrArg (· + t.val) (Host.clampedStart_of_le _ _ _ 0 h2 (by decide))).trans (Nat.zero_add _)
  · exact (congrArg (· + h.val) (Host.clampedStart_of_le _ _ _ 0 h3 (by decide))).trans (Nat.zero_add _)
  · exact (congrArg (· + d.val) (Host.clampedStart_of_le _ _ _ 0 h4 (by decide))).trans (Nat.zero_add _)

/-- A slice of one slab, without its leading axis, is the slab: four axes. -/
theorem slab4 (x : S16x8x128x4.Idx → EReal) (st : Fin 4 → Int) (h0 : st 0 = (k.val : Int)) (h1 : st 1 = 0) (h2 : st 2 = 0)
    (h3 : st 3 = 0) (b : Fin 8) (t : Fin 128) (h : Fin 4) :
    shapeCast S8x128x4 (Host.dynamicSlice S1x8x128x4 x st sliceFits_S16x8x128x4_S1x8x128x4) shapeCasts_S1x8x128x4_S8x128x4
      (ix3 b t h) = x (ix4 k b t h) := by
  pointwise
  have hk' := k.isLt
  refine congrArg x (ix4_eq ?_ ?_ ?_ ?_) <;> refine Fin.ext ?_
  · refine Host.clampedStart_of_le (s := S16x8x128x4) (t := S1x8x128x4) rfl st 0 k.val h0 ?_
    exact Nat.le_trans (Nat.add_le_add_right (show k.val ≤ 15 by omega) _) (by decide)
  · exact (congrArg (· + b.val) (Host.clampedStart_of_le _ _ _ 0 h1 (by decide))).trans (Nat.zero_add _)
  · exact (congrArg (· + t.val) (Host.clampedStart_of_le _ _ _ 0 h2 (by decide))).trans (Nat.zero_add _)
  · exact (congrArg (· + h.val) (Host.clampedStart_of_le _ _ _ 0 h3 (by decide))).trans (Nat.zero_add _)

/-- The queries of the chunk the counter stands at. -/
theorem q_at (hk : At V0 k) (b : Fin 8) (t : Fin 128) (h : Fin 4) (d : Fin 256) :
    res_main_while0b_v118 V0 (ix4 b t h d) = (chunkAt V0 b h k).q t d :=
  slab5 _ _ (word_at hk _) rfl rfl rfl rfl b t h d

/-- The keys of the chunk the counter stands at. -/
theorem k_at (hk : At V0 k) (b : Fin 8) (t : Fin 128) (h : Fin 4) (d : Fin 256) :
    res_main_while0b_v119 V0 (ix4 b t h d) = (chunkAt V0 b h k).k t d :=
  slab5 _ _ (word_at hk _) rfl rfl rfl rfl b t h d

/-- The values of the chunk the counter stands at. -/
theorem v_at (hk : At V0 k) (b : Fin 8) (t : Fin 128) (h : Fin 4) (d : Fin 256) :
    res_main_while0b_v120 V0 (ix4 b t h d) = (chunkAt V0 b h k).v t d :=
  slab5 _ _ (word_at hk _) rfl rfl rfl rfl b t h d

/-- The log input gates of the chunk the counter stands at. -/
theorem i_at (hk : At V0 k) (b : Fin 8) (t : Fin 128) (h : Fin 4) :
    res_main_while0b_v121 V0 (ix3 b t h) = (chunkAt V0 b h k).i t :=
  slab4 _ _ (word_at hk _) rfl rfl rfl b t h

/-- The running sums of the log forget gates. -/
theorem b_at (hk : At V0 k) (b : Fin 8) (t : Fin 128) (h : Fin 4) :
    res_main_while0b_v123 V0 (ix3 b t h) = bcs (chunkAt V0 b h k).f t := by
  refine (cumsum_mid _ _ (fun i => ?_) reduceWindows_S8x128x4_S8x128x4_w1s1p0_0_w128s1p127_0_w1s1p0_0 h_S_ b t h).trans (Finset.sum_congr rfl fun s _ => ?_)
  · exact Ideal.ofBits_zero_f32
  · refine if_congr Iff.rfl ?_ rfl
    exact slab4 _ _ (word_at hk _) rfl rfl rfl b s h

/-- The masked log weights. -/
theorem d_at (hk : At V0 k) (hM : Mask V0) (b : Fin 8) (t s : Fin 128) (h : Fin 4) :
    res_main_while0b_v132 V0 (ix4 b t s h) = dmat (chunkAt V0 b h k).f (chunkAt V0 b h k).i t s := by
  pointwise [res_main_while0b_v132]
  rw [hM, b_at hk, b_at hk, i_at hk]
  unfold dmat
  by_cases hs : s ≤ t
  · rw [if_pos hs, if_pos hs]; rfl
  · rw [if_neg hs, if_neg hs]; rfl

/-- The running sum plus the carried stabiliser. -/
theorem e_at (hk : At V0 k) (b : Fin 8) (t : Fin 128) (h : Fin 4) :
    res_main_while0b_v135 V0 (ix3 b t h) = bcs (chunkAt V0 b h k).f t + (carryAt V0 b h).m := by
  pointwise [res_main_while0b_v135]
  rw [b_at hk]
  rfl

/-- The stabilisers. -/
theorem m_at (hk : At V0 k) (hM : Mask V0) (b : Fin 8) (t : Fin 128) (h : Fin 4) :
    res_main_while0b_v137 V0 (ix3 b t h) = mt (chunkAt V0 b h k).f (chunkAt V0 b h k).i (carryAt V0 b h).m t := by
  pointwise [res_main_while0b_v137]
  rw [e_at hk, fold_through _ (fun s : Fin 128 => ix4 b t s h)]
  · unfold Cert.MemSpec.mt
    refine congrArg (fun z : EReal => max _ z) (congrArg (Finset.univ.fold max low) (funext fun s => d_at hk hM b t s h))
  · intro s s' e
    exact congrFun e 2
  · intro i
    constructor
    · intro e
      refine ⟨i 2, funext fun a => ?_⟩
      match a with
      | ⟨0, _⟩ => exact (congrFun e 0).symm
      | ⟨1, _⟩ => exact (congrFun e 1).symm
      | ⟨2, _⟩ => rfl
      | ⟨3, _⟩ => exact (congrFun e 2).symm
    · rintro ⟨s, rfl⟩
      funext a
      fin_cases a <;> rfl

/-- The weights of the carried state. -/
theorem w_at (hk : At V0 k) (hM : Mask V0) (b : Fin 8) (t : Fin 128) (h : Fin 4) :
    res_main_while0b_v139 V0 (ix3 b t h) = wint (chunkAt V0 b h k).f (chunkAt V0 b h k).i (carryAt V0 b h).m t := by
  pointwise [res_main_while0b_v139]
  rw [e_at hk, m_at hk hM]
  rfl

/-- The weighted scores. -/
theorem a_at (hk : At V0 k) (hM : Mask V0) (b : Fin 8) (t s : Fin 128) (h : Fin 4) :
    res_main_while0b_v146 V0 (ix4 b t s h) = att (chunkAt V0 b h k) (carryAt V0 b h).m t s := by
  pointwise [res_main_while0b_v146]
  rw [d_at hk hM, m_at hk hM]
  refine congrArg (· * _) (Finset.sum_congr rfl fun d _ => ?_)
  rw [k_at hk, q_at hk, mul_comm]

/-- The whole chunk's sum of the log forget gates. -/
theorem l_at (hk : At V0 k) (b : Fin 8) (h : Fin 4) :
    res_main_while0b_v168 V0 (ix2 b h) = bcs (chunkAt V0 b h k).f 127 := by
  pointwise [res_main_while0b_v168]
  exact b_at hk b 127 h

/-- The log weights at the end of the chunk. -/
theorem g_at (hk : At V0 k) (b : Fin 8) (s : Fin 128) (h : Fin 4) :
    res_main_while0b_v172 V0 (ix3 b s h) = gend (chunkAt V0 b h k).f (chunkAt V0 b h k).i s := by
  pointwise [res_main_while0b_v172]
  rw [l_at hk, b_at hk, i_at hk]
  rfl

/-- The stabiliser after the chunk. -/
theorem mn_at (hk : At V0 k) (b : Fin 8) (h : Fin 4) :
    res_main_while0b_v175 V0 (ix2 b h) = mnew (chunkAt V0 b h k).f (chunkAt V0 b h k).i (carryAt V0 b h).m := by
  pointwise [res_main_while0b_v175]
  rw [l_at hk, fold_through _ (fun s : Fin 128 => ix3 b s h)]
  · unfold mnew
    refine congrArg (fun z : EReal => max _ z) (congrArg (Finset.univ.fold max low) (funext fun s => g_at hk b s h))
  · intro s s' e
    exact congrFun e 1
  · intro i
    constructor
    · intro e
      refine ⟨i 1, funext fun a => ?_⟩
      match a with
      | ⟨0, _⟩ => exact (congrFun e 0).symm
      | ⟨1, _⟩ => rfl
      | ⟨2, _⟩ => exact (congrFun e 1).symm
    · rintro ⟨s, rfl⟩
      funext a
      fin_cases a <;> rfl

/-- The weight the carried state keeps. -/
theorem wo_at (hk : At V0 k) (b : Fin 8) (h : Fin 4) :
    res_main_while0b_v178 V0 (ix2 b h) = wold (chunkAt V0 b h k).f (chunkAt V0 b h k).i (carryAt V0 b h).m := by
  pointwise [res_main_while0b_v178]
  rw [l_at hk, mn_at hk]
  rfl

/-- The weights the steps enter the new state with. -/
theorem ws_at (hk : At V0 k) (b : Fin 8) (s : Fin 128) (h : Fin 4) :
    res_main_while0b_v182 V0 (ix3 b s h) = ws (chunkAt V0 b h k).f (chunkAt V0 b h k).i (carryAt V0 b h).m s := by
  pointwise [res_main_while0b_v182]
  rw [g_at hk, mn_at hk]
  rfl

/-- The matrix after the trip. -/
theorem C_step (hk : At V0 k) (b : Fin 8) (h : Fin 4) (d e : Fin 256) :
    step_main_v77_7 V0 (ix4 b h d e) = (step (chunkAt V0 b h k) (carryAt V0 b h)).C d e := by
  pointwise [step_main_v77_7, id]
  rw [wo_at hk]
  refine congrArg (fun z : EReal => _ + z) (Finset.sum_congr rfl fun s _ => ?_)
  rw [ws_at hk, k_at hk, v_at hk]

/-- The normaliser after the trip. -/
theorem n_step (hk : At V0 k) (b : Fin 8) (h : Fin 4) (d : Fin 256) :
    step_main_v77_8 V0 (ix3 b h d) = (step (chunkAt V0 b h k) (carryAt V0 b h)).n d := by
  pointwise [step_main_v77_8, id]
  rw [wo_at hk]
  refine congrArg (fun z : EReal => _ + z) (Finset.sum_congr rfl fun s _ => ?_)
  rw [ws_at hk, k_at hk]

/-- The stabiliser after the trip. -/
theorem m_step (hk : At V0 k) (b : Fin 8) (h : Fin 4) :
    step_main_v77_9 V0 (ix2 b h) = (step (chunkAt V0 b h k) (carryAt V0 b h)).m :=
  mn_at hk b h

/-- Writing one slab leaves the others. -/
theorem put5 (x : S16x8x128x4x256.Idx → EReal) (u : S1x8x128x4x256.Idx → EReal) (st : Fin 5 → Int) (h0 : st 0 = (k.val : Int)) (h1 : st 1 = 0)
    (h2 : st 2 = 0) (h3 : st 3 = 0) (h4 : st 4 = 0) (c : Fin 16) (b : Fin 8) (t : Fin 128) (h : Fin 4) (d : Fin 256) :
    Host.dynamicUpdateSlice x u st updateFits_S16x8x128x4x256_S1x8x128x4x256 (ix5 c b t h d)
      = if c = k then u (ix5 0 b t h d) else x (ix5 c b t h d) := by
  have hk' := k.isLt
  have c0 : Host.clampedStart S16x8x128x4x256 S1x8x128x4x256 rfl st 0 = k.val := by
    refine Host.clampedStart_of_le (s := S16x8x128x4x256) (t := S1x8x128x4x256) rfl st 0 k.val h0 ?_
    exact Nat.le_trans (Nat.add_le_add_right (show k.val ≤ 15 by omega) _) (by decide)
  have c1 : Host.clampedStart S16x8x128x4x256 S1x8x128x4x256 rfl st 1 = 0 := Host.clampedStart_of_le _ _ _ 0 h1 (by decide)
  have c2 : Host.clampedStart S16x8x128x4x256 S1x8x128x4x256 rfl st 2 = 0 := Host.clampedStart_of_le _ _ _ 0 h2 (by decide)
  have c3 : Host.clampedStart S16x8x128x4x256 S1x8x128x4x256 rfl st 3 = 0 := Host.clampedStart_of_le _ _ _ 0 h3 (by decide)
  have c4 : Host.clampedStart S16x8x128x4x256 S1x8x128x4x256 rfl st 4 = 0 := Host.clampedStart_of_le _ _ _ 0 h4 (by decide)
  rw [Host.dynamicUpdateSlice_apply]
  by_cases hc : c = k
  · rw [if_pos hc, dif_pos]
    · refine congrArg u (funext fun a => Fin.ext ?_)
      match a with
      | ⟨0, _⟩ => exact (congrArg (c.val - ·) c0).trans (by rw [hc]; exact Nat.sub_self _)
      | ⟨1, _⟩ => exact (congrArg (b.val - ·) c1).trans rfl
      | ⟨2, _⟩ => exact (congrArg (t.val - ·) c2).trans rfl
      | ⟨3, _⟩ => exact (congrArg (h.val - ·) c3).trans rfl
      | ⟨4, _⟩ => exact (congrArg (d.val - ·) c4).trans rfl
    · intro a
      match a with
      | ⟨0, _⟩ =>
        refine ⟨?_, ?_⟩
        · exact (le_of_eq c0).trans (le_of_eq (congrArg Fin.val hc.symm))
        · exact lt_of_lt_of_eq (show c.val < k.val + 1 by rw [hc]; omega) (congrArg (· + 1) c0.symm)
      | ⟨1, _⟩ => exact ⟨(le_of_eq c1).trans (Nat.zero_le _), lt_of_lt_of_eq (show b.val < 0 + 8 by omega) (congrArg (· + 8) c1.symm)⟩
      | ⟨2, _⟩ => exact ⟨(le_of_eq c2).trans (Nat.zero_le _), lt_of_lt_of_eq (show t.val < 0 + 128 by omega) (congrArg (· + 128) c2.symm)⟩
      | ⟨3, _⟩ => exact ⟨(le_of_eq c3).trans (Nat.zero_le _), lt_of_lt_of_eq (show h.val < 0 + 4 by omega) (congrArg (· + 4) c3.symm)⟩
      | ⟨4, _⟩ => exact ⟨(le_of_eq c4).trans (Nat.zero_le _), lt_of_lt_of_eq (show d.val < 0 + 256 by omega) (congrArg (· + 256) c4.symm)⟩
  · rw [if_neg hc, dif_neg]
    intro hin
    have h1' : k.val ≤ c.val := (le_of_eq c0.symm).trans (hin 0).1
    have h2' : c.val < k.val + 1 := lt_of_lt_of_eq (hin 0).2 (congrArg (· + 1) c0)
    exact hc (Fin.ext (by omega))

/-- The outputs after the trip: the chunk's slab holds its outputs, the other slabs are as they were. -/
theorem h_step (hk : At V0 k) (hM : Mask V0) (c : Fin 16) (b : Fin 8) (t : Fin 128) (h : Fin 4) (e : Fin 256) :
    step_main_v77_10 V0 (ix5 c b t h e)
      = if c = k then hout (chunkAt V0 b h k) (carryAt V0 b h) t e else V0 (Proc.devRef .tc main_v77_10) (ix5 c b t h e) := by
  refine (put5 _ _ _ (word_at hk _) rfl rfl rfl rfl c b t h e).trans (if_congr Iff.rfl ?_ rfl)
  pointwise
  rw [w_at hk hM, m_at hk hM]
  have e1 : ∀ s, HMul.hMul (α := EReal) (β := EReal) (γ := EReal) (res_main_while0b_v120 V0 (ix4 b s h e)) (res_main_while0b_v146 V0 (ix4 b t s h))
      = att (chunkAt V0 b h k) (carryAt V0 b h).m t s * (chunkAt V0 b h k).v s e := fun s => by
    rw [v_at hk, a_at hk hM, mul_comm]
  have e2 : ∀ d, HMul.hMul (α := EReal) (β := EReal) (γ := EReal) (V0 (Proc.devRef .tc main_v77_7) (ix4 b h d e)) (res_main_while0b_v118 V0 (ix4 b t h d))
      = (chunkAt V0 b h k).q t d * (carryAt V0 b h).C d e := fun d => by
    rw [q_at hk]; exact mul_comm _ _
  have e3 : ∀ d, HMul.hMul (α := EReal) (β := EReal) (γ := EReal) (V0 (Proc.devRef .tc main_v77_8) (ix3 b h d)) (res_main_while0b_v118 V0 (ix4 b t h d))
      = (chunkAt V0 b h k).q t d * (carryAt V0 b h).n d := fun d => by
    rw [q_at hk]; exact mul_comm _ _
  have e4 : ∀ s, res_main_while0b_v146 V0 (ix4 b t s h) = att (chunkAt V0 b h k) (carryAt V0 b h).m t s := fun s => a_at hk hM b t s h
  refine congrArg₂ Ideal.div ?_ (congrArg (fun z : EReal => max z _) ?_)
  · exact congrArg₂ (fun y z : EReal => y + _ * z) (Finset.sum_congr rfl fun s _ => e1 s) (Finset.sum_congr rfl fun d _ => e2 d)
  · have e5 := congrArg₂ (fun y z : EReal => y + wint (chunkAt V0 b h k).f (chunkAt V0 b h k).i (carryAt V0 b h).m t * z)
      (Finset.sum_congr rfl fun s (_ : s ∈ (Finset.univ : Finset (Fin 128))) => e4 s) (Finset.sum_congr rfl fun d (_ : d ∈ (Finset.univ : Finset (Fin 256))) => e3 d)
    exact congrArg (fun z : EReal => max z (-z)) e5

/-- The chunk that the counter's value names. -/
def chunks (V0 : Valuation τ sig (Elt Ideal)) (b : Fin 8) (h : Fin 4) (c : ℕ) : Chunk := chunkAt V0 b h (Fin.ofNat 16 c)

/-- What holds before trip `k`, when the loop starts from `W`. -/
structure Inv (W : Valuation τ sig (Elt Ideal)) (k : ℕ) (V : Valuation τ sig (Elt Ideal)) : Prop where
  chunk : ∀ b h c, chunkAt V b h c = chunkAt W b h c
  mask : Mask V
  ctr : V (Proc.devRef .tc main_v77_6) = fun _ => BitVec.ofNat 32 k
  state : ∀ b h, carryAt V b h = carry (chunks W b h) k
  out : ∀ (c : Fin 16) b t h e, c.val < k →
    V (Proc.devRef .tc main_v77_10) (ix5 c b t h e) = hout (chunkAt W b h c) (carry (chunks W b h) c.val) t e

/-- One trip keeps the invariant. -/
theorem inv_step {W V : Valuation τ sig (Elt Ideal)} {k : ℕ} (hk : k < 16) (I : Inv W k V) : Inv W (k + 1) (STEP V) := by
  have hA : At V ⟨k, hk⟩ := I.ctr
  have hc : ∀ b h, chunks W b h k = chunkAt W b h ⟨k, hk⟩ := fun b h =>
    congrArg (chunkAt W b h) (Fin.ext (Nat.mod_eq_of_lt hk))
  refine ⟨fun b h c => ?_, ?_, ?_, fun b h => ?_, fun c b t h e hck => ?_⟩
  · rw [← I.chunk]
    unfold chunkAt
    rw [STEP_main_v77_0, STEP_main_v77_1, STEP_main_v77_2, STEP_main_v77_3, STEP_main_v77_4]
  · intro t s
    rw [STEP_main_v77_5]
    exact I.mask t s
  · rw [STEP_main_v77_6]
    unfold step_main_v77_6
    rw [I.ctr]
    funext i
    show BitVec.ofNat 32 k + 1#32 = BitVec.ofNat 32 (k + 1)
    rw [BitVec.ofNat_add]
  · show _ = step (chunks W b h k) (carry (chunks W b h) k)
    rw [hc, ← I.state, ← I.chunk]
    unfold carryAt
    rw [STEP_main_v77_7, STEP_main_v77_8, STEP_main_v77_9]
    refine congr (congrArg₂ Carry.mk (funext fun d => funext fun e => C_step hA b h d e) (funext fun d => n_step hA b h d)) (m_step hA b h)
  · rw [STEP_main_v77_10, h_step hA I.mask]
    by_cases h' : c = ⟨k, hk⟩
    · rw [if_pos h', I.chunk, I.state, h']
    · rw [if_neg h']
      exact I.out c b t h e (by
        have : c.val ≠ k := fun q => h' (Fin.ext q)
        omega)

/-- What holds after the sixteen trips. -/
theorem inv_all {W : Valuation τ sig (Elt Ideal)} (I : Inv W 0 W) : ∀ k, k ≤ 16 → Inv W k (STEP^[k] W)
  | 0, _ => I
  | k + 1, h => by
    rw [Function.iterate_succ_apply']
    exact inv_step (by omega) (inv_all I k (by omega))

end Cert.ReferenceIdeal.Trip
-- ==== Proof.RefOut.lean ====
module

public import proofs.«01_k».proof.Proof.Gen.ReferenceIdeal.Run
public import proofs.«01_k».proof.Proof.RefPre
public import proofs.«01_k».proof.Proof.RefStep
public import Idealize.ShloMosaic.Lib.Pointwise

@[expose] public section
set_option maxRecDepth 16384
noncomputable section
open Idealize.ShloMosaic Idealize.ShloMosaic.TcCoe Idealize.SL.Sem
open Cert.MemSpec Cert.ReferenceIdeal Cert.ReferenceIdeal.Gen Cert.ReferenceIdeal.Value
open Idealize.ShloMosaic Idealize.ShloMosaic.TcCoe
open Idealize.SL Idealize.SL.RA Idealize.SL.BI
open scoped Idealize.SL.BI
open Idealize.SL.BI.BIBase Idealize.SL.Sem
open Cert.ReferenceIdeal Cert.ReferenceIdeal.Gen
open Idealize.ShloMosaic Idealize.ShloMosaic.TcCoe Idealize.ShloMosaic.Tactic
open Idealize.SL.BI.BIBase Idealize.SL.BI.Laws Idealize.SL.ProofMode Idealize.SL.Sem
open Idealize.ShloMosaic.StableHlo
open Idealize.ShloMosaic.Pipeline (ucRefs sub_ucRefs)

set_option maxRecDepth 8192
set_option maxHeartbeats 4000000

namespace Cert.ReferenceIdeal.Out

open Cert.ReferenceIdeal.Pre Cert.ReferenceIdeal.Trip

variable (m : (ℓ : Loc nD τ sig) → Buf (Elt Ideal) ℓ) (c : Dev nD)

/-- The chunks the loop starts from are those of the arguments. -/
theorem chunk_entry (b : Fin 8) (h : Fin 4) (k : Fin 16) :
    chunkAt (entryContents preI m c) b h k = chunkOf (args m c) b h k := by
  exact chunk_ext (fun t d => q_entry m c k b t h d) (fun t d => k_entry m c k b t h d) (fun t d => v_entry m c k b t h d)
    (fun t => i_entry m c k b t h) (fun t => f_entry m c k b t h)

theorem chunks_entry (b : Fin 8) (h : Fin 4) : chunks (entryContents preI m c) b h = chunksOf (args m c) b h :=
  funext fun _ => chunk_entry m c b h _

/-- The loop's invariant holds before its first trip. -/
theorem inv_entry : Inv (entryContents preI m c) 0 (entryContents preI m c) where
  chunk _ _ _ := rfl
  mask t s := by
    rw [entry_eq, s775, s64]
  ctr := ctr_entry m c
  state b h := by
    exact carry_ext (s := carryAt (entryContents preI m c) b h) (s' := zero)
      (fun d e => s777 (after hostOps0_3 (after hostOps0_2 (after hostOps0_1 (after hostOps0 (launchContents m c))))) (ix4 b h d e))
      (fun d => s778 (after hostOps0_3 (after hostOps0_2 (after hostOps0_1 (after hostOps0 (launchContents m c))))) (ix3 b h d))
      (s779 (after hostOps0_3 (after hostOps0_2 (after hostOps0_1 (after hostOps0 (launchContents m c))))) (ix2 b h))
  out _ _ _ _ _ h := absurd h (Nat.not_lt_zero _)

/-- The loop's invariant holds after its last trip. -/
theorem inv_end : Inv (entryContents preI m c) 16 (STEP^[16] (entryContents preI m c)) :=
  inv_all (inv_entry m c) 16 (le_refl _)

/-- The matrix result. -/
theorem C_out (b : Fin 8) (h : Fin 4) (d e : Fin 256) :
    (STEP^[16] (entryContents preI m c)) (Proc.devRef .tc main_v77_7) (ix4 b h d e) = (carry (chunksOf (args m c) b h) 16).C d e := by
  rw [← chunks_entry, ← (inv_end m c).state b h]
  rfl

/-- The normaliser result. -/
theorem n_out (b : Fin 8) (h : Fin 4) (s : Fin 8) (d : Fin 256) :
    out_main_v114 (STEP^[16] (entryContents preI m c)) (ix4 b h s d) = (carry (chunksOf (args m c) b h) 16).n d := by
  rw [← chunks_entry, ← (inv_end m c).state b h]
  pointwise [out_main_v114]
  rfl

/-- The stabiliser result, in its four lanes. -/
theorem m_out (b : Fin 8) (s : Fin 8) (h : Fin 4) :
    out_main_v117 (STEP^[16] (entryContents preI m c)) (ix3 b s ⟨16 + h.val, by omega⟩) = (carry (chunksOf (args m c) b h) 16).m := by
  rw [← chunks_entry, ← (inv_end m c).state b h]
  pointwise [out_main_v117]
  rw [dif_pos]
  · rfl
  · intro a
    match a with
    | ⟨0, _⟩ =>
      show 0 ≤ b.val ∧ (b.val - 0) % (0 + 1) = 0 ∧ (b.val - 0) / (0 + 1) < 8
      omega
    | ⟨1, _⟩ =>
      show 16 ≤ 16 + h.val ∧ (16 + h.val - 16) % (0 + 1) = 0 ∧ (16 + h.val - 16) / (0 + 1) < 4
      omega

/-- The gated output, of the outputs before the gate. -/
theorem h_out (V0 : Valuation τ sig (Elt Ideal)) (b : Fin 8) (c : Fin 16) (t : Fin 128) (h : Fin 4) (e : Fin 256) :
    out_main_v112 V0 (ix2 (row b (time c t)) (col h e))
      = HMul.hMul (α := EReal) (β := EReal) (γ := EReal) (sgm (V0 (Proc.devRef .tc main_arg2) (ix2 (row b (time c t)) (col h e))))
         (HMul.hMul (α := EReal) (β := EReal) (γ := EReal) (norm (fun e => V0 (Proc.devRef .tc main_v77_10) (ix5 c b t h e)) e)
           (V0 (Proc.devRef .tc main_arg10) (ix3 0 h e))) := by
  have e1 : ∀ p, (⟨(row b (time c t)).val % 2048 / 128, p⟩ : Fin 16) = c := fun _ => Fin.ext (by
    show (b.val * 2048 + (c.val * 128 + t.val)) % 2048 / 128 = c.val; omega)
  have e2 : ∀ p, (⟨(row b (time c t)).val / 2048, p⟩ : Fin 8) = b := fun _ => Fin.ext (by
    show (b.val * 2048 + (c.val * 128 + t.val)) / 2048 = b.val; omega)
  have e3 : ∀ p, (⟨(row b (time c t)).val % 2048 % 128, p⟩ : Fin 128) = t := fun _ => Fin.ext (by
    show (b.val * 2048 + (c.val * 128 + t.val)) % 2048 % 128 = t.val; omega)
  have e4 : ∀ p, (⟨(col h e).val / 256, p⟩ : Fin 4) = h := fun _ => Fin.ext (by
    show (h.val * 256 + e.val) / 256 = h.val; omega)
  have e5 : ∀ p, (⟨(col h e).val % 256, p⟩ : Fin 256) = e := fun _ => Fin.ext (by
    show (h.val * 256 + e.val) % 256 = e.val; omega)
  pointwise [out_main_v112]
  simp only [e1, e2, e3, e4, e5]
  rfl

/-- The output, of the arguments. -/
theorem y_out (b : Fin 8) (k : Fin 16) (t : Fin 128) (h : Fin 4) (e : Fin 256) :
    out_main_v112 (STEP^[16] (entryContents preI m c)) (ix2 (row b (time k t)) (col h e))
      = result (args m c) (fun h e => m ((c.tc : Thread nD τ).loc main_arg10) (ix3 0 h e)) (fun r e => m ((c.tc : Thread nD τ).loc main_arg2) (ix2 r e))
          b k t h e := by
  rw [h_out, iter_main_arg2, iter_main_arg10]
  unfold result
  rw [← chunk_entry, ← chunks_entry]
  have E : (fun e => (STEP^[16] (entryContents preI m c)) (Proc.devRef .tc main_v77_10) (ix5 k b t h e))
      = hout (chunkAt (entryContents preI m c) b h k) (carry (chunks (entryContents preI m c) b h) k.val) t :=
    funext fun e => (inv_end m c).out k b t h e k.isLt
  rw [E]

end Cert.ReferenceIdeal.Out
-- ==== Proof.KerBlk.lean ====
module

public import proofs.«01_k».proof.Proof.Gen.KernelIdeal.Value
public import proofs.«01_k».proof.Proof.Args
public import Idealize.ShloMosaic.Lib.Pointwise
public import Idealize.ShloMosaic.Lib.StableHlo.RunRead
public import Idealize.ShloMosaic.Lib.WordCmp
public import Idealize.ShloMosaic.Lib.Pipeline.ValueKit

@[expose] public section
set_option maxRecDepth 16384
noncomputable section
open Idealize.ShloMosaic Idealize.ShloMosaic.TcCoe Idealize.SL.Sem
open Cert.KernelIdeal Cert.KernelIdeal.Gen Cert.KernelIdeal.Value

set_option maxHeartbeats 2000000

namespace Cert.KernelIdeal.Blk

open Cert.MemSpec

variable (m : (ℓ : Loc nD τ sig) → Buf (Elt Ideal) ℓ) (c : Dev nD)

/-- Where every window's block stands at each point of the grid. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0, 0]
    ∧ win0_7.index t = ![0, 0, 0] ∧ win0_8.index t = ![0, 0] ∧ win0_9.index t = ![0, 0] ∧ win0_10.index t = ![0, 0] ∧ win0_11.index t = ![0, 0] :=
  (by decide +kernel : ∀ t : Fin grid0.N, _)

theorem lt (t : Fin cfg0.N) : t.val < 128 := lt_of_lt_of_eq t.isLt N_0

/-- The row of the arrays that row `s` of a block at point `t` is. -/
def at_ (t : Fin cfg0.N) (s : Fin 128) : Fin 16384 := ⟨t.val * 128 + s.val, by have := lt t; omega⟩

theorem blk0 (t : Fin cfg0.N) (s : Fin 128) (e : Fin 1024) :
    iblk m c 0 t (ix2 s e) = m ((c : Thread nD τ).loc main_arg0) (ix2 (at_ t s) e) := by
  unfold at_
  blk_ext [iblk, V, idx t]

theorem blk1 (t : Fin cfg0.N) (s : Fin 128) (e : Fin 1024) :
    iblk m c 1 t (ix2 s e) = m ((c : Thread nD τ).loc main_arg1) (ix2 (at_ t s) e) := by
  unfold at_
  blk_ext [iblk, V, idx t]

theorem blk2 (t : Fin cfg0.N) (s : Fin 128) (e : Fin 1024) :
    iblk m c 2 t (ix2 s e) = m ((c : Thread nD τ).loc main_arg2) (ix2 (at_ t s) e) := by
  unfold at_
  blk_ext [iblk, V, idx t]

theorem blk3 (t : Fin cfg0.N) (s : Fin 128) (e : Fin 256) :
    iblk m c 3 t (ix2 s e) = m ((c : Thread nD τ).loc main_arg3) (ix2 (at_ t s) e) := by
  unfold at_
  blk_ext [iblk, V, idx t]

theorem v7 (j : Fin 4) (e : Fin 1024) : V m c main_v7 (ix2 j e) = m ((c : Thread nD τ).loc main_arg4) (ix3 0 j e) := by
  simp only [V, List.flatten_cons, List.flatten_nil, List.append_nil, StableHlo.after_append]
  after_reads_simp
  pointwise

theorem v9 (e : Fin 1024) : V m c main_v9 (ix2 0 e) = m ((c : Thread nD τ).loc main_arg5) (ix2 0 e) := by
  simp only [V, List.flatten_cons, List.flatten_nil, List.append_nil, StableHlo.after_append]
  after_reads_simp
  pointwise

theorem v11 (h : Fin 4) (d e : Fin 256) : V m c main_v11 (ix3 h d e) = m ((c : Thread nD τ).loc main_arg6) (ix4 0 h d e) := by
  simp only [V, List.flatten_cons, List.flatten_nil, List.append_nil, StableHlo.after_append]
  after_reads_simp
  pointwise

theorem v13 (h : Fin 4) (d e : Fin 256) : V m c main_v13 (ix3 h d e) = m ((c : Thread nD τ).loc main_arg7) (ix4 0 h d e) := by
  simp only [V, List.flatten_cons, List.flatten_nil, List.append_nil, StableHlo.after_append]
  after_reads_simp
  pointwise

theorem v16 (h : Fin 4) : V m c main_v16 (ix2 0 ⟨16 + h.val, by omega⟩) = m ((c : Thread nD τ).loc main_arg8) (ix2 0 h) := by
  simp only [V, List.flatten_cons, List.flatten_nil, List.append_nil, StableHlo.after_append]
  after_reads_simp
  simp only [StableHlo.TRef.ofBuf_toBuf]
  simp only [StableHlo.TRef.toBuf, StableHlo.TRef.ofBuf, StableHlo.TRef.of, cast_eq]
  pointwise

theorem v19 (h : Fin 4) : V m c main_v19 (ix2 0 ⟨16 + h.val, by omega⟩) = m ((c : Thread nD τ).loc main_arg9) (ix2 0 h) := by
  simp only [V, List.flatten_cons, List.flatten_nil, List.append_nil, StableHlo.after_append]
  after_reads_simp
  simp only [StableHlo.TRef.ofBuf_toBuf]
  simp only [StableHlo.TRef.toBuf, StableHlo.TRef.ofBuf, StableHlo.TRef.of, cast_eq]
  pointwise

theorem v21 (h : Fin 4) (e : Fin 256) : V m c main_v21 (ix2 0 (col h e)) = m ((c : Thread nD τ).loc main_arg10) (ix3 0 h e) := by
  simp only [V, List.flatten_cons, List.flatten_nil, List.append_nil, StableHlo.after_append]
  after_reads_simp
  pointwise
  have e4 : ∀ p, (⟨(col h e).val / 256, p⟩ : Fin 4) = h := fun _ => Fin.ext (by
    show (h.val * 256 + e.val) / 256 = h.val; omega)
  have e5 : ∀ p, (⟨(col h e).val % 256, p⟩ : Fin 256) = e := fun _ => Fin.ext (by
    show (h.val * 256 + e.val) % 256 = e.val; omega)
  simp only [e4, e5]

theorem v6 (r s : Fin 128) : V m c main_v6 (ix2 r s) = (if s ≤ r then 1 else 0 : EReal) := by
  simp only [V, List.flatten_cons, List.flatten_nil, List.append_nil, StableHlo.after_append]
  after_reads_simp
  pointwise
  have ht : (BitVec.ofNat 32 r.val).toInt = r.val := WordCmp.toInt_ofNat_of_lt (by have := r.isLt; omega)
  have hs : (BitVec.ofNat 32 s.val).toInt = s.val := WordCmp.toInt_ofNat_of_lt (by have := s.isLt; omega)
  have h : (BitVec.ofNat 32 s.val).sle (BitVec.ofNat 32 r.val) = decide (s ≤ r) := by
    unfold BitVec.sle
    rw [ht, hs]
    exact decide_eq_decide.mpr ⟨fun h => Fin.le_def.mpr (by omega), fun h => by have := Fin.le_def.mp h; omega⟩
  by_cases hsr : s ≤ r
  · rw [if_pos hsr]
    have : IntOp.cmpi .sge (BitVec.ofNat 32 r.val) (BitVec.ofNat 32 s.val) = 1#1 := by
      unfold IntOp.cmpi
      simp only [h, hsr, decide_true]
      rfl
    rw [this]
    simp [FloatOps.uitofp]
  · rw [if_neg hsr]
    have : IntOp.cmpi .sge (BitVec.ofNat 32 r.val) (BitVec.ofNat 32 s.val) = 0#1 := by
      unfold IntOp.cmpi
      simp only [h, hsr, decide_false]
      rfl
    rw [this]
    simp [FloatOps.uitofp]

theorem blk4 (t : Fin cfg0.N) (j : Fin 4) (e : Fin 1024) : iblk m c 4 t (ix2 j e) = V m c main_v7 (ix2 j e) := by
  blk_ext [iblk, idx t]

theorem blk5 (t : Fin cfg0.N) (e : Fin 1024) : iblk m c 5 t (ix2 0 e) = V m c main_v9 (ix2 0 e) := by
  blk_ext [iblk, idx t]

theorem blk6 (t : Fin cfg0.N) (h : Fin 4) (d e : Fin 256) : iblk m c 6 t (ix3 h d e) = V m c main_v11 (ix3 h d e) := by
  blk_ext [iblk, idx t]

theorem blk7 (t : Fin cfg0.N) (h : Fin 4) (d e : Fin 256) : iblk m c 7 t (ix3 h d e) = V m c main_v13 (ix3 h d e) := by
  blk_ext [iblk, idx t]

theorem blk8 (t : Fin cfg0.N) (l : Fin 128) : iblk m c 8 t (ix2 0 l) = V m c main_v16 (ix2 0 l) := by
  blk_ext [iblk, idx t]

theorem blk9 (t : Fin cfg0.N) (l : Fin 128) : iblk m c 9 t (ix2 0 l) = V m c main_v19 (ix2 0 l) := by
  blk_ext [iblk, idx t]

theorem blk10 (t : Fin cfg0.N) (e : Fin 1024) : iblk m c 10 t (ix2 0 e) = V m c main_v21 (ix2 0 e) := by
  blk_ext [iblk, idx t]

theorem blk11 (t : Fin cfg0.N) (r s : Fin 128) : iblk m c 11 t (ix2 r s) = V m c main_v6 (ix2 r s) := by
  blk_ext [iblk, idx t]

end Cert.KernelIdeal.Blk
-- ==== Proof.KerLane.lean ====
module

public import proofs.«01_k».proof.Proof.Gen.KernelIdeal.Skeleton
public import proofs.«01_k».proof.Proof.Spec
public import Idealize.ShloMosaic.Lib.Pointwise

@[expose] public section
set_option maxRecDepth 16384
noncomputable section
open Idealize.ShloMosaic Idealize.ShloMosaic.TcCoe Idealize.SL.Sem
open Cert.MemSpec Cert.KernelIdeal Cert.KernelIdeal.Gen

/-!
The gate values of one grid point, lane by lane: each named value of the kernel's body at an index is
the formula of `Spec.lean` over that lane's column of gates.
-/

namespace Cert.KernelIdeal.Lane

/-- A value that is not the top element is what its three-part splitting sums to. -/
theorem three_parts {x : EReal} (hx : x ≠ ⊤) : x + (x - x) + (x - x - (x - x)) = x := by
  induction x with
  | bot => rfl
  | top => exact absurd rfl hx
  | coe r => norm_cast; ring

/-- The prefix sum the body forms by a triangular product is the sum of the gates up to each step. -/
theorem pay16_at (v68 : FVec Ideal S128x128 .f32) (v69 : FVec Ideal S128x128 .bf16)
    (hne : ∀ s e, v68 (ix2 s e) ≠ ⊤) (htr : ∀ t s : Fin 128, v69 (ix2 t s) = if s ≤ t then 1 else 0) (t e : Fin 128) :
    k0_pay16 v68 v69 (ix2 t e) = bcs (fun s => v68 (ix2 s e)) t := by
  pointwise [k0_pay16]
  rw [← Finset.sum_add_distrib, ← Finset.sum_add_distrib]
  refine Finset.sum_congr rfl fun s _ => ?_
  rw [htr]
  split
  · simp only [one_mul]; exact three_parts (hne s e)
  · simp only [zero_mul, add_zero]

variable (v51 v68 : FVec Ideal S128x128 .f32) (v69 : FVec Ideal S128x128 .bf16) (v83 : Vec Ideal S1x128 .f32)
  (hne : ∀ s e, v68 (ix2 s e) ≠ ⊤) (htr : ∀ t s : Fin 128, v69 (ix2 t s) = if s ≤ t then 1 else 0)

include hne htr in
/-- The stabiliser after the chunk, in each lane. -/
theorem pay19_at (e : Fin 128) : k0_pay19 v51 v68 v69 v83 (ix2 0 e)
    = mnew (fun s => v68 (ix2 s e)) (fun s => v51 (ix2 s e)) (v83 (ix2 0 e)) := by
  pointwise [k0_pay19, k0_pay18, k0_pay17]
  simp only [pay16_at v68 v69 hne htr]
  rfl

include hne htr in
/-- The weight the carried state keeps, in each lane. -/
theorem pay20_at (e : Fin 128) : k0_pay20 v51 v68 v69 v83 (ix2 0 e)
    = wold (fun s => v68 (ix2 s e)) (fun s => v51 (ix2 s e)) (v83 (ix2 0 e)) := by
  pointwise [k0_pay20, k0_pay17]
  simp only [pay16_at v68 v69 hne htr, pay19_at v51 v68 v69 v83 hne htr]
  rfl

include hne htr in
/-- The weight each step enters the new state with, in each lane. -/
theorem pay21_at (t e : Fin 128) : k0_pay21 v51 v68 v69 v83 (ix2 t e)
    = ws (fun s => v68 (ix2 s e)) (fun s => v51 (ix2 s e)) (v83 (ix2 0 e)) t := by
  pointwise [k0_pay21, k0_pay18, k0_pay17]
  simp only [pay16_at v68 v69 hne htr, pay19_at v51 v68 v69 v83 hne htr]
  rfl

include hne htr in
/-- The exponent of the carried state's weight, in each lane. -/
theorem pay22_at (t e : Fin 128) : k0_pay22 v68 v69 v83 (ix2 t e)
    = bcs (fun s => v68 (ix2 s e)) t + v83 (ix2 0 e) := by
  pointwise [k0_pay22]
  simp only [pay16_at v68 v69 hne htr]

include hne htr in
/-- The prefix sums with lanes and steps exchanged. -/
theorem pay23_at (e t : Fin 128) : k0_pay23 v68 v69 (ix2 e t) = bcs (fun s => v68 (ix2 s e)) t := by
  pointwise [k0_pay23]
  simp only [pay16_at v68 v69 hne htr]

/-- The input gates with lanes and steps exchanged. -/
theorem pay24_at (e t : Fin 128) : k0_pay24 v51 (ix2 e t) = v51 (ix2 t e) := by
  pointwise [k0_pay24]

/-- The log input gate: the projected gate plus its bias. -/
theorem pay14_at (v47 : Vec Ideal S128x128 .f32) (v48 : Vec Ideal S1x128 .f32) (t e : Fin 128) :
    k0_pay14 v47 v48 (ix2 t e) = v47 (ix2 t e) + v48 (ix2 0 e) := by
  pointwise [k0_pay14]

/-- The log forget gate: the log of the logistic function of the projected gate plus its bias. -/
theorem pay15_at (v52 : Vec Ideal S128x128 .f32) (v53 : Vec Ideal S1x128 .f32) (t e : Fin 128) :
    k0_pay15 v52 v53 (ix2 t e) = logsig (v52 (ix2 t e) + v53 (ix2 0 e)) := by
  pointwise [k0_pay15]
  simp only [zero_sub]
  rfl

/-- The exponential is nowhere negative. -/
theorem exp_nonneg (x : EReal) : 0 ≤ Ideal.exp x := by
  induction x with
  | bot => exact le_refl _
  | top => exact le_top
  | coe r => exact EReal.coe_nonneg.mpr (Real.exp_pos r).le

/-- The log of one plus something not negative is not negative. -/
theorem log1p_nonneg {x : EReal} (hx : 0 ≤ x) : 0 ≤ Ideal.log1p x := by
  induction x with
  | bot => exact absurd hx (by decide)
  | top => exact le_top
  | coe r =>
    have hr : (0 : ℝ) ≤ r := EReal.coe_nonneg.mp hx
    have h1 : (1 : EReal) + (r : EReal) = ((1 + r : ℝ) : EReal) := by norm_cast
    unfold Ideal.log1p
    rw [h1]
    change (0 : EReal) ≤ if 1 + r ≤ 0 then ⊥ else (Real.log (1 + r) : EReal)
    rw [if_neg (by linarith)]
    exact EReal.coe_nonneg.mpr (Real.log_nonneg (by linarith))

/-- The log of the logistic function is never the top element: it is at most zero. -/
theorem logsig_ne_top (x : EReal) : logsig x ≠ ⊤ := by
  have h : 0 ≤ max (-x) 0 + Ideal.log1p (Ideal.exp (-(max (-x) (- -x)))) :=
    add_nonneg (le_max_right _ _) (log1p_nonneg (exp_nonneg _))
  intro e
  rw [logsig, EReal.neg_eq_top_iff] at e
  rw [e] at h
  exact absurd h (by decide)

end Cert.KernelIdeal.Lane
-- ==== Proof.KerHead.lean ====
module

public import proofs.«01_k».proof.Proof.Gen.KernelIdeal.Skeleton
public import proofs.«01_k».proof.Proof.Spec
public import Idealize.ShloMosaic.Lib.Pointwise
public import Idealize.ShloMosaic.Lib.WordCmp

@[expose] public section
set_option maxRecDepth 16384
noncomputable section
open Idealize.ShloMosaic Idealize.ShloMosaic.TcCoe Idealize.SL.Sem
open Cert.MemSpec Cert.KernelIdeal Cert.KernelIdeal.Gen

/-!
The values the body forms for each of its four heads: each named value at an index is the formula of
`Spec.lean`, given that the values it is formed from are.
-/

namespace Cert.KernelIdeal.Head

/-- A value chosen by "step `t` is not before step `s`" of two counters. -/
theorem pick_at (t s : Fin 128) (a b : EReal) :
    Scalar.select (IntOp.cmpi .sge (BitVec.ofNat 32 t.val) (BitVec.ofNat 32 s.val)) a b = if s ≤ t then a else b := by
  have ht : (BitVec.ofNat 32 t.val).toInt = t.val := WordCmp.toInt_ofNat_of_lt (by have := t.isLt; omega)
  have hs : (BitVec.ofNat 32 s.val).toInt = s.val := WordCmp.toInt_ofNat_of_lt (by have := s.isLt; omega)
  have h : (BitVec.ofNat 32 s.val).sle (BitVec.ofNat 32 t.val) = decide (s ≤ t) := by
    unfold BitVec.sle
    rw [ht, hs]
    exact decide_eq_decide.mpr (by rw [Fin.le_def]; exact Nat.cast_le)
  by_cases hc : s ≤ t
  · rw [if_pos hc]; unfold Scalar.select IntOp.cmpi; dsimp only; rw [h, decide_eq_true hc]; rfl
  · rw [if_neg hc]; unfold Scalar.select IntOp.cmpi; dsimp only; rw [h, decide_eq_false hc]; rfl

variable {x : Chunk} {s : Carry}

/-- The queries of head 0: the head's columns times its projection. -/
theorem q0_at (v46 : FVec Ideal S128x1024 .bf16) (w : Vec Ideal S1x256x256 .bf16)
    (t : Fin 128) (e : Fin 256) :
    k0_pay26 v46 w (ix2 t e) = ∑ d : Fin 256, v46 (ix2 t ⟨0 + d.val, by omega⟩) * w (ix3 0 d e) := by
  pointwise [k0_pay26]

/-- The keys of head 0: the head's columns times its projection, scaled. -/
theorem k0_at (v46 : FVec Ideal S128x1024 .bf16) (w : Vec Ideal S1x256x256 .bf16)
    (t : Fin 128) (e : Fin 256) :
    k0_pay31 v46 w (ix2 t e) = (∑ d : Fin 256, v46 (ix2 t ⟨0 + d.val, by omega⟩) * w (ix3 0 d e)) * Ideal.ofBits .f32 1031798784#32 := by
  pointwise [k0_pay31]

/-- The rounded queries of head 0 are the queries. -/
theorem qb0_at (q : FVec Ideal S128x256 .f32)
    (t : Fin 128) (d : Fin 256) :
    k0_pay35 q (ix2 t d) = q (ix2 t d) := by
  pointwise [k0_pay35]

/-- The rounded keys of head 0 are the keys. -/
theorem kb0_at (k : FVec Ideal S128x256 .f32)
    (t : Fin 128) (d : Fin 256) :
    k0_pay39 k (ix2 t d) = k (ix2 t d) := by
  pointwise [k0_pay39]

/-- The rounded values of head 0 are the values. -/
theorem vb0_at (v : Vec Ideal S128x256 .f32)
    (t : Fin 128) (d : Fin 256) :
    k0_pay43 v (ix2 t d) = v (ix2 t d) := by
  pointwise [k0_pay43]

/-- The masked log weights of head 0. -/
theorem d0_at {v82 v100 v101 : FVec Ideal S128x128 .f32}
    (hb : ∀ t, v82 (ix2 t 16) = bcs x.f t) (hbt : ∀ t, v100 (ix2 16 t) = bcs x.f t) (hit : ∀ t, v101 (ix2 16 t) = x.i t) (t r : Fin 128) :
    k0_pay47 v82 v100 v101 k0_pay25 (ix2 t r) = dmat x.f x.i t r := by
  pointwise [k0_pay47, k0_pay25]
  simp only [pick_at, hb, hbt, hit]
  rfl

/-- The stabiliser of head 0 at each step. -/
theorem m0_at {v99 v170 : FVec Ideal S128x128 .f32}
    (hv : ∀ t, v99 (ix2 t 16) = bcs x.f t + s.m) (hd : ∀ t r, v170 (ix2 t r) = dmat x.f x.i t r) (t : Fin 128) :
    k0_pay57 v99 v170 (ix2 t 0) = mt x.f x.i s.m t := by
  pointwise [k0_pay57, k0_pay53]
  simp only [hv, hd]
  rfl

/-- The weight of the carried state of head 0 at each step. -/
theorem w0_at {v99 v170 : FVec Ideal S128x128 .f32}
    (hv : ∀ t, v99 (ix2 t 16) = bcs x.f t + s.m) (hd : ∀ t r, v170 (ix2 t r) = dmat x.f x.i t r) (t : Fin 128) :
    k0_pay61 v99 v170 (ix2 t 0) = wint x.f x.i s.m t := by
  pointwise [k0_pay61, k0_pay53]
  simp only [hv, m0_at hv hd]
  rfl

/-- The unweighted scores of head 0. -/
theorem s0_at {q k : FVec Ideal S128x256 .bf16}
    (hq : ∀ t d, q (ix2 t d) = x.q t d) (hk : ∀ t d, k (ix2 t d) = x.k t d) (t r : Fin 128) :
    k0_pay65 q k (ix2 t r) = ∑ d, x.q t d * x.k r d := by
  pointwise [k0_pay65]
  simp only [hq, hk]

/-- The carried matrix of head 0 as read. -/
theorem C0_at (c : Vec Ideal S1x256x256 .f32)
    (d e : Fin 256) :
    k0_pay69 c (ix2 d e) = c (ix3 0 d e) := by
  pointwise [k0_pay69]

/-- The carried normaliser of head 0 as read. -/
theorem n0_at (n : Vec Ideal S1x8x256 .f32)
    (d : Fin 256) :
    k0_pay73 n (ix2 0 d) = n (ix3 0 0 d) := by
  pointwise [k0_pay73]

/-- The queries times the carried matrix of head 0. -/
theorem qC0_at {q : FVec Ideal S128x256 .bf16} {c : FVec Ideal S256x256 .f32}
    (hq : ∀ t d, q (ix2 t d) = x.q t d) (hc : ∀ d e, c (ix2 d e) = s.C d e) (t : Fin 128) (e : Fin 256) :
    k0_pay77 q c (ix2 t e) = ∑ d, x.q t d * s.C d e := by
  pointwise [k0_pay77]
  simp only [hq, hc]

/-- The weighted scores of head 0. -/
theorem a0_at {v170 : FVec Ideal S128x128 .f32} {v207 : FVec Ideal S128x1 .f32} {v225 : FVec Ideal S128x128 .f32}
    (hd : ∀ t r, v170 (ix2 t r) = dmat x.f x.i t r) (hm : ∀ t, v207 (ix2 t 0) = mt x.f x.i s.m t) (hs : ∀ t r, v225 (ix2 t r) = ∑ d, x.q t d * x.k r d) (t r : Fin 128) :
    k0_pay81 v170 v207 v225 (ix2 t r) = att x s.m t r := by
  pointwise [k0_pay81]
  simp only [hd, hm, hs]
  rfl

/-- The weighted scores times the values of head 0. -/
theorem av0_at {v : FVec Ideal S128x256 .bf16} {v170 : FVec Ideal S128x128 .f32} {v207 : FVec Ideal S128x1 .f32} {v225 : FVec Ideal S128x128 .f32}
    (hv : ∀ t d, v (ix2 t d) = x.v t d) (hd : ∀ t r, v170 (ix2 t r) = dmat x.f x.i t r) (hm : ∀ t, v207 (ix2 t 0) = mt x.f x.i s.m t) (hs : ∀ t r, v225 (ix2 t r) = ∑ d, x.q t d * x.k r d) (t : Fin 128) (e : Fin 256) :
    k0_pay85 v v170 v207 v225 (ix2 t e) = ∑ r, att x s.m t r * x.v r e := by
  pointwise [k0_pay85]
  simp only [a0_at hd hm hs, hv]

/-- The numerator of head 0. -/
theorem num0_at {w : FVec Ideal S128x1 .f32} {a b : FVec Ideal S128x256 .f32}
    (hw : ∀ t, w (ix2 t 0) = wint x.f x.i s.m t) (ha : ∀ t e, a (ix2 t e) = ∑ d, x.q t d * s.C d e) (hb : ∀ t e, b (ix2 t e) = ∑ r, att x s.m t r * x.v r e) (t : Fin 128) (e : Fin 256) :
    k0_pay96 w a b (ix2 t e) = num x s t e := by
  pointwise [k0_pay96]
  simp only [hw, ha, hb]
  rfl

/-- The denominator of head 0. -/
theorem den0_at {q : FVec Ideal S128x256 .f32} {w : FVec Ideal S128x1 .f32} {n : FVec Ideal S1x256 .f32} {a : FVec Ideal S128x128 .f32}
    (hq : ∀ t d, q (ix2 t d) = x.q t d) (hw : ∀ t, w (ix2 t 0) = wint x.f x.i s.m t) (hn : ∀ d, n (ix2 0 d) = s.n d) (ha : ∀ t r, a (ix2 t r) = att x s.m t r) (t : Fin 128) :
    k0_pay100 q w n a (ix2 t 0) = den x s t := by
  pointwise [k0_pay100]
  simp only [hq, hw, hn, ha]
  rfl

/-- The output of the recurrence of head 0. -/
theorem h0_at {mm : FVec Ideal S128x1 .f32} {nn : FVec Ideal S128x256 .f32} {dd : FVec Ideal S128x1 .f32}
    (hm : ∀ t, mm (ix2 t 0) = mt x.f x.i s.m t) (hN : ∀ t e, nn (ix2 t e) = num x s t e) (hD : ∀ t, dd (ix2 t 0) = den x s t) (t : Fin 128) (e : Fin 256) :
    k0_pay103 mm nn dd (ix2 t e) = hout x s t e := by
  pointwise [k0_pay103]
  simp only [hm, hN, hD, zero_sub]
  rfl

/-- What the body stores of the output of head 0. -/
theorem y0_at {mm : FVec Ideal S128x1 .f32} {nn : FVec Ideal S128x256 .f32} {dd : FVec Ideal S128x1 .f32} (g : Vec Ideal S1x256 .f32) (o : Vec Ideal S128x256 .f32)
    (hh : ∀ t e, k0_pay103 mm nn dd (ix2 t e) = hout x s t e) (t : Fin 128) (e : Fin 256) :
    k0_pay116 (k0_pay108 (k0_pay103 mm nn dd) (k0_pay107 mm nn dd)) (k0_pay115 (k0_pay103 mm nn dd) (k0_pay107 mm nn dd)) g o (ix2 t e) = sgm (o (ix2 t e)) * (norm (hout x s t) e * g (ix2 0 e)) := by
  pointwise [k0_pay116, k0_pay108, k0_pay107, k0_pay115]
  simp only [hh, zero_sub]
  rfl

/-- The weighted keys of head 0. -/
theorem kw0_at {v97 : FVec Ideal S128x128 .f32} {k : FVec Ideal S128x256 .f32}
    (hw : ∀ t, v97 (ix2 t 16) = ws x.f x.i s.m t) (hk : ∀ t d, k (ix2 t d) = x.k t d) (t : Fin 128) (d : Fin 256) :
    k0_pay88 v97 k (ix2 t d) = ws x.f x.i s.m t * x.k t d := by
  pointwise [k0_pay88]
  simp only [hw, hk]
  exact mul_comm _ _

/-- The weighted keys times the values of head 0. -/
theorem kv0_at {v97 : FVec Ideal S128x128 .f32} {k : FVec Ideal S128x256 .f32} {v : FVec Ideal S128x256 .bf16}
    (hw : ∀ t, v97 (ix2 t 16) = ws x.f x.i s.m t) (hk : ∀ t d, k (ix2 t d) = x.k t d) (hv : ∀ t d, v (ix2 t d) = x.v t d) (d e : Fin 256) :
    k0_pay92 v97 k v (ix2 d e) = ∑ r, ws x.f x.i s.m r * x.k r d * x.v r e := by
  pointwise [k0_pay92]
  simp only [kw0_at hw hk, hv]

/-- The matrix of head 0 after the chunk. -/
theorem Cn0_at {v94 : FVec Ideal S1x128 .f32} {c kv : FVec Ideal S256x256 .f32}
    (hw : v94 (ix2 0 16) = wold x.f x.i s.m) (hc : ∀ d e, c (ix2 d e) = s.C d e) (hk : ∀ d e, kv (ix2 d e) = ∑ r, ws x.f x.i s.m r * x.k r d * x.v r e) (d e : Fin 256) :
    k0_pay118 v94 c kv (ix3 0 d e) = (step x s).C d e := by
  pointwise [k0_pay118, k0_pay117]
  simp only [hw, hc, hk]
  rfl

/-- The normaliser of head 0 after the chunk, on each of its eight sublanes. -/
theorem nn0_at {v94 : FVec Ideal S1x128 .f32} {n : FVec Ideal S1x256 .f32} {kw : FVec Ideal S128x256 .f32}
    (hw : v94 (ix2 0 16) = wold x.f x.i s.m) (hn : ∀ d, n (ix2 0 d) = s.n d) (hk : ∀ t d, kw (ix2 t d) = ws x.f x.i s.m t * x.k t d) (a : Fin 8) (d : Fin 256) :
    k0_pay119 v94 n kw (ix3 0 a d) = (step x s).n d := by
  pointwise [k0_pay119, k0_pay117]
  simp only [hw, hn, hk]
  rfl

/-- The queries of head 1: the head's columns times its projection. -/
theorem q1_at (v46 : FVec Ideal S128x1024 .bf16) (w : Vec Ideal S1x256x256 .bf16)
    (t : Fin 128) (e : Fin 256) :
    k0_pay27 v46 w (ix2 t e) = ∑ d : Fin 256, v46 (ix2 t ⟨256 + d.val, by omega⟩) * w (ix3 0 d e) := by
  pointwise [k0_pay27]

/-- The keys of head 1: the head's columns times its projection, scaled. -/
theorem k1_at (v46 : FVec Ideal S128x1024 .bf16) (w : Vec Ideal S1x256x256 .bf16)
    (t : Fin 128) (e : Fin 256) :
    k0_pay32 v46 w (ix2 t e) = (∑ d : Fin 256, v46 (ix2 t ⟨256 + d.val, by omega⟩) * w (ix3 0 d e)) * Ideal.ofBits .f32 1031798784#32 := by
  pointwise [k0_pay32]

/-- The rounded queries of head 1 are the queries. -/
theorem qb1_at (q : FVec Ideal S128x256 .f32)
    (t : Fin 128) (d : Fin 256) :
    k0_pay36 q (ix2 t d) = q (ix2 t d) := by
  pointwise [k0_pay36]

/-- The rounded keys of head 1 are the keys. -/
theorem kb1_at (k : FVec Ideal S128x256 .f32)
    (t : Fin 128) (d : Fin 256) :
    k0_pay40 k (ix2 t d) = k (ix2 t d) := by
  pointwise [k0_pay40]

/-- The rounded values of head 1 are the values. -/
theorem vb1_at (v : Vec Ideal S128x256 .f32)
    (t : Fin 128) (d : Fin 256) :
    k0_pay44 v (ix2 t d) = v (ix2 t d) := by
  pointwise [k0_pay44]

/-- The masked log weights of head 1. -/
theorem d1_at {v82 v100 v101 : FVec Ideal S128x128 .f32}
    (hb : ∀ t, v82 (ix2 t 17) = bcs x.f t) (hbt : ∀ t, v100 (ix2 17 t) = bcs x.f t) (hit : ∀ t, v101 (ix2 17 t) = x.i t) (t r : Fin 128) :
    k0_pay48 v82 v100 v101 k0_pay25 (ix2 t r) = dmat x.f x.i t r := by
  pointwise [k0_pay48, k0_pay25]
  simp only [pick_at, hb, hbt, hit]
  rfl

/-- The stabiliser of head 1 at each step. -/
theorem m1_at {v99 v170 : FVec Ideal S128x128 .f32}
    (hv : ∀ t, v99 (ix2 t 17) = bcs x.f t + s.m) (hd : ∀ t r, v170 (ix2 t r) = dmat x.f x.i t r) (t : Fin 128) :
    k0_pay58 v99 v170 (ix2 t 0) = mt x.f x.i s.m t := by
  pointwise [k0_pay58, k0_pay54]
  simp only [hv, hd]
  rfl

/-- The weight of the carried state of head 1 at each step. -/
theorem w1_at {v99 v170 : FVec Ideal S128x128 .f32}
    (hv : ∀ t, v99 (ix2 t 17) = bcs x.f t + s.m) (hd : ∀ t r, v170 (ix2 t r) = dmat x.f x.i t r) (t : Fin 128) :
    k0_pay62 v99 v170 (ix2 t 0) = wint x.f x.i s.m t := by
  pointwise [k0_pay62, k0_pay54]
  simp only [hv, m1_at hv hd]
  rfl

/-- The unweighted scores of head 1. -/
theorem s1_at {q k : FVec Ideal S128x256 .bf16}
    (hq : ∀ t d, q (ix2 t d) = x.q t d) (hk : ∀ t d, k (ix2 t d) = x.k t d) (t r : Fin 128) :
    k0_pay66 q k (ix2 t r) = ∑ d, x.q t d * x.k r d := by
  pointwise [k0_pay66]
  simp only [hq, hk]

/-- The carried matrix of head 1 as read. -/
theorem C1_at (c : Vec Ideal S1x256x256 .f32)
    (d e : Fin 256) :
    k0_pay70 c (ix2 d e) = c (ix3 0 d e) := by
  pointwise [k0_pay70]

/-- The carried normaliser of head 1 as read. -/
theorem n1_at (n : Vec Ideal S1x8x256 .f32)
    (d : Fin 256) :
    k0_pay74 n (ix2 0 d) = n (ix3 0 0 d) := by
  pointwise [k0_pay74]

/-- The queries times the carried matrix of head 1. -/
theorem qC1_at {q : FVec Ideal S128x256 .bf16} {c : FVec Ideal S256x256 .f32}
    (hq : ∀ t d, q (ix2 t d) = x.q t d) (hc : ∀ d e, c (ix2 d e) = s.C d e) (t : Fin 128) (e : Fin 256) :
    k0_pay78 q c (ix2 t e) = ∑ d, x.q t d * s.C d e := by
  pointwise [k0_pay78]
  simp only [hq, hc]

/-- The weighted scores of head 1. -/
theorem a1_at {v170 : FVec Ideal S128x128 .f32} {v207 : FVec Ideal S128x1 .f32} {v225 : FVec Ideal S128x128 .f32}
    (hd : ∀ t r, v170 (ix2 t r) = dmat x.f x.i t r) (hm : ∀ t, v207 (ix2 t 0) = mt x.f x.i s.m t) (hs : ∀ t r, v225 (ix2 t r) = ∑ d, x.q t d * x.k r d) (t r : Fin 128) :
    k0_pay82 v170 v207 v225 (ix2 t r) = att x s.m t r := by
  pointwise [k0_pay82]
  simp only [hd, hm, hs]
  rfl

/-- The weighted scores times the values of head 1. -/
theorem av1_at {v : FVec Ideal S128x256 .bf16} {v170 : FVec Ideal S128x128 .f32} {v207 : FVec Ideal S128x1 .f32} {v225 : FVec Ideal S128x128 .f32}
    (hv : ∀ t d, v (ix2 t d) = x.v t d) (hd : ∀ t r, v170 (ix2 t r) = dmat x.f x.i t r) (hm : ∀ t, v207 (ix2 t 0) = mt x.f x.i s.m t) (hs : ∀ t r, v225 (ix2 t r) = ∑ d, x.q t d * x.k r d) (t : Fin 128) (e : Fin 256) :
    k0_pay86 v v170 v207 v225 (ix2 t e) = ∑ r, att x s.m t r * x.v r e := by
  pointwise [k0_pay86]
  simp only [a1_at hd hm hs, hv]

/-- The numerator of head 1. -/
theorem num1_at {w : FVec Ideal S128x1 .f32} {a b : FVec Ideal S128x256 .f32}
    (hw : ∀ t, w (ix2 t 0) = wint x.f x.i s.m t) (ha : ∀ t e, a (ix2 t e) = ∑ d, x.q t d * s.C d e) (hb : ∀ t e, b (ix2 t e) = ∑ r, att x s.m t r * x.v r e) (t : Fin 128) (e : Fin 256) :
    k0_pay97 w a b (ix2 t e) = num x s t e := by
  pointwise [k0_pay97]
  simp only [hw, ha, hb]
  rfl

/-- The output of the recurrence of head 1. -/
theorem h1_at {mm w : FVec Ideal S128x1 .f32} {nn : FVec Ideal S128x256 .f32} {a : FVec Ideal S128x128 .f32} {q : FVec Ideal S128x256 .f32} {n : FVec Ideal S1x256 .f32}
    (hm : ∀ t, mm (ix2 t 0) = mt x.f x.i s.m t) (hw : ∀ t, w (ix2 t 0) = wint x.f x.i s.m t) (hN : ∀ t e, nn (ix2 t e) = num x s t e) (ha : ∀ t r, a (ix2 t r) = att x s.m t r) (hq : ∀ t d, q (ix2 t d) = x.q t d) (hn : ∀ d, n (ix2 0 d) = s.n d) (t : Fin 128) (e : Fin 256) :
    k0_pay104 mm w nn (k0_pay101 a) (k0_pay102 q n) (ix2 t e) = hout x s t e := by
  pointwise [k0_pay104, k0_pay101, k0_pay102]
  simp only [hm, hw, hN, ha, hq, hn, zero_sub]
  rfl

/-- What the body stores of the output of head 1. -/
theorem y1_at {hv : FVec Ideal S128x256 .f32} (g : Vec Ideal S1x256 .f32) (o : Vec Ideal S128x256 .f32)
    (hh : ∀ t e, hv (ix2 t e) = hout x s t e) (t : Fin 128) (e : Fin 256) :
    k0_pay121 (k0_pay120 (k0_pay109 hv) (k0_pay112 hv)) g o (ix2 t e) = sgm (o (ix2 t e)) * (norm (hout x s t) e * g (ix2 0 e)) := by
  pointwise [k0_pay109, k0_pay112, k0_pay120, k0_pay121]
  simp only [hh, zero_sub]
  rfl

/-- The weighted keys of head 1. -/
theorem kw1_at {v97 : FVec Ideal S128x128 .f32} {k : FVec Ideal S128x256 .f32}
    (hw : ∀ t, v97 (ix2 t 17) = ws x.f x.i s.m t) (hk : ∀ t d, k (ix2 t d) = x.k t d) (t : Fin 128) (d : Fin 256) :
    k0_pay89 v97 k (ix2 t d) = ws x.f x.i s.m t * x.k t d := by
  pointwise [k0_pay89]
  simp only [hw, hk]
  exact mul_comm _ _

/-- The weighted keys times the values of head 1. -/
theorem kv1_at {v97 : FVec Ideal S128x128 .f32} {k : FVec Ideal S128x256 .f32} {v : FVec Ideal S128x256 .bf16}
    (hw : ∀ t, v97 (ix2 t 17) = ws x.f x.i s.m t) (hk : ∀ t d, k (ix2 t d) = x.k t d) (hv : ∀ t d, v (ix2 t d) = x.v t d) (d e : Fin 256) :
    k0_pay93 v97 k v (ix2 d e) = ∑ r, ws x.f x.i s.m r * x.k r d * x.v r e := by
  pointwise [k0_pay93]
  simp only [kw1_at hw hk, hv]

/-- The matrix of head 1 after the chunk. -/
theorem Cn1_at {v94 : FVec Ideal S1x128 .f32} {c kv : FVec Ideal S256x256 .f32}
    (hw : v94 (ix2 0 17) = wold x.f x.i s.m) (hc : ∀ d e, c (ix2 d e) = s.C d e) (hk : ∀ d e, kv (ix2 d e) = ∑ r, ws x.f x.i s.m r * x.k r d * x.v r e) (d e : Fin 256) :
    k0_pay123 v94 c kv (ix3 0 d e) = (step x s).C d e := by
  pointwise [k0_pay123, k0_pay122]
  simp only [hw, hc, hk]
  rfl

/-- The normaliser of head 1 after the chunk, on each of its eight sublanes. -/
theorem nn1_at {v94 : FVec Ideal S1x128 .f32} {n : FVec Ideal S1x256 .f32} {kw : FVec Ideal S128x256 .f32}
    (hw : v94 (ix2 0 17) = wold x.f x.i s.m) (hn : ∀ d, n (ix2 0 d) = s.n d) (hk : ∀ t d, kw (ix2 t d) = ws x.f x.i s.m t * x.k t d) (a : Fin 8) (d : Fin 256) :
    k0_pay124 v94 n kw (ix3 0 a d) = (step x s).n d := by
  pointwise [k0_pay124, k0_pay122]
  simp only [hw, hn, hk]
  rfl

/-- The queries of head 2: the head's columns times its projection. -/
theorem q2_at (v46 : FVec Ideal S128x1024 .bf16) (w : Vec Ideal S1x256x256 .bf16)
    (t : Fin 128) (e : Fin 256) :
    k0_pay29 (k0_pay28 v46) w (ix2 t e) = ∑ d : Fin 256, v46 (ix2 t ⟨512 + d.val, by omega⟩) * w (ix3 0 d e) := by
  pointwise [k0_pay29, k0_pay28]

/-- The keys of head 2: the head's columns times its projection, scaled. -/
theorem k2_at (v46 : FVec Ideal S128x1024 .bf16) (w : Vec Ideal S1x256x256 .bf16)
    (t : Fin 128) (e : Fin 256) :
    k0_pay33 v46 w (ix2 t e) = (∑ d : Fin 256, v46 (ix2 t ⟨512 + d.val, by omega⟩) * w (ix3 0 d e)) * Ideal.ofBits .f32 1031798784#32 := by
  pointwise [k0_pay33]

/-- The rounded queries of head 2 are the queries. -/
theorem qb2_at (v113 : FVec Ideal S128x256 .bf16) (w : Vec Ideal S1x256x256 .bf16)
    (t : Fin 128) (d : Fin 256) :
    k0_pay37 v113 w (ix2 t d) = k0_pay29 v113 w (ix2 t d) := by
  pointwise [k0_pay37]

/-- The rounded keys of head 2 are the keys. -/
theorem kb2_at (k : FVec Ideal S128x256 .f32)
    (t : Fin 128) (d : Fin 256) :
    k0_pay41 k (ix2 t d) = k (ix2 t d) := by
  pointwise [k0_pay41]

/-- The rounded values of head 2 are the values. -/
theorem vb2_at (v : Vec Ideal S128x256 .f32)
    (t : Fin 128) (d : Fin 256) :
    k0_pay45 v (ix2 t d) = v (ix2 t d) := by
  pointwise [k0_pay45]

/-- The masked log weights of head 2. -/
theorem d2_at {v82 v100 v101 : FVec Ideal S128x128 .f32}
    (hb : ∀ t, v82 (ix2 t 18) = bcs x.f t) (hbt : ∀ t, v100 (ix2 18 t) = bcs x.f t) (hit : ∀ t, v101 (ix2 18 t) = x.i t) (t r : Fin 128) :
    k0_pay49 v82 v100 v101 k0_pay25 (ix2 t r) = dmat x.f x.i t r := by
  pointwise [k0_pay49, k0_pay25]
  simp only [pick_at, hb, hbt, hit]
  rfl

/-- The stabiliser of head 2 at each step. -/
theorem m2_at {v99 v170 : FVec Ideal S128x128 .f32}
    (hv : ∀ t, v99 (ix2 t 18) = bcs x.f t + s.m) (hd : ∀ t r, v170 (ix2 t r) = dmat x.f x.i t r) (t : Fin 128) :
    k0_pay59 v99 v170 (ix2 t 0) = mt x.f x.i s.m t := by
  pointwise [k0_pay59, k0_pay55]
  simp only [hv, hd]
  rfl

/-- The weight of the carried state of head 2 at each step. -/
theorem w2_at {v99 v170 : FVec Ideal S128x128 .f32}
    (hv : ∀ t, v99 (ix2 t 18) = bcs x.f t + s.m) (hd : ∀ t r, v170 (ix2 t r) = dmat x.f x.i t r) (t : Fin 128) :
    k0_pay63 v99 v170 (ix2 t 0) = wint x.f x.i s.m t := by
  pointwise [k0_pay63, k0_pay55]
  simp only [hv, m2_at hv hd]
  rfl

/-- The unweighted scores of head 2. -/
theorem s2_at {q k : FVec Ideal S128x256 .bf16}
    (hq : ∀ t d, q (ix2 t d) = x.q t d) (hk : ∀ t d, k (ix2 t d) = x.k t d) (t r : Fin 128) :
    k0_pay67 q k (ix2 t r) = ∑ d, x.q t d * x.k r d := by
  pointwise [k0_pay67]
  simp only [hq, hk]

/-- The carried matrix of head 2 as read. -/
theorem C2_at (c : Vec Ideal S1x256x256 .f32)
    (d e : Fin 256) :
    k0_pay71 c (ix2 d e) = c (ix3 0 d e) := by
  pointwise [k0_pay71]

/-- The carried normaliser of head 2 as read. -/
theorem n2_at (n : Vec Ideal S1x8x256 .f32)
    (d : Fin 256) :
    k0_pay75 n (ix2 0 d) = n (ix3 0 0 d) := by
  pointwise [k0_pay75]

/-- The queries times the carried matrix of head 2. -/
theorem qC2_at {q : FVec Ideal S128x256 .bf16} {c : FVec Ideal S256x256 .f32}
    (hq : ∀ t d, q (ix2 t d) = x.q t d) (hc : ∀ d e, c (ix2 d e) = s.C d e) (t : Fin 128) (e : Fin 256) :
    k0_pay79 q c (ix2 t e) = ∑ d, x.q t d * s.C d e := by
  pointwise [k0_pay79]
  simp only [hq, hc]

/-- The weighted scores of head 2. -/
theorem a2_at {v170 : FVec Ideal S128x128 .f32} {v207 : FVec Ideal S128x1 .f32} {v225 : FVec Ideal S128x128 .f32}
    (hd : ∀ t r, v170 (ix2 t r) = dmat x.f x.i t r) (hm : ∀ t, v207 (ix2 t 0) = mt x.f x.i s.m t) (hs : ∀ t r, v225 (ix2 t r) = ∑ d, x.q t d * x.k r d) (t r : Fin 128) :
    k0_pay83 v170 v207 v225 (ix2 t r) = att x s.m t r := by
  pointwise [k0_pay83]
  simp only [hd, hm, hs]
  rfl

/-- The rounded weighted scores of head 2 are the weighted scores. -/
theorem ab2_at {v170 : FVec Ideal S128x128 .f32} {v207 : FVec Ideal S128x1 .f32} {v225 : FVec Ideal S128x128 .f32}
    (hd : ∀ t r, v170 (ix2 t r) = dmat x.f x.i t r) (hm : ∀ t, v207 (ix2 t 0) = mt x.f x.i s.m t) (hs : ∀ t r, v225 (ix2 t r) = ∑ d, x.q t d * x.k r d) (t r : Fin 128) :
    k0_pay87 v170 v207 v225 (ix2 t r) = att x s.m t r := by
  pointwise [k0_pay87]
  simp only [a2_at hd hm hs]

/-- The numerator of head 2. -/
theorem num2_at {v : FVec Ideal S128x256 .bf16} {w : FVec Ideal S128x1 .f32} {a : FVec Ideal S128x256 .f32} {b : FVec Ideal S128x128 .bf16}
    (hv : ∀ t d, v (ix2 t d) = x.v t d) (hw : ∀ t, w (ix2 t 0) = wint x.f x.i s.m t) (ha : ∀ t e, a (ix2 t e) = ∑ d, x.q t d * s.C d e) (hb : ∀ t r, b (ix2 t r) = att x s.m t r) (t : Fin 128) (e : Fin 256) :
    k0_pay98 v w a b (ix2 t e) = num x s t e := by
  pointwise [k0_pay98]
  simp only [hv, hw, ha, hb]
  rfl

/-- The output of the recurrence of head 2. -/
theorem h2_at {q : FVec Ideal S128x256 .f32} {mm w : FVec Ideal S128x1 .f32} {n : FVec Ideal S1x256 .f32} {a : FVec Ideal S128x128 .f32} {nn : FVec Ideal S128x256 .f32}
    (hq : ∀ t d, q (ix2 t d) = x.q t d) (hm : ∀ t, mm (ix2 t 0) = mt x.f x.i s.m t) (hw : ∀ t, w (ix2 t 0) = wint x.f x.i s.m t) (hn : ∀ d, n (ix2 0 d) = s.n d) (ha : ∀ t r, a (ix2 t r) = att x s.m t r) (hN : ∀ t e, nn (ix2 t e) = num x s t e) (t : Fin 128) (e : Fin 256) :
    k0_pay105 q mm w n a nn (ix2 t e) = hout x s t e := by
  pointwise [k0_pay105]
  simp only [hq, hm, hw, hn, ha, hN, zero_sub]
  rfl

/-- What the body stores of the output of head 2. -/
theorem y2_at {hv : FVec Ideal S128x256 .f32} (g : Vec Ideal S1x256 .f32) (o : Vec Ideal S128x256 .f32)
    (hh : ∀ t e, hv (ix2 t e) = hout x s t e) (t : Fin 128) (e : Fin 256) :
    k0_pay126 (k0_pay125 (k0_pay110 hv) (k0_pay113 hv)) g o (ix2 t e) = sgm (o (ix2 t e)) * (norm (hout x s t) e * g (ix2 0 e)) := by
  pointwise [k0_pay110, k0_pay113, k0_pay125, k0_pay126]
  simp only [hh, zero_sub]
  rfl

/-- The weighted keys of head 2. -/
theorem kw2_at {v97 : FVec Ideal S128x128 .f32} {k : FVec Ideal S128x256 .f32}
    (hw : ∀ t, v97 (ix2 t 18) = ws x.f x.i s.m t) (hk : ∀ t d, k (ix2 t d) = x.k t d) (t : Fin 128) (d : Fin 256) :
    k0_pay90 v97 k (ix2 t d) = ws x.f x.i s.m t * x.k t d := by
  pointwise [k0_pay90]
  simp only [hw, hk]
  exact mul_comm _ _

/-- The weighted keys times the values of head 2. -/
theorem kv2_at {v97 : FVec Ideal S128x128 .f32} {k : FVec Ideal S128x256 .f32} {v : FVec Ideal S128x256 .bf16}
    (hw : ∀ t, v97 (ix2 t 18) = ws x.f x.i s.m t) (hk : ∀ t d, k (ix2 t d) = x.k t d) (hv : ∀ t d, v (ix2 t d) = x.v t d) (d e : Fin 256) :
    k0_pay94 v97 k v (ix2 d e) = ∑ r, ws x.f x.i s.m r * x.k r d * x.v r e := by
  pointwise [k0_pay94]
  simp only [kw2_at hw hk, hv]

/-- The matrix of head 2 after the chunk. -/
theorem Cn2_at {v94 : FVec Ideal S1x128 .f32} {c kv : FVec Ideal S256x256 .f32}
    (hw : v94 (ix2 0 18) = wold x.f x.i s.m) (hc : ∀ d e, c (ix2 d e) = s.C d e) (hk : ∀ d e, kv (ix2 d e) = ∑ r, ws x.f x.i s.m r * x.k r d * x.v r e) (d e : Fin 256) :
    k0_pay128 v94 c kv (ix3 0 d e) = (step x s).C d e := by
  pointwise [k0_pay128, k0_pay127]
  simp only [hw, hc, hk]
  rfl

/-- The normaliser of head 2 after the chunk, on each of its eight sublanes. -/
theorem nn2_at {v94 : FVec Ideal S1x128 .f32} {n : FVec Ideal S1x256 .f32} {kw : FVec Ideal S128x256 .f32}
    (hw : v94 (ix2 0 18) = wold x.f x.i s.m) (hn : ∀ d, n (ix2 0 d) = s.n d) (hk : ∀ t d, kw (ix2 t d) = ws x.f x.i s.m t * x.k t d) (a : Fin 8) (d : Fin 256) :
    k0_pay129 v94 n kw (ix3 0 a d) = (step x s).n d := by
  pointwise [k0_pay129, k0_pay127]
  simp only [hw, hn, hk]
  rfl

/-- The queries of head 3: the head's columns times its projection. -/
theorem q3_at (v46 : FVec Ideal S128x1024 .bf16) (w : Vec Ideal S1x256x256 .bf16)
    (t : Fin 128) (e : Fin 256) :
    k0_pay30 v46 w (ix2 t e) = ∑ d : Fin 256, v46 (ix2 t ⟨768 + d.val, by omega⟩) * w (ix3 0 d e) := by
  pointwise [k0_pay30]

/-- The keys of head 3: the head's columns times its projection, scaled. -/
theorem k3_at (v46 : FVec Ideal S128x1024 .bf16) (w : Vec Ideal S1x256x256 .bf16)
    (t : Fin 128) (e : Fin 256) :
    k0_pay34 v46 w (ix2 t e) = (∑ d : Fin 256, v46 (ix2 t ⟨768 + d.val, by omega⟩) * w (ix3 0 d e)) * Ideal.ofBits .f32 1031798784#32 := by
  pointwise [k0_pay34]

/-- The rounded queries of head 3 are the queries. -/
theorem qb3_at (q : FVec Ideal S128x256 .f32)
    (t : Fin 128) (d : Fin 256) :
    k0_pay38 q (ix2 t d) = q (ix2 t d) := by
  pointwise [k0_pay38]

/-- The rounded keys of head 3 are the keys. -/
theorem kb3_at (k : FVec Ideal S128x256 .f32)
    (t : Fin 128) (d : Fin 256) :
    k0_pay42 k (ix2 t d) = k (ix2 t d) := by
  pointwise [k0_pay42]

/-- The rounded values of head 3 are the values. -/
theorem vb3_at (v : Vec Ideal S128x256 .f32)
    (t : Fin 128) (d : Fin 256) :
    k0_pay46 v (ix2 t d) = v (ix2 t d) := by
  pointwise [k0_pay46]

/-- The masked log weights of head 3. -/
theorem d3_at {v82 v100 v101 : FVec Ideal S128x128 .f32}
    (hb : ∀ t, v82 (ix2 t 19) = bcs x.f t) (hbt : ∀ t, v100 (ix2 19 t) = bcs x.f t) (hit : ∀ t, v101 (ix2 19 t) = x.i t) (t r : Fin 128) :
    k0_pay52 k0_pay25 (k0_pay50 v82 v100) (k0_pay51 v101) (ix2 t r) = dmat x.f x.i t r := by
  pointwise [k0_pay52, k0_pay50, k0_pay51, k0_pay25]
  simp only [pick_at, hb, hbt, hit]
  rfl

/-- The stabiliser of head 3 at each step. -/
theorem m3_at {v99 : FVec Ideal S128x128 .f32} {v104 : IVec S128x128 1} {v195 : FVec Ideal S128x128 .f32} {v196 : FVec Ideal S1x128 .f32}
    (hv : ∀ t, v99 (ix2 t 19) = bcs x.f t + s.m) (hd : ∀ t r, k0_pay52 v104 v195 v196 (ix2 t r) = dmat x.f x.i t r) (t : Fin 128) :
    k0_pay60 v99 v104 v195 v196 (ix2 t 0) = mt x.f x.i s.m t := by
  pointwise [k0_pay60, k0_pay56]
  simp only [hv, hd]
  rfl

/-- The weight of the carried state of head 3 at each step. -/
theorem w3_at {v99 : FVec Ideal S128x128 .f32} {v104 : IVec S128x128 1} {v195 : FVec Ideal S128x128 .f32} {v196 : FVec Ideal S1x128 .f32}
    (hv : ∀ t, v99 (ix2 t 19) = bcs x.f t + s.m) (hd : ∀ t r, k0_pay52 v104 v195 v196 (ix2 t r) = dmat x.f x.i t r) (t : Fin 128) :
    k0_pay64 v99 v104 v195 v196 (ix2 t 0) = wint x.f x.i s.m t := by
  pointwise [k0_pay64, k0_pay56]
  simp only [hv, m3_at hv hd]
  rfl

/-- The unweighted scores of head 3. -/
theorem s3_at {q k : FVec Ideal S128x256 .bf16}
    (hq : ∀ t d, q (ix2 t d) = x.q t d) (hk : ∀ t d, k (ix2 t d) = x.k t d) (t r : Fin 128) :
    k0_pay68 q k (ix2 t r) = ∑ d, x.q t d * x.k r d := by
  pointwise [k0_pay68]
  simp only [hq, hk]

/-- The carried matrix of head 3 as read. -/
theorem C3_at (c : Vec Ideal S1x256x256 .f32)
    (d e : Fin 256) :
    k0_pay72 c (ix2 d e) = c (ix3 0 d e) := by
  pointwise [k0_pay72]

/-- The carried normaliser of head 3 as read. -/
theorem n3_at (n : Vec Ideal S1x8x256 .f32)
    (d : Fin 256) :
    k0_pay76 n (ix2 0 d) = n (ix3 0 0 d) := by
  pointwise [k0_pay76]

/-- The queries times the carried matrix of head 3. -/
theorem qC3_at {q : FVec Ideal S128x256 .bf16} {c : Vec Ideal S1x256x256 .f32}
    (hq : ∀ t d, q (ix2 t d) = x.q t d) (hc : ∀ d e, c (ix3 0 d e) = s.C d e) (t : Fin 128) (e : Fin 256) :
    k0_pay80 q c (ix2 t e) = ∑ d, x.q t d * s.C d e := by
  pointwise [k0_pay80, k0_pay72]
  simp only [hq, hc]

/-- The weighted scores of head 3. -/
theorem a3_at {v170 : FVec Ideal S128x128 .f32} {v207 : FVec Ideal S128x1 .f32} {v225 : FVec Ideal S128x128 .f32}
    (hd : ∀ t r, v170 (ix2 t r) = dmat x.f x.i t r) (hm : ∀ t, v207 (ix2 t 0) = mt x.f x.i s.m t) (hs : ∀ t r, v225 (ix2 t r) = ∑ d, x.q t d * x.k r d) (t r : Fin 128) :
    k0_pay84 v170 v207 v225 (ix2 t r) = att x s.m t r := by
  pointwise [k0_pay84]
  simp only [hd, hm, hs]
  rfl

/-- The numerator of head 3. -/
theorem num3_at {v : FVec Ideal S128x256 .bf16} {w : FVec Ideal S128x1 .f32} {a : FVec Ideal S128x256 .f32} {b : FVec Ideal S128x128 .f32}
    (hv : ∀ t d, v (ix2 t d) = x.v t d) (hw : ∀ t, w (ix2 t 0) = wint x.f x.i s.m t) (ha : ∀ t e, a (ix2 t e) = ∑ d, x.q t d * s.C d e) (hb : ∀ t r, b (ix2 t r) = att x s.m t r) (t : Fin 128) (e : Fin 256) :
    k0_pay99 v w a b (ix2 t e) = num x s t e := by
  pointwise [k0_pay99]
  simp only [hv, hw, ha, hb]
  rfl

/-- The output of the recurrence of head 3. -/
theorem h3_at {q : FVec Ideal S128x256 .f32} {mm w : FVec Ideal S128x1 .f32} {n : FVec Ideal S1x256 .f32} {a : FVec Ideal S128x128 .f32} {nn : FVec Ideal S128x256 .f32}
    (hq : ∀ t d, q (ix2 t d) = x.q t d) (hm : ∀ t, mm (ix2 t 0) = mt x.f x.i s.m t) (hw : ∀ t, w (ix2 t 0) = wint x.f x.i s.m t) (hn : ∀ d, n (ix2 0 d) = s.n d) (ha : ∀ t r, a (ix2 t r) = att x s.m t r) (hN : ∀ t e, nn (ix2 t e) = num x s t e) (t : Fin 128) (e : Fin 256) :
    k0_pay106 q mm w n a nn (ix2 t e) = hout x s t e := by
  pointwise [k0_pay106]
  simp only [hq, hm, hw, hn, ha, hN, zero_sub]
  rfl

/-- What the body stores of the output of head 3. -/
theorem y3_at {hv : FVec Ideal S128x256 .f32} (g : Vec Ideal S1x256 .f32) (o : Vec Ideal S128x256 .f32)
    (hh : ∀ t e, hv (ix2 t e) = hout x s t e) (t : Fin 128) (e : Fin 256) :
    k0_pay131 (k0_pay130 (k0_pay111 hv) (k0_pay114 hv) g) o (ix2 t e) = sgm (o (ix2 t e)) * (norm (hout x s t) e * g (ix2 0 e)) := by
  pointwise [k0_pay111, k0_pay114, k0_pay130, k0_pay131]
  simp only [hh, zero_sub]
  rfl

/-- The weighted keys of head 3. -/
theorem kw3_at {v97 : FVec Ideal S128x128 .f32} {k : FVec Ideal S128x256 .f32}
    (hw : ∀ t, v97 (ix2 t 19) = ws x.f x.i s.m t) (hk : ∀ t d, k (ix2 t d) = x.k t d) (t : Fin 128) (d : Fin 256) :
    k0_pay91 v97 k (ix2 t d) = ws x.f x.i s.m t * x.k t d := by
  pointwise [k0_pay91]
  simp only [hw, hk]
  exact mul_comm _ _

/-- The weighted keys times the values of head 3. -/
theorem kv3_at {v97 : FVec Ideal S128x128 .f32} {k : FVec Ideal S128x256 .f32} {v : FVec Ideal S128x256 .bf16}
    (hw : ∀ t, v97 (ix2 t 19) = ws x.f x.i s.m t) (hk : ∀ t d, k (ix2 t d) = x.k t d) (hv : ∀ t d, v (ix2 t d) = x.v t d) (d e : Fin 256) :
    k0_pay95 v97 k v (ix2 d e) = ∑ r, ws x.f x.i s.m r * x.k r d * x.v r e := by
  pointwise [k0_pay95]
  simp only [kw3_at hw hk, hv]

/-- The matrix of head 3 after the chunk. -/
theorem Cn3_at {v94 : FVec Ideal S1x128 .f32} {c kv : FVec Ideal S256x256 .f32}
    (hw : v94 (ix2 0 19) = wold x.f x.i s.m) (hc : ∀ d e, c (ix2 d e) = s.C d e) (hk : ∀ d e, kv (ix2 d e) = ∑ r, ws x.f x.i s.m r * x.k r d * x.v r e) (d e : Fin 256) :
    k0_pay133 v94 c kv (ix3 0 d e) = (step x s).C d e := by
  pointwise [k0_pay133, k0_pay132]
  simp only [hw, hc, hk]
  rfl

/-- The normaliser of head 3 after the chunk, on each of its eight sublanes. -/
theorem nn3_at {v94 : FVec Ideal S1x128 .f32} {n : FVec Ideal S1x256 .f32} {kw : FVec Ideal S128x256 .f32}
    (hw : v94 (ix2 0 19) = wold x.f x.i s.m) (hn : ∀ d, n (ix2 0 d) = s.n d) (hk : ∀ t d, kw (ix2 t d) = ws x.f x.i s.m t * x.k t d) (a : Fin 8) (d : Fin 256) :
    k0_pay134 v94 n kw (ix3 0 a d) = (step x s).n d := by
  pointwise [k0_pay134, k0_pay132]
  simp only [hw, hn, hk]
  rfl

end Cert.KernelIdeal.Head
-- ==== Proof.KerOne.lean ====
module

public import proofs.«01_k».proof.Proof.Gen.KernelIdeal.Skeleton
public import proofs.«01_k».proof.Proof.KerLane
public import proofs.«01_k».proof.Proof.KerHead
public import Idealize.ShloMosaic.Lib.Pointwise
public import Idealize.ShloMosaic.Lib.WordCmp

@[expose] public section
set_option maxRecDepth 16384
noncomputable section
open Idealize.ShloMosaic Idealize.ShloMosaic.TcCoe Idealize.SL.Sem
open Cert.MemSpec Cert.KernelIdeal Cert.KernelIdeal.Gen

set_option maxHeartbeats 1000000

namespace Cert.KernelIdeal.One

open Cert.KernelIdeal.Lane Cert.KernelIdeal.Head

/-- What one head's loads hold, when its chunk is `x` and its carried state is `s`: `l` is the head's lane, `o` its first column. -/
structure Good (l : Fin 128) (o : ℕ) (ho : o ≤ 768) (x : Chunk) (s : Carry) (v47 v68 : FVec Ideal S128x128 .f32) (tri : FVec Ideal S128x128 .bf16)
    (mr : Vec Ideal S1x128 .f32) (U : FVec Ideal S128x1024 .bf16) (wq wk : Vec Ideal S1x256x256 .bf16) (v : Vec Ideal S128x256 .f32)
    (c : Vec Ideal S1x256x256 .f32) (n : Vec Ideal S1x8x256 .f32) : Prop where
  ne : ∀ s e, v68 (ix2 s e) ≠ ⊤
  tr : ∀ t s : Fin 128, tri (ix2 t s) = if s ≤ t then 1 else 0
  i : ∀ t, v47 (ix2 t l) = x.i t
  f : ∀ t, v68 (ix2 t l) = x.f t
  mm : mr (ix2 0 l) = s.m
  q : ∀ t e, ∑ d : Fin 256, U (ix2 t ⟨o + d.val, by omega⟩) * wq (ix3 0 d e) = x.q t e
  k : ∀ t e, (∑ d : Fin 256, U (ix2 t ⟨o + d.val, by omega⟩) * wk (ix3 0 d e)) * Ideal.ofBits .f32 1031798784#32 = x.k t e
  vv : ∀ t e, v (ix2 t e) = x.v t e
  C : ∀ d e, c (ix3 0 d e) = s.C d e
  n : ∀ d, n (ix3 0 0 d) = s.n d

variable {l : Fin 128} {o : ℕ} {ho : o ≤ 768} {x : Chunk} {s : Carry} {v47 v68 : FVec Ideal S128x128 .f32} {tri : FVec Ideal S128x128 .bf16}
  {mr : Vec Ideal S1x128 .f32} {U : FVec Ideal S128x1024 .bf16} {wq wk : Vec Ideal S1x256x256 .bf16} {v : Vec Ideal S128x256 .f32}
  {c : Vec Ideal S1x256x256 .f32} {n : Vec Ideal S1x8x256 .f32}

/-- The lane's forget gates. -/
theorem f_fun (G : Good l o ho x s v47 v68 tri mr U wq wk v c n) : (fun s => v68 (ix2 s l)) = x.f := funext G.f

/-- The lane's input gates. -/
theorem i_fun (G : Good l o ho x s v47 v68 tri mr U wq wk v c n) : (fun s => v47 (ix2 s l)) = x.i := funext G.i

theorem p16 (G : Good l o ho x s v47 v68 tri mr U wq wk v c n) (t : Fin 128) : k0_pay16 v68 tri (ix2 t l) = bcs x.f t := by
  rw [pay16_at v68 tri G.ne G.tr, f_fun G]

theorem p23 (G : Good l o ho x s v47 v68 tri mr U wq wk v c n) (t : Fin 128) : k0_pay23 v68 tri (ix2 l t) = bcs x.f t := by
  rw [pay23_at v68 tri G.ne G.tr, f_fun G]

theorem p24 (G : Good l o ho x s v47 v68 tri mr U wq wk v c n) (t : Fin 128) : k0_pay24 v47 (ix2 l t) = x.i t := by
  rw [pay24_at, G.i]

theorem p22 (G : Good l o ho x s v47 v68 tri mr U wq wk v c n) (t : Fin 128) : k0_pay22 v68 tri mr (ix2 t l) = bcs x.f t + s.m := by
  rw [pay22_at v68 tri mr G.ne G.tr, f_fun G, G.mm]

/-- The stabiliser after the chunk. -/
theorem p19 (G : Good l o ho x s v47 v68 tri mr U wq wk v c n) : k0_pay19 v47 v68 tri mr (ix2 0 l) = (step x s).m := by
  rw [pay19_at v47 v68 tri mr G.ne G.tr, f_fun G, i_fun G, G.mm]
  rfl

theorem p20 (G : Good l o ho x s v47 v68 tri mr U wq wk v c n) : k0_pay20 v47 v68 tri mr (ix2 0 l) = wold x.f x.i s.m := by
  rw [pay20_at v47 v68 tri mr G.ne G.tr, f_fun G, i_fun G, G.mm]

theorem p21 (G : Good l o ho x s v47 v68 tri mr U wq wk v c n) (t : Fin 128) : k0_pay21 v47 v68 tri mr (ix2 t l) = ws x.f x.i s.m t := by
  rw [pay21_at v47 v68 tri mr G.ne G.tr, f_fun G, i_fun G, G.mm]

/-- The queries of head 0. -/
theorem rq0 (G : Good 16 0 (Nat.le_of_ble_eq_true rfl) x s v47 v68 tri mr U wq wk v c n) (t : Fin 128) (d : Fin 256) :
    k0_pay26 U wq (ix2 t d) = x.q t d :=
  (q0_at U wq t d).trans (G.q t d)

/-- The rounded queries of head 0. -/
theorem rqb0 (G : Good 16 0 (Nat.le_of_ble_eq_true rfl) x s v47 v68 tri mr U wq wk v c n) (t : Fin 128) (d : Fin 256) :
    k0_pay35 (k0_pay26 U wq) (ix2 t d) = x.q t d :=
  (qb0_at _ t d).trans (rq0 G t d)

/-- The keys of head 0. -/
theorem rk0 (G : Good 16 0 (Nat.le_of_ble_eq_true rfl) x s v47 v68 tri mr U wq wk v c n) (t : Fin 128) (d : Fin 256) :
    k0_pay31 U wk (ix2 t d) = x.k t d :=
  (k0_at U wk t d).trans (G.k t d)

/-- The rounded keys of head 0. -/
theorem rkb0 (G : Good 16 0 (Nat.le_of_ble_eq_true rfl) x s v47 v68 tri mr U wq wk v c n) (t : Fin 128) (d : Fin 256) :
    k0_pay39 (k0_pay31 U wk) (ix2 t d) = x.k t d :=
  (kb0_at _ t d).trans (rk0 G t d)

/-- The rounded values of head 0. -/
theorem rv0 (G : Good 16 0 (Nat.le_of_ble_eq_true rfl) x s v47 v68 tri mr U wq wk v c n) (t : Fin 128) (d : Fin 256) :
    k0_pay43 v (ix2 t d) = x.v t d :=
  (vb0_at _ t d).trans (G.vv t d)

/-- The masked log weights of head 0. -/
theorem rd0 (G : Good 16 0 (Nat.le_of_ble_eq_true rfl) x s v47 v68 tri mr U wq wk v c n) (t r : Fin 128) :
    k0_pay47 (k0_pay16 v68 tri) (k0_pay23 v68 tri) (k0_pay24 v47) k0_pay25 (ix2 t r) = dmat x.f x.i t r :=
  d0_at (p16 G) (p23 G) (p24 G) t r

/-- The row stabilisers of head 0. -/
theorem rm0 (G : Good 16 0 (Nat.le_of_ble_eq_true rfl) x s v47 v68 tri mr U wq wk v c n) (t : Fin 128) :
    k0_pay57 (k0_pay22 v68 tri mr) (k0_pay47 (k0_pay16 v68 tri) (k0_pay23 v68 tri) (k0_pay24 v47) k0_pay25) (ix2 t 0) = mt x.f x.i s.m t :=
  m0_at (p22 G) (rd0 G) t

/-- The carried weights of head 0. -/
theorem rw0 (G : Good 16 0 (Nat.le_of_ble_eq_true rfl) x s v47 v68 tri mr U wq wk v c n) (t : Fin 128) :
    k0_pay61 (k0_pay22 v68 tri mr) (k0_pay47 (k0_pay16 v68 tri) (k0_pay23 v68 tri) (k0_pay24 v47) k0_pay25) (ix2 t 0) = wint x.f x.i s.m t :=
  w0_at (p22 G) (rd0 G) t

/-- The scores of head 0. -/
theorem rs0 (G : Good 16 0 (Nat.le_of_ble_eq_true rfl) x s v47 v68 tri mr U wq wk v c n) (t r : Fin 128) :
    k0_pay65 (k0_pay35 (k0_pay26 U wq)) (k0_pay39 (k0_pay31 U wk)) (ix2 t r) = ∑ d, x.q t d * x.k r d :=
  s0_at (rqb0 G) (rkb0 G) t r

/-- The carried matrix of head 0. -/
theorem rC0 (G : Good 16 0 (Nat.le_of_ble_eq_true rfl) x s v47 v68 tri mr U wq wk v c n) (d e : Fin 256) :
    k0_pay69 c (ix2 d e) = s.C d e :=
  (C0_at _ d e).trans (G.C d e)

/-- The carried normaliser of head 0. -/
theorem rn0 (G : Good 16 0 (Nat.le_of_ble_eq_true rfl) x s v47 v68 tri mr U wq wk v c n) (d : Fin 256) :
    k0_pay73 n (ix2 0 d) = s.n d :=
  (n0_at _ d).trans (G.n d)

/-- The carried part of head 0. -/
theorem rqC0 (G : Good 16 0 (Nat.le_of_ble_eq_true rfl) x s v47 v68 tri mr U wq wk v c n) (t : Fin 128) (e : Fin 256) :
    k0_pay77 (k0_pay35 (k0_pay26 U wq)) (k0_pay69 c) (ix2 t e) = ∑ d, x.q t d * s.C d e :=
  qC0_at (rqb0 G) (rC0 G) t e

/-- The weighted scores of head 0. -/
theorem ra0 (G : Good 16 0 (Nat.le_of_ble_eq_true rfl) x s v47 v68 tri mr U wq wk v c n) (t r : Fin 128) :
    k0_pay81 (k0_pay47 (k0_pay16 v68 tri) (k0_pay23 v68 tri) (k0_pay24 v47) k0_pay25) (k0_pay57 (k0_pay22 v68 tri mr) (k0_pay47 (k0_pay16 v68 tri) (k0_pay23 v68 tri) (k0_pay24 v47) k0_pay25)) (k0_pay65 (k0_pay35 (k0_pay26 U wq)) (k0_pay39 (k0_pay31 U wk))) (ix2 t r) = att x s.m t r :=
  a0_at (rd0 G) (rm0 G) (rs0 G) t r

/-- The weighted values of head 0. -/
theorem rav0 (G : Good 16 0 (Nat.le_of_ble_eq_true rfl) x s v47 v68 tri mr U wq wk v c n) (t : Fin 128) (e : Fin 256) :
    k0_pay85 (k0_pay43 v) (k0_pay47 (k0_pay16 v68 tri) (k0_pay23 v68 tri) (k0_pay24 v47) k0_pay25) (k0_pay57 (k0_pay22 v68 tri mr) (k0_pay47 (k0_pay16 v68 tri) (k0_pay23 v68 tri) (k0_pay24 v47) k0_pay25)) (k0_pay65 (k0_pay35 (k0_pay26 U wq)) (k0_pay39 (k0_pay31 U wk))) (ix2 t e) = ∑ r, att x s.m t r * x.v r e :=
  av0_at (rv0 G) (rd0 G) (rm0 G) (rs0 G) t e

/-- The numerator of head 0. -/
theorem rN0 (G : Good 16 0 (Nat.le_of_ble_eq_true rfl) x s v47 v68 tri mr U wq wk v c n) (t : Fin 128) (e : Fin 256) :
    k0_pay96 (k0_pay61 (k0_pay22 v68 tri mr) (k0_pay47 (k0_pay16 v68 tri) (k0_pay23 v68 tri) (k0_pay24 v47) k0_pay25)) (k0_pay77 (k0_pay35 (k0_pay26 U wq)) (k0_pay69 c)) (k0_pay85 (k0_pay43 v) (k0_pay47 (k0_pay16 v68 tri) (k0_pay23 v68 tri) (k0_pay24 v47) k0_pay25) (k0_pay57 (k0_pay22 v68 tri mr) (k0_pay47 (k0_pay16 v68 tri) (k0_pay23 v68 tri) (k0_pay24 v47) k0_pay25)) (k0_pay65 (k0_pay35 (k0_pay26 U wq)) (k0_pay39 (k0_pay31 U wk)))) (ix2 t e) = num x s t e :=
  num0_at (rw0 G) (rqC0 G) (rav0 G) t e

/-- The denominator of head 0. -/
theorem rD0 (G : Good 16 0 (Nat.le_of_ble_eq_true rfl) x s v47 v68 tri mr U wq wk v c n) (t : Fin 128) :
    k0_pay100 (k0_pay26 U wq) (k0_pay61 (k0_pay22 v68 tri mr) (k0_pay47 (k0_pay16 v68 tri) (k0_pay23 v68 tri) (k0_pay24 v47) k0_pay25)) (k0_pay73 n) (k0_pay81 (k0_pay47 (k0_pay16 v68 tri) (k0_pay23 v68 tri) (k0_pay24 v47) k0_pay25) (k0_pay57 (k0_pay22 v68 tri mr) (k0_pay47 (k0_pay16 v68 tri) (k0_pay23 v68 tri) (k0_pay24 v47) k0_pay25)) (k0_pay65 (k0_pay35 (k0_pay26 U wq)) (k0_pay39 (k0_pay31 U wk)))) (ix2 t 0) = den x s t :=
  den0_at (rq0 G) (rw0 G) (rn0 G) (ra0 G) t

/-- The output before the gate of head 0. -/
theorem rh0 (G : Good 16 0 (Nat.le_of_ble_eq_true rfl) x s v47 v68 tri mr U wq wk v c n) (t : Fin 128) (e : Fin 256) :
    k0_pay103 (k0_pay57 (k0_pay22 v68 tri mr) (k0_pay47 (k0_pay16 v68 tri) (k0_pay23 v68 tri) (k0_pay24 v47) k0_pay25)) (k0_pay96 (k0_pay61 (k0_pay22 v68 tri mr) (k0_pay47 (k0_pay16 v68 tri) (k0_pay23 v68 tri) (k0_pay24 v47) k0_pay25)) (k0_pay77 (k0_pay35 (k0_pay26 U wq)) (k0_pay69 c)) (k0_pay85 (k0_pay43 v) (k0_pay47 (k0_pay16 v68 tri) (k0_pay23 v68 tri) (k0_pay24 v47) k0_pay25) (k0_pay57 (k0_pay22 v68 tri mr) (k0_pay47 (k0_pay16 v68 tri) (k0_pay23 v68 tri) (k0_pay24 v47) k0_pay25)) (k0_pay65 (k0_pay35 (k0_pay26 U wq)) (k0_pay39 (k0_pay31 U wk))))) (k0_pay100 (k0_pay26 U wq) (k0_pay61 (k0_pay22 v68 tri mr) (k0_pay47 (k0_pay16 v68 tri) (k0_pay23 v68 tri) (k0_pay24 v47) k0_pay25)) (k0_pay73 n) (k0_pay81 (k0_pay47 (k0_pay16 v68 tri) (k0_pay23 v68 tri) (k0_pay24 v47) k0_pay25) (k0_pay57 (k0_pay22 v68 tri mr) (k0_pay47 (k0_pay16 v68 tri) (k0_pay23 v68 tri) (k0_pay24 v47) k0_pay25)) (k0_pay65 (k0_pay35 (k0_pay26 U wq)) (k0_pay39 (k0_pay31 U wk))))) (ix2 t e) = hout x s t e :=
  h0_at (rm0 G) (rN0 G) (rD0 G) t e

/-- The gated output of head 0. -/
theorem ry0 (G : Good 16 0 (Nat.le_of_ble_eq_true rfl) x s v47 v68 tri mr U wq wk v c n) (g : Vec Ideal S1x256 .f32) (o : Vec Ideal S128x256 .f32) (t : Fin 128) (e : Fin 256) :
    k0_pay116 (k0_pay108 (k0_pay103 (k0_pay57 (k0_pay22 v68 tri mr) (k0_pay47 (k0_pay16 v68 tri) (k0_pay23 v68 tri) (k0_pay24 v47) k0_pay25)) (k0_pay96 (k0_pay61 (k0_pay22 v68 tri mr) (k0_pay47 (k0_pay16 v68 tri) (k0_pay23 v68 tri) (k0_pay24 v47) k0_pay25)) (k0_pay77 (k0_pay35 (k0_pay26 U wq)) (k0_pay69 c)) (k0_pay85 (k0_pay43 v) (k0_pay47 (k0_pay16 v68 tri) (k0_pay23 v68 tri) (k0_pay24 v47) k0_pay25) (k0_pay57 (k0_pay22 v68 tri mr) (k0_pay47 (k0_pay16 v68 tri) (k0_pay23 v68 tri) (k0_pay24 v47) k0_pay25)) (k0_pay65 (k0_pay35 (k0_pay26 U wq)) (k0_pay39 (k0_pay31 U wk))))) (k0_pay100 (k0_pay26 U wq) (k0_pay61 (k0_pay22 v68 tri mr) (k0_pay47 (k0_pay16 v68 tri) (k0_pay23 v68 tri) (k0_pay24 v47) k0_pay25)) (k0_pay73 n) (k0_pay81 (k0_pay47 (k0_pay16 v68 tri) (k0_pay23 v68 tri) (k0_pay24 v47) k0_pay25) (k0_pay57 (k0_pay22 v68 tri mr) (k0_pay47 (k0_pay16 v68 tri) (k0_pay23 v68 tri) (k0_pay24 v47) k0_pay25)) (k0_pay65 (k0_pay35 (k0_pay26 U wq)) (k0_pay39 (k0_pay31 U wk)))))) (k0_pay107 (k0_pay57 (k0_pay22 v68 tri mr) (k0_pay47 (k0_pay16 v68 tri) (k0_pay23 v68 tri) (k0_pay24 v47) k0_pay25)) (k0_pay96 (k0_pay61 (k0_pay22 v68 tri mr) (k0_pay47 (k0_pay16 v68 tri) (k0_pay23 v68 tri) (k0_pay24 v47) k0_pay25)) (k0_pay77 (k0_pay35 (k0_pay26 U wq)) (k0_pay69 c)) (k0_pay85 (k0_pay43 v) (k0_pay47 (k0_pay16 v68 tri) (k0_pay23 v68 tri) (k0_pay24 v47) k0_pay25) (k0_pay57 (k0_pay22 v68 tri mr) (k0_pay47 (k0_pay16 v68 tri) (k0_pay23 v68 tri) (k0_pay24 v47) k0_pay25)) (k0_pay65 (k0_pay35 (k0_pay26 U wq)) (k0_pay39 (k0_pay31 U wk))))) (k0_pay100 (k0_pay26 U wq) (k0_pay61 (k0_pay22 v68 tri mr) (k0_pay47 (k0_pay16 v68 tri) (k0_pay23 v68 tri) (k0_pay24 v47) k0_pay25)) (k0_pay73 n) (k0_pay81 (k0_pay47 (k0_pay16 v68 tri) (k0_pay23 v68 tri) (k0_pay24 v47) k0_pay25) (k0_pay57 (k0_pay22 v68 tri mr) (k0_pay47 (k0_pay16 v68 tri) (k0_pay23 v68 tri) (k0_pay24 v47) k0_pay25)) (k0_pay65 (k0_pay35 (k0_pay26 U wq)) (k0_pay39 (k0_pay31 U wk))))))) (k0_pay115 (k0_pay103 (k0_pay57 (k0_pay22 v68 tri mr) (k0_pay47 (k0_pay16 v68 tri) (k0_pay23 v68 tri) (k0_pay24 v47) k0_pay25)) (k0_pay96 (k0_pay61 (k0_pay22 v68 tri mr) (k0_pay47 (k0_pay16 v68 tri) (k0_pay23 v68 tri) (k0_pay24 v47) k0_pay25)) (k0_pay77 (k0_pay35 (k0_pay26 U wq)) (k0_pay69 c)) (k0_pay85 (k0_pay43 v) (k0_pay47 (k0_pay16 v68 tri) (k0_pay23 v68 tri) (k0_pay24 v47) k0_pay25) (k0_pay57 (k0_pay22 v68 tri mr) (k0_pay47 (k0_pay16 v68 tri) (k0_pay23 v68 tri) (k0_pay24 v47) k0_pay25)) (k0_pay65 (k0_pay35 (k0_pay26 U wq)) (k0_pay39 (k0_pay31 U wk))))) (k0_pay100 (k0_pay26 U wq) (k0_pay61 (k0_pay22 v68 tri mr) (k0_pay47 (k0_pay16 v68 tri) (k0_pay23 v68 tri) (k0_pay24 v47) k0_pay25)) (k0_pay73 n) (k0_pay81 (k0_pay47 (k0_pay16 v68 tri) (k0_pay23 v68 tri) (k0_pay24 v47) k0_pay25) (k0_pay57 (k0_pay22 v68 tri mr) (k0_pay47 (k0_pay16 v68 tri) (k0_pay23 v68 tri) (k0_pay24 v47) k0_pay25)) (k0_pay65 (k0_pay35 (k0_pay26 U wq)) (k0_pay39 (k0_pay31 U wk)))))) (k0_pay107 (k0_pay57 (k0_pay22 v68 tri mr) (k0_pay47 (k0_pay16 v68 tri) (k0_pay23 v68 tri) (k0_pay24 v47) k0_pay25)) (k0_pay96 (k0_pay61 (k0_pay22 v68 tri mr) (k0_pay47 (k0_pay16 v68 tri) (k0_pay23 v68 tri) (k0_pay24 v47) k0_pay25)) (k0_pay77 (k0_pay35 (k0_pay26 U wq)) (k0_pay69 c)) (k0_pay85 (k0_pay43 v) (k0_pay47 (k0_pay16 v68 tri) (k0_pay23 v68 tri) (k0_pay24 v47) k0_pay25) (k0_pay57 (k0_pay22 v68 tri mr) (k0_pay47 (k0_pay16 v68 tri) (k0_pay23 v68 tri) (k0_pay24 v47) k0_pay25)) (k0_pay65 (k0_pay35 (k0_pay26 U wq)) (k0_pay39 (k0_pay31 U wk))))) (k0_pay100 (k0_pay26 U wq) (k0_pay61 (k0_pay22 v68 tri mr) (k0_pay47 (k0_pay16 v68 tri) (k0_pay23 v68 tri) (k0_pay24 v47) k0_pay25)) (k0_pay73 n) (k0_pay81 (k0_pay47 (k0_pay16 v68 tri) (k0_pay23 v68 tri) (k0_pay24 v47) k0_pay25) (k0_pay57 (k0_pay22 v68 tri mr) (k0_pay47 (k0_pay16 v68 tri) (k0_pay23 v68 tri) (k0_pay24 v47) k0_pay25)) (k0_pay65 (k0_pay35 (k0_pay26 U wq)) (k0_pay39 (k0_pay31 U wk))))))) g o (ix2 t e) = sgm (o (ix2 t e)) * (norm (hout x s t) e * g (ix2 0 e)) :=
  y0_at g o (rh0 G) t e

/-- The weighted keys of head 0. -/
theorem rkw0 (G : Good 16 0 (Nat.le_of_ble_eq_true rfl) x s v47 v68 tri mr U wq wk v c n) (t : Fin 128) (d : Fin 256) :
    k0_pay88 (k0_pay21 v47 v68 tri mr) (k0_pay31 U wk) (ix2 t d) = ws x.f x.i s.m t * x.k t d :=
  kw0_at (p21 G) (rk0 G) t d

/-- The weighted products of keys and values of head 0. -/
theorem rkv0 (G : Good 16 0 (Nat.le_of_ble_eq_true rfl) x s v47 v68 tri mr U wq wk v c n) (d e : Fin 256) :
    k0_pay92 (k0_pay21 v47 v68 tri mr) (k0_pay31 U wk) (k0_pay43 v) (ix2 d e) = ∑ r, ws x.f x.i s.m r * x.k r d * x.v r e :=
  kv0_at (p21 G) (rk0 G) (rv0 G) d e

/-- The matrix after the chunk of head 0. -/
theorem rCn0 (G : Good 16 0 (Nat.le_of_ble_eq_true rfl) x s v47 v68 tri mr U wq wk v c n) (d e : Fin 256) :
    k0_pay118 (k0_pay20 v47 v68 tri mr) (k0_pay69 c) (k0_pay92 (k0_pay21 v47 v68 tri mr) (k0_pay31 U wk) (k0_pay43 v)) (ix3 0 d e) = (step x s).C d e :=
  Cn0_at (p20 G) (rC0 G) (rkv0 G) d e

/-- The normaliser after the chunk of head 0. -/
theorem rnn0 (G : Good 16 0 (Nat.le_of_ble_eq_true rfl) x s v47 v68 tri mr U wq wk v c n) (a : Fin 8) (d : Fin 256) :
    k0_pay119 (k0_pay20 v47 v68 tri mr) (k0_pay73 n) (k0_pay88 (k0_pay21 v47 v68 tri mr) (k0_pay31 U wk)) (ix3 0 a d) = (step x s).n d :=
  nn0_at (p20 G) (rn0 G) (rkw0 G) a d

/-- The queries of head 1. -/
theorem rq1 (G : Good 17 256 (Nat.le_of_ble_eq_true rfl) x s v47 v68 tri mr U wq wk v c n) (t : Fin 128) (d : Fin 256) :
    k0_pay27 U wq (ix2 t d) = x.q t d :=
  (q1_at U wq t d).trans (G.q t d)

/-- The rounded queries of head 1. -/
theorem rqb1 (G : Good 17 256 (Nat.le_of_ble_eq_true rfl) x s v47 v68 tri mr U wq wk v c n) (t : Fin 128) (d : Fin 256) :
    k0_pay36 (k0_pay27 U wq) (ix2 t d) = x.q t d :=
  (qb1_at _ t d).trans (rq1 G t d)

/-- The keys of head 1. -/
theorem rk1 (G : Good 17 256 (Nat.le_of_ble_eq_true rfl) x s v47 v68 tri mr U wq wk v c n) (t : Fin 128) (d : Fin 256) :
    k0_pay32 U wk (ix2 t d) = x.k t d :=
  (k1_at U wk t d).trans (G.k t d)

/-- The rounded keys of head 1. -/
theorem rkb1 (G : Good 17 256 (Nat.le_of_ble_eq_true rfl) x s v47 v68 tri mr U wq wk v c n) (t : Fin 128) (d : Fin 256) :
    k0_pay40 (k0_pay32 U wk) (ix2 t d) = x.k t d :=
  (kb1_at _ t d).trans (rk1 G t d)

/-- The rounded values of head 1. -/
theorem rv1 (G : Good 17 256 (Nat.le_of_ble_eq_true rfl) x s v47 v68 tri mr U wq wk v c n) (t : Fin 128) (d : Fin 256) :
    k0_pay44 v (ix2 t d) = x.v t d :=
  (vb1_at _ t d).trans (G.vv t d)

/-- The masked log weights of head 1. -/
theorem rd1 (G : Good 17 256 (Nat.le_of_ble_eq_true rfl) x s v47 v68 tri mr U wq wk v c n) (t r : Fin 128) :
    k0_pay48 (k0_pay16 v68 tri) (k0_pay23 v68 tri) (k0_pay24 v47) k0_pay25 (ix2 t r) = dmat x.f x.i t r :=
  d1_at (p16 G) (p23 G) (p24 G) t r

/-- The row stabilisers of head 1. -/
theorem rm1 (G : Good 17 256 (Nat.le_of_ble_eq_true rfl) x s v47 v68 tri mr U wq wk v c n) (t : Fin 128) :
    k0_pay58 (k0_pay22 v68 tri mr) (k0_pay48 (k0_pay16 v68 tri) (k0_pay23 v68 tri) (k0_pay24 v47) k0_pay25) (ix2 t 0) = mt x.f x.i s.m t :=
  m1_at (p22 G) (rd1 G) t

/-- The carried weights of head 1. -/
theorem rw1 (G : Good 17 256 (Nat.le_of_ble_eq_true rfl) x s v47 v68 tri mr U wq wk v c n) (t : Fin 128) :
    k0_pay62 (k0_pay22 v68 tri mr) (k0_pay48 (k0_pay16 v68 tri) (k0_pay23 v68 tri) (k0_pay24 v47) k0_pay25) (ix2 t 0) = wint x.f x.i s.m t :=
  w1_at (p22 G) (rd1 G) t

/-- The scores of head 1. -/
theorem rs1 (G : Good 17 256 (Nat.le_of_ble_eq_true rfl) x s v47 v68 tri mr U wq wk v c n) (t r : Fin 128) :
    k0_pay66 (k0_pay36 (k0_pay27 U wq)) (k0_pay40 (k0_pay32 U wk)) (ix2 t r) = ∑ d, x.q t d * x.k r d :=
  s1_at (rqb1 G) (rkb1 G) t r

/-- The carried matrix of head 1. -/
theorem rC1 (G : Good 17 256 (Nat.le_of_ble_eq_true rfl) x s v47 v68 tri mr U wq wk v c n) (d e : Fin 256) :
    k0_pay70 c (ix2 d e) = s.C d e :=
  (C1_at _ d e).trans (G.C d e)

/-- The carried normaliser of head 1. -/
theorem rn1 (G : Good 17 256 (Nat.le_of_ble_eq_true rfl) x s v47 v68 tri mr U wq wk v c n) (d : Fin 256) :
    k0_pay74 n (ix2 0 d) = s.n d :=
  (n1_at _ d).trans (G.n d)

/-- The carried part of head 1. -/
theorem rqC1 (G : Good 17 256 (Nat.le_of_ble_eq_true rfl) x s v47 v68 tri mr U wq wk v c n) (t : Fin 128) (e : Fin 256) :
    k0_pay78 (k0_pay36 (k0_pay27 U wq)) (k0_pay70 c) (ix2 t e) = ∑ d, x.q t d * s.C d e :=
  qC1_at (rqb1 G) (rC1 G) t e

/-- The weighted scores of head 1. -/
theorem ra1 (G : Good 17 256 (Nat.le_of_ble_eq_true rfl) x s v47 v68 tri mr U wq wk v c n) (t r : Fin 128) :
    k0_pay82 (k0_pay48 (k0_pay16 v68 tri) (k0_pay23 v68 tri) (k0_pay24 v47) k0_pay25) (k0_pay58 (k0_pay22 v68 tri mr) (k0_pay48 (k0_pay16 v68 tri) (k0_pay23 v68 tri) (k0_pay24 v47) k0_pay25)) (k0_pay66 (k0_pay36 (k0_pay27 U wq)) (k0_pay40 (k0_pay32 U wk))) (ix2 t r) = att x s.m t r :=
  a1_at (rd1 G) (rm1 G) (rs1 G) t r

/-- The weighted values of head 1. -/
theorem rav1 (G : Good 17 256 (Nat.le_of_ble_eq_true rfl) x s v47 v68 tri mr U wq wk v c n) (t : Fin 128) (e : Fin 256) :
    k0_pay86 (k0_pay44 v) (k0_pay48 (k0_pay16 v68 tri) (k0_pay23 v68 tri) (k0_pay24 v47) k0_pay25) (k0_pay58 (k0_pay22 v68 tri mr) (k0_pay48 (k0_pay16 v68 tri) (k0_pay23 v68 tri) (k0_pay24 v47) k0_pay25)) (k0_pay66 (k0_pay36 (k0_pay27 U wq)) (k0_pay40 (k0_pay32 U wk))) (ix2 t e) = ∑ r, att x s.m t r * x.v r e :=
  av1_at (rv1 G) (rd1 G) (rm1 G) (rs1 G) t e

/-- The numerator of head 1. -/
theorem rN1 (G : Good 17 256 (Nat.le_of_ble_eq_true rfl) x s v47 v68 tri mr U wq wk v c n) (t : Fin 128) (e : Fin 256) :
    k0_pay97 (k0_pay62 (k0_pay22 v68 tri mr) (k0_pay48 (k0_pay16 v68 tri) (k0_pay23 v68 tri) (k0_pay24 v47) k0_pay25)) (k0_pay78 (k0_pay36 (k0_pay27 U wq)) (k0_pay70 c)) (k0_pay86 (k0_pay44 v) (k0_pay48 (k0_pay16 v68 tri) (k0_pay23 v68 tri) (k0_pay24 v47) k0_pay25) (k0_pay58 (k0_pay22 v68 tri mr) (k0_pay48 (k0_pay16 v68 tri) (k0_pay23 v68 tri) (k0_pay24 v47) k0_pay25)) (k0_pay66 (k0_pay36 (k0_pay27 U wq)) (k0_pay40 (k0_pay32 U wk)))) (ix2 t e) = num x s t e :=
  num1_at (rw1 G) (rqC1 G) (rav1 G) t e

/-- The output before the gate of head 1. -/
theorem rh1 (G : Good 17 256 (Nat.le_of_ble_eq_true rfl) x s v47 v68 tri mr U wq wk v c n) (t : Fin 128) (e : Fin 256) :
    k0_pay104 (k0_pay58 (k0_pay22 v68 tri mr) (k0_pay48 (k0_pay16 v68 tri) (k0_pay23 v68 tri) (k0_pay24 v47) k0_pay25)) (k0_pay62 (k0_pay22 v68 tri mr) (k0_pay48 (k0_pay16 v68 tri) (k0_pay23 v68 tri) (k0_pay24 v47) k0_pay25)) (k0_pay97 (k0_pay62 (k0_pay22 v68 tri mr) (k0_pay48 (k0_pay16 v68 tri) (k0_pay23 v68 tri) (k0_pay24 v47) k0_pay25)) (k0_pay78 (k0_pay36 (k0_pay27 U wq)) (k0_pay70 c)) (k0_pay86 (k0_pay44 v) (k0_pay48 (k0_pay16 v68 tri) (k0_pay23 v68 tri) (k0_pay24 v47) k0_pay25) (k0_pay58 (k0_pay22 v68 tri mr) (k0_pay48 (k0_pay16 v68 tri) (k0_pay23 v68 tri) (k0_pay24 v47) k0_pay25)) (k0_pay66 (k0_pay36 (k0_pay27 U wq)) (k0_pay40 (k0_pay32 U wk))))) (k0_pay101 (k0_pay82 (k0_pay48 (k0_pay16 v68 tri) (k0_pay23 v68 tri) (k0_pay24 v47) k0_pay25) (k0_pay58 (k0_pay22 v68 tri mr) (k0_pay48 (k0_pay16 v68 tri) (k0_pay23 v68 tri) (k0_pay24 v47) k0_pay25)) (k0_pay66 (k0_pay36 (k0_pay27 U wq)) (k0_pay40 (k0_pay32 U wk))))) (k0_pay102 (k0_pay27 U wq) (k0_pay74 n)) (ix2 t e) = hout x s t e :=
  h1_at (rm1 G) (rw1 G) (rN1 G) (ra1 G) (rq1 G) (rn1 G) t e

/-- The gated output of head 1. -/
theorem ry1 (G : Good 17 256 (Nat.le_of_ble_eq_true rfl) x s v47 v68 tri mr U wq wk v c n) (g : Vec Ideal S1x256 .f32) (o : Vec Ideal S128x256 .f32) (t : Fin 128) (e : Fin 256) :
    k0_pay121 (k0_pay120 (k0_pay109 (k0_pay104 (k0_pay58 (k0_pay22 v68 tri mr) (k0_pay48 (k0_pay16 v68 tri) (k0_pay23 v68 tri) (k0_pay24 v47) k0_pay25)) (k0_pay62 (k0_pay22 v68 tri mr) (k0_pay48 (k0_pay16 v68 tri) (k0_pay23 v68 tri) (k0_pay24 v47) k0_pay25)) (k0_pay97 (k0_pay62 (k0_pay22 v68 tri mr) (k0_pay48 (k0_pay16 v68 tri) (k0_pay23 v68 tri) (k0_pay24 v47) k0_pay25)) (k0_pay78 (k0_pay36 (k0_pay27 U wq)) (k0_pay70 c)) (k0_pay86 (k0_pay44 v) (k0_pay48 (k0_pay16 v68 tri) (k0_pay23 v68 tri) (k0_pay24 v47) k0_pay25) (k0_pay58 (k0_pay22 v68 tri mr) (k0_pay48 (k0_pay16 v68 tri) (k0_pay23 v68 tri) (k0_pay24 v47) k0_pay25)) (k0_pay66 (k0_pay36 (k0_pay27 U wq)) (k0_pay40 (k0_pay32 U wk))))) (k0_pay101 (k0_pay82 (k0_pay48 (k0_pay16 v68 tri) (k0_pay23 v68 tri) (k0_pay24 v47) k0_pay25) (k0_pay58 (k0_pay22 v68 tri mr) (k0_pay48 (k0_pay16 v68 tri) (k0_pay23 v68 tri) (k0_pay24 v47) k0_pay25)) (k0_pay66 (k0_pay36 (k0_pay27 U wq)) (k0_pay40 (k0_pay32 U wk))))) (k0_pay102 (k0_pay27 U wq) (k0_pay74 n)))) (k0_pay112 (k0_pay104 (k0_pay58 (k0_pay22 v68 tri mr) (k0_pay48 (k0_pay16 v68 tri) (k0_pay23 v68 tri) (k0_pay24 v47) k0_pay25)) (k0_pay62 (k0_pay22 v68 tri mr) (k0_pay48 (k0_pay16 v68 tri) (k0_pay23 v68 tri) (k0_pay24 v47) k0_pay25)) (k0_pay97 (k0_pay62 (k0_pay22 v68 tri mr) (k0_pay48 (k0_pay16 v68 tri) (k0_pay23 v68 tri) (k0_pay24 v47) k0_pay25)) (k0_pay78 (k0_pay36 (k0_pay27 U wq)) (k0_pay70 c)) (k0_pay86 (k0_pay44 v) (k0_pay48 (k0_pay16 v68 tri) (k0_pay23 v68 tri) (k0_pay24 v47) k0_pay25) (k0_pay58 (k0_pay22 v68 tri mr) (k0_pay48 (k0_pay16 v68 tri) (k0_pay23 v68 tri) (k0_pay24 v47) k0_pay25)) (k0_pay66 (k0_pay36 (k0_pay27 U wq)) (k0_pay40 (k0_pay32 U wk))))) (k0_pay101 (k0_pay82 (k0_pay48 (k0_pay16 v68 tri) (k0_pay23 v68 tri) (k0_pay24 v47) k0_pay25) (k0_pay58 (k0_pay22 v68 tri mr) (k0_pay48 (k0_pay16 v68 tri) (k0_pay23 v68 tri) (k0_pay24 v47) k0_pay25)) (k0_pay66 (k0_pay36 (k0_pay27 U wq)) (k0_pay40 (k0_pay32 U wk))))) (k0_pay102 (k0_pay27 U wq) (k0_pay74 n))))) g o (ix2 t e) = sgm (o (ix2 t e)) * (norm (hout x s t) e * g (ix2 0 e)) :=
  y1_at g o (rh1 G) t e

/-- The weighted keys of head 1. -/
theorem rkw1 (G : Good 17 256 (Nat.le_of_ble_eq_true rfl) x s v47 v68 tri mr U wq wk v c n) (t : Fin 128) (d : Fin 256) :
    k0_pay89 (k0_pay21 v47 v68 tri mr) (k0_pay32 U wk) (ix2 t d) = ws x.f x.i s.m t * x.k t d :=
  kw1_at (p21 G) (rk1 G) t d

/-- The weighted products of keys and values of head 1. -/
theorem rkv1 (G : Good 17 256 (Nat.le_of_ble_eq_true rfl) x s v47 v68 tri mr U wq wk v c n) (d e : Fin 256) :
    k0_pay93 (k0_pay21 v47 v68 tri mr) (k0_pay32 U wk) (k0_pay44 v) (ix2 d e) = ∑ r, ws x.f x.i s.m r * x.k r d * x.v r e :=
  kv1_at (p21 G) (rk1 G) (rv1 G) d e

/-- The matrix after the chunk of head 1. -/
theorem rCn1 (G : Good 17 256 (Nat.le_of_ble_eq_true rfl) x s v47 v68 tri mr U wq wk v c n) (d e : Fin 256) :
    k0_pay123 (k0_pay20 v47 v68 tri mr) (k0_pay70 c) (k0_pay93 (k0_pay21 v47 v68 tri mr) (k0_pay32 U wk) (k0_pay44 v)) (ix3 0 d e) = (step x s).C d e :=
  Cn1_at (p20 G) (rC1 G) (rkv1 G) d e

/-- The normaliser after the chunk of head 1. -/
theorem rnn1 (G : Good 17 256 (Nat.le_of_ble_eq_true rfl) x s v47 v68 tri mr U wq wk v c n) (a : Fin 8) (d : Fin 256) :
    k0_pay124 (k0_pay20 v47 v68 tri mr) (k0_pay74 n) (k0_pay89 (k0_pay21 v47 v68 tri mr) (k0_pay32 U wk)) (ix3 0 a d) = (step x s).n d :=
  nn1_at (p20 G) (rn1 G) (rkw1 G) a d

/-- The queries of head 2. -/
theorem rq2 (G : Good 18 512 (Nat.le_of_ble_eq_true rfl) x s v47 v68 tri mr U wq wk v c n) (t : Fin 128) (d : Fin 256) :
    k0_pay29 (k0_pay28 U) wq (ix2 t d) = x.q t d :=
  (q2_at U wq t d).trans (G.q t d)

/-- The rounded queries of head 2. -/
theorem rqb2 (G : Good 18 512 (Nat.le_of_ble_eq_true rfl) x s v47 v68 tri mr U wq wk v c n) (t : Fin 128) (d : Fin 256) :
    k0_pay37 (k0_pay28 U) wq (ix2 t d) = x.q t d :=
  (qb2_at _ _ t d).trans (rq2 G t d)

/-- The keys of head 2. -/
theorem rk2 (G : Good 18 512 (Nat.le_of_ble_eq_true rfl) x s v47 v68 tri mr U wq wk v c n) (t : Fin 128) (d : Fin 256) :
    k0_pay33 U wk (ix2 t d) = x.k t d :=
  (k2_at U wk t d).trans (G.k t d)

/-- The rounded keys of head 2. -/
theorem rkb2 (G : Good 18 512 (Nat.le_of_ble_eq_true rfl) x s v47 v68 tri mr U wq wk v c n) (t : Fin 128) (d : Fin 256) :
    k0_pay41 (k0_pay33 U wk) (ix2 t d) = x.k t d :=
  (kb2_at _ t d).trans (rk2 G t d)

/-- The rounded values of head 2. -/
theorem rv2 (G : Good 18 512 (Nat.le_of_ble_eq_true rfl) x s v47 v68 tri mr U wq wk v c n) (t : Fin 128) (d : Fin 256) :
    k0_pay45 v (ix2 t d) = x.v t d :=
  (vb2_at _ t d).trans (G.vv t d)

/-- The masked log weights of head 2. -/
theorem rd2 (G : Good 18 512 (Nat.le_of_ble_eq_true rfl) x s v47 v68 tri mr U wq wk v c n) (t r : Fin 128) :
    k0_pay49 (k0_pay16 v68 tri) (k0_pay23 v68 tri) (k0_pay24 v47) k0_pay25 (ix2 t r) = dmat x.f x.i t r :=
  d2_at (p16 G) (p23 G) (p24 G) t r

/-- The row stabilisers of head 2. -/
theorem rm2 (G : Good 18 512 (Nat.le_of_ble_eq_true rfl) x s v47 v68 tri mr U wq wk v c n) (t : Fin 128) :
    k0_pay59 (k0_pay22 v68 tri mr) (k0_pay49 (k0_pay16 v68 tri) (k0_pay23 v68 tri) (k0_pay24 v47) k0_pay25) (ix2 t 0) = mt x.f x.i s.m t :=
  m2_at (p22 G) (rd2 G) t

/-- The carried weights of head 2. -/
theorem rw2 (G : Good 18 512 (Nat.le_of_ble_eq_true rfl) x s v47 v68 tri mr U wq wk v c n) (t : Fin 128) :
    k0_pay63 (k0_pay22 v68 tri mr) (k0_pay49 (k0_pay16 v68 tri) (k0_pay23 v68 tri) (k0_pay24 v47) k0_pay25) (ix2 t 0) = wint x.f x.i s.m t :=
  w2_at (p22 G) (rd2 G) t

/-- The scores of head 2. -/
theorem rs2 (G : Good 18 512 (Nat.le_of_ble_eq_true rfl) x s v47 v68 tri mr U wq wk v c n) (t r : Fin 128) :
    k0_pay67 (k0_pay37 (k0_pay28 U) wq) (k0_pay41 (k0_pay33 U wk)) (ix2 t r) = ∑ d, x.q t d * x.k r d :=
  s2_at (rqb2 G) (rkb2 G) t r

/-- The carried matrix of head 2. -/
theorem rC2 (G : Good 18 512 (Nat.le_of_ble_eq_true rfl) x s v47 v68 tri mr U wq wk v c n) (d e : Fin 256) :
    k0_pay71 c (ix2 d e) = s.C d e :=
  (C2_at _ d e).trans (G.C d e)

/-- The carried normaliser of head 2. -/
theorem rn2 (G : Good 18 512 (Nat.le_of_ble_eq_true rfl) x s v47 v68 tri mr U wq wk v c n) (d : Fin 256) :
    k0_pay75 n (ix2 0 d) = s.n d :=
  (n2_at _ d).trans (G.n d)

/-- The carried part of head 2. -/
theorem rqC2 (G : Good 18 512 (Nat.le_of_ble_eq_true rfl) x s v47 v68 tri mr U wq wk v c n) (t : Fin 128) (e : Fin 256) :
    k0_pay79 (k0_pay37 (k0_pay28 U) wq) (k0_pay71 c) (ix2 t e) = ∑ d, x.q t d * s.C d e :=
  qC2_at (rqb2 G) (rC2 G) t e

/-- The weighted scores of head 2. -/
theorem ra2 (G : Good 18 512 (Nat.le_of_ble_eq_true rfl) x s v47 v68 tri mr U wq wk v c n) (t r : Fin 128) :
    k0_pay83 (k0_pay49 (k0_pay16 v68 tri) (k0_pay23 v68 tri) (k0_pay24 v47) k0_pay25) (k0_pay59 (k0_pay22 v68 tri mr) (k0_pay49 (k0_pay16 v68 tri) (k0_pay23 v68 tri) (k0_pay24 v47) k0_pay25)) (k0_pay67 (k0_pay37 (k0_pay28 U) wq) (k0_pay41 (k0_pay33 U wk))) (ix2 t r) = att x s.m t r :=
  a2_at (rd2 G) (rm2 G) (rs2 G) t r

/-- The rounded weighted scores of head 2. -/
theorem rav2 (G : Good 18 512 (Nat.le_of_ble_eq_true rfl) x s v47 v68 tri mr U wq wk v c n) (t r : Fin 128) :
    k0_pay87 (k0_pay49 (k0_pay16 v68 tri) (k0_pay23 v68 tri) (k0_pay24 v47) k0_pay25) (k0_pay59 (k0_pay22 v68 tri mr) (k0_pay49 (k0_pay16 v68 tri) (k0_pay23 v68 tri) (k0_pay24 v47) k0_pay25)) (k0_pay67 (k0_pay37 (k0_pay28 U) wq) (k0_pay41 (k0_pay33 U wk))) (ix2 t r) = att x s.m t r :=
  ab2_at (rd2 G) (rm2 G) (rs2 G) t r

/-- The numerator of head 2. -/
theorem rN2 (G : Good 18 512 (Nat.le_of_ble_eq_true rfl) x s v47 v68 tri mr U wq wk v c n) (t : Fin 128) (e : Fin 256) :
    k0_pay98 (k0_pay45 v) (k0_pay63 (k0_pay22 v68 tri mr) (k0_pay49 (k0_pay16 v68 tri) (k0_pay23 v68 tri) (k0_pay24 v47) k0_pay25)) (k0_pay79 (k0_pay37 (k0_pay28 U) wq) (k0_pay71 c)) (k0_pay87 (k0_pay49 (k0_pay16 v68 tri) (k0_pay23 v68 tri) (k0_pay24 v47) k0_pay25) (k0_pay59 (k0_pay22 v68 tri mr) (k0_pay49 (k0_pay16 v68 tri) (k0_pay23 v68 tri) (k0_pay24 v47) k0_pay25)) (k0_pay67 (k0_pay37 (k0_pay28 U) wq) (k0_pay41 (k0_pay33 U wk)))) (ix2 t e) = num x s t e :=
  num2_at (rv2 G) (rw2 G) (rqC2 G) (rav2 G) t e

/-- The output before the gate of head 2. -/
theorem rh2 (G : Good 18 512 (Nat.le_of_ble_eq_true rfl) x s v47 v68 tri mr U wq wk v c n) (t : Fin 128) (e : Fin 256) :
    k0_pay105 (k0_pay29 (k0_pay28 U) wq) (k0_pay59 (k0_pay22 v68 tri mr) (k0_pay49 (k0_pay16 v68 tri) (k0_pay23 v68 tri) (k0_pay24 v47) k0_pay25)) (k0_pay63 (k0_pay22 v68 tri mr) (k0_pay49 (k0_pay16 v68 tri) (k0_pay23 v68 tri) (k0_pay24 v47) k0_pay25)) (k0_pay75 n) (k0_pay83 (k0_pay49 (k0_pay16 v68 tri) (k0_pay23 v68 tri) (k0_pay24 v47) k0_pay25) (k0_pay59 (k0_pay22 v68 tri mr) (k0_pay49 (k0_pay16 v68 tri) (k0_pay23 v68 tri) (k0_pay24 v47) k0_pay25)) (k0_pay67 (k0_pay37 (k0_pay28 U) wq) (k0_pay41 (k0_pay33 U wk)))) (k0_pay98 (k0_pay45 v) (k0_pay63 (k0_pay22 v68 tri mr) (k0_pay49 (k0_pay16 v68 tri) (k0_pay23 v68 tri) (k0_pay24 v47) k0_pay25)) (k0_pay79 (k0_pay37 (k0_pay28 U) wq) (k0_pay71 c)) (k0_pay87 (k0_pay49 (k0_pay16 v68 tri) (k0_pay23 v68 tri) (k0_pay24 v47) k0_pay25) (k0_pay59 (k0_pay22 v68 tri mr) (k0_pay49 (k0_pay16 v68 tri) (k0_pay23 v68 tri) (k0_pay24 v47) k0_pay25)) (k0_pay67 (k0_pay37 (k0_pay28 U) wq) (k0_pay41 (k0_pay33 U wk))))) (ix2 t e) = hout x s t e :=
  h2_at (rq2 G) (rm2 G) (rw2 G) (rn2 G) (ra2 G) (rN2 G) t e

/-- The gated output of head 2. -/
theorem ry2 (G : Good 18 512 (Nat.le_of_ble_eq_true rfl) x s v47 v68 tri mr U wq wk v c n) (g : Vec Ideal S1x256 .f32) (o : Vec Ideal S128x256 .f32) (t : Fin 128) (e : Fin 256) :
    k0_pay126 (k0_pay125 (k0_pay110 (k0_pay105 (k0_pay29 (k0_pay28 U) wq) (k0_pay59 (k0_pay22 v68 tri mr) (k0_pay49 (k0_pay16 v68 tri) (k0_pay23 v68 tri) (k0_pay24 v47) k0_pay25)) (k0_pay63 (k0_pay22 v68 tri mr) (k0_pay49 (k0_pay16 v68 tri) (k0_pay23 v68 tri) (k0_pay24 v47) k0_pay25)) (k0_pay75 n) (k0_pay83 (k0_pay49 (k0_pay16 v68 tri) (k0_pay23 v68 tri) (k0_pay24 v47) k0_pay25) (k0_pay59 (k0_pay22 v68 tri mr) (k0_pay49 (k0_pay16 v68 tri) (k0_pay23 v68 tri) (k0_pay24 v47) k0_pay25)) (k0_pay67 (k0_pay37 (k0_pay28 U) wq) (k0_pay41 (k0_pay33 U wk)))) (k0_pay98 (k0_pay45 v) (k0_pay63 (k0_pay22 v68 tri mr) (k0_pay49 (k0_pay16 v68 tri) (k0_pay23 v68 tri) (k0_pay24 v47) k0_pay25)) (k0_pay79 (k0_pay37 (k0_pay28 U) wq) (k0_pay71 c)) (k0_pay87 (k0_pay49 (k0_pay16 v68 tri) (k0_pay23 v68 tri) (k0_pay24 v47) k0_pay25) (k0_pay59 (k0_pay22 v68 tri mr) (k0_pay49 (k0_pay16 v68 tri) (k0_pay23 v68 tri) (k0_pay24 v47) k0_pay25)) (k0_pay67 (k0_pay37 (k0_pay28 U) wq) (k0_pay41 (k0_pay33 U wk))))))) (k0_pay113 (k0_pay105 (k0_pay29 (k0_pay28 U) wq) (k0_pay59 (k0_pay22 v68 tri mr) (k0_pay49 (k0_pay16 v68 tri) (k0_pay23 v68 tri) (k0_pay24 v47) k0_pay25)) (k0_pay63 (k0_pay22 v68 tri mr) (k0_pay49 (k0_pay16 v68 tri) (k0_pay23 v68 tri) (k0_pay24 v47) k0_pay25)) (k0_pay75 n) (k0_pay83 (k0_pay49 (k0_pay16 v68 tri) (k0_pay23 v68 tri) (k0_pay24 v47) k0_pay25) (k0_pay59 (k0_pay22 v68 tri mr) (k0_pay49 (k0_pay16 v68 tri) (k0_pay23 v68 tri) (k0_pay24 v47) k0_pay25)) (k0_pay67 (k0_pay37 (k0_pay28 U) wq) (k0_pay41 (k0_pay33 U wk)))) (k0_pay98 (k0_pay45 v) (k0_pay63 (k0_pay22 v68 tri mr) (k0_pay49 (k0_pay16 v68 tri) (k0_pay23 v68 tri) (k0_pay24 v47) k0_pay25)) (k0_pay79 (k0_pay37 (k0_pay28 U) wq) (k0_pay71 c)) (k0_pay87 (k0_pay49 (k0_pay16 v68 tri) (k0_pay23 v68 tri) (k0_pay24 v47) k0_pay25) (k0_pay59 (k0_pay22 v68 tri mr) (k0_pay49 (k0_pay16 v68 tri) (k0_pay23 v68 tri) (k0_pay24 v47) k0_pay25)) (k0_pay67 (k0_pay37 (k0_pay28 U) wq) (k0_pay41 (k0_pay33 U wk)))))))) g o (ix2 t e) = sgm (o (ix2 t e)) * (norm (hout x s t) e * g (ix2 0 e)) :=
  y2_at g o (rh2 G) t e

/-- The weighted keys of head 2. -/
theorem rkw2 (G : Good 18 512 (Nat.le_of_ble_eq_true rfl) x s v47 v68 tri mr U wq wk v c n) (t : Fin 128) (d : Fin 256) :
    k0_pay90 (k0_pay21 v47 v68 tri mr) (k0_pay33 U wk) (ix2 t d) = ws x.f x.i s.m t * x.k t d :=
  kw2_at (p21 G) (rk2 G) t d

/-- The weighted products of keys and values of head 2. -/
theorem rkv2 (G : Good 18 512 (Nat.le_of_ble_eq_true rfl) x s v47 v68 tri mr U wq wk v c n) (d e : Fin 256) :
    k0_pay94 (k0_pay21 v47 v68 tri mr) (k0_pay33 U wk) (k0_pay45 v) (ix2 d e) = ∑ r, ws x.f x.i s.m r * x.k r d * x.v r e :=
  kv2_at (p21 G) (rk2 G) (rv2 G) d e

/-- The matrix after the chunk of head 2. -/
theorem rCn2 (G : Good 18 512 (Nat.le_of_ble_eq_true rfl) x s v47 v68 tri mr U wq wk v c n) (d e : Fin 256) :
    k0_pay128 (k0_pay20 v47 v68 tri mr) (k0_pay71 c) (k0_pay94 (k0_pay21 v47 v68 tri mr) (k0_pay33 U wk) (k0_pay45 v)) (ix3 0 d e) = (step x s).C d e :=
  Cn2_at (p20 G) (rC2 G) (rkv2 G) d e

/-- The normaliser after the chunk of head 2. -/
theorem rnn2 (G : Good 18 512 (Nat.le_of_ble_eq_true rfl) x s v47 v68 tri mr U wq wk v c n) (a : Fin 8) (d : Fin 256) :
    k0_pay129 (k0_pay20 v47 v68 tri mr) (k0_pay75 n) (k0_pay90 (k0_pay21 v47 v68 tri mr) (k0_pay33 U wk)) (ix3 0 a d) = (step x s).n d :=
  nn2_at (p20 G) (rn2 G) (rkw2 G) a d

/-- The queries of head 3. -/
theorem rq3 (G : Good 19 768 (Nat.le_of_ble_eq_true rfl) x s v47 v68 tri mr U wq wk v c n) (t : Fin 128) (d : Fin 256) :
    k0_pay30 U wq (ix2 t d) = x.q t d :=
  (q3_at U wq t d).trans (G.q t d)

/-- The rounded queries of head 3. -/
theorem rqb3 (G : Good 19 768 (Nat.le_of_ble_eq_true rfl) x s v47 v68 tri mr U wq wk v c n) (t : Fin 128) (d : Fin 256) :
    k0_pay38 (k0_pay30 U wq) (ix2 t d) = x.q t d :=
  (qb3_at _ t d).trans (rq3 G t d)

/-- The keys of head 3. -/
theorem rk3 (G : Good 19 768 (Nat.le_of_ble_eq_true rfl) x s v47 v68 tri mr U wq wk v c n) (t : Fin 128) (d : Fin 256) :
    k0_pay34 U wk (ix2 t d) = x.k t d :=
  (k3_at U wk t d).trans (G.k t d)

/-- The rounded keys of head 3. -/
theorem rkb3 (G : Good 19 768 (Nat.le_of_ble_eq_true rfl) x s v47 v68 tri mr U wq wk v c n) (t : Fin 128) (d : Fin 256) :
    k0_pay42 (k0_pay34 U wk) (ix2 t d) = x.k t d :=
  (kb3_at _ t d).trans (rk3 G t d)

/-- The rounded values of head 3. -/
theorem rv3 (G : Good 19 768 (Nat.le_of_ble_eq_true rfl) x s v47 v68 tri mr U wq wk v c n) (t : Fin 128) (d : Fin 256) :
    k0_pay46 v (ix2 t d) = x.v t d :=
  (vb3_at _ t d).trans (G.vv t d)

/-- The masked log weights of head 3. -/
theorem rd3 (G : Good 19 768 (Nat.le_of_ble_eq_true rfl) x s v47 v68 tri mr U wq wk v c n) (t r : Fin 128) :
    k0_pay52 k0_pay25 (k0_pay50 (k0_pay16 v68 tri) (k0_pay23 v68 tri)) (k0_pay51 (k0_pay24 v47)) (ix2 t r) = dmat x.f x.i t r :=
  d3_at (p16 G) (p23 G) (p24 G) t r

/-- The row stabilisers of head 3. -/
theorem rm3 (G : Good 19 768 (Nat.le_of_ble_eq_true rfl) x s v47 v68 tri mr U wq wk v c n) (t : Fin 128) :
    k0_pay60 (k0_pay22 v68 tri mr) k0_pay25 (k0_pay50 (k0_pay16 v68 tri) (k0_pay23 v68 tri)) (k0_pay51 (k0_pay24 v47)) (ix2 t 0) = mt x.f x.i s.m t :=
  m3_at (p22 G) (rd3 G) t

/-- The carried weights of head 3. -/
theorem rw3 (G : Good 19 768 (Nat.le_of_ble_eq_true rfl) x s v47 v68 tri mr U wq wk v c n) (t : Fin 128) :
    k0_pay64 (k0_pay22 v68 tri mr) k0_pay25 (k0_pay50 (k0_pay16 v68 tri) (k0_pay23 v68 tri)) (k0_pay51 (k0_pay24 v47)) (ix2 t 0) = wint x.f x.i s.m t :=
  w3_at (p22 G) (rd3 G) t

/-- The scores of head 3. -/
theorem rs3 (G : Good 19 768 (Nat.le_of_ble_eq_true rfl) x s v47 v68 tri mr U wq wk v c n) (t r : Fin 128) :
    k0_pay68 (k0_pay38 (k0_pay30 U wq)) (k0_pay42 (k0_pay34 U wk)) (ix2 t r) = ∑ d, x.q t d * x.k r d :=
  s3_at (rqb3 G) (rkb3 G) t r

/-- The carried matrix of head 3. -/
theorem rC3 (G : Good 19 768 (Nat.le_of_ble_eq_true rfl) x s v47 v68 tri mr U wq wk v c n) (d e : Fin 256) :
    k0_pay72 c (ix2 d e) = s.C d e :=
  (C3_at _ d e).trans (G.C d e)

/-- The carried normaliser of head 3. -/
theorem rn3 (G : Good 19 768 (Nat.le_of_ble_eq_true rfl) x s v47 v68 tri mr U wq wk v c n) (d : Fin 256) :
    k0_pay76 n (ix2 0 d) = s.n d :=
  (n3_at _ d).trans (G.n d)

/-- The carried part of head 3. -/
theorem rqC3 (G : Good 19 768 (Nat.le_of_ble_eq_true rfl) x s v47 v68 tri mr U wq wk v c n) (t : Fin 128) (e : Fin 256) :
    k0_pay80 (k0_pay38 (k0_pay30 U wq)) c (ix2 t e) = ∑ d, x.q t d * s.C d e :=
  qC3_at (rqb3 G) G.C t e

/-- The weighted scores of head 3. -/
theorem ra3 (G : Good 19 768 (Nat.le_of_ble_eq_true rfl) x s v47 v68 tri mr U wq wk v c n) (t r : Fin 128) :
    k0_pay84 (k0_pay52 k0_pay25 (k0_pay50 (k0_pay16 v68 tri) (k0_pay23 v68 tri)) (k0_pay51 (k0_pay24 v47))) (k0_pay60 (k0_pay22 v68 tri mr) k0_pay25 (k0_pay50 (k0_pay16 v68 tri) (k0_pay23 v68 tri)) (k0_pay51 (k0_pay24 v47))) (k0_pay68 (k0_pay38 (k0_pay30 U wq)) (k0_pay42 (k0_pay34 U wk))) (ix2 t r) = att x s.m t r :=
  a3_at (rd3 G) (rm3 G) (rs3 G) t r

/-- The numerator of head 3. -/
theorem rN3 (G : Good 19 768 (Nat.le_of_ble_eq_true rfl) x s v47 v68 tri mr U wq wk v c n) (t : Fin 128) (e : Fin 256) :
    k0_pay99 (k0_pay46 v) (k0_pay64 (k0_pay22 v68 tri mr) k0_pay25 (k0_pay50 (k0_pay16 v68 tri) (k0_pay23 v68 tri)) (k0_pay51 (k0_pay24 v47))) (k0_pay80 (k0_pay38 (k0_pay30 U wq)) c) (k0_pay84 (k0_pay52 k0_pay25 (k0_pay50 (k0_pay16 v68 tri) (k0_pay23 v68 tri)) (k0_pay51 (k0_pay24 v47))) (k0_pay60 (k0_pay22 v68 tri mr) k0_pay25 (k0_pay50 (k0_pay16 v68 tri) (k0_pay23 v68 tri)) (k0_pay51 (k0_pay24 v47))) (k0_pay68 (k0_pay38 (k0_pay30 U wq)) (k0_pay42 (k0_pay34 U wk)))) (ix2 t e) = num x s t e :=
  num3_at (rv3 G) (rw3 G) (rqC3 G) (ra3 G) t e

/-- The output before the gate of head 3. -/
theorem rh3 (G : Good 19 768 (Nat.le_of_ble_eq_true rfl) x s v47 v68 tri mr U wq wk v c n) (t : Fin 128) (e : Fin 256) :
    k0_pay106 (k0_pay30 U wq) (k0_pay60 (k0_pay22 v68 tri mr) k0_pay25 (k0_pay50 (k0_pay16 v68 tri) (k0_pay23 v68 tri)) (k0_pay51 (k0_pay24 v47))) (k0_pay64 (k0_pay22 v68 tri mr) k0_pay25 (k0_pay50 (k0_pay16 v68 tri) (k0_pay23 v68 tri)) (k0_pay51 (k0_pay24 v47))) (k0_pay76 n) (k0_pay84 (k0_pay52 k0_pay25 (k0_pay50 (k0_pay16 v68 tri) (k0_pay23 v68 tri)) (k0_pay51 (k0_pay24 v47))) (k0_pay60 (k0_pay22 v68 tri mr) k0_pay25 (k0_pay50 (k0_pay16 v68 tri) (k0_pay23 v68 tri)) (k0_pay51 (k0_pay24 v47))) (k0_pay68 (k0_pay38 (k0_pay30 U wq)) (k0_pay42 (k0_pay34 U wk)))) (k0_pay99 (k0_pay46 v) (k0_pay64 (k0_pay22 v68 tri mr) k0_pay25 (k0_pay50 (k0_pay16 v68 tri) (k0_pay23 v68 tri)) (k0_pay51 (k0_pay24 v47))) (k0_pay80 (k0_pay38 (k0_pay30 U wq)) c) (k0_pay84 (k0_pay52 k0_pay25 (k0_pay50 (k0_pay16 v68 tri) (k0_pay23 v68 tri)) (k0_pay51 (k0_pay24 v47))) (k0_pay60 (k0_pay22 v68 tri mr) k0_pay25 (k0_pay50 (k0_pay16 v68 tri) (k0_pay23 v68 tri)) (k0_pay51 (k0_pay24 v47))) (k0_pay68 (k0_pay38 (k0_pay30 U wq)) (k0_pay42 (k0_pay34 U wk))))) (ix2 t e) = hout x s t e :=
  h3_at (rq3 G) (rm3 G) (rw3 G) (rn3 G) (ra3 G) (rN3 G) t e

/-- The gated output of head 3. -/
theorem ry3 (G : Good 19 768 (Nat.le_of_ble_eq_true rfl) x s v47 v68 tri mr U wq wk v c n) (g : Vec Ideal S1x256 .f32) (o : Vec Ideal S128x256 .f32) (t : Fin 128) (e : Fin 256) :
    k0_pay131 (k0_pay130 (k0_pay111 (k0_pay106 (k0_pay30 U wq) (k0_pay60 (k0_pay22 v68 tri mr) k0_pay25 (k0_pay50 (k0_pay16 v68 tri) (k0_pay23 v68 tri)) (k0_pay51 (k0_pay24 v47))) (k0_pay64 (k0_pay22 v68 tri mr) k0_pay25 (k0_pay50 (k0_pay16 v68 tri) (k0_pay23 v68 tri)) (k0_pay51 (k0_pay24 v47))) (k0_pay76 n) (k0_pay84 (k0_pay52 k0_pay25 (k0_pay50 (k0_pay16 v68 tri) (k0_pay23 v68 tri)) (k0_pay51 (k0_pay24 v47))) (k0_pay60 (k0_pay22 v68 tri mr) k0_pay25 (k0_pay50 (k0_pay16 v68 tri) (k0_pay23 v68 tri)) (k0_pay51 (k0_pay24 v47))) (k0_pay68 (k0_pay38 (k0_pay30 U wq)) (k0_pay42 (k0_pay34 U wk)))) (k0_pay99 (k0_pay46 v) (k0_pay64 (k0_pay22 v68 tri mr) k0_pay25 (k0_pay50 (k0_pay16 v68 tri) (k0_pay23 v68 tri)) (k0_pay51 (k0_pay24 v47))) (k0_pay80 (k0_pay38 (k0_pay30 U wq)) c) (k0_pay84 (k0_pay52 k0_pay25 (k0_pay50 (k0_pay16 v68 tri) (k0_pay23 v68 tri)) (k0_pay51 (k0_pay24 v47))) (k0_pay60 (k0_pay22 v68 tri mr) k0_pay25 (k0_pay50 (k0_pay16 v68 tri) (k0_pay23 v68 tri)) (k0_pay51 (k0_pay24 v47))) (k0_pay68 (k0_pay38 (k0_pay30 U wq)) (k0_pay42 (k0_pay34 U wk))))))) (k0_pay114 (k0_pay106 (k0_pay30 U wq) (k0_pay60 (k0_pay22 v68 tri mr) k0_pay25 (k0_pay50 (k0_pay16 v68 tri) (k0_pay23 v68 tri)) (k0_pay51 (k0_pay24 v47))) (k0_pay64 (k0_pay22 v68 tri mr) k0_pay25 (k0_pay50 (k0_pay16 v68 tri) (k0_pay23 v68 tri)) (k0_pay51 (k0_pay24 v47))) (k0_pay76 n) (k0_pay84 (k0_pay52 k0_pay25 (k0_pay50 (k0_pay16 v68 tri) (k0_pay23 v68 tri)) (k0_pay51 (k0_pay24 v47))) (k0_pay60 (k0_pay22 v68 tri mr) k0_pay25 (k0_pay50 (k0_pay16 v68 tri) (k0_pay23 v68 tri)) (k0_pay51 (k0_pay24 v47))) (k0_pay68 (k0_pay38 (k0_pay30 U wq)) (k0_pay42 (k0_pay34 U wk)))) (k0_pay99 (k0_pay46 v) (k0_pay64 (k0_pay22 v68 tri mr) k0_pay25 (k0_pay50 (k0_pay16 v68 tri) (k0_pay23 v68 tri)) (k0_pay51 (k0_pay24 v47))) (k0_pay80 (k0_pay38 (k0_pay30 U wq)) c) (k0_pay84 (k0_pay52 k0_pay25 (k0_pay50 (k0_pay16 v68 tri) (k0_pay23 v68 tri)) (k0_pay51 (k0_pay24 v47))) (k0_pay60 (k0_pay22 v68 tri mr) k0_pay25 (k0_pay50 (k0_pay16 v68 tri) (k0_pay23 v68 tri)) (k0_pay51 (k0_pay24 v47))) (k0_pay68 (k0_pay38 (k0_pay30 U wq)) (k0_pay42 (k0_pay34 U wk))))))) g) o (ix2 t e) = sgm (o (ix2 t e)) * (norm (hout x s t) e * g (ix2 0 e)) :=
  y3_at g o (rh3 G) t e

/-- The weighted keys of head 3. -/
theorem rkw3 (G : Good 19 768 (Nat.le_of_ble_eq_true rfl) x s v47 v68 tri mr U wq wk v c n) (t : Fin 128) (d : Fin 256) :
    k0_pay91 (k0_pay21 v47 v68 tri mr) (k0_pay34 U wk) (ix2 t d) = ws x.f x.i s.m t * x.k t d :=
  kw3_at (p21 G) (rk3 G) t d

/-- The weighted products of keys and values of head 3. -/
theorem rkv3 (G : Good 19 768 (Nat.le_of_ble_eq_true rfl) x s v47 v68 tri mr U wq wk v c n) (d e : Fin 256) :
    k0_pay95 (k0_pay21 v47 v68 tri mr) (k0_pay34 U wk) (k0_pay46 v) (ix2 d e) = ∑ r, ws x.f x.i s.m r * x.k r d * x.v r e :=
  kv3_at (p21 G) (rk3 G) (rv3 G) d e

/-- The matrix after the chunk of head 3. -/
theorem rCn3 (G : Good 19 768 (Nat.le_of_ble_eq_true rfl) x s v47 v68 tri mr U wq wk v c n) (d e : Fin 256) :
    k0_pay133 (k0_pay20 v47 v68 tri mr) (k0_pay72 c) (k0_pay95 (k0_pay21 v47 v68 tri mr) (k0_pay34 U wk) (k0_pay46 v)) (ix3 0 d e) = (step x s).C d e :=
  Cn3_at (p20 G) (rC3 G) (rkv3 G) d e

/-- The normaliser after the chunk of head 3. -/
theorem rnn3 (G : Good 19 768 (Nat.le_of_ble_eq_true rfl) x s v47 v68 tri mr U wq wk v c n) (a : Fin 8) (d : Fin 256) :
    k0_pay134 (k0_pay20 v47 v68 tri mr) (k0_pay76 n) (k0_pay91 (k0_pay21 v47 v68 tri mr) (k0_pay34 U wk)) (ix3 0 a d) = (step x s).n d :=
  nn3_at (p20 G) (rn3 G) (rkw3 G) a d

end Cert.KernelIdeal.One
-- ==== Proof.KerGood.lean ====
module

public import proofs.«01_k».proof.Proof.Gen.KernelIdeal.Skeleton
public import proofs.«01_k».proof.Proof.KerOne
public import proofs.«01_k».proof.Proof.Args
public import Idealize.ShloMosaic.Lib.Pointwise

@[expose] public section
set_option maxRecDepth 16384
noncomputable section
open Idealize.ShloMosaic Idealize.ShloMosaic.TcCoe Idealize.SL.Sem
open Cert.MemSpec Cert.KernelIdeal Cert.KernelIdeal.Gen

set_option maxHeartbeats 1000000

namespace Cert.KernelIdeal.Good

open Cert.KernelIdeal.Lane Cert.KernelIdeal.One

/-- The filtered input of a block, from its four shifted loads. -/
theorem up_at (cb w0 w1 w2 w3 : Vec Ideal S1x1024 .f32) (L5 L6 L7 L8 : Vec Ideal S128x1024 .f32) (s : Fin 128) (e : Fin 1024)
    (w x : Fin 4 → EReal) (b : EReal) (hb : cb (ix2 0 e) = b) (e0 : w0 (ix2 0 e) = w 0) (e1 : w1 (ix2 0 e) = w 1)
    (e2 : w2 (ix2 0 e) = w 2) (e3 : w3 (ix2 0 e) = w 3) (x0 : L5 (ix2 s e) = x 0) (x1 : L6 (ix2 s e) = x 1) (x2 : L7 (ix2 s e) = x 2)
    (x3 : L8 (ix2 s e) = x 3) :
    k0_pay13 (k0_pay10 cb w0 L5 w1 L6 w2 L7) L8 (k0_pay11 w3) (ix2 s e) = silu (conv w b x) := by
  pointwise [k0_pay13, k0_pay10, k0_pay11]
  simp only [hb, e0, e1, e2, e3, x0, x1, x2, x3, zero_sub]
  rfl

/-- What a head's loads hold at chunk `k` of batch `b`: the chunk of the arguments. -/
theorem good (A : Args) (b : Fin 8) (k : Fin 16) (h : Fin 4) (st : Carry) (l : Fin 128) (o : ℕ) (ho : o ≤ 768)
    (hl : l.val = 16 + h.val) (hoh : o = h.val * 256)
    (gi gf : Vec Ideal S128x128 .f32) (bi bf : Vec Ideal S1x128 .f32) (tri : FVec Ideal S128x128 .bf16) (mr : Vec Ideal S1x128 .f32)
    (cb w0 w1 w2 w3 : Vec Ideal S1x1024 .f32) (L5 L6 L7 L8 : Vec Ideal S128x1024 .f32) (wq wk : Vec Ideal S1x256x256 .bf16)
    (v : Vec Ideal S128x256 .f32) (c : Vec Ideal S1x256x256 .f32) (n : Vec Ideal S1x8x256 .f32)
    (hgi : ∀ (s : Fin 128) (h : Fin 4), gi (ix2 s ⟨16 + h.val, by omega⟩) = A.g (row b (time k s)) ⟨16 + h.val, by omega⟩)
    (hgf : ∀ (s : Fin 128) (h : Fin 4), gf (ix2 s ⟨16 + h.val, by omega⟩) = A.g (row b (time k s)) ⟨144 + h.val, by omega⟩)
    (hbi : ∀ h : Fin 4, bi (ix2 0 ⟨16 + h.val, by omega⟩) = A.bi h) (hbf : ∀ h : Fin 4, bf (ix2 0 ⟨16 + h.val, by omega⟩) = A.bf h)
    (htri : ∀ t s : Fin 128, tri (ix2 t s) = if s ≤ t then 1 else 0) (hmr : mr (ix2 0 l) = st.m)
    (hcb : ∀ e, cb (ix2 0 e) = A.b e) (e0 : ∀ e, w0 (ix2 0 e) = A.w 0 e) (e1 : ∀ e, w1 (ix2 0 e) = A.w 1 e)
    (e2 : ∀ e, w2 (ix2 0 e) = A.w 2 e) (e3 : ∀ e, w3 (ix2 0 e) = A.w 3 e)
    (x0 : ∀ s e, L5 (ix2 s e) = past A.u b (time k s) e 0) (x1 : ∀ s e, L6 (ix2 s e) = past A.u b (time k s) e 1)
    (x2 : ∀ s e, L7 (ix2 s e) = past A.u b (time k s) e 2) (x3 : ∀ s e, L8 (ix2 s e) = past A.u b (time k s) e 3)
    (hwq : ∀ d e, wq (ix3 0 d e) = A.wq h d e) (hwk : ∀ d e, wk (ix3 0 d e) = A.wk h d e)
    (hv : ∀ s e, v (ix2 s e) = A.v (row b (time k s)) (col h e))
    (hc : ∀ d e, c (ix3 0 d e) = st.C d e) (hn : ∀ d, n (ix3 0 0 d) = st.n d) :
    Good l o ho (chunkOf A b h k) st (k0_pay14 gi bi) (k0_pay15 gf bf) tri mr
      (k0_pay13 (k0_pay10 cb w0 L5 w1 L6 w2 L7) L8 (k0_pay11 w3)) wq wk v c n := by
  subst hoh
  obtain ⟨l, hlt⟩ := l
  obtain rfl : l = 16 + h.val := hl
  have hU : ∀ t (d : Fin 256) (p : h.val * 256 + d.val < 1024),
      k0_pay13 (k0_pay10 cb w0 L5 w1 L6 w2 L7) L8 (k0_pay11 w3) (ix2 t ⟨h.val * 256 + d.val, p⟩) = filt A b (time k t) (col h d) :=
    fun t d p => up_at cb w0 w1 w2 w3 L5 L6 L7 L8 t (col h d) (fun j => A.w j (col h d)) (past A.u b (time k t) (col h d)) _ (hcb _) (e0 _) (e1 _)
      (e2 _) (e3 _) (x0 _ _) (x1 _ _) (x2 _ _) (x3 _ _)
  refine ⟨fun s e => ?_, htri, fun t => ?_, fun t => ?_, hmr, fun t e => ?_, fun t e => ?_, hv, hc, hn⟩
  · rw [pay15_at]; exact logsig_ne_top _
  · rw [pay14_at, hgi, hbi]; rfl
  · rw [pay15_at, hgf, hbf]; rfl
  · simp only [hU, hwq]; rfl
  · simp only [hU, hwk]; rfl

end Cert.KernelIdeal.Good
-- ==== Proof.KerRead.lean ====
module

public import Idealize.ShloMosaic.Lib.WritesUnit
public import Idealize.ShloMosaic.Lib.Pipeline.ValueKit

@[expose] public section
noncomputable section
open Idealize.ShloMosaic Idealize.SL.Sem

namespace Cert.KernelIdeal.Read

variable {S : Shape} {e : EltTy} {Val : EltTy → Type} [∀ e, Nonempty (Val e)]

/-- An index inside the last store's box reads that store's value. -/
theorem hit {off size : Fin S.rank → ℕ} (inb : ∀ a, off a + size a ≤ S.size a) (w : (Rect.unit off size inb).shape.Idx → Val e)
    (L : List (View.Piece Val S e)) (y : S.Idx) (x : (Rect.unit off size inb).shape.Idx) (hx : ∀ a, (y a).val = off a + (x a).val) :
    View.canon ((⟨Rect.unit off size inb, w⟩ : View.Piece Val S e) :: L) y = w x := by
  have hy : (Rect.unit off size inb).emb x = y := funext fun a => Fin.ext (by
    show off a + 1 * (x a).val = (y a).val
    rw [hx a, Nat.one_mul])
  rw [← hy]
  exact View.canon_cons_emb _ _ _ _

/-- An index outside the last store's box reads what the earlier stores left. -/
theorem miss {off size : Fin S.rank → ℕ} (inb : ∀ a, off a + size a ≤ S.size a) (w : (Rect.unit off size inb).shape.Idx → Val e)
    (L : List (View.Piece Val S e)) (y : S.Idx) (a : Fin S.rank) (ha : (y a).val < off a ∨ off a + size a ≤ (y a).val) :
    View.canon ((⟨Rect.unit off size inb, w⟩ : View.Piece Val S e) :: L) y = View.canon L y := by
  refine View.canon_cons_of_not_mem _ _ fun hm => ?_
  have := (Rect.mem_set_unit (inb := inb)).mp hm a
  omega

/-- A load after stores reads, at each index, what the stores left at that index of the buffer. -/
theorem load {sig : RefSig} {κ : Kind} {sp : Space} (v : View sig κ sp S e) (L : List (View.Piece Val S e)) {off size : Fin S.rank → ℕ}
    (inb : ∀ a, off a + size a ≤ S.size a) (j : (Rect.unit off size inb).shape.Idx) (y : S.Idx) (hy : ∀ a, (y a).val = off a + (j a).val) :
    v.readCov L (Rect.unit off size inb).toLoadRect j = View.canon L y := by
  rw [View.readCov_eq_canon']
  refine congrArg (View.canon L) (funext fun a => Fin.ext ?_)
  show off a + 1 * (j a).val = (y a).val
  rw [hy a, Nat.one_mul]

end Cert.KernelIdeal.Read
-- ==== Proof.KerInv.lean ====
module

public import proofs.«01_k».proof.Proof.Gen.KernelIdeal.Value
public import proofs.«01_k».proof.Proof.KerBlk
public import proofs.«01_k».proof.Proof.KerOne
public import proofs.«01_k».proof.Proof.KerGood
public import proofs.«01_k».proof.Proof.KerRead
public import Idealize.ShloMosaic.Lib.Pointwise
public import Idealize.ShloMosaic.Lib.Pipeline.ValueKit

@[expose] public section
set_option maxRecDepth 16384
noncomputable section
open Idealize.ShloMosaic Idealize.ShloMosaic.TcCoe Idealize.SL.Sem
open Cert.KernelIdeal Cert.KernelIdeal.Gen Cert.KernelIdeal.Value
open Cert.MemSpec

set_option maxHeartbeats 1000000

namespace Cert.KernelIdeal.Inv

open Cert.KernelIdeal.Blk

variable (m : (ℓ : Loc nD τ sig) → Buf (Elt Ideal) ℓ) (c : Dev nD)

/-- The arguments that the recurrence reads, in the kernel's memory. -/
def args : Args :=
  argsOf (m ((c : Thread nD τ).loc main_arg0)) (m ((c : Thread nD τ).loc main_arg1)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))

/-- The batch of a grid point. -/
def bat (t : Fin cfg0.N) : Fin 8 := ⟨t.val / 16, by have := lt t; omega⟩

/-- The chunk of a grid point. -/
def chk (t : Fin cfg0.N) : Fin 16 := Fin.ofNat 16 (t.val % 16)

theorem chk_val (t : Fin cfg0.N) : (chk t).val = t.val % 16 := by
  show t.val % 16 % 16 = t.val % 16
  omega

/-- A row of a block is a step of the point's chunk. -/
theorem at_row (t : Fin cfg0.N) (s : Fin 128) : at_ t s = row (bat t) (time (chk t) s) := by
  refine Fin.ext ?_
  show t.val * 128 + s.val = t.val / 16 * 2048 + ((chk t).val * 128 + s.val)
  rw [chk_val]
  omega

theorem f0 (t : Fin cfg0.N) (s : Fin 128) (e : Fin 1024) : iblk m c 0 t (ix2 s e) = (args m c).u (row (bat t) (time (chk t) s)) e := by
  rw [blk0, at_row]; rfl

theorem f1 (t : Fin cfg0.N) (s : Fin 128) (e : Fin 1024) : iblk m c 1 t (ix2 s e) = (args m c).v (row (bat t) (time (chk t) s)) e := by
  rw [blk1, at_row]; rfl

theorem f3 (t : Fin cfg0.N) (s : Fin 128) (e : Fin 256) : iblk m c 3 t (ix2 s e) = (args m c).g (row (bat t) (time (chk t) s)) e := by
  rw [blk3, at_row]; rfl

theorem f4 (t : Fin cfg0.N) (j : Fin 4) (e : Fin 1024) : iblk m c 4 t (ix2 j e) = (args m c).w j e := by
  rw [blk4, v7]; rfl

theorem f5 (t : Fin cfg0.N) (e : Fin 1024) : iblk m c 5 t (ix2 0 e) = (args m c).b e := by
  rw [blk5, v9]; rfl

theorem f6 (t : Fin cfg0.N) (h : Fin 4) (d e : Fin 256) : iblk m c 6 t (ix3 h d e) = (args m c).wq h d e := by
  rw [blk6, v11]; rfl

theorem f7 (t : Fin cfg0.N) (h : Fin 4) (d e : Fin 256) : iblk m c 7 t (ix3 h d e) = (args m c).wk h d e := by
  rw [blk7, v13]; rfl

theorem f8 (t : Fin cfg0.N) (h : Fin 4) : iblk m c 8 t (ix2 0 ⟨16 + h.val, by omega⟩) = (args m c).bi h := by
  rw [blk8, v16]; rfl

theorem f9 (t : Fin cfg0.N) (h : Fin 4) : iblk m c 9 t (ix2 0 ⟨16 + h.val, by omega⟩) = (args m c).bf h := by
  rw [blk9, v19]; rfl

theorem f10 (t : Fin cfg0.N) (h : Fin 4) (e : Fin 256) :
    iblk m c 10 t (ix2 0 (col h e)) = m ((c : Thread nD τ).loc main_arg10) (ix3 0 h e) := by
  rw [blk10, v21]

theorem f11 (t : Fin cfg0.N) (r s : Fin 128) : iblk m c 11 t (ix2 r s) = (if s ≤ r then 1 else 0 : EReal) := by
  rw [blk11, v6]

/-- A window of past inputs inside the batch. -/
theorem past_in (u : Fin 16384 → Fin 1024 → EReal) (b : Fin 8) (τ : Fin 2048) (e : Fin 1024) (j : Fin 4) (r : Fin 16384)
    (hr : r.val + 3 = b.val * 2048 + (τ.val + j.val)) (hj : 3 ≤ τ.val + j.val) : past u b τ e j = u r e := by
  unfold past
  rw [dif_neg (by omega)]
  exact congrArg (fun r => u r e) (Fin.ext (by show b.val * 2048 + (τ.val + j.val - 3) = r.val; omega))

/-- A window of past inputs before the batch begins. -/
theorem past_out (u : Fin 16384 → Fin 1024 → EReal) (b : Fin 8) (τ : Fin 2048) (e : Fin 1024) (j : Fin 4) (hj : τ.val + j.val < 3) :
    past u b τ e j = 0 := by
  unfold past
  rw [dif_pos hj]

/-- An index of a matrix by its coordinates. -/
theorem eq_ix2 {a b : ℕ} (x : (⟨2, ![a, b]⟩ : Shape).Idx) (i : Fin a) (j : Fin b) (h0 : (x 0).val = i.val) (h1 : (x 1).val = j.val) :
    x = ix2 i j := by
  funext k
  match k with
  | 0 => exact Fin.ext h0
  | 1 => exact Fin.ext h1

/-- An index of a three-axis array by its coordinates. -/
theorem eq_ix3 {a b c : ℕ} (x : (⟨3, ![a, b, c]⟩ : Shape).Idx) (i : Fin a) (j : Fin b) (k : Fin c) (h0 : (x 0).val = i.val)
    (h1 : (x 1).val = j.val) (h2 : (x 2).val = k.val) : x = ix3 i j k := by
  funext l
  match l with
  | 0 => exact Fin.ext h0
  | 1 => exact Fin.ext h1
  | 2 => exact Fin.ext h2

/-- What the scratch buffers hold of batch `b` when `k` chunks of it are done. -/
structure Holds (A : Args) (b : Fin 8) (k : ℕ) (U : Vec Ideal S136x1024 .f32) (C : Vec Ideal S4x256x256 .f32) (n : Vec Ideal S4x8x256 .f32)
    (s : Vec Ideal S8x128 .f32) : Prop where
  C : ∀ (h : Fin 4) (d e : Fin 256), C (ix3 h d e) = (carry (chunksOf A b h) k).C d e
  n : ∀ (h : Fin 4) (a : Fin 8) (d : Fin 256), n (ix3 h a d) = (carry (chunksOf A b h) k).n d
  m : ∀ h : Fin 4, s (ix2 0 ⟨16 + h.val, by omega⟩) = (carry (chunksOf A b h) k).m
  u : ∀ (i : Fin 136) (e : Fin 1024) (r : Fin 16384), i.val < 8 → r.val + 8 = b.val * 2048 + k * 128 + i.val → U (ix2 i e) = A.u r e

theorem f2 (t : Fin cfg0.N) (s : Fin 128) (e : Fin 1024) :
    iblk m c 2 t (ix2 s e) = m ((c : Thread nD τ).loc main_arg2) (ix2 (row (bat t) (time (chk t) s)) e) := by
  rw [blk2, at_row]

/-- One of four heads. -/
theorem four (h : Fin 4) : h = 0 ∨ h = 1 ∨ h = 2 ∨ h = 3 := by
  omega

/-- A load of a box reads the buffer at the box's corner plus the index. -/
theorem ldAt {S : Shape} {e : EltTy} (X : S.Idx → Elt Ideal e) {off size : Fin S.rank → ℕ} (inb : ∀ a, off a + size a ≤ S.size a)
    (x : (Rect.unit off size inb).shape.Idx) (y : S.Idx) (hy : ∀ a, (y a).val = off a + (x a).val) :
    View.ld X (Rect.unit off size inb) x = X y := by
  refine congrArg X (funext fun a => Fin.ext ?_)
  show off a + 1 * (x a).val = (y a).val
  rw [hy a, Nat.one_mul]

theorem ax2 {a b a' b' : ℕ} (y : (⟨2, ![a, b]⟩ : Shape).Idx) (off : Fin 2 → ℕ) (x : (⟨2, ![a', b']⟩ : Shape).Idx)
    (h0 : (y 0).val = off 0 + (x 0).val) (h1 : (y 1).val = off 1 + (x 1).val) : ∀ k : Fin 2, (y k).val = off k + (x k).val := by
  intro k
  match k with
  | 0 => exact h0
  | 1 => exact h1

theorem ax3 {a b c a' b' c' : ℕ} (y : (⟨3, ![a, b, c]⟩ : Shape).Idx) (off : Fin 3 → ℕ) (x : (⟨3, ![a', b', c']⟩ : Shape).Idx)
    (h0 : (y 0).val = off 0 + (x 0).val) (h1 : (y 1).val = off 1 + (x 1).val) (h2 : (y 2).val = off 2 + (x 2).val) :
    ∀ k : Fin 3, (y k).val = off k + (x k).val := by
  intro k
  match k with
  | 0 => exact h0
  | 1 => exact h1
  | 2 => exact h2

theorem pay2_at (X : Vec Ideal S4x256x256 .f32) (h : Fin 4) (d e : Fin 256) : k0_pay2 X (ix4 0 h d e) = X (ix3 h d e) := by
  pointwise [k0_pay2]

theorem pay3_at (X : Vec Ideal S4x8x256 .f32) (h : Fin 4) (a : Fin 8) (d : Fin 256) : k0_pay3 X (ix4 0 h a d) = X (ix3 h a d) := by
  pointwise [k0_pay3]

theorem pay4_at (X : Vec Ideal S8x128 .f32) (a : Fin 8) (l : Fin 128) : k0_pay4 X (ix3 0 a l) = X (ix2 a l) := by
  pointwise [k0_pay4]

theorem pay5_at (i : Fin 8) (e : Fin 1024) : k0_pay5 (F := Ideal) (ix2 i e) = (0 : EReal) := by
  pointwise [k0_pay5]

theorem pay6_at (h : Fin 4) (d e : Fin 256) : k0_pay6 (F := Ideal) (ix3 h d e) = (0 : EReal) := by
  pointwise [k0_pay6]

theorem pay7_at (h : Fin 4) (a : Fin 8) (d : Fin 256) : k0_pay7 (F := Ideal) (ix3 h a d) = (0 : EReal) := by
  pointwise [k0_pay7]

theorem pay8_at (a : Fin 8) (l : Fin 128) : k0_pay8 (F := Ideal) (ix2 a l) = (0 : EReal) := by
  pointwise [k0_pay8]

theorem pay9_at (X : Vec Ideal S128x1024 .f32) (s : Fin 128) (e : Fin 1024) : k0_pay9 X (ix2 s e) = X (ix2 s e) := by
  pointwise [k0_pay9]

theorem pay12_at (X : Vec Ideal S8x1024 .f32) (i : Fin 8) (e : Fin 1024) : k0_pay12 X (ix2 i e) = X (ix2 i e) := by
  pointwise [k0_pay12]

/-- Each of the eight rows written back is the row of stabilisers. -/
theorem pay135_at (X : FVec Ideal S1x128 .f32) (a : Fin 8) (l : Fin 128) : k0_pay1 (k0_pay135 X) (ix2 a l) = X (ix2 0 l) := by
  pointwise [k0_pay1, k0_pay135]

end Cert.KernelIdeal.Inv
-- ==== Proof.KerStepA.lean ====
module

public import proofs.«01_k».proof.Proof.Gen.KernelIdeal.Value
public import proofs.«01_k».proof.Proof.KerBlk
public import proofs.«01_k».proof.Proof.KerOne
public import proofs.«01_k».proof.Proof.KerGood
public import proofs.«01_k».proof.Proof.KerRead
public import proofs.«01_k».proof.Proof.KerInv
public import Idealize.ShloMosaic.Lib.Pointwise
public import Idealize.ShloMosaic.Lib.Pipeline.ValueKit
public import Idealize.ShloMosaic.Lib.Pipeline.ReadBack

@[expose] public section
set_option maxRecDepth 16384
noncomputable section
open Idealize.ShloMosaic Idealize.ShloMosaic.TcCoe Idealize.SL.Sem
open Cert.KernelIdeal Cert.KernelIdeal.Gen Cert.KernelIdeal.Value
open Cert.MemSpec

set_option maxHeartbeats 4000000

namespace Cert.KernelIdeal.StepA

open Cert.KernelIdeal.Blk Cert.KernelIdeal.Inv Cert.KernelIdeal.Read

variable (m : (ℓ : Loc nD τ sig) → Buf (Elt Ideal) ℓ) (c : Dev nD)

/-- The first chunk of a batch starts from the zero state: what it leaves, and its output. -/
theorem step (t : Fin cfg0.N) (acc) (h0 : t.val % 16 = 0) (h1 : ¬ t.val % 16 = 15) :
    (∀ (h : Fin 4) (d e : Fin 256), (stAt0 m c t.val t.isLt acc).2.2.2.2.2.1 (ix3 h d e) = (carry (chunksOf (args m c) (bat t) h) (t.val % 16 + 1)).C d e)
    ∧ (∀ (h : Fin 4) (a : Fin 8) (d : Fin 256), (stAt0 m c t.val t.isLt acc).2.2.2.2.2.2.1 (ix3 h a d) = (carry (chunksOf (args m c) (bat t) h) (t.val % 16 + 1)).n d)
    ∧ (∀ h : Fin 4, (stAt0 m c t.val t.isLt acc).2.2.2.2.2.2.2 (ix2 0 ⟨16 + h.val, by omega⟩) = (carry (chunksOf (args m c) (bat t) h) (t.val % 16 + 1)).m)
    ∧ (∀ (i : Fin 136) (e : Fin 1024) (r : Fin 16384), i.val < 8 → r.val + 8 = (bat t).val * 2048 + (t.val % 16 + 1) * 128 + i.val →
        (stAt0 m c t.val t.isLt acc).2.2.2.2.1 (ix2 i e) = (args m c).u r e)
    ∧ (∀ (s : Fin 128) (h : Fin 4) (e : Fin 256), (stAt0 m c t.val t.isLt acc).1 (ix2 s (col h e))
        = result (args m c) (fun h e => m ((c : Thread nD τ).loc main_arg10) (ix3 0 h e)) (fun r e => m ((c : Thread nD τ).loc main_arg2) (ix2 r e)) (bat t) (chk t) s h e) := by
  rw [stAt0_A m c t acc h0 h1]; dsimp only; frame_out
  generalize e5 : View.readCov (Val := Elt Ideal) (View.whole cc0_scratch0) _ (Rect.unit (s := S136x1024) ![5, 0] ![128, 1024] _).toLoadRect = L5
  generalize e6 : View.readCov (Val := Elt Ideal) (View.whole cc0_scratch0) _ (Rect.unit (s := S136x1024) ![6, 0] ![128, 1024] _).toLoadRect = L6
  generalize e7 : View.readCov (Val := Elt Ideal) (View.whole cc0_scratch0) _ (Rect.unit (s := S136x1024) ![7, 0] ![128, 1024] _).toLoadRect = L7
  generalize e8 : View.readCov (Val := Elt Ideal) (View.whole cc0_scratch0) _ (Rect.unit (s := S136x1024) ![8, 0] ![128, 1024] _).toLoadRect = L8
  generalize ew0 : View.ld (iblk m c 4 t) (Rect.unit (s := S4x1024) ![0, 0] ![1, 1024] _) = w0
  generalize ew1 : View.ld (iblk m c 4 t) (Rect.unit (s := S4x1024) ![1, 0] ![1, 1024] _) = w1
  generalize ew2 : View.ld (iblk m c 4 t) (Rect.unit (s := S4x1024) ![2, 0] ![1, 1024] _) = w2
  generalize ew3 : View.ld (iblk m c 4 t) (Rect.unit (s := S4x1024) ![3, 0] ![1, 1024] _) = w3
  generalize egi : View.ld (iblk m c 3 t) (Rect.unit (s := S128x256) ![0, 0] ![128, 128] _) = gi
  generalize egf : View.ld (iblk m c 3 t) (Rect.unit (s := S128x256) ![0, 128] ![128, 128] _) = gf
  generalize emr : View.readCov (Val := Elt Ideal) (View.whole cc0_scratch3) [_] (Rect.unit (s := S8x128) ![0, 0] ![1, 128] _).toLoadRect = mr
  generalize ec0 : View.readCov (Val := Elt Ideal) (View.whole cc0_scratch1) [_] (Rect.unit (s := S4x256x256) ![0, 0, 0] ![1, 256, 256] _).toLoadRect = c0
  generalize en0 : View.readCov (Val := Elt Ideal) (View.whole cc0_scratch2) [_] (Rect.unit (s := S4x8x256) ![0, 0, 0] ![1, 8, 256] _).toLoadRect = n0
  generalize eq0 : View.ld (iblk m c 6 t) (Rect.unit (s := S4x256x256) ![0, 0, 0] ![1, 256, 256] _) = wq0
  generalize ek0 : View.ld (iblk m c 7 t) (Rect.unit (s := S4x256x256) ![0, 0, 0] ![1, 256, 256] _) = wk0
  generalize ev0 : View.ld (iblk m c 1 t) (Rect.unit (s := S128x1024) ![0, 0] ![128, 256] _) = v0
  generalize eo0 : View.ld (iblk m c 2 t) (Rect.unit (s := S128x1024) ![0, 0] ![128, 256] _) = o0
  generalize eg0 : View.ld (iblk m c 10 t) (Rect.unit (s := S1x1024) ![0, 0] ![1, 256] _) = g0
  generalize ec1 : View.readCov (Val := Elt Ideal) (View.whole cc0_scratch1) [_] (Rect.unit (s := S4x256x256) ![1, 0, 0] ![1, 256, 256] _).toLoadRect = c1
  generalize en1 : View.readCov (Val := Elt Ideal) (View.whole cc0_scratch2) [_] (Rect.unit (s := S4x8x256) ![1, 0, 0] ![1, 8, 256] _).toLoadRect = n1
  generalize eq1 : View.ld (iblk m c 6 t) (Rect.unit (s := S4x256x256) ![1, 0, 0] ![1, 256, 256] _) = wq1
  generalize ek1 : View.ld (iblk m c 7 t) (Rect.unit (s := S4x256x256) ![1, 0, 0] ![1, 256, 256] _) = wk1
  generalize ev1 : View.ld (iblk m c 1 t) (Rect.unit (s := S128x1024) ![0, 256] ![128, 256] _) = v1
  generalize eo1 : View.ld (iblk m c 2 t) (Rect.unit (s := S128x1024) ![0, 256] ![128, 256] _) = o1
  generalize eg1 : View.ld (iblk m c 10 t) (Rect.unit (s := S1x1024) ![0, 256] ![1, 256] _) = g1
  generalize ec2 : View.readCov (Val := Elt Ideal) (View.whole cc0_scratch1) [_] (Rect.unit (s := S4x256x256) ![2, 0, 0] ![1, 256, 256] _).toLoadRect = c2
  generalize en2 : View.readCov (Val := Elt Ideal) (View.whole cc0_scratch2) [_] (Rect.unit (s := S4x8x256) ![2, 0, 0] ![1, 8, 256] _).toLoadRect = n2
  generalize eq2 : View.ld (iblk m c 6 t) (Rect.unit (s := S4x256x256) ![2, 0, 0] ![1, 256, 256] _) = wq2
  generalize ek2 : View.ld (iblk m c 7 t) (Rect.unit (s := S4x256x256) ![2, 0, 0] ![1, 256, 256] _) = wk2
  generalize ev2 : View.ld (iblk m c 1 t) (Rect.unit (s := S128x1024) ![0, 512] ![128, 256] _) = v2
  generalize eo2 : View.ld (iblk m c 2 t) (Rect.unit (s := S128x1024) ![0, 512] ![128, 256] _) = o2
  generalize eg2 : View.ld (iblk m c 10 t) (Rect.unit (s := S1x1024) ![0, 512] ![1, 256] _) = g2
  generalize ec3 : View.readCov (Val := Elt Ideal) (View.whole cc0_scratch1) [_] (Rect.unit (s := S4x256x256) ![3, 0, 0] ![1, 256, 256] _).toLoadRect = c3
  generalize en3 : View.readCov (Val := Elt Ideal) (View.whole cc0_scratch2) [_] (Rect.unit (s := S4x8x256) ![3, 0, 0] ![1, 8, 256] _).toLoadRect = n3
  generalize eq3 : View.ld (iblk m c 6 t) (Rect.unit (s := S4x256x256) ![3, 0, 0] ![1, 256, 256] _) = wq3
  generalize ek3 : View.ld (iblk m c 7 t) (Rect.unit (s := S4x256x256) ![3, 0, 0] ![1, 256, 256] _) = wk3
  generalize ev3 : View.ld (iblk m c 1 t) (Rect.unit (s := S128x1024) ![0, 768] ![128, 256] _) = v3
  generalize eo3 : View.ld (iblk m c 2 t) (Rect.unit (s := S128x1024) ![0, 768] ![128, 256] _) = o3
  generalize eg3 : View.ld (iblk m c 10 t) (Rect.unit (s := S1x1024) ![0, 768] ![1, 256] _) = g3
  have hk := chk_val t
  have ht := lt t
  have x0 : ∀ (s : Fin 128) (e : Fin 1024), L5 (ix2 s e) = past (args m c).u (bat t) (time (chk t) s) e 0 := by
    intro s e
    subst e5
    refine (load (S := S136x1024) _ _ (off := ![5, 0]) (size := ![128, 1024]) _ _ (ix2 (n0 := 136) (n1 := 1024) ⟨5 + s.val, by omega⟩ e) (ax2 _ _ _ rfl (Nat.zero_add _).symm)).trans ?_
    by_cases hs : s.val < 3
    · refine (miss (S := S136x1024) (off := ![8, 0]) (size := ![128, 1024]) _ _ _ (ix2 (n0 := 136) (n1 := 1024) ⟨5 + s.val, by omega⟩ e) (0 : Fin 2) (Or.inl (by show 5 + s.val < 8; omega))).trans ?_
      refine (hit (S := S136x1024) (off := ![0, 0]) (size := ![8, 1024]) _ _ _ (ix2 (n0 := 136) (n1 := 1024) ⟨5 + s.val, by omega⟩ e) (ix2 (n0 := 8) (n1 := 1024) ⟨5 + s.val, by omega⟩ e) (ax2 _ _ _ (Nat.zero_add _).symm (Nat.zero_add _).symm)).trans ?_
      exact (pay5_at _ _).trans (past_out _ _ _ _ _ (by show (chk t).val * 128 + s.val + 0 < 3; omega)).symm
    · exact (hit (S := S136x1024) (off := ![8, 0]) (size := ![128, 1024]) _ _ _ (ix2 (n0 := 136) (n1 := 1024) ⟨5 + s.val, by omega⟩ e) (ix2 (n0 := 128) (n1 := 1024) ⟨s.val - 3, by omega⟩ e) (ax2 _ _ _ (by show 5 + s.val = 8 + (s.val - 3); omega) (Nat.zero_add _).symm)).trans ((pay9_at _ _ _).trans ((f0 m c t _ _).trans (past_in _ _ _ _ _ _ (by show (bat t).val * 2048 + ((chk t).val * 128 + (s.val - 3)) + 3 = (bat t).val * 2048 + ((chk t).val * 128 + s.val + 0); omega) (by show 3 ≤ (chk t).val * 128 + s.val + 0; omega)).symm))
  have x1 : ∀ (s : Fin 128) (e : Fin 1024), L6 (ix2 s e) = past (args m c).u (bat t) (time (chk t) s) e 1 := by
    intro s e
    subst e6
    refine (load (S := S136x1024) _ _ (off := ![6, 0]) (size := ![128, 1024]) _ _ (ix2 (n0 := 136) (n1 := 1024) ⟨6 + s.val, by omega⟩ e) (ax2 _ _ _ rfl (Nat.zero_add _).symm)).trans ?_
    by_cases hs : s.val < 2
    · refine (miss (S := S136x1024) (off := ![8, 0]) (size := ![128, 1024]) _ _ _ (ix2 (n0 := 136) (n1 := 1024) ⟨6 + s.val, by omega⟩ e) (0 : Fin 2) (Or.inl (by show 6 + s.val < 8; omega))).trans ?_
      refine (hit (S := S136x1024) (off := ![0, 0]) (size := ![8, 1024]) _ _ _ (ix2 (n0 := 136) (n1 := 1024) ⟨6 + s.val, by omega⟩ e) (ix2 (n0 := 8) (n1 := 1024) ⟨6 + s.val, by omega⟩ e) (ax2 _ _ _ (Nat.zero_add _).symm (Nat.zero_add _).symm)).trans ?_
      exact (pay5_at _ _).trans (past_out _ _ _ _ _ (by show (chk t).val * 128 + s.val + 1 < 3; omega)).symm
    · exact (hit (S := S136x1024) (off := ![8, 0]) (size := ![128, 1024]) _ _ _ (ix2 (n0 := 136) (n1 := 1024) ⟨6 + s.val, by omega⟩ e) (ix2 (n0 := 128) (n1 := 1024) ⟨s.val - 2, by omega⟩ e) (ax2 _ _ _ (by show 6 + s.val = 8 + (s.val - 2); omega) (Nat.zero_add _).symm)).trans ((pay9_at _ _ _).trans ((f0 m c t _ _).trans (past_in _ _ _ _ _ _ (by show (bat t).val * 2048 + ((chk t).val * 128 + (s.val - 2)) + 3 = (bat t).val * 2048 + ((chk t).val * 128 + s.val + 1); omega) (by show 3 ≤ (chk t).val * 128 + s.val + 1; omega)).symm))
  have x2 : ∀ (s : Fin 128) (e : Fin 1024), L7 (ix2 s e) = past (args m c).u (bat t) (time (chk t) s) e 2 := by
    intro s e
    subst e7
    refine (load (S := S136x1024) _ _ (off := ![7, 0]) (size := ![128, 1024]) _ _ (ix2 (n0 := 136) (n1 := 1024) ⟨7 + s.val, by omega⟩ e) (ax2 _ _ _ rfl (Nat.zero_add _).symm)).trans ?_
    by_cases hs : s.val < 1
    · refine (miss (S := S136x1024) (off := ![8, 0]) (size := ![128, 1024]) _ _ _ (ix2 (n0 := 136) (n1 := 1024) ⟨7 + s.val, by omega⟩ e) (0 : Fin 2) (Or.inl (by show 7 + s.val < 8; omega))).trans ?_
      refine (hit (S := S136x1024) (off := ![0, 0]) (size := ![8, 1024]) _ _ _ (ix2 (n0 := 136) (n1 := 1024) ⟨7 + s.val, by omega⟩ e) (ix2 (n0 := 8) (n1 := 1024) ⟨7 + s.val, by omega⟩ e) (ax2 _ _ _ (Nat.zero_add _).symm (Nat.zero_add _).symm)).trans ?_
      exact (pay5_at _ _).trans (past_out _ _ _ _ _ (by show (chk t).val * 128 + s.val + 2 < 3; omega)).symm
    · exact (hit (S := S136x1024) (off := ![8, 0]) (size := ![128, 1024]) _ _ _ (ix2 (n0 := 136) (n1 := 1024) ⟨7 + s.val, by omega⟩ e) (ix2 (n0 := 128) (n1 := 1024) ⟨s.val - 1, by omega⟩ e) (ax2 _ _ _ (by show 7 + s.val = 8 + (s.val - 1); omega) (Nat.zero_add _).symm)).trans ((pay9_at _ _ _).trans ((f0 m c t _ _).trans (past_in _ _ _ _ _ _ (by show (bat t).val * 2048 + ((chk t).val * 128 + (s.val - 1)) + 3 = (bat t).val * 2048 + ((chk t).val * 128 + s.val + 2); omega) (by show 3 ≤ (chk t).val * 128 + s.val + 2; omega)).symm))
  have x3 : ∀ (s : Fin 128) (e : Fin 1024), L8 (ix2 s e) = past (args m c).u (bat t) (time (chk t) s) e 3 := by
    intro s e
    subst e8
    refine (load (S := S136x1024) _ _ (off := ![8, 0]) (size := ![128, 1024]) _ _ (ix2 (n0 := 136) (n1 := 1024) ⟨8 + s.val, by omega⟩ e) (ax2 _ _ _ rfl (Nat.zero_add _).symm)).trans ?_
    exact (hit (S := S136x1024) (off := ![8, 0]) (size := ![128, 1024]) _ _ _ (ix2 (n0 := 136) (n1 := 1024) ⟨8 + s.val, by omega⟩ e) (ix2 (n0 := 128) (n1 := 1024) ⟨s.val - 0, by omega⟩ e) (ax2 _ _ _ (by show 8 + s.val = 8 + (s.val - 0); omega) (Nat.zero_add _).symm)).trans ((pay9_at _ _ _).trans ((f0 m c t _ _).trans (past_in _ _ _ _ _ _ (by show (bat t).val * 2048 + ((chk t).val * 128 + (s.val - 0)) + 3 = (bat t).val * 2048 + ((chk t).val * 128 + s.val + 3); omega) (by show 3 ≤ (chk t).val * 128 + s.val + 3; omega)).symm))
  have y0 : ∀ e, w0 (ix2 0 e) = (args m c).w 0 e := fun e => by
    subst ew0
    exact (ldAt (S := S4x1024) _ (off := ![0, 0]) (size := ![1, 1024]) _ _ (ix2 0 e) (ax2 _ _ _ rfl (Nat.zero_add _).symm)).trans (f4 m c t 0 e)
  have y1 : ∀ e, w1 (ix2 0 e) = (args m c).w 1 e := fun e => by
    subst ew1
    exact (ldAt (S := S4x1024) _ (off := ![1, 0]) (size := ![1, 1024]) _ _ (ix2 1 e) (ax2 _ _ _ rfl (Nat.zero_add _).symm)).trans (f4 m c t 1 e)
  have y2 : ∀ e, w2 (ix2 0 e) = (args m c).w 2 e := fun e => by
    subst ew2
    exact (ldAt (S := S4x1024) _ (off := ![2, 0]) (size := ![1, 1024]) _ _ (ix2 2 e) (ax2 _ _ _ rfl (Nat.zero_add _).symm)).trans (f4 m c t 2 e)
  have y3 : ∀ e, w3 (ix2 0 e) = (args m c).w 3 e := fun e => by
    subst ew3
    exact (ldAt (S := S4x1024) _ (off := ![3, 0]) (size := ![1, 1024]) _ _ (ix2 3 e) (ax2 _ _ _ rfl (Nat.zero_add _).symm)).trans (f4 m c t 3 e)
  have hgi : ∀ (s : Fin 128) (h : Fin 4), gi (ix2 s ⟨16 + h.val, by omega⟩) = (args m c).g (row (bat t) (time (chk t) s)) ⟨16 + h.val, by omega⟩ := fun s h => by
    subst egi
    exact (ldAt (S := S128x256) _ (off := ![0, 0]) (size := ![128, 128]) _ _ (ix2 s ⟨16 + h.val, by omega⟩) (ax2 _ _ _ (Nat.zero_add _).symm (Nat.zero_add _).symm)).trans (f3 m c t s _)
  have hgf : ∀ (s : Fin 128) (h : Fin 4), gf (ix2 s ⟨16 + h.val, by omega⟩) = (args m c).g (row (bat t) (time (chk t) s)) ⟨144 + h.val, by omega⟩ := fun s h => by
    subst egf
    exact (ldAt (S := S128x256) _ (off := ![0, 128]) (size := ![128, 128]) _ _ (ix2 s ⟨144 + h.val, by omega⟩) (ax2 _ _ _ (Nat.zero_add _).symm (by show 144 + h.val = 128 + (16 + h.val); omega))).trans (f3 m c t s _)
  have hz : t.val % 16 = 0 := h0
  have hmr : ∀ h : Fin 4, mr (ix2 0 ⟨16 + h.val, by omega⟩) = (carry (chunksOf (args m c) (bat t) h) (t.val % 16)).m := fun h => by
    subst emr
    rw [hz]
    refine (load (S := S8x128) _ _ (off := ![0, 0]) (size := ![1, 128]) _ _ (ix2 0 ⟨16 + h.val, by omega⟩) (ax2 _ _ _ rfl (Nat.zero_add _).symm)).trans ?_
    exact (hit (S := S8x128) (off := ![0, 0]) (size := ![8, 128]) _ _ _ (ix2 0 ⟨16 + h.val, by omega⟩) (ix2 (n0 := 8) (n1 := 128) 0 ⟨16 + h.val, by omega⟩) (ax2 _ _ _ rfl (Nat.zero_add _).symm)).trans (pay8_at _ _)
  have hc0 : ∀ d e, c0 (ix3 0 d e) = (carry (chunksOf (args m c) (bat t) 0) (t.val % 16)).C d e := fun d e => by
    subst ec0
    rw [hz]
    refine (load (S := S4x256x256) _ _ (off := ![0, 0, 0]) (size := ![1, 256, 256]) _ _ (ix3 0 d e) (ax3 _ _ _ rfl (Nat.zero_add _).symm (Nat.zero_add _).symm)).trans ?_
    exact (hit (S := S4x256x256) (off := ![0, 0, 0]) (size := ![4, 256, 256]) _ _ _ (ix3 0 d e) (ix3 (n0 := 4) (n1 := 256) (n2 := 256) 0 d e) (ax3 _ _ _ rfl (Nat.zero_add _).symm (Nat.zero_add _).symm)).trans (pay6_at _ _ _)
  have hn0 : ∀ d, n0 (ix3 0 0 d) = (carry (chunksOf (args m c) (bat t) 0) (t.val % 16)).n d := fun d => by
    subst en0
    rw [hz]
    refine (load (S := S4x8x256) _ _ (off := ![0, 0, 0]) (size := ![1, 8, 256]) _ _ (ix3 0 0 d) (ax3 _ _ _ rfl rfl (Nat.zero_add _).symm)).trans ?_
    exact (hit (S := S4x8x256) (off := ![0, 0, 0]) (size := ![4, 8, 256]) _ _ _ (ix3 0 0 d) (ix3 (n0 := 4) (n1 := 8) (n2 := 256) 0 0 d) (ax3 _ _ _ rfl rfl (Nat.zero_add _).symm)).trans (pay7_at _ _ _)
  have hq0 : ∀ d e, wq0 (ix3 0 d e) = (args m c).wq 0 d e := fun d e => by
    subst eq0
    exact (ldAt (S := S4x256x256) _ (off := ![0, 0, 0]) (size := ![1, 256, 256]) _ _ (ix3 0 d e) (ax3 _ _ _ rfl (Nat.zero_add _).symm (Nat.zero_add _).symm)).trans (f6 m c t 0 d e)
  have hk0 : ∀ d e, wk0 (ix3 0 d e) = (args m c).wk 0 d e := fun d e => by
    subst ek0
    exact (ldAt (S := S4x256x256) _ (off := ![0, 0, 0]) (size := ![1, 256, 256]) _ _ (ix3 0 d e) (ax3 _ _ _ rfl (Nat.zero_add _).symm (Nat.zero_add _).symm)).trans (f7 m c t 0 d e)
  have hv0 : ∀ s e, v0 (ix2 s e) = (args m c).v (row (bat t) (time (chk t) s)) (col 0 e) := fun s e => by
    subst ev0
    exact (ldAt (S := S128x1024) _ (off := ![0, 0]) (size := ![128, 256]) _ _ (ix2 s (col 0 e)) (ax2 _ _ _ (Nat.zero_add _).symm (by show 0 * 256 + e.val = 0 + e.val; omega))).trans (f1 m c t s _)
  have ho0 : ∀ s e, o0 (ix2 s e) = m ((c : Thread nD τ).loc main_arg2) (ix2 (row (bat t) (time (chk t) s)) (col 0 e)) := fun s e => by
    subst eo0
    exact (ldAt (S := S128x1024) _ (off := ![0, 0]) (size := ![128, 256]) _ _ (ix2 s (col 0 e)) (ax2 _ _ _ (Nat.zero_add _).symm (by show 0 * 256 + e.val = 0 + e.val; omega))).trans (f2 m c t s _)
  have hg0 : ∀ e, g0 (ix2 0 e) = m ((c : Thread nD τ).loc main_arg10) (ix3 0 0 e) := fun e => by
    subst eg0
    exact (ldAt (S := S1x1024) _ (off := ![0, 0]) (size := ![1, 256]) _ _ (ix2 0 (col 0 e)) (ax2 _ _ _ rfl (by show 0 * 256 + e.val = 0 + e.val; omega))).trans (f10 m c t 0 e)
  have G0 := Cert.KernelIdeal.Good.good (args m c) (bat t) (chk t) 0 (carry (chunksOf (args m c) (bat t) 0) (t.val % 16)) 16 0 (Nat.le_of_ble_eq_true rfl) rfl rfl gi gf
    (iblk m c 8 t) (iblk m c 9 t) (iblk m c 11 t) mr (iblk m c 5 t) w0 w1 w2 w3 L5 L6 L7 L8 wq0 wk0 v0 c0 n0 hgi hgf (f8 m c t) (f9 m c t)
    (f11 m c t) (hmr 0) (f5 m c t) y0 y1 y2 y3 x0 x1 x2 x3 hq0 hk0 hv0 hc0 hn0
  have hc1 : ∀ d e, c1 (ix3 0 d e) = (carry (chunksOf (args m c) (bat t) 1) (t.val % 16)).C d e := fun d e => by
    subst ec1
    rw [hz]
    refine (load (S := S4x256x256) _ _ (off := ![1, 0, 0]) (size := ![1, 256, 256]) _ _ (ix3 1 d e) (ax3 _ _ _ rfl (Nat.zero_add _).symm (Nat.zero_add _).symm)).trans ?_
    exact (hit (S := S4x256x256) (off := ![0, 0, 0]) (size := ![4, 256, 256]) _ _ _ (ix3 1 d e) (ix3 (n0 := 4) (n1 := 256) (n2 := 256) 1 d e) (ax3 _ _ _ rfl (Nat.zero_add _).symm (Nat.zero_add _).symm)).trans (pay6_at _ _ _)
  have hn1 : ∀ d, n1 (ix3 0 0 d) = (carry (chunksOf (args m c) (bat t) 1) (t.val % 16)).n d := fun d => by
    subst en1
    rw [hz]
    refine (load (S := S4x8x256) _ _ (off := ![1, 0, 0]) (size := ![1, 8, 256]) _ _ (ix3 1 0 d) (ax3 _ _ _ rfl rfl (Nat.zero_add _).symm)).trans ?_
    exact (hit (S := S4x8x256) (off := ![0, 0, 0]) (size := ![4, 8, 256]) _ _ _ (ix3 1 0 d) (ix3 (n0 := 4) (n1 := 8) (n2 := 256) 1 0 d) (ax3 _ _ _ rfl rfl (Nat.zero_add _).symm)).trans (pay7_at _ _ _)
  have hq1 : ∀ d e, wq1 (ix3 0 d e) = (args m c).wq 1 d e := fun d e => by
    subst eq1
    exact (ldAt (S := S4x256x256) _ (off := ![1, 0, 0]) (size := ![1, 256, 256]) _ _ (ix3 1 d e) (ax3 _ _ _ rfl (Nat.zero_add _).symm (Nat.zero_add _).symm)).trans (f6 m c t 1 d e)
  have hk1 : ∀ d e, wk1 (ix3 0 d e) = (args m c).wk 1 d e := fun d e => by
    subst ek1
    exact (ldAt (S := S4x256x256) _ (off := ![1, 0, 0]) (size := ![1, 256, 256]) _ _ (ix3 1 d e) (ax3 _ _ _ rfl (Nat.zero_add _).symm (Nat.zero_add _).symm)).trans (f7 m c t 1 d e)
  have hv1 : ∀ s e, v1 (ix2 s e) = (args m c).v (row (bat t) (time (chk t) s)) (col 1 e) := fun s e => by
    subst ev1
    exact (ldAt (S := S128x1024) _ (off := ![0, 256]) (size := ![128, 256]) _ _ (ix2 s (col 1 e)) (ax2 _ _ _ (Nat.zero_add _).symm (by show 1 * 256 + e.val = 256 + e.val; omega))).trans (f1 m c t s _)
  have ho1 : ∀ s e, o1 (ix2 s e) = m ((c : Thread nD τ).loc main_arg2) (ix2 (row (bat t) (time (chk t) s)) (col 1 e)) := fun s e => by
    subst eo1
    exact (ldAt (S := S128x1024) _ (off := ![0, 256]) (size := ![128, 256]) _ _ (ix2 s (col 1 e)) (ax2 _ _ _ (Nat.zero_add _).symm (by show 1 * 256 + e.val = 256 + e.val; omega))).trans (f2 m c t s _)
  have hg1 : ∀ e, g1 (ix2 0 e) = m ((c : Thread nD τ).loc main_arg10) (ix3 0 1 e) := fun e => by
    subst eg1
    exact (ldAt (S := S1x1024) _ (off := ![0, 256]) (size := ![1, 256]) _ _ (ix2 0 (col 1 e)) (ax2 _ _ _ rfl (by show 1 * 256 + e.val = 256 + e.val; omega))).trans (f10 m c t 1 e)
  have G1 := Cert.KernelIdeal.Good.good (args m c) (bat t) (chk t) 1 (carry (chunksOf (args m c) (bat t) 1) (t.val % 16)) 17 256 (Nat.le_of_ble_eq_true rfl) rfl rfl gi gf
    (iblk m c 8 t) (iblk m c 9 t) (iblk m c 11 t) mr (iblk m c 5 t) w0 w1 w2 w3 L5 L6 L7 L8 wq1 wk1 v1 c1 n1 hgi hgf (f8 m c t) (f9 m c t)
    (f11 m c t) (hmr 1) (f5 m c t) y0 y1 y2 y3 x0 x1 x2 x3 hq1 hk1 hv1 hc1 hn1
  have hc2 : ∀ d e, c2 (ix3 0 d e) = (carry (chunksOf (args m c) (bat t) 2) (t.val % 16)).C d e := fun d e => by
    subst ec2
    rw [hz]
    refine (load (S := S4x256x256) _ _ (off := ![2, 0, 0]) (size := ![1, 256, 256]) _ _ (ix3 2 d e) (ax3 _ _ _ rfl (Nat.zero_add _).symm (Nat.zero_add _).symm)).trans ?_
    exact (hit (S := S4x256x256) (off := ![0, 0, 0]) (size := ![4, 256, 256]) _ _ _ (ix3 2 d e) (ix3 (n0 := 4) (n1 := 256) (n2 := 256) 2 d e) (ax3 _ _ _ rfl (Nat.zero_add _).symm (Nat.zero_add _).symm)).trans (pay6_at _ _ _)
  have hn2 : ∀ d, n2 (ix3 0 0 d) = (carry (chunksOf (args m c) (bat t) 2) (t.val % 16)).n d := fun d => by
    subst en2
    rw [hz]
    refine (load (S := S4x8x256) _ _ (off := ![2, 0, 0]) (size := ![1, 8, 256]) _ _ (ix3 2 0 d) (ax3 _ _ _ rfl rfl (Nat.zero_add _).symm)).trans ?_
    exact (hit (S := S4x8x256) (off := ![0, 0, 0]) (size := ![4, 8, 256]) _ _ _ (ix3 2 0 d) (ix3 (n0 := 4) (n1 := 8) (n2 := 256) 2 0 d) (ax3 _ _ _ rfl rfl (Nat.zero_add _).symm)).trans (pay7_at _ _ _)
  have hq2 : ∀ d e, wq2 (ix3 0 d e) = (args m c).wq 2 d e := fun d e => by
    subst eq2
    exact (ldAt (S := S4x256x256) _ (off := ![2, 0, 0]) (size := ![1, 256, 256]) _ _ (ix3 2 d e) (ax3 _ _ _ rfl (Nat.zero_add _).symm (Nat.zero_add _).symm)).trans (f6 m c t 2 d e)
  have hk2 : ∀ d e, wk2 (ix3 0 d e) = (args m c).wk 2 d e := fun d e => by
    subst ek2
    exact (ldAt (S := S4x256x256) _ (off := ![2, 0, 0]) (size := ![1, 256, 256]) _ _ (ix3 2 d e) (ax3 _ _ _ rfl (Nat.zero_add _).symm (Nat.zero_add _).symm)).trans (f7 m c t 2 d e)
  have hv2 : ∀ s e, v2 (ix2 s e) = (args m c).v (row (bat t) (time (chk t) s)) (col 2 e) := fun s e => by
    subst ev2
    exact (ldAt (S := S128x1024) _ (off := ![0, 512]) (size := ![128, 256]) _ _ (ix2 s (col 2 e)) (ax2 _ _ _ (Nat.zero_add _).symm (by show 2 * 256 + e.val = 512 + e.val; omega))).trans (f1 m c t s _)
  have ho2 : ∀ s e, o2 (ix2 s e) = m ((c : Thread nD τ).loc main_arg2) (ix2 (row (bat t) (time (chk t) s)) (col 2 e)) := fun s e => by
    subst eo2
    exact (ldAt (S := S128x1024) _ (off := ![0, 512]) (size := ![128, 256]) _ _ (ix2 s (col 2 e)) (ax2 _ _ _ (Nat.zero_add _).symm (by show 2 * 256 + e.val = 512 + e.val; omega))).trans (f2 m c t s _)
  have hg2 : ∀ e, g2 (ix2 0 e) = m ((c : Thread nD τ).loc main_arg10) (ix3 0 2 e) := fun e => by
    subst eg2
    exact (ldAt (S := S1x1024) _ (off := ![0, 512]) (size := ![1, 256]) _ _ (ix2 0 (col 2 e)) (ax2 _ _ _ rfl (by show 2 * 256 + e.val = 512 + e.val; omega))).trans (f10 m c t 2 e)
  have G2 := Cert.KernelIdeal.Good.good (args m c) (bat t) (chk t) 2 (carry (chunksOf (args m c) (bat t) 2) (t.val % 16)) 18 512 (Nat.le_of_ble_eq_true rfl) rfl rfl gi gf
    (iblk m c 8 t) (iblk m c 9 t) (iblk m c 11 t) mr (iblk m c 5 t) w0 w1 w2 w3 L5 L6 L7 L8 wq2 wk2 v2 c2 n2 hgi hgf (f8 m c t) (f9 m c t)
    (f11 m c t) (hmr 2) (f5 m c t) y0 y1 y2 y3 x0 x1 x2 x3 hq2 hk2 hv2 hc2 hn2
  have hc3 : ∀ d e, c3 (ix3 0 d e) = (carry (chunksOf (args m c) (bat t) 3) (t.val % 16)).C d e := fun d e => by
    subst ec3
    rw [hz]
    refine (load (S := S4x256x256) _ _ (off := ![3, 0, 0]) (size := ![1, 256, 256]) _ _ (ix3 3 d e) (ax3 _ _ _ rfl (Nat.zero_add _).symm (Nat.zero_add _).symm)).trans ?_
    exact (hit (S := S4x256x256) (off := ![0, 0, 0]) (size := ![4, 256, 256]) _ _ _ (ix3 3 d e) (ix3 (n0 := 4) (n1 := 256) (n2 := 256) 3 d e) (ax3 _ _ _ rfl (Nat.zero_add _).symm (Nat.zero_add _).symm)).trans (pay6_at _ _ _)
  have hn3 : ∀ d, n3 (ix3 0 0 d) = (carry (chunksOf (args m c) (bat t) 3) (t.val % 16)).n d := fun d => by
    subst en3
    rw [hz]
    refine (load (S := S4x8x256) _ _ (off := ![3, 0, 0]) (size := ![1, 8, 256]) _ _ (ix3 3 0 d) (ax3 _ _ _ rfl rfl (Nat.zero_add _).symm)).trans ?_
    exact (hit (S := S4x8x256) (off := ![0, 0, 0]) (size := ![4, 8, 256]) _ _ _ (ix3 3 0 d) (ix3 (n0 := 4) (n1 := 8) (n2 := 256) 3 0 d) (ax3 _ _ _ rfl rfl (Nat.zero_add _).symm)).trans (pay7_at _ _ _)
  have hq3 : ∀ d e, wq3 (ix3 0 d e) = (args m c).wq 3 d e := fun d e => by
    subst eq3
    exact (ldAt (S := S4x256x256) _ (off := ![3, 0, 0]) (size := ![1, 256, 256]) _ _ (ix3 3 d e) (ax3 _ _ _ rfl (Nat.zero_add _).symm (Nat.zero_add _).symm)).trans (f6 m c t 3 d e)
  have hk3 : ∀ d e, wk3 (ix3 0 d e) = (args m c).wk 3 d e := fun d e => by
    subst ek3
    exact (ldAt (S := S4x256x256) _ (off := ![3, 0, 0]) (size := ![1, 256, 256]) _ _ (ix3 3 d e) (ax3 _ _ _ rfl (Nat.zero_add _).symm (Nat.zero_add _).symm)).trans (f7 m c t 3 d e)
  have hv3 : ∀ s e, v3 (ix2 s e) = (args m c).v (row (bat t) (time (chk t) s)) (col 3 e) := fun s e => by
    subst ev3
    exact (ldAt (S := S128x1024) _ (off := ![0, 768]) (size := ![128, 256]) _ _ (ix2 s (col 3 e)) (ax2 _ _ _ (Nat.zero_add _).symm (by show 3 * 256 + e.val = 768 + e.val; omega))).trans (f1 m c t s _)
  have ho3 : ∀ s e, o3 (ix2 s e) = m ((c : Thread nD τ).loc main_arg2) (ix2 (row (bat t) (time (chk t) s)) (col 3 e)) := fun s e => by
    subst eo3
    exact (ldAt (S := S128x1024) _ (off := ![0, 768]) (size := ![128, 256]) _ _ (ix2 s (col 3 e)) (ax2 _ _ _ (Nat.zero_add _).symm (by show 3 * 256 + e.val = 768 + e.val; omega))).trans (f2 m c t s _)
  have hg3 : ∀ e, g3 (ix2 0 e) = m ((c : Thread nD τ).loc main_arg10) (ix3 0 3 e) := fun e => by
    subst eg3
    exact (ldAt (S := S1x1024) _ (off := ![0, 768]) (size := ![1, 256]) _ _ (ix2 0 (col 3 e)) (ax2 _ _ _ rfl (by show 3 * 256 + e.val = 768 + e.val; omega))).trans (f10 m c t 3 e)
  have G3 := Cert.KernelIdeal.Good.good (args m c) (bat t) (chk t) 3 (carry (chunksOf (args m c) (bat t) 3) (t.val % 16)) 19 768 (Nat.le_of_ble_eq_true rfl) rfl rfl gi gf
    (iblk m c 8 t) (iblk m c 9 t) (iblk m c 11 t) mr (iblk m c 5 t) w0 w1 w2 w3 L5 L6 L7 L8 wq3 wk3 v3 c3 n3 hgi hgf (f8 m c t) (f9 m c t)
    (f11 m c t) (hmr 3) (f5 m c t) y0 y1 y2 y3 x0 x1 x2 x3 hq3 hk3 hv3 hc3 hn3
  clear e6 e7 e5 e8 ew0 ew1 ew2 ew3 egi egf emr ec0 en0 eq0 ek0 ev0 eo0 eg0 ec1 en1 eq1 ek1 ev1 eo1 eg1 ec2 en2 eq2 ek2 ev2 eo2 eg2 ec3 en3 eq3 ek3 ev3 eo3 eg3
  refine ⟨fun h d e => ?_, fun h a d => ?_, fun h => ?_, fun i e r hi hr => ?_, fun s h e => ?_⟩
  · skip
    rcases four h with rfl | rfl | rfl | rfl
    · refine (miss (S := S4x256x256) (off := ![3, 0, 0]) (size := ![1, 256, 256]) _ _ _ _ (0 : Fin 3) (Or.inl (by show 0 < 3; omega))).trans ?_
      refine (miss (S := S4x256x256) (off := ![2, 0, 0]) (size := ![1, 256, 256]) _ _ _ _ (0 : Fin 3) (Or.inl (by show 0 < 2; omega))).trans ?_
      refine (miss (S := S4x256x256) (off := ![1, 0, 0]) (size := ![1, 256, 256]) _ _ _ _ (0 : Fin 3) (Or.inl (by show 0 < 1; omega))).trans ?_
      exact (hit (S := S4x256x256) (off := ![0, 0, 0]) (size := ![1, 256, 256]) _ _ _ _ (ix3 (n0 := 1) (n1 := 256) (n2 := 256) 0 d e) (ax3 _ _ _ rfl (Nat.zero_add _).symm (Nat.zero_add _).symm)).trans (One.rCn0 G0 d e)
    · refine (miss (S := S4x256x256) (off := ![3, 0, 0]) (size := ![1, 256, 256]) _ _ _ _ (0 : Fin 3) (Or.inl (by show 1 < 3; omega))).trans ?_
      refine (miss (S := S4x256x256) (off := ![2, 0, 0]) (size := ![1, 256, 256]) _ _ _ _ (0 : Fin 3) (Or.inl (by show 1 < 2; omega))).trans ?_
      exact (hit (S := S4x256x256) (off := ![1, 0, 0]) (size := ![1, 256, 256]) _ _ _ _ (ix3 (n0 := 1) (n1 := 256) (n2 := 256) 0 d e) (ax3 _ _ _ rfl (Nat.zero_add _).symm (Nat.zero_add _).symm)).trans (One.rCn1 G1 d e)
    · refine (miss (S := S4x256x256) (off := ![3, 0, 0]) (size := ![1, 256, 256]) _ _ _ _ (0 : Fin 3) (Or.inl (by show 2 < 3; omega))).trans ?_
      exact (hit (S := S4x256x256) (off := ![2, 0, 0]) (size := ![1, 256, 256]) _ _ _ _ (ix3 (n0 := 1) (n1 := 256) (n2 := 256) 0 d e) (ax3 _ _ _ rfl (Nat.zero_add _).symm (Nat.zero_add _).symm)).trans (One.rCn2 G2 d e)
    · exact (hit (S := S4x256x256) (off := ![3, 0, 0]) (size := ![1, 256, 256]) _ _ _ _ (ix3 (n0 := 1) (n1 := 256) (n2 := 256) 0 d e) (ax3 _ _ _ rfl (Nat.zero_add _).symm (Nat.zero_add _).symm)).trans (One.rCn3 G3 d e)
  · skip
    rcases four h with rfl | rfl | rfl | rfl
    · refine (miss (S := S4x8x256) (off := ![3, 0, 0]) (size := ![1, 8, 256]) _ _ _ _ (0 : Fin 3) (Or.inl (by show 0 < 3; omega))).trans ?_
      refine (miss (S := S4x8x256) (off := ![2, 0, 0]) (size := ![1, 8, 256]) _ _ _ _ (0 : Fin 3) (Or.inl (by show 0 < 2; omega))).trans ?_
      refine (miss (S := S4x8x256) (off := ![1, 0, 0]) (size := ![1, 8, 256]) _ _ _ _ (0 : Fin 3) (Or.inl (by show 0 < 1; omega))).trans ?_
      exact (hit (S := S4x8x256) (off := ![0, 0, 0]) (size := ![1, 8, 256]) _ _ _ _ (ix3 (n0 := 1) (n1 := 8) (n2 := 256) 0 a d) (ax3 _ _ _ rfl (Nat.zero_add _).symm (Nat.zero_add _).symm)).trans (One.rnn0 G0 a d)
    · refine (miss (S := S4x8x256) (off := ![3, 0, 0]) (size := ![1, 8, 256]) _ _ _ _ (0 : Fin 3) (Or.inl (by show 1 < 3; omega))).trans ?_
      refine (miss (S := S4x8x256) (off := ![2, 0, 0]) (size := ![1, 8, 256]) _ _ _ _ (0 : Fin 3) (Or.inl (by show 1 < 2; omega))).trans ?_
      exact (hit (S := S4x8x256) (off := ![1, 0, 0]) (size := ![1, 8, 256]) _ _ _ _ (ix3 (n0 := 1) (n1 := 8) (n2 := 256) 0 a d) (ax3 _ _ _ rfl (Nat.zero_add _).symm (Nat.zero_add _).symm)).trans (One.rnn1 G1 a d)
    · refine (miss (S := S4x8x256) (off := ![3, 0, 0]) (size := ![1, 8, 256]) _ _ _ _ (0 : Fin 3) (Or.inl (by show 2 < 3; omega))).trans ?_
      exact (hit (S := S4x8x256) (off := ![2, 0, 0]) (size := ![1, 8, 256]) _ _ _ _ (ix3 (n0 := 1) (n1 := 8) (n2 := 256) 0 a d) (ax3 _ _ _ rfl (Nat.zero_add _).symm (Nat.zero_add _).symm)).trans (One.rnn2 G2 a d)
    · exact (hit (S := S4x8x256) (off := ![3, 0, 0]) (size := ![1, 8, 256]) _ _ _ _ (ix3 (n0 := 1) (n1 := 8) (n2 := 256) 0 a d) (ax3 _ _ _ rfl (Nat.zero_add _).symm (Nat.zero_add _).symm)).trans (One.rnn3 G3 a d)
  · skip
    rcases four h with rfl | rfl | rfl | rfl
    · exact (pay135_at _ 0 _).trans (One.p19 G0)
    · exact (pay135_at _ 0 _).trans (One.p19 G1)
    · exact (pay135_at _ 0 _).trans (One.p19 G2)
    · exact (pay135_at _ 0 _).trans (One.p19 G3)
  · refine (hit (S := S136x1024) (off := ![0, 0]) (size := ![8, 1024]) _ _ _ _ (ix2 (n0 := 8) (n1 := 1024) ⟨i.val, hi⟩ e) (ax2 _ _ _ (Nat.zero_add _).symm (Nat.zero_add _).symm)).trans ((pay12_at _ _ _).trans ?_)
    refine (load (S := S136x1024) _ _ (off := ![128, 0]) (size := ![8, 1024]) _ _ (ix2 (n0 := 136) (n1 := 1024) ⟨128 + i.val, by omega⟩ e) (ax2 _ _ _ rfl (Nat.zero_add _).symm)).trans ?_
    refine (hit (S := S136x1024) (off := ![8, 0]) (size := ![128, 1024]) _ _ _ _ (ix2 (n0 := 128) (n1 := 1024) ⟨120 + i.val, by omega⟩ e) (ax2 _ _ _ (by show 128 + i.val = 8 + (120 + i.val); omega) (Nat.zero_add _).symm)).trans ((pay9_at _ _ _).trans ((f0 m c t _ _).trans ?_))
    refine congrArg (fun r => (args m c).u r e) (Fin.ext ?_)
    show (bat t).val * 2048 + ((chk t).val * 128 + (120 + i.val)) = r.val
    omega
  · skip
    rcases four h with rfl | rfl | rfl | rfl
    · refine (miss (S := S128x1024) (off := ![0, 768]) (size := ![128, 256]) _ _ _ _ (1 : Fin 2) (Or.inl (by show 0 * 256 + e.val < 768; omega))).trans ?_
      refine (miss (S := S128x1024) (off := ![0, 512]) (size := ![128, 256]) _ _ _ _ (1 : Fin 2) (Or.inl (by show 0 * 256 + e.val < 512; omega))).trans ?_
      refine (miss (S := S128x1024) (off := ![0, 256]) (size := ![128, 256]) _ _ _ _ (1 : Fin 2) (Or.inl (by show 0 * 256 + e.val < 256; omega))).trans ?_
      refine (hit (S := S128x1024) (off := ![0, 0]) (size := ![128, 256]) _ _ _ _ (ix2 (n0 := 128) (n1 := 256) s e) (ax2 _ _ _ (Nat.zero_add _).symm (by show 0 * 256 + e.val = 0 + e.val; omega))).trans ((One.ry0 G0 g0 o0 s e).trans ?_)
      rw [ho0, hg0]
      unfold result
      rw [hk]
    · refine (miss (S := S128x1024) (off := ![0, 768]) (size := ![128, 256]) _ _ _ _ (1 : Fin 2) (Or.inl (by show 1 * 256 + e.val < 768; omega))).trans ?_
      refine (miss (S := S128x1024) (off := ![0, 512]) (size := ![128, 256]) _ _ _ _ (1 : Fin 2) (Or.inl (by show 1 * 256 + e.val < 512; omega))).trans ?_
      refine (hit (S := S128x1024) (off := ![0, 256]) (size := ![128, 256]) _ _ _ _ (ix2 (n0 := 128) (n1 := 256) s e) (ax2 _ _ _ (Nat.zero_add _).symm (by show 1 * 256 + e.val = 256 + e.val; omega))).trans ((One.ry1 G1 g1 o1 s e).trans ?_)
      rw [ho1, hg1]
      unfold result
      rw [hk]
    · refine (miss (S := S128x1024) (off := ![0, 768]) (size := ![128, 256]) _ _ _ _ (1 : Fin 2) (Or.inl (by show 2 * 256 + e.val < 768; omega))).trans ?_
      refine (hit (S := S128x1024) (off := ![0, 512]) (size := ![128, 256]) _ _ _ _ (ix2 (n0 := 128) (n1 := 256) s e) (ax2 _ _ _ (Nat.zero_add _).symm (by show 2 * 256 + e.val = 512 + e.val; omega))).trans ((One.ry2 G2 g2 o2 s e).trans ?_)
      rw [ho2, hg2]
      unfold result
      rw [hk]
    · refine (hit (S := S128x1024) (off := ![0, 768]) (size := ![128, 256]) _ _ _ _ (ix2 (n0 := 128) (n1 := 256) s e) (ax2 _ _ _ (Nat.zero_add _).symm (by show 3 * 256 + e.val = 768 + e.val; omega))).trans ((One.ry3 G3 g3 o3 s e).trans ?_)
      rw [ho3, hg3]
      unfold result
      rw [hk]

end Cert.KernelIdeal.StepA
-- ==== Proof.KerStepB.lean ====
module

public import proofs.«01_k».proof.Proof.Gen.KernelIdeal.Value
public import proofs.«01_k».proof.Proof.KerBlk
public import proofs.«01_k».proof.Proof.KerOne
public import proofs.«01_k».proof.Proof.KerGood
public import proofs.«01_k».proof.Proof.KerRead
public import proofs.«01_k».proof.Proof.KerInv
public import Idealize.ShloMosaic.Lib.Pointwise
public import Idealize.ShloMosaic.Lib.Pipeline.ValueKit
public import Idealize.ShloMosaic.Lib.Pipeline.ReadBack

@[expose] public section
set_option maxRecDepth 16384
noncomputable section
open Idealize.ShloMosaic Idealize.ShloMosaic.TcCoe Idealize.SL.Sem
open Cert.KernelIdeal Cert.KernelIdeal.Gen Cert.KernelIdeal.Value
open Cert.MemSpec

set_option maxHeartbeats 4000000

namespace Cert.KernelIdeal.StepB

open Cert.KernelIdeal.Blk Cert.KernelIdeal.Inv Cert.KernelIdeal.Read

variable (m : (ℓ : Loc nD τ sig) → Buf (Elt Ideal) ℓ) (c : Dev nD)

/-- A chunk between the first and the last of its batch: what it leaves, and its output. -/
theorem step (t : Fin cfg0.N) (acc) (h0 : ¬ t.val % 16 = 0) (h1 : ¬ t.val % 16 = 15)
    (I : Holds (args m c) (bat t) (t.val % 16) acc.2.2.2.2.1 acc.2.2.2.2.2.1 acc.2.2.2.2.2.2.1 acc.2.2.2.2.2.2.2) :
    (∀ (h : Fin 4) (d e : Fin 256), (stAt0 m c t.val t.isLt acc).2.2.2.2.2.1 (ix3 h d e) = (carry (chunksOf (args m c) (bat t) h) (t.val % 16 + 1)).C d e)
    ∧ (∀ (h : Fin 4) (a : Fin 8) (d : Fin 256), (stAt0 m c t.val t.isLt acc).2.2.2.2.2.2.1 (ix3 h a d) = (carry (chunksOf (args m c) (bat t) h) (t.val % 16 + 1)).n d)
    ∧ (∀ h : Fin 4, (stAt0 m c t.val t.isLt acc).2.2.2.2.2.2.2 (ix2 0 ⟨16 + h.val, by omega⟩) = (carry (chunksOf (args m c) (bat t) h) (t.val % 16 + 1)).m)
    ∧ (∀ (i : Fin 136) (e : Fin 1024) (r : Fin 16384), i.val < 8 → r.val + 8 = (bat t).val * 2048 + (t.val % 16 + 1) * 128 + i.val →
        (stAt0 m c t.val t.isLt acc).2.2.2.2.1 (ix2 i e) = (args m c).u r e)
    ∧ (∀ (s : Fin 128) (h : Fin 4) (e : Fin 256), (stAt0 m c t.val t.isLt acc).1 (ix2 s (col h e))
        = result (args m c) (fun h e => m ((c : Thread nD τ).loc main_arg10) (ix3 0 h e)) (fun r e => m ((c : Thread nD τ).loc main_arg2) (ix2 r e)) (bat t) (chk t) s h e) := by
  rw [stAt0_B m c t acc h0 h1]; dsimp only; frame_out
  generalize e5 : View.ld (View.read _ (View.whole cc0_scratch0) _) (Rect.unit (s := S136x1024) ![5, 0] ![128, 1024] _) = L5
  generalize e6 : View.ld (View.read _ (View.whole cc0_scratch0) _) (Rect.unit (s := S136x1024) ![6, 0] ![128, 1024] _) = L6
  generalize e7 : View.ld (View.read _ (View.whole cc0_scratch0) _) (Rect.unit (s := S136x1024) ![7, 0] ![128, 1024] _) = L7
  generalize e8 : View.readCov (Val := Elt Ideal) (View.whole cc0_scratch0) _ (Rect.unit (s := S136x1024) ![8, 0] ![128, 1024] _).toLoadRect = L8
  generalize ew0 : View.ld (iblk m c 4 t) (Rect.unit (s := S4x1024) ![0, 0] ![1, 1024] _) = w0
  generalize ew1 : View.ld (iblk m c 4 t) (Rect.unit (s := S4x1024) ![1, 0] ![1, 1024] _) = w1
  generalize ew2 : View.ld (iblk m c 4 t) (Rect.unit (s := S4x1024) ![2, 0] ![1, 1024] _) = w2
  generalize ew3 : View.ld (iblk m c 4 t) (Rect.unit (s := S4x1024) ![3, 0] ![1, 1024] _) = w3
  generalize egi : View.ld (iblk m c 3 t) (Rect.unit (s := S128x256) ![0, 0] ![128, 128] _) = gi
  generalize egf : View.ld (iblk m c 3 t) (Rect.unit (s := S128x256) ![0, 128] ![128, 128] _) = gf
  generalize emr : View.ld (View.read _ (View.whole cc0_scratch3) _) (Rect.unit (s := S8x128) ![0, 0] ![1, 128] _) = mr
  generalize ec0 : View.ld (View.read _ (View.whole cc0_scratch1) _) (Rect.unit (s := S4x256x256) ![0, 0, 0] ![1, 256, 256] _) = c0
  generalize en0 : View.ld (View.read _ (View.whole cc0_scratch2) _) (Rect.unit (s := S4x8x256) ![0, 0, 0] ![1, 8, 256] _) = n0
  generalize eq0 : View.ld (iblk m c 6 t) (Rect.unit (s := S4x256x256) ![0, 0, 0] ![1, 256, 256] _) = wq0
  generalize ek0 : View.ld (iblk m c 7 t) (Rect.unit (s := S4x256x256) ![0, 0, 0] ![1, 256, 256] _) = wk0
  generalize ev0 : View.ld (iblk m c 1 t) (Rect.unit (s := S128x1024) ![0, 0] ![128, 256] _) = v0
  generalize eo0 : View.ld (iblk m c 2 t) (Rect.unit (s := S128x1024) ![0, 0] ![128, 256] _) = o0
  generalize eg0 : View.ld (iblk m c 10 t) (Rect.unit (s := S1x1024) ![0, 0] ![1, 256] _) = g0
  generalize ec1 : View.ld (View.read _ (View.whole cc0_scratch1) _) (Rect.unit (s := S4x256x256) ![1, 0, 0] ![1, 256, 256] _) = c1
  generalize en1 : View.ld (View.read _ (View.whole cc0_scratch2) _) (Rect.unit (s := S4x8x256) ![1, 0, 0] ![1, 8, 256] _) = n1
  generalize eq1 : View.ld (iblk m c 6 t) (Rect.unit (s := S4x256x256) ![1, 0, 0] ![1, 256, 256] _) = wq1
  generalize ek1 : View.ld (iblk m c 7 t) (Rect.unit (s := S4x256x256) ![1, 0, 0] ![1, 256, 256] _) = wk1
  generalize ev1 : View.ld (iblk m c 1 t) (Rect.unit (s := S128x1024) ![0, 256] ![128, 256] _) = v1
  generalize eo1 : View.ld (iblk m c 2 t) (Rect.unit (s := S128x1024) ![0, 256] ![128, 256] _) = o1
  generalize eg1 : View.ld (iblk m c 10 t) (Rect.unit (s := S1x1024) ![0, 256] ![1, 256] _) = g1
  generalize ec2 : View.ld (View.read _ (View.whole cc0_scratch1) _) (Rect.unit (s := S4x256x256) ![2, 0, 0] ![1, 256, 256] _) = c2
  generalize en2 : View.ld (View.read _ (View.whole cc0_scratch2) _) (Rect.unit (s := S4x8x256) ![2, 0, 0] ![1, 8, 256] _) = n2
  generalize eq2 : View.ld (iblk m c 6 t) (Rect.unit (s := S4x256x256) ![2, 0, 0] ![1, 256, 256] _) = wq2
  generalize ek2 : View.ld (iblk m c 7 t) (Rect.unit (s := S4x256x256) ![2, 0, 0] ![1, 256, 256] _) = wk2
  generalize ev2 : View.ld (iblk m c 1 t) (Rect.unit (s := S128x1024) ![0, 512] ![128, 256] _) = v2
  generalize eo2 : View.ld (iblk m c 2 t) (Rect.unit (s := S128x1024) ![0, 512] ![128, 256] _) = o2
  generalize eg2 : View.ld (iblk m c 10 t) (Rect.unit (s := S1x1024) ![0, 512] ![1, 256] _) = g2
  generalize ec3 : View.ld (View.read _ (View.whole cc0_scratch1) _) (Rect.unit (s := S4x256x256) ![3, 0, 0] ![1, 256, 256] _) = c3
  generalize en3 : View.ld (View.read _ (View.whole cc0_scratch2) _) (Rect.unit (s := S4x8x256) ![3, 0, 0] ![1, 8, 256] _) = n3
  generalize eq3 : View.ld (iblk m c 6 t) (Rect.unit (s := S4x256x256) ![3, 0, 0] ![1, 256, 256] _) = wq3
  generalize ek3 : View.ld (iblk m c 7 t) (Rect.unit (s := S4x256x256) ![3, 0, 0] ![1, 256, 256] _) = wk3
  generalize ev3 : View.ld (iblk m c 1 t) (Rect.unit (s := S128x1024) ![0, 768] ![128, 256] _) = v3
  generalize eo3 : View.ld (iblk m c 2 t) (Rect.unit (s := S128x1024) ![0, 768] ![128, 256] _) = o3
  generalize eg3 : View.ld (iblk m c 10 t) (Rect.unit (s := S1x1024) ![0, 768] ![1, 256] _) = g3
  have hk := chk_val t
  have ht := lt t
  have x0 : ∀ (s : Fin 128) (e : Fin 1024), L5 (ix2 s e) = past (args m c).u (bat t) (time (chk t) s) e 0 := by
    intro s e
    subst e5
    refine (ldAt (S := S136x1024) _ (off := ![5, 0]) (size := ![128, 1024]) _ _ (ix2 (n0 := 136) (n1 := 1024) ⟨5 + s.val, by omega⟩ e) (ax2 _ _ _ rfl (Nat.zero_add _).symm)).trans ?_
    by_cases hs : s.val < 3
    · refine (View.read_writes_cons_unit_of_not_mem (s := S136x1024) _ _ (off' := ![8, 0]) (size := ![128, 1024]) _ _ _ (ix2 (n0 := 136) (n1 := 1024) ⟨5 + s.val, by omega⟩ e) rfl (0 : Fin 2) (Or.inl (by show 5 + s.val < 8; omega))).trans ?_
      rw [View.writes_nil]
      refine Eq.trans (b := acc.2.2.2.2.1 (ix2 (n0 := 136) (n1 := 1024) ⟨5 + s.val, by omega⟩ e)) (congrFun (read_unread_whole _ _ _) _) ?_
      refine (I.u _ e ⟨(bat t).val * 2048 + ((chk t).val * 128 + s.val + 0 - 3), by have := (bat t).isLt; omega⟩ (by show 5 + s.val < 8; omega) (by show (bat t).val * 2048 + ((chk t).val * 128 + s.val + 0 - 3) + 8 = (bat t).val * 2048 + t.val % 16 * 128 + (5 + s.val); omega)).trans (past_in _ _ _ _ _ _ ?_ ?_).symm
      · show (bat t).val * 2048 + ((chk t).val * 128 + s.val + 0 - 3) + 3 = (bat t).val * 2048 + ((chk t).val * 128 + s.val + 0)
        omega
      · show 3 ≤ (chk t).val * 128 + s.val + 0
        omega
    · exact (View.read_writes_cons_unit_of_mem (s := S136x1024) _ _ (off' := ![8, 0]) (size := ![128, 1024]) _ _ _ (ix2 (n0 := 136) (n1 := 1024) ⟨5 + s.val, by omega⟩ e) (ix2 (n0 := 128) (n1 := 1024) ⟨s.val - 3, by omega⟩ e) rfl (ax2 _ _ _ (by show 5 + s.val = 8 + (s.val - 3); omega) (Nat.zero_add _).symm)).trans ((pay9_at _ _ _).trans ((f0 m c t _ _).trans (past_in _ _ _ _ _ _ (by show (bat t).val * 2048 + ((chk t).val * 128 + (s.val - 3)) + 3 = (bat t).val * 2048 + ((chk t).val * 128 + s.val + 0); omega) (by show 3 ≤ (chk t).val * 128 + s.val + 0; omega)).symm))
  have x1 : ∀ (s : Fin 128) (e : Fin 1024), L6 (ix2 s e) = past (args m c).u (bat t) (time (chk t) s) e 1 := by
    intro s e
    subst e6
    refine (ldAt (S := S136x1024) _ (off := ![6, 0]) (size := ![128, 1024]) _ _ (ix2 (n0 := 136) (n1 := 1024) ⟨6 + s.val, by omega⟩ e) (ax2 _ _ _ rfl (Nat.zero_add _).symm)).trans ?_
    by_cases hs : s.val < 2
    · refine (View.read_writes_cons_unit_of_not_mem (s := S136x1024) _ _ (off' := ![8, 0]) (size := ![128, 1024]) _ _ _ (ix2 (n0 := 136) (n1 := 1024) ⟨6 + s.val, by omega⟩ e) rfl (0 : Fin 2) (Or.inl (by show 6 + s.val < 8; omega))).trans ?_
      rw [View.writes_nil]
      refine Eq.trans (b := acc.2.2.2.2.1 (ix2 (n0 := 136) (n1 := 1024) ⟨6 + s.val, by omega⟩ e)) (congrFun (read_unread_whole _ _ _) _) ?_
      refine (I.u _ e ⟨(bat t).val * 2048 + ((chk t).val * 128 + s.val + 1 - 3), by have := (bat t).isLt; omega⟩ (by show 6 + s.val < 8; omega) (by show (bat t).val * 2048 + ((chk t).val * 128 + s.val + 1 - 3) + 8 = (bat t).val * 2048 + t.val % 16 * 128 + (6 + s.val); omega)).trans (past_in _ _ _ _ _ _ ?_ ?_).symm
      · show (bat t).val * 2048 + ((chk t).val * 128 + s.val + 1 - 3) + 3 = (bat t).val * 2048 + ((chk t).val * 128 + s.val + 1)
        omega
      · show 3 ≤ (chk t).val * 128 + s.val + 1
        omega
    · exact (View.read_writes_cons_unit_of_mem (s := S136x1024) _ _ (off' := ![8, 0]) (size := ![128, 1024]) _ _ _ (ix2 (n0 := 136) (n1 := 1024) ⟨6 + s.val, by omega⟩ e) (ix2 (n0 := 128) (n1 := 1024) ⟨s.val - 2, by omega⟩ e) rfl (ax2 _ _ _ (by show 6 + s.val = 8 + (s.val - 2); omega) (Nat.zero_add _).symm)).trans ((pay9_at _ _ _).trans ((f0 m c t _ _).trans (past_in _ _ _ _ _ _ (by show (bat t).val * 2048 + ((chk t).val * 128 + (s.val - 2)) + 3 = (bat t).val * 2048 + ((chk t).val * 128 + s.val + 1); omega) (by show 3 ≤ (chk t).val * 128 + s.val + 1; omega)).symm))
  have x2 : ∀ (s : Fin 128) (e : Fin 1024), L7 (ix2 s e) = past (args m c).u (bat t) (time (chk t) s) e 2 := by
    intro s e
    subst e7
    refine (ldAt (S := S136x1024) _ (off := ![7, 0]) (size := ![128, 1024]) _ _ (ix2 (n0 := 136) (n1 := 1024) ⟨7 + s.val, by omega⟩ e) (ax2 _ _ _ rfl (Nat.zero_add _).symm)).trans ?_
    by_cases hs : s.val < 1
    · refine (View.read_writes_cons_unit_of_not_mem (s := S136x1024) _ _ (off' := ![8, 0]) (size := ![128, 1024]) _ _ _ (ix2 (n0 := 136) (n1 := 1024) ⟨7 + s.val, by omega⟩ e) rfl (0 : Fin 2) (Or.inl (by show 7 + s.val < 8; omega))).trans ?_
      rw [View.writes_nil]
      refine Eq.trans (b := acc.2.2.2.2.1 (ix2 (n0 := 136) (n1 := 1024) ⟨7 + s.val, by omega⟩ e)) (congrFun (read_unread_whole _ _ _) _) ?_
      refine (I.u _ e ⟨(bat t).val * 2048 + ((chk t).val * 128 + s.val + 2 - 3), by have := (bat t).isLt; omega⟩ (by show 7 + s.val < 8; omega) (by show (bat t).val * 2048 + ((chk t).val * 128 + s.val + 2 - 3) + 8 = (bat t).val * 2048 + t.val % 16 * 128 + (7 + s.val); omega)).trans (past_in _ _ _ _ _ _ ?_ ?_).symm
      · show (bat t).val * 2048 + ((chk t).val * 128 + s.val + 2 - 3) + 3 = (bat t).val * 2048 + ((chk t).val * 128 + s.val + 2)
        omega
      · show 3 ≤ (chk t).val * 128 + s.val + 2
        omega
    · exact (View.read_writes_cons_unit_of_mem (s := S136x1024) _ _ (off' := ![8, 0]) (size := ![128, 1024]) _ _ _ (ix2 (n0 := 136) (n1 := 1024) ⟨7 + s.val, by omega⟩ e) (ix2 (n0 := 128) (n1 := 1024) ⟨s.val - 1, by omega⟩ e) rfl (ax2 _ _ _ (by show 7 + s.val = 8 + (s.val - 1); omega) (Nat.zero_add _).symm)).trans ((pay9_at _ _ _).trans ((f0 m c t _ _).trans (past_in _ _ _ _ _ _ (by show (bat t).val * 2048 + ((chk t).val * 128 + (s.val - 1)) + 3 = (bat t).val * 2048 + ((chk t).val * 128 + s.val + 2); omega) (by show 3 ≤ (chk t).val * 128 + s.val + 2; omega)).symm))
  have x3 : ∀ (s : Fin 128) (e : Fin 1024), L8 (ix2 s e) = past (args m c).u (bat t) (time (chk t) s) e 3 := by
    intro s e
    subst e8
    refine (load (S := S136x1024) _ _ (off := ![8, 0]) (size := ![128, 1024]) _ _ (ix2 (n0 := 136) (n1 := 1024) ⟨8 + s.val, by omega⟩ e) (ax2 _ _ _ rfl (Nat.zero_add _).symm)).trans ?_
    exact (hit (S := S136x1024) (off := ![8, 0]) (size := ![128, 1024]) _ _ _ (ix2 (n0 := 136) (n1 := 1024) ⟨8 + s.val, by omega⟩ e) (ix2 (n0 := 128) (n1 := 1024) ⟨s.val - 0, by omega⟩ e) (ax2 _ _ _ (by show 8 + s.val = 8 + (s.val - 0); omega) (Nat.zero_add _).symm)).trans ((pay9_at _ _ _).trans ((f0 m c t _ _).trans (past_in _ _ _ _ _ _ (by show (bat t).val * 2048 + ((chk t).val * 128 + (s.val - 0)) + 3 = (bat t).val * 2048 + ((chk t).val * 128 + s.val + 3); omega) (by show 3 ≤ (chk t).val * 128 + s.val + 3; omega)).symm))
  have y0 : ∀ e, w0 (ix2 0 e) = (args m c).w 0 e := fun e => by
    subst ew0
    exact (ldAt (S := S4x1024) _ (off := ![0, 0]) (size := ![1, 1024]) _ _ (ix2 0 e) (ax2 _ _ _ rfl (Nat.zero_add _).symm)).trans (f4 m c t 0 e)
  have y1 : ∀ e, w1 (ix2 0 e) = (args m c).w 1 e := fun e => by
    subst ew1
    exact (ldAt (S := S4x1024) _ (off := ![1, 0]) (size := ![1, 1024]) _ _ (ix2 1 e) (ax2 _ _ _ rfl (Nat.zero_add _).symm)).trans (f4 m c t 1 e)
  have y2 : ∀ e, w2 (ix2 0 e) = (args m c).w 2 e := fun e => by
    subst ew2
    exact (ldAt (S := S4x1024) _ (off := ![2, 0]) (size := ![1, 1024]) _ _ (ix2 2 e) (ax2 _ _ _ rfl (Nat.zero_add _).symm)).trans (f4 m c t 2 e)
  have y3 : ∀ e, w3 (ix2 0 e) = (args m c).w 3 e := fun e => by
    subst ew3
    exact (ldAt (S := S4x1024) _ (off := ![3, 0]) (size := ![1, 1024]) _ _ (ix2 3 e) (ax2 _ _ _ rfl (Nat.zero_add _).symm)).trans (f4 m c t 3 e)
  have hgi : ∀ (s : Fin 128) (h : Fin 4), gi (ix2 s ⟨16 + h.val, by omega⟩) = (args m c).g (row (bat t) (time (chk t) s)) ⟨16 + h.val, by omega⟩ := fun s h => by
    subst egi
    exact (ldAt (S := S128x256) _ (off := ![0, 0]) (size := ![128, 128]) _ _ (ix2 s ⟨16 + h.val, by omega⟩) (ax2 _ _ _ (Nat.zero_add _).symm (Nat.zero_add _).symm)).trans (f3 m c t s _)
  have hgf : ∀ (s : Fin 128) (h : Fin 4), gf (ix2 s ⟨16 + h.val, by omega⟩) = (args m c).g (row (bat t) (time (chk t) s)) ⟨144 + h.val, by omega⟩ := fun s h => by
    subst egf
    exact (ldAt (S := S128x256) _ (off := ![0, 128]) (size := ![128, 128]) _ _ (ix2 s ⟨144 + h.val, by omega⟩) (ax2 _ _ _ (Nat.zero_add _).symm (by show 144 + h.val = 128 + (16 + h.val); omega))).trans (f3 m c t s _)
  have hmr : ∀ h : Fin 4, mr (ix2 0 ⟨16 + h.val, by omega⟩) = (carry (chunksOf (args m c) (bat t) h) (t.val % 16)).m := fun h => by
    subst emr
    exact (ldAt (S := S8x128) _ (off := ![0, 0]) (size := ![1, 128]) _ _ (ix2 0 ⟨16 + h.val, by omega⟩) (ax2 _ _ _ rfl (Nat.zero_add _).symm)).trans ((congrFun (read_unread_whole _ _ _) _).trans (I.m h))
  have hc0 : ∀ d e, c0 (ix3 0 d e) = (carry (chunksOf (args m c) (bat t) 0) (t.val % 16)).C d e := fun d e => by
    subst ec0
    exact (ldAt (S := S4x256x256) _ (off := ![0, 0, 0]) (size := ![1, 256, 256]) _ _ (ix3 0 d e) (ax3 _ _ _ rfl (Nat.zero_add _).symm (Nat.zero_add _).symm)).trans ((congrFun (read_unread_whole _ _ _) _).trans (I.C 0 d e))
  have hn0 : ∀ d, n0 (ix3 0 0 d) = (carry (chunksOf (args m c) (bat t) 0) (t.val % 16)).n d := fun d => by
    subst en0
    exact (ldAt (S := S4x8x256) _ (off := ![0, 0, 0]) (size := ![1, 8, 256]) _ _ (ix3 0 0 d) (ax3 _ _ _ rfl rfl (Nat.zero_add _).symm)).trans ((congrFun (read_unread_whole _ _ _) _).trans (I.n 0 0 d))
  have hq0 : ∀ d e, wq0 (ix3 0 d e) = (args m c).wq 0 d e := fun d e => by
    subst eq0
    exact (ldAt (S := S4x256x256) _ (off := ![0, 0, 0]) (size := ![1, 256, 256]) _ _ (ix3 0 d e) (ax3 _ _ _ rfl (Nat.zero_add _).symm (Nat.zero_add _).symm)).trans (f6 m c t 0 d e)
  have hk0 : ∀ d e, wk0 (ix3 0 d e) = (args m c).wk 0 d e := fun d e => by
    subst ek0
    exact (ldAt (S := S4x256x256) _ (off := ![0, 0, 0]) (size := ![1, 256, 256]) _ _ (ix3 0 d e) (ax3 _ _ _ rfl (Nat.zero_add _).symm (Nat.zero_add _).symm)).trans (f7 m c t 0 d e)
  have hv0 : ∀ s e, v0 (ix2 s e) = (args m c).v (row (bat t) (time (chk t) s)) (col 0 e) := fun s e => by
    subst ev0
    exact (ldAt (S := S128x1024) _ (off := ![0, 0]) (size := ![128, 256]) _ _ (ix2 s (col 0 e)) (ax2 _ _ _ (Nat.zero_add _).symm (by show 0 * 256 + e.val = 0 + e.val; omega))).trans (f1 m c t s _)
  have ho0 : ∀ s e, o0 (ix2 s e) = m ((c : Thread nD τ).loc main_arg2) (ix2 (row (bat t) (time (chk t) s)) (col 0 e)) := fun s e => by
    subst eo0
    exact (ldAt (S := S128x1024) _ (off := ![0, 0]) (size := ![128, 256]) _ _ (ix2 s (col 0 e)) (ax2 _ _ _ (Nat.zero_add _).symm (by show 0 * 256 + e.val = 0 + e.val; omega))).trans (f2 m c t s _)
  have hg0 : ∀ e, g0 (ix2 0 e) = m ((c : Thread nD τ).loc main_arg10) (ix3 0 0 e) := fun e => by
    subst eg0
    exact (ldAt (S := S1x1024) _ (off := ![0, 0]) (size := ![1, 256]) _ _ (ix2 0 (col 0 e)) (ax2 _ _ _ rfl (by show 0 * 256 + e.val = 0 + e.val; omega))).trans (f10 m c t 0 e)
  have G0 := Cert.KernelIdeal.Good.good (args m c) (bat t) (chk t) 0 (carry (chunksOf (args m c) (bat t) 0) (t.val % 16)) 16 0 (Nat.le_of_ble_eq_true rfl) rfl rfl gi gf
    (iblk m c 8 t) (iblk m c 9 t) (iblk m c 11 t) mr (iblk m c 5 t) w0 w1 w2 w3 L5 L6 L7 L8 wq0 wk0 v0 c0 n0 hgi hgf (f8 m c t) (f9 m c t)
    (f11 m c t) (hmr 0) (f5 m c t) y0 y1 y2 y3 x0 x1 x2 x3 hq0 hk0 hv0 hc0 hn0
  have hc1 : ∀ d e, c1 (ix3 0 d e) = (carry (chunksOf (args m c) (bat t) 1) (t.val % 16)).C d e := fun d e => by
    subst ec1
    exact (ldAt (S := S4x256x256) _ (off := ![1, 0, 0]) (size := ![1, 256, 256]) _ _ (ix3 1 d e) (ax3 _ _ _ rfl (Nat.zero_add _).symm (Nat.zero_add _).symm)).trans ((congrFun (read_unread_whole _ _ _) _).trans (I.C 1 d e))
  have hn1 : ∀ d, n1 (ix3 0 0 d) = (carry (chunksOf (args m c) (bat t) 1) (t.val % 16)).n d := fun d => by
    subst en1
    exact (ldAt (S := S4x8x256) _ (off := ![1, 0, 0]) (size := ![1, 8, 256]) _ _ (ix3 1 0 d) (ax3 _ _ _ rfl rfl (Nat.zero_add _).symm)).trans ((congrFun (read_unread_whole _ _ _) _).trans (I.n 1 0 d))
  have hq1 : ∀ d e, wq1 (ix3 0 d e) = (args m c).wq 1 d e := fun d e => by
    subst eq1
    exact (ldAt (S := S4x256x256) _ (off := ![1, 0, 0]) (size := ![1, 256, 256]) _ _ (ix3 1 d e) (ax3 _ _ _ rfl (Nat.zero_add _).symm (Nat.zero_add _).symm)).trans (f6 m c t 1 d e)
  have hk1 : ∀ d e, wk1 (ix3 0 d e) = (args m c).wk 1 d e := fun d e => by
    subst ek1
    exact (ldAt (S := S4x256x256) _ (off := ![1, 0, 0]) (size := ![1, 256, 256]) _ _ (ix3 1 d e) (ax3 _ _ _ rfl (Nat.zero_add _).symm (Nat.zero_add _).symm)).trans (f7 m c t 1 d e)
  have hv1 : ∀ s e, v1 (ix2 s e) = (args m c).v (row (bat t) (time (chk t) s)) (col 1 e) := fun s e => by
    subst ev1
    exact (ldAt (S := S128x1024) _ (off := ![0, 256]) (size := ![128, 256]) _ _ (ix2 s (col 1 e)) (ax2 _ _ _ (Nat.zero_add _).symm (by show 1 * 256 + e.val = 256 + e.val; omega))).trans (f1 m c t s _)
  have ho1 : ∀ s e, o1 (ix2 s e) = m ((c : Thread nD τ).loc main_arg2) (ix2 (row (bat t) (time (chk t) s)) (col 1 e)) := fun s e => by
    subst eo1
    exact (ldAt (S := S128x1024) _ (off := ![0, 256]) (size := ![128, 256]) _ _ (ix2 s (col 1 e)) (ax2 _ _ _ (Nat.zero_add _).symm (by show 1 * 256 + e.val = 256 + e.val; omega))).trans (f2 m c t s _)
  have hg1 : ∀ e, g1 (ix2 0 e) = m ((c : Thread nD τ).loc main_arg10) (ix3 0 1 e) := fun e => by
    subst eg1
    exact (ldAt (S := S1x1024) _ (off := ![0, 256]) (size := ![1, 256]) _ _ (ix2 0 (col 1 e)) (ax2 _ _ _ rfl (by show 1 * 256 + e.val = 256 + e.val; omega))).trans (f10 m c t 1 e)
  have G1 := Cert.KernelIdeal.Good.good (args m c) (bat t) (chk t) 1 (carry (chunksOf (args m c) (bat t) 1) (t.val % 16)) 17 256 (Nat.le_of_ble_eq_true rfl) rfl rfl gi gf
    (iblk m c 8 t) (iblk m c 9 t) (iblk m c 11 t) mr (iblk m c 5 t) w0 w1 w2 w3 L5 L6 L7 L8 wq1 wk1 v1 c1 n1 hgi hgf (f8 m c t) (f9 m c t)
    (f11 m c t) (hmr 1) (f5 m c t) y0 y1 y2 y3 x0 x1 x2 x3 hq1 hk1 hv1 hc1 hn1
  have hc2 : ∀ d e, c2 (ix3 0 d e) = (carry (chunksOf (args m c) (bat t) 2) (t.val % 16)).C d e := fun d e => by
    subst ec2
    exact (ldAt (S := S4x256x256) _ (off := ![2, 0, 0]) (size := ![1, 256, 256]) _ _ (ix3 2 d e) (ax3 _ _ _ rfl (Nat.zero_add _).symm (Nat.zero_add _).symm)).trans ((congrFun (read_unread_whole _ _ _) _).trans (I.C 2 d e))
  have hn2 : ∀ d, n2 (ix3 0 0 d) = (carry (chunksOf (args m c) (bat t) 2) (t.val % 16)).n d := fun d => by
    subst en2
    exact (ldAt (S := S4x8x256) _ (off := ![2, 0, 0]) (size := ![1, 8, 256]) _ _ (ix3 2 0 d) (ax3 _ _ _ rfl rfl (Nat.zero_add _).symm)).trans ((congrFun (read_unread_whole _ _ _) _).trans (I.n 2 0 d))
  have hq2 : ∀ d e, wq2 (ix3 0 d e) = (args m c).wq 2 d e := fun d e => by
    subst eq2
    exact (ldAt (S := S4x256x256) _ (off := ![2, 0, 0]) (size := ![1, 256, 256]) _ _ (ix3 2 d e) (ax3 _ _ _ rfl (Nat.zero_add _).symm (Nat.zero_add _).symm)).trans (f6 m c t 2 d e)
  have hk2 : ∀ d e, wk2 (ix3 0 d e) = (args m c).wk 2 d e := fun d e => by
    subst ek2
    exact (ldAt (S := S4x256x256) _ (off := ![2, 0, 0]) (size := ![1, 256, 256]) _ _ (ix3 2 d e) (ax3 _ _ _ rfl (Nat.zero_add _).symm (Nat.zero_add _).symm)).trans (f7 m c t 2 d e)
  have hv2 : ∀ s e, v2 (ix2 s e) = (args m c).v (row (bat t) (time (chk t) s)) (col 2 e) := fun s e => by
    subst ev2
    exact (ldAt (S := S128x1024) _ (off := ![0, 512]) (size := ![128, 256]) _ _ (ix2 s (col 2 e)) (ax2 _ _ _ (Nat.zero_add _).symm (by show 2 * 256 + e.val = 512 + e.val; omega))).trans (f1 m c t s _)
  have ho2 : ∀ s e, o2 (ix2 s e) = m ((c : Thread nD τ).loc main_arg2) (ix2 (row (bat t) (time (chk t) s)) (col 2 e)) := fun s e => by
    subst eo2
    exact (ldAt (S := S128x1024) _ (off := ![0, 512]) (size := ![128, 256]) _ _ (ix2 s (col 2 e)) (ax2 _ _ _ (Nat.zero_add _).symm (by show 2 * 256 + e.val = 512 + e.val; omega))).trans (f2 m c t s _)
  have hg2 : ∀ e, g2 (ix2 0 e) = m ((c : Thread nD τ).loc main_arg10) (ix3 0 2 e) := fun e => by
    subst eg2
    exact (ldAt (S := S1x1024) _ (off := ![0, 512]) (size := ![1, 256]) _ _ (ix2 0 (col 2 e)) (ax2 _ _ _ rfl (by show 2 * 256 + e.val = 512 + e.val; omega))).trans (f10 m c t 2 e)
  have G2 := Cert.KernelIdeal.Good.good (args m c) (bat t) (chk t) 2 (carry (chunksOf (args m c) (bat t) 2) (t.val % 16)) 18 512 (Nat.le_of_ble_eq_true rfl) rfl rfl gi gf
    (iblk m c 8 t) (iblk m c 9 t) (iblk m c 11 t) mr (iblk m c 5 t) w0 w1 w2 w3 L5 L6 L7 L8 wq2 wk2 v2 c2 n2 hgi hgf (f8 m c t) (f9 m c t)
    (f11 m c t) (hmr 2) (f5 m c t) y0 y1 y2 y3 x0 x1 x2 x3 hq2 hk2 hv2 hc2 hn2
  have hc3 : ∀ d e, c3 (ix3 0 d e) = (carry (chunksOf (args m c) (bat t) 3) (t.val % 16)).C d e := fun d e => by
    subst ec3
    exact (ldAt (S := S4x256x256) _ (off := ![3, 0, 0]) (size := ![1, 256, 256]) _ _ (ix3 3 d e) (ax3 _ _ _ rfl (Nat.zero_add _).symm (Nat.zero_add _).symm)).trans ((congrFun (read_unread_whole _ _ _) _).trans (I.C 3 d e))
  have hn3 : ∀ d, n3 (ix3 0 0 d) = (carry (chunksOf (args m c) (bat t) 3) (t.val % 16)).n d := fun d => by
    subst en3
    exact (ldAt (S := S4x8x256) _ (off := ![3, 0, 0]) (size := ![1, 8, 256]) _ _ (ix3 3 0 d) (ax3 _ _ _ rfl rfl (Nat.zero_add _).symm)).trans ((congrFun (read_unread_whole _ _ _) _).trans (I.n 3 0 d))
  have hq3 : ∀ d e, wq3 (ix3 0 d e) = (args m c).wq 3 d e := fun d e => by
    subst eq3
    exact (ldAt (S := S4x256x256) _ (off := ![3, 0, 0]) (size := ![1, 256, 256]) _ _ (ix3 3 d e) (ax3 _ _ _ rfl (Nat.zero_add _).symm (Nat.zero_add _).symm)).trans (f6 m c t 3 d e)
  have hk3 : ∀ d e, wk3 (ix3 0 d e) = (args m c).wk 3 d e := fun d e => by
    subst ek3
    exact (ldAt (S := S4x256x256) _ (off := ![3, 0, 0]) (size := ![1, 256, 256]) _ _ (ix3 3 d e) (ax3 _ _ _ rfl (Nat.zero_add _).symm (Nat.zero_add _).symm)).trans (f7 m c t 3 d e)
  have hv3 : ∀ s e, v3 (ix2 s e) = (args m c).v (row (bat t) (time (chk t) s)) (col 3 e) := fun s e => by
    subst ev3
    exact (ldAt (S := S128x1024) _ (off := ![0, 768]) (size := ![128, 256]) _ _ (ix2 s (col 3 e)) (ax2 _ _ _ (Nat.zero_add _).symm (by show 3 * 256 + e.val = 768 + e.val; omega))).trans (f1 m c t s _)
  have ho3 : ∀ s e, o3 (ix2 s e) = m ((c : Thread nD τ).loc main_arg2) (ix2 (row (bat t) (time (chk t) s)) (col 3 e)) := fun s e => by
    subst eo3
    exact (ldAt (S := S128x1024) _ (off := ![0, 768]) (size := ![128, 256]) _ _ (ix2 s (col 3 e)) (ax2 _ _ _ (Nat.zero_add _).symm (by show 3 * 256 + e.val = 768 + e.val; omega))).trans (f2 m c t s _)
  have hg3 : ∀ e, g3 (ix2 0 e) = m ((c : Thread nD τ).loc main_arg10) (ix3 0 3 e) := fun e => by
    subst eg3
    exact (ldAt (S := S1x1024) _ (off := ![0, 768]) (size := ![1, 256]) _ _ (ix2 0 (col 3 e)) (ax2 _ _ _ rfl (by show 3 * 256 + e.val = 768 + e.val; omega))).trans (f10 m c t 3 e)
  have G3 := Cert.KernelIdeal.Good.good (args m c) (bat t) (chk t) 3 (carry (chunksOf (args m c) (bat t) 3) (t.val % 16)) 19 768 (Nat.le_of_ble_eq_true rfl) rfl rfl gi gf
    (iblk m c 8 t) (iblk m c 9 t) (iblk m c 11 t) mr (iblk m c 5 t) w0 w1 w2 w3 L5 L6 L7 L8 wq3 wk3 v3 c3 n3 hgi hgf (f8 m c t) (f9 m c t)
    (f11 m c t) (hmr 3) (f5 m c t) y0 y1 y2 y3 x0 x1 x2 x3 hq3 hk3 hv3 hc3 hn3
  clear e6 e7 e5 e8 ew0 ew1 ew2 ew3 egi egf emr ec0 en0 eq0 ek0 ev0 eo0 eg0 ec1 en1 eq1 ek1 ev1 eo1 eg1 ec2 en2 eq2 ek2 ev2 eo2 eg2 ec3 en3 eq3 ek3 ev3 eo3 eg3
  refine ⟨fun h d e => ?_, fun h a d => ?_, fun h => ?_, fun i e r hi hr => ?_, fun s h e => ?_⟩
  · skip
    rcases four h with rfl | rfl | rfl | rfl
    · refine (miss (S := S4x256x256) (off := ![3, 0, 0]) (size := ![1, 256, 256]) _ _ _ _ (0 : Fin 3) (Or.inl (by show 0 < 3; omega))).trans ?_
      refine (miss (S := S4x256x256) (off := ![2, 0, 0]) (size := ![1, 256, 256]) _ _ _ _ (0 : Fin 3) (Or.inl (by show 0 < 2; omega))).trans ?_
      refine (miss (S := S4x256x256) (off := ![1, 0, 0]) (size := ![1, 256, 256]) _ _ _ _ (0 : Fin 3) (Or.inl (by show 0 < 1; omega))).trans ?_
      exact (hit (S := S4x256x256) (off := ![0, 0, 0]) (size := ![1, 256, 256]) _ _ _ _ (ix3 (n0 := 1) (n1 := 256) (n2 := 256) 0 d e) (ax3 _ _ _ rfl (Nat.zero_add _).symm (Nat.zero_add _).symm)).trans (One.rCn0 G0 d e)
    · refine (miss (S := S4x256x256) (off := ![3, 0, 0]) (size := ![1, 256, 256]) _ _ _ _ (0 : Fin 3) (Or.inl (by show 1 < 3; omega))).trans ?_
      refine (miss (S := S4x256x256) (off := ![2, 0, 0]) (size := ![1, 256, 256]) _ _ _ _ (0 : Fin 3) (Or.inl (by show 1 < 2; omega))).trans ?_
      exact (hit (S := S4x256x256) (off := ![1, 0, 0]) (size := ![1, 256, 256]) _ _ _ _ (ix3 (n0 := 1) (n1 := 256) (n2 := 256) 0 d e) (ax3 _ _ _ rfl (Nat.zero_add _).symm (Nat.zero_add _).symm)).trans (One.rCn1 G1 d e)
    · refine (miss (S := S4x256x256) (off := ![3, 0, 0]) (size := ![1, 256, 256]) _ _ _ _ (0 : Fin 3) (Or.inl (by show 2 < 3; omega))).trans ?_
      exact (hit (S := S4x256x256) (off := ![2, 0, 0]) (size := ![1, 256, 256]) _ _ _ _ (ix3 (n0 := 1) (n1 := 256) (n2 := 256) 0 d e) (ax3 _ _ _ rfl (Nat.zero_add _).symm (Nat.zero_add _).symm)).trans (One.rCn2 G2 d e)
    · exact (hit (S := S4x256x256) (off := ![3, 0, 0]) (size := ![1, 256, 256]) _ _ _ _ (ix3 (n0 := 1) (n1 := 256) (n2 := 256) 0 d e) (ax3 _ _ _ rfl (Nat.zero_add _).symm (Nat.zero_add _).symm)).trans (One.rCn3 G3 d e)
  · skip
    rcases four h with rfl | rfl | rfl | rfl
    · refine (miss (S := S4x8x256) (off := ![3, 0, 0]) (size := ![1, 8, 256]) _ _ _ _ (0 : Fin 3) (Or.inl (by show 0 < 3; omega))).trans ?_
      refine (miss (S := S4x8x256) (off := ![2, 0, 0]) (size := ![1, 8, 256]) _ _ _ _ (0 : Fin 3) (Or.inl (by show 0 < 2; omega))).trans ?_
      refine (miss (S := S4x8x256) (off := ![1, 0, 0]) (size := ![1, 8, 256]) _ _ _ _ (0 : Fin 3) (Or.inl (by show 0 < 1; omega))).trans ?_
      exact (hit (S := S4x8x256) (off := ![0, 0, 0]) (size := ![1, 8, 256]) _ _ _ _ (ix3 (n0 := 1) (n1 := 8) (n2 := 256) 0 a d) (ax3 _ _ _ rfl (Nat.zero_add _).symm (Nat.zero_add _).symm)).trans (One.rnn0 G0 a d)
    · refine (miss (S := S4x8x256) (off := ![3, 0, 0]) (size := ![1, 8, 256]) _ _ _ _ (0 : Fin 3) (Or.inl (by show 1 < 3; omega))).trans ?_
      refine (miss (S := S4x8x256) (off := ![2, 0, 0]) (size := ![1, 8, 256]) _ _ _ _ (0 : Fin 3) (Or.inl (by show 1 < 2; omega))).trans ?_
      exact (hit (S := S4x8x256) (off := ![1, 0, 0]) (size := ![1, 8, 256]) _ _ _ _ (ix3 (n0 := 1) (n1 := 8) (n2 := 256) 0 a d) (ax3 _ _ _ rfl (Nat.zero_add _).symm (Nat.zero_add _).symm)).trans (One.rnn1 G1 a d)
    · refine (miss (S := S4x8x256) (off := ![3, 0, 0]) (size := ![1, 8, 256]) _ _ _ _ (0 : Fin 3) (Or.inl (by show 2 < 3; omega))).trans ?_
      exact (hit (S := S4x8x256) (off := ![2, 0, 0]) (size := ![1, 8, 256]) _ _ _ _ (ix3 (n0 := 1) (n1 := 8) (n2 := 256) 0 a d) (ax3 _ _ _ rfl (Nat.zero_add _).symm (Nat.zero_add _).symm)).trans (One.rnn2 G2 a d)
    · exact (hit (S := S4x8x256) (off := ![3, 0, 0]) (size := ![1, 8, 256]) _ _ _ _ (ix3 (n0 := 1) (n1 := 8) (n2 := 256) 0 a d) (ax3 _ _ _ rfl (Nat.zero_add _).symm (Nat.zero_add _).symm)).trans (One.rnn3 G3 a d)
  · skip
    rcases four h with rfl | rfl | rfl | rfl
    · exact (pay135_at _ 0 _).trans (One.p19 G0)
    · exact (pay135_at _ 0 _).trans (One.p19 G1)
    · exact (pay135_at _ 0 _).trans (One.p19 G2)
    · exact (pay135_at _ 0 _).trans (One.p19 G3)
  · refine (hit (S := S136x1024) (off := ![0, 0]) (size := ![8, 1024]) _ _ _ _ (ix2 (n0 := 8) (n1 := 1024) ⟨i.val, hi⟩ e) (ax2 _ _ _ (Nat.zero_add _).symm (Nat.zero_add _).symm)).trans ((pay12_at _ _ _).trans ?_)
    refine (load (S := S136x1024) _ _ (off := ![128, 0]) (size := ![8, 1024]) _ _ (ix2 (n0 := 136) (n1 := 1024) ⟨128 + i.val, by omega⟩ e) (ax2 _ _ _ rfl (Nat.zero_add _).symm)).trans ?_
    refine (hit (S := S136x1024) (off := ![8, 0]) (size := ![128, 1024]) _ _ _ _ (ix2 (n0 := 128) (n1 := 1024) ⟨120 + i.val, by omega⟩ e) (ax2 _ _ _ (by show 128 + i.val = 8 + (120 + i.val); omega) (Nat.zero_add _).symm)).trans ((pay9_at _ _ _).trans ((f0 m c t _ _).trans ?_))
    refine congrArg (fun r => (args m c).u r e) (Fin.ext ?_)
    show (bat t).val * 2048 + ((chk t).val * 128 + (120 + i.val)) = r.val
    omega
  · skip
    rcases four h with rfl | rfl | rfl | rfl
    · refine (miss (S := S128x1024) (off := ![0, 768]) (size := ![128, 256]) _ _ _ _ (1 : Fin 2) (Or.inl (by show 0 * 256 + e.val < 768; omega))).trans ?_
      refine (miss (S := S128x1024) (off := ![0, 512]) (size := ![128, 256]) _ _ _ _ (1 : Fin 2) (Or.inl (by show 0 * 256 + e.val < 512; omega))).trans ?_
      refine (miss (S := S128x1024) (off := ![0, 256]) (size := ![128, 256]) _ _ _ _ (1 : Fin 2) (Or.inl (by show 0 * 256 + e.val < 256; omega))).trans ?_
      refine (hit (S := S128x1024) (off := ![0, 0]) (size := ![128, 256]) _ _ _ _ (ix2 (n0 := 128) (n1 := 256) s e) (ax2 _ _ _ (Nat.zero_add _).symm (by show 0 * 256 + e.val = 0 + e.val; omega))).trans ((One.ry0 G0 g0 o0 s e).trans ?_)
      rw [ho0, hg0]
      unfold result
      rw [hk]
    · refine (miss (S := S128x1024) (off := ![0, 768]) (size := ![128, 256]) _ _ _ _ (1 : Fin 2) (Or.inl (by show 1 * 256 + e.val < 768; omega))).trans ?_
      refine (miss (S := S128x1024) (off := ![0, 512]) (size := ![128, 256]) _ _ _ _ (1 : Fin 2) (Or.inl (by show 1 * 256 + e.val < 512; omega))).trans ?_
      refine (hit (S := S128x1024) (off := ![0, 256]) (size := ![128, 256]) _ _ _ _ (ix2 (n0 := 128) (n1 := 256) s e) (ax2 _ _ _ (Nat.zero_add _).symm (by show 1 * 256 + e.val = 256 + e.val; omega))).trans ((One.ry1 G1 g1 o1 s e).trans ?_)
      rw [ho1, hg1]
      unfold result
      rw [hk]
    · refine (miss (S := S128x1024) (off := ![0, 768]) (size := ![128, 256]) _ _ _ _ (1 : Fin 2) (Or.inl (by show 2 * 256 + e.val < 768; omega))).trans ?_
      refine (hit (S := S128x1024) (off := ![0, 512]) (size := ![128, 256]) _ _ _ _ (ix2 (n0 := 128) (n1 := 256) s e) (ax2 _ _ _ (Nat.zero_add _).symm (by show 2 * 256 + e.val = 512 + e.val; omega))).trans ((One.ry2 G2 g2 o2 s e).trans ?_)
      rw [ho2, hg2]
      unfold result
      rw [hk]
    · refine (hit (S := S128x1024) (off := ![0, 768]) (size := ![128, 256]) _ _ _ _ (ix2 (n0 := 128) (n1 := 256) s e) (ax2 _ _ _ (Nat.zero_add _).symm (by show 3 * 256 + e.val = 768 + e.val; omega))).trans ((One.ry3 G3 g3 o3 s e).trans ?_)
      rw [ho3, hg3]
      unfold result
      rw [hk]

end Cert.KernelIdeal.StepB
-- ==== Proof.KerStepC.lean ====
module

public import proofs.«01_k».proof.Proof.Gen.KernelIdeal.Value
public import proofs.«01_k».proof.Proof.KerBlk
public import proofs.«01_k».proof.Proof.KerOne
public import proofs.«01_k».proof.Proof.KerGood
public import proofs.«01_k».proof.Proof.KerRead
public import proofs.«01_k».proof.Proof.KerInv
public import Idealize.ShloMosaic.Lib.Pointwise
public import Idealize.ShloMosaic.Lib.Pipeline.ValueKit
public import Idealize.ShloMosaic.Lib.Pipeline.ReadBack

@[expose] public section
set_option maxRecDepth 16384
noncomputable section
open Idealize.ShloMosaic Idealize.ShloMosaic.TcCoe Idealize.SL.Sem
open Cert.KernelIdeal Cert.KernelIdeal.Gen Cert.KernelIdeal.Value
open Cert.MemSpec

set_option maxHeartbeats 4000000

namespace Cert.KernelIdeal.StepC

open Cert.KernelIdeal.Blk Cert.KernelIdeal.Inv Cert.KernelIdeal.Read

variable (m : (ℓ : Loc nD τ sig) → Buf (Elt Ideal) ℓ) (c : Dev nD)

/-- The last chunk of a batch: what it leaves, its output, and the states it copies out. -/
theorem step (t : Fin cfg0.N) (acc) (h0 : ¬ t.val % 16 = 0) (h1 : t.val % 16 = 15)
    (I : Holds (args m c) (bat t) (t.val % 16) acc.2.2.2.2.1 acc.2.2.2.2.2.1 acc.2.2.2.2.2.2.1 acc.2.2.2.2.2.2.2) :
    (∀ (h : Fin 4) (d e : Fin 256), (stAt0 m c t.val t.isLt acc).2.2.2.2.2.1 (ix3 h d e) = (carry (chunksOf (args m c) (bat t) h) (t.val % 16 + 1)).C d e)
    ∧ (∀ (h : Fin 4) (a : Fin 8) (d : Fin 256), (stAt0 m c t.val t.isLt acc).2.2.2.2.2.2.1 (ix3 h a d) = (carry (chunksOf (args m c) (bat t) h) (t.val % 16 + 1)).n d)
    ∧ (∀ h : Fin 4, (stAt0 m c t.val t.isLt acc).2.2.2.2.2.2.2 (ix2 0 ⟨16 + h.val, by omega⟩) = (carry (chunksOf (args m c) (bat t) h) (t.val % 16 + 1)).m)
    ∧ (∀ (i : Fin 136) (e : Fin 1024) (r : Fin 16384), i.val < 8 → r.val + 8 = (bat t).val * 2048 + (t.val % 16 + 1) * 128 + i.val →
        (stAt0 m c t.val t.isLt acc).2.2.2.2.1 (ix2 i e) = (args m c).u r e)
    ∧ (∀ (s : Fin 128) (h : Fin 4) (e : Fin 256), (stAt0 m c t.val t.isLt acc).1 (ix2 s (col h e))
        = result (args m c) (fun h e => m ((c : Thread nD τ).loc main_arg10) (ix3 0 h e)) (fun r e => m ((c : Thread nD τ).loc main_arg2) (ix2 r e)) (bat t) (chk t) s h e)
    ∧ (∀ (h : Fin 4) (d e : Fin 256), (stAt0 m c t.val t.isLt acc).2.1 (ix4 0 h d e) = (carry (chunksOf (args m c) (bat t) h) (t.val % 16 + 1)).C d e)
    ∧ (∀ (h : Fin 4) (a : Fin 8) (d : Fin 256), (stAt0 m c t.val t.isLt acc).2.2.1 (ix4 0 h a d) = (carry (chunksOf (args m c) (bat t) h) (t.val % 16 + 1)).n d)
    ∧ (∀ (a : Fin 8) (h : Fin 4), (stAt0 m c t.val t.isLt acc).2.2.2.1 (ix3 0 a ⟨16 + h.val, by omega⟩) = (carry (chunksOf (args m c) (bat t) h) (t.val % 16 + 1)).m) := by
  rw [stAt0_C m c t acc h0 h1]; dsimp only; frame_out
  generalize e5 : View.ld (View.read _ (View.whole cc0_scratch0) _) (Rect.unit (s := S136x1024) ![5, 0] ![128, 1024] _) = L5
  generalize e6 : View.ld (View.read _ (View.whole cc0_scratch0) _) (Rect.unit (s := S136x1024) ![6, 0] ![128, 1024] _) = L6
  generalize e7 : View.ld (View.read _ (View.whole cc0_scratch0) _) (Rect.unit (s := S136x1024) ![7, 0] ![128, 1024] _) = L7
  generalize e8 : View.readCov (Val := Elt Ideal) (View.whole cc0_scratch0) _ (Rect.unit (s := S136x1024) ![8, 0] ![128, 1024] _).toLoadRect = L8
  generalize ew0 : View.ld (iblk m c 4 t) (Rect.unit (s := S4x1024) ![0, 0] ![1, 1024] _) = w0
  generalize ew1 : View.ld (iblk m c 4 t) (Rect.unit (s := S4x1024) ![1, 0] ![1, 1024] _) = w1
  generalize ew2 : View.ld (iblk m c 4 t) (Rect.unit (s := S4x1024) ![2, 0] ![1, 1024] _) = w2
  generalize ew3 : View.ld (iblk m c 4 t) (Rect.unit (s := S4x1024) ![3, 0] ![1, 1024] _) = w3
  generalize egi : View.ld (iblk m c 3 t) (Rect.unit (s := S128x256) ![0, 0] ![128, 128] _) = gi
  generalize egf : View.ld (iblk m c 3 t) (Rect.unit (s := S128x256) ![0, 128] ![128, 128] _) = gf
  generalize emr : View.ld (View.read _ (View.whole cc0_scratch3) _) (Rect.unit (s := S8x128) ![0, 0] ![1, 128] _) = mr
  generalize ec0 : View.ld (View.read _ (View.whole cc0_scratch1) _) (Rect.unit (s := S4x256x256) ![0, 0, 0] ![1, 256, 256] _) = c0
  generalize en0 : View.ld (View.read _ (View.whole cc0_scratch2) _) (Rect.unit (s := S4x8x256) ![0, 0, 0] ![1, 8, 256] _) = n0
  generalize eq0 : View.ld (iblk m c 6 t) (Rect.unit (s := S4x256x256) ![0, 0, 0] ![1, 256, 256] _) = wq0
  generalize ek0 : View.ld (iblk m c 7 t) (Rect.unit (s := S4x256x256) ![0, 0, 0] ![1, 256, 256] _) = wk0
  generalize ev0 : View.ld (iblk m c 1 t) (Rect.unit (s := S128x1024) ![0, 0] ![128, 256] _) = v0
  generalize eo0 : View.ld (iblk m c 2 t) (Rect.unit (s := S128x1024) ![0, 0] ![128, 256] _) = o0
  generalize eg0 : View.ld (iblk m c 10 t) (Rect.unit (s := S1x1024) ![0, 0] ![1, 256] _) = g0
  generalize ec1 : View.ld (View.read _ (View.whole cc0_scratch1) _) (Rect.unit (s := S4x256x256) ![1, 0, 0] ![1, 256, 256] _) = c1
  generalize en1 : View.ld (View.read _ (View.whole cc0_scratch2) _) (Rect.unit (s := S4x8x256) ![1, 0, 0] ![1, 8, 256] _) = n1
  generalize eq1 : View.ld (iblk m c 6 t) (Rect.unit (s := S4x256x256) ![1, 0, 0] ![1, 256, 256] _) = wq1
  generalize ek1 : View.ld (iblk m c 7 t) (Rect.unit (s := S4x256x256) ![1, 0, 0] ![1, 256, 256] _) = wk1
  generalize ev1 : View.ld (iblk m c 1 t) (Rect.unit (s := S128x1024) ![0, 256] ![128, 256] _) = v1
  generalize eo1 : View.ld (iblk m c 2 t) (Rect.unit (s := S128x1024) ![0, 256] ![128, 256] _) = o1
  generalize eg1 : View.ld (iblk m c 10 t) (Rect.unit (s := S1x1024) ![0, 256] ![1, 256] _) = g1
  generalize ec2 : View.ld (View.read _ (View.whole cc0_scratch1) _) (Rect.unit (s := S4x256x256) ![2, 0, 0] ![1, 256, 256] _) = c2
  generalize en2 : View.ld (View.read _ (View.whole cc0_scratch2) _) (Rect.unit (s := S4x8x256) ![2, 0, 0] ![1, 8, 256] _) = n2
  generalize eq2 : View.ld (iblk m c 6 t) (Rect.unit (s := S4x256x256) ![2, 0, 0] ![1, 256, 256] _) = wq2
  generalize ek2 : View.ld (iblk m c 7 t) (Rect.unit (s := S4x256x256) ![2, 0, 0] ![1, 256, 256] _) = wk2
  generalize ev2 : View.ld (iblk m c 1 t) (Rect.unit (s := S128x1024) ![0, 512] ![128, 256] _) = v2
  generalize eo2 : View.ld (iblk m c 2 t) (Rect.unit (s := S128x1024) ![0, 512] ![128, 256] _) = o2
  generalize eg2 : View.ld (iblk m c 10 t) (Rect.unit (s := S1x1024) ![0, 512] ![1, 256] _) = g2
  generalize ec3 : View.ld (View.read _ (View.whole cc0_scratch1) _) (Rect.unit (s := S4x256x256) ![3, 0, 0] ![1, 256, 256] _) = c3
  generalize en3 : View.ld (View.read _ (View.whole cc0_scratch2) _) (Rect.unit (s := S4x8x256) ![3, 0, 0] ![1, 8, 256] _) = n3
  generalize eq3 : View.ld (iblk m c 6 t) (Rect.unit (s := S4x256x256) ![3, 0, 0] ![1, 256, 256] _) = wq3
  generalize ek3 : View.ld (iblk m c 7 t) (Rect.unit (s := S4x256x256) ![3, 0, 0] ![1, 256, 256] _) = wk3
  generalize ev3 : View.ld (iblk m c 1 t) (Rect.unit (s := S128x1024) ![0, 768] ![128, 256] _) = v3
  generalize eo3 : View.ld (iblk m c 2 t) (Rect.unit (s := S128x1024) ![0, 768] ![128, 256] _) = o3
  generalize eg3 : View.ld (iblk m c 10 t) (Rect.unit (s := S1x1024) ![0, 768] ![1, 256] _) = g3
  have hk := chk_val t
  have ht := lt t
  have x0 : ∀ (s : Fin 128) (e : Fin 1024), L5 (ix2 s e) = past (args m c).u (bat t) (time (chk t) s) e 0 := by
    intro s e
    subst e5
    refine (ldAt (S := S136x1024) _ (off := ![5, 0]) (size := ![128, 1024]) _ _ (ix2 (n0 := 136) (n1 := 1024) ⟨5 + s.val, by omega⟩ e) (ax2 _ _ _ rfl (Nat.zero_add _).symm)).trans ?_
    by_cases hs : s.val < 3
    · refine (View.read_writes_cons_unit_of_not_mem (s := S136x1024) _ _ (off' := ![8, 0]) (size := ![128, 1024]) _ _ _ (ix2 (n0 := 136) (n1 := 1024) ⟨5 + s.val, by omega⟩ e) rfl (0 : Fin 2) (Or.inl (by show 5 + s.val < 8; omega))).trans ?_
      rw [View.writes_nil]
      refine Eq.trans (b := acc.2.2.2.2.1 (ix2 (n0 := 136) (n1 := 1024) ⟨5 + s.val, by omega⟩ e)) (congrFun (read_unread_whole _ _ _) _) ?_
      refine (I.u _ e ⟨(bat t).val * 2048 + ((chk t).val * 128 + s.val + 0 - 3), by have := (bat t).isLt; omega⟩ (by show 5 + s.val < 8; omega) (by show (bat t).val * 2048 + ((chk t).val * 128 + s.val + 0 - 3) + 8 = (bat t).val * 2048 + t.val % 16 * 128 + (5 + s.val); omega)).trans (past_in _ _ _ _ _ _ ?_ ?_).symm
      · show (bat t).val * 2048 + ((chk t).val * 128 + s.val + 0 - 3) + 3 = (bat t).val * 2048 + ((chk t).val * 128 + s.val + 0)
        omega
      · show 3 ≤ (chk t).val * 128 + s.val + 0
        omega
    · exact (View.read_writes_cons_unit_of_mem (s := S136x1024) _ _ (off' := ![8, 0]) (size := ![128, 1024]) _ _ _ (ix2 (n0 := 136) (n1 := 1024) ⟨5 + s.val, by omega⟩ e) (ix2 (n0 := 128) (n1 := 1024) ⟨s.val - 3, by omega⟩ e) rfl (ax2 _ _ _ (by show 5 + s.val = 8 + (s.val - 3); omega) (Nat.zero_add _).symm)).trans ((pay9_at _ _ _).trans ((f0 m c t _ _).trans (past_in _ _ _ _ _ _ (by show (bat t).val * 2048 + ((chk t).val * 128 + (s.val - 3)) + 3 = (bat t).val * 2048 + ((chk t).val * 128 + s.val + 0); omega) (by show 3 ≤ (chk t).val * 128 + s.val + 0; omega)).symm))
  have x1 : ∀ (s : Fin 128) (e : Fin 1024), L6 (ix2 s e) = past (args m c).u (bat t) (time (chk t) s) e 1 := by
    intro s e
    subst e6
    refine (ldAt (S := S136x1024) _ (off := ![6, 0]) (size := ![128, 1024]) _ _ (ix2 (n0 := 136) (n1 := 1024) ⟨6 + s.val, by omega⟩ e) (ax2 _ _ _ rfl (Nat.zero_add _).symm)).trans ?_
    by_cases hs : s.val < 2
    · refine (View.read_writes_cons_unit_of_not_mem (s := S136x1024) _ _ (off' := ![8, 0]) (size := ![128, 1024]) _ _ _ (ix2 (n0 := 136) (n1 := 1024) ⟨6 + s.val, by omega⟩ e) rfl (0 : Fin 2) (Or.inl (by show 6 + s.val < 8; omega))).trans ?_
      rw [View.writes_nil]
      refine Eq.trans (b := acc.2.2.2.2.1 (ix2 (n0 := 136) (n1 := 1024) ⟨6 + s.val, by omega⟩ e)) (congrFun (read_unread_whole _ _ _) _) ?_
      refine (I.u _ e ⟨(bat t).val * 2048 + ((chk t).val * 128 + s.val + 1 - 3), by have := (bat t).isLt; omega⟩ (by show 6 + s.val < 8; omega) (by show (bat t).val * 2048 + ((chk t).val * 128 + s.val + 1 - 3) + 8 = (bat t).val * 2048 + t.val % 16 * 128 + (6 + s.val); omega)).trans (past_in _ _ _ _ _ _ ?_ ?_).symm
      · show (bat t).val * 2048 + ((chk t).val * 128 + s.val + 1 - 3) + 3 = (bat t).val * 2048 + ((chk t).val * 128 + s.val + 1)
        omega
      · show 3 ≤ (chk t).val * 128 + s.val + 1
        omega
    · exact (View.read_writes_cons_unit_of_mem (s := S136x1024) _ _ (off' := ![8, 0]) (size := ![128, 1024]) _ _ _ (ix2 (n0 := 136) (n1 := 1024) ⟨6 + s.val, by omega⟩ e) (ix2 (n0 := 128) (n1 := 1024) ⟨s.val - 2, by omega⟩ e) rfl (ax2 _ _ _ (by show 6 + s.val = 8 + (s.val - 2); omega) (Nat.zero_add _).symm)).trans ((pay9_at _ _ _).trans ((f0 m c t _ _).trans (past_in _ _ _ _ _ _ (by show (bat t).val * 2048 + ((chk t).val * 128 + (s.val - 2)) + 3 = (bat t).val * 2048 + ((chk t).val * 128 + s.val + 1); omega) (by show 3 ≤ (chk t).val * 128 + s.val + 1; omega)).symm))
  have x2 : ∀ (s : Fin 128) (e : Fin 1024), L7 (ix2 s e) = past (args m c).u (bat t) (time (chk t) s) e 2 := by
    intro s e
    subst e7
    refine (ldAt (S := S136x1024) _ (off := ![7, 0]) (size := ![128, 1024]) _ _ (ix2 (n0 := 136) (n1 := 1024) ⟨7 + s.val, by omega⟩ e) (ax2 _ _ _ rfl (Nat.zero_add _).symm)).trans ?_
    by_cases hs : s.val < 1
    · refine (View.read_writes_cons_unit_of_not_mem (s := S136x1024) _ _ (off' := ![8, 0]) (size := ![128, 1024]) _ _ _ (ix2 (n0 := 136) (n1 := 1024) ⟨7 + s.val, by omega⟩ e) rfl (0 : Fin 2) (Or.inl (by show 7 + s.val < 8; omega))).trans ?_
      rw [View.writes_nil]
      refine Eq.trans (b := acc.2.2.2.2.1 (ix2 (n0 := 136) (n1 := 1024) ⟨7 + s.val, by omega⟩ e)) (congrFun (read_unread_whole _ _ _) _) ?_
      refine (I.u _ e ⟨(bat t).val * 2048 + ((chk t).val * 128 + s.val + 2 - 3), by have := (bat t).isLt; omega⟩ (by show 7 + s.val < 8; omega) (by show (bat t).val * 2048 + ((chk t).val * 128 + s.val + 2 - 3) + 8 = (bat t).val * 2048 + t.val % 16 * 128 + (7 + s.val); omega)).trans (past_in _ _ _ _ _ _ ?_ ?_).symm
      · show (bat t).val * 2048 + ((chk t).val * 128 + s.val + 2 - 3) + 3 = (bat t).val * 2048 + ((chk t).val * 128 + s.val + 2)
        omega
      · show 3 ≤ (chk t).val * 128 + s.val + 2
        omega
    · exact (View.read_writes_cons_unit_of_mem (s := S136x1024) _ _ (off' := ![8, 0]) (size := ![128, 1024]) _ _ _ (ix2 (n0 := 136) (n1 := 1024) ⟨7 + s.val, by omega⟩ e) (ix2 (n0 := 128) (n1 := 1024) ⟨s.val - 1, by omega⟩ e) rfl (ax2 _ _ _ (by show 7 + s.val = 8 + (s.val - 1); omega) (Nat.zero_add _).symm)).trans ((pay9_at _ _ _).trans ((f0 m c t _ _).trans (past_in _ _ _ _ _ _ (by show (bat t).val * 2048 + ((chk t).val * 128 + (s.val - 1)) + 3 = (bat t).val * 2048 + ((chk t).val * 128 + s.val + 2); omega) (by show 3 ≤ (chk t).val * 128 + s.val + 2; omega)).symm))
  have x3 : ∀ (s : Fin 128) (e : Fin 1024), L8 (ix2 s e) = past (args m c).u (bat t) (time (chk t) s) e 3 := by
    intro s e
    subst e8
    refine (load (S := S136x1024) _ _ (off := ![8, 0]) (size := ![128, 1024]) _ _ (ix2 (n0 := 136) (n1 := 1024) ⟨8 + s.val, by omega⟩ e) (ax2 _ _ _ rfl (Nat.zero_add _).symm)).trans ?_
    exact (hit (S := S136x1024) (off := ![8, 0]) (size := ![128, 1024]) _ _ _ (ix2 (n0 := 136) (n1 := 1024) ⟨8 + s.val, by omega⟩ e) (ix2 (n0 := 128) (n1 := 1024) ⟨s.val - 0, by omega⟩ e) (ax2 _ _ _ (by show 8 + s.val = 8 + (s.val - 0); omega) (Nat.zero_add _).symm)).trans ((pay9_at _ _ _).trans ((f0 m c t _ _).trans (past_in _ _ _ _ _ _ (by show (bat t).val * 2048 + ((chk t).val * 128 + (s.val - 0)) + 3 = (bat t).val * 2048 + ((chk t).val * 128 + s.val + 3); omega) (by show 3 ≤ (chk t).val * 128 + s.val + 3; omega)).symm))
  have y0 : ∀ e, w0 (ix2 0 e) = (args m c).w 0 e := fun e => by
    subst ew0
    exact (ldAt (S := S4x1024) _ (off := ![0, 0]) (size := ![1, 1024]) _ _ (ix2 0 e) (ax2 _ _ _ rfl (Nat.zero_add _).symm)).trans (f4 m c t 0 e)
  have y1 : ∀ e, w1 (ix2 0 e) = (args m c).w 1 e := fun e => by
    subst ew1
    exact (ldAt (S := S4x1024) _ (off := ![1, 0]) (size := ![1, 1024]) _ _ (ix2 1 e) (ax2 _ _ _ rfl (Nat.zero_add _).symm)).trans (f4 m c t 1 e)
  have y2 : ∀ e, w2 (ix2 0 e) = (args m c).w 2 e := fun e => by
    subst ew2
    exact (ldAt (S := S4x1024) _ (off := ![2, 0]) (size := ![1, 1024]) _ _ (ix2 2 e) (ax2 _ _ _ rfl (Nat.zero_add _).symm)).trans (f4 m c t 2 e)
  have y3 : ∀ e, w3 (ix2 0 e) = (args m c).w 3 e := fun e => by
    subst ew3
    exact (ldAt (S := S4x1024) _ (off := ![3, 0]) (size := ![1, 1024]) _ _ (ix2 3 e) (ax2 _ _ _ rfl (Nat.zero_add _).symm)).trans (f4 m c t 3 e)
  have hgi : ∀ (s : Fin 128) (h : Fin 4), gi (ix2 s ⟨16 + h.val, by omega⟩) = (args m c).g (row (bat t) (time (chk t) s)) ⟨16 + h.val, by omega⟩ := fun s h => by
    subst egi
    exact (ldAt (S := S128x256) _ (off := ![0, 0]) (size := ![128, 128]) _ _ (ix2 s ⟨16 + h.val, by omega⟩) (ax2 _ _ _ (Nat.zero_add _).symm (Nat.zero_add _).symm)).trans (f3 m c t s _)
  have hgf : ∀ (s : Fin 128) (h : Fin 4), gf (ix2 s ⟨16 + h.val, by omega⟩) = (args m c).g (row (bat t) (time (chk t) s)) ⟨144 + h.val, by omega⟩ := fun s h => by
    subst egf
    exact (ldAt (S := S128x256) _ (off := ![0, 128]) (size := ![128, 128]) _ _ (ix2 s ⟨144 + h.val, by omega⟩) (ax2 _ _ _ (Nat.zero_add _).symm (by show 144 + h.val = 128 + (16 + h.val); omega))).trans (f3 m c t s _)
  have hmr : ∀ h : Fin 4, mr (ix2 0 ⟨16 + h.val, by omega⟩) = (carry (chunksOf (args m c) (bat t) h) (t.val % 16)).m := fun h => by
    subst emr
    exact (ldAt (S := S8x128) _ (off := ![0, 0]) (size := ![1, 128]) _ _ (ix2 0 ⟨16 + h.val, by omega⟩) (ax2 _ _ _ rfl (Nat.zero_add _).symm)).trans ((congrFun (read_unread_whole _ _ _) _).trans (I.m h))
  have hc0 : ∀ d e, c0 (ix3 0 d e) = (carry (chunksOf (args m c) (bat t) 0) (t.val % 16)).C d e := fun d e => by
    subst ec0
    exact (ldAt (S := S4x256x256) _ (off := ![0, 0, 0]) (size := ![1, 256, 256]) _ _ (ix3 0 d e) (ax3 _ _ _ rfl (Nat.zero_add _).symm (Nat.zero_add _).symm)).trans ((congrFun (read_unread_whole _ _ _) _).trans (I.C 0 d e))
  have hn0 : ∀ d, n0 (ix3 0 0 d) = (carry (chunksOf (args m c) (bat t) 0) (t.val % 16)).n d := fun d => by
    subst en0
    exact (ldAt (S := S4x8x256) _ (off := ![0, 0, 0]) (size := ![1, 8, 256]) _ _ (ix3 0 0 d) (ax3 _ _ _ rfl rfl (Nat.zero_add _).symm)).trans ((congrFun (read_unread_whole _ _ _) _).trans (I.n 0 0 d))
  have hq0 : ∀ d e, wq0 (ix3 0 d e) = (args m c).wq 0 d e := fun d e => by
    subst eq0
    exact (ldAt (S := S4x256x256) _ (off := ![0, 0, 0]) (size := ![1, 256, 256]) _ _ (ix3 0 d e) (ax3 _ _ _ rfl (Nat.zero_add _).symm (Nat.zero_add _).symm)).trans (f6 m c t 0 d e)
  have hk0 : ∀ d e, wk0 (ix3 0 d e) = (args m c).wk 0 d e := fun d e => by
    subst ek0
    exact (ldAt (S := S4x256x256) _ (off := ![0, 0, 0]) (size := ![1, 256, 256]) _ _ (ix3 0 d e) (ax3 _ _ _ rfl (Nat.zero_add _).symm (Nat.zero_add _).symm)).trans (f7 m c t 0 d e)
  have hv0 : ∀ s e, v0 (ix2 s e) = (args m c).v (row (bat t) (time (chk t) s)) (col 0 e) := fun s e => by
    subst ev0
    exact (ldAt (S := S128x1024) _ (off := ![0, 0]) (size := ![128, 256]) _ _ (ix2 s (col 0 e)) (ax2 _ _ _ (Nat.zero_add _).symm (by show 0 * 256 + e.val = 0 + e.val; omega))).trans (f1 m c t s _)
  have ho0 : ∀ s e, o0 (ix2 s e) = m ((c : Thread nD τ).loc main_arg2) (ix2 (row (bat t) (time (chk t) s)) (col 0 e)) := fun s e => by
    subst eo0
    exact (ldAt (S := S128x1024) _ (off := ![0, 0]) (size := ![128, 256]) _ _ (ix2 s (col 0 e)) (ax2 _ _ _ (Nat.zero_add _).symm (by show 0 * 256 + e.val = 0 + e.val; omega))).trans (f2 m c t s _)
  have hg0 : ∀ e, g0 (ix2 0 e) = m ((c : Thread nD τ).loc main_arg10) (ix3 0 0 e) := fun e => by
    subst eg0
    exact (ldAt (S := S1x1024) _ (off := ![0, 0]) (size := ![1, 256]) _ _ (ix2 0 (col 0 e)) (ax2 _ _ _ rfl (by show 0 * 256 + e.val = 0 + e.val; omega))).trans (f10 m c t 0 e)
  have G0 := Cert.KernelIdeal.Good.good (args m c) (bat t) (chk t) 0 (carry (chunksOf (args m c) (bat t) 0) (t.val % 16)) 16 0 (Nat.le_of_ble_eq_true rfl) rfl rfl gi gf
    (iblk m c 8 t) (iblk m c 9 t) (iblk m c 11 t) mr (iblk m c 5 t) w0 w1 w2 w3 L5 L6 L7 L8 wq0 wk0 v0 c0 n0 hgi hgf (f8 m c t) (f9 m c t)
    (f11 m c t) (hmr 0) (f5 m c t) y0 y1 y2 y3 x0 x1 x2 x3 hq0 hk0 hv0 hc0 hn0
  have hc1 : ∀ d e, c1 (ix3 0 d e) = (carry (chunksOf (args m c) (bat t) 1) (t.val % 16)).C d e := fun d e => by
    subst ec1
    exact (ldAt (S := S4x256x256) _ (off := ![1, 0, 0]) (size := ![1, 256, 256]) _ _ (ix3 1 d e) (ax3 _ _ _ rfl (Nat.zero_add _).symm (Nat.zero_add _).symm)).trans ((congrFun (read_unread_whole _ _ _) _).trans (I.C 1 d e))
  have hn1 : ∀ d, n1 (ix3 0 0 d) = (carry (chunksOf (args m c) (bat t) 1) (t.val % 16)).n d := fun d => by
    subst en1
    exact (ldAt (S := S4x8x256) _ (off := ![1, 0, 0]) (size := ![1, 8, 256]) _ _ (ix3 1 0 d) (ax3 _ _ _ rfl rfl (Nat.zero_add _).symm)).trans ((congrFun (read_unread_whole _ _ _) _).trans (I.n 1 0 d))
  have hq1 : ∀ d e, wq1 (ix3 0 d e) = (args m c).wq 1 d e := fun d e => by
    subst eq1
    exact (ldAt (S := S4x256x256) _ (off := ![1, 0, 0]) (size := ![1, 256, 256]) _ _ (ix3 1 d e) (ax3 _ _ _ rfl (Nat.zero_add _).symm (Nat.zero_add _).symm)).trans (f6 m c t 1 d e)
  have hk1 : ∀ d e, wk1 (ix3 0 d e) = (args m c).wk 1 d e := fun d e => by
    subst ek1
    exact (ldAt (S := S4x256x256) _ (off := ![1, 0, 0]) (size := ![1, 256, 256]) _ _ (ix3 1 d e) (ax3 _ _ _ rfl (Nat.zero_add _).symm (Nat.zero_add _).symm)).trans (f7 m c t 1 d e)
  have hv1 : ∀ s e, v1 (ix2 s e) = (args m c).v (row (bat t) (time (chk t) s)) (col 1 e) := fun s e => by
    subst ev1
    exact (ldAt (S := S128x1024) _ (off := ![0, 256]) (size := ![128, 256]) _ _ (ix2 s (col 1 e)) (ax2 _ _ _ (Nat.zero_add _).symm (by show 1 * 256 + e.val = 256 + e.val; omega))).trans (f1 m c t s _)
  have ho1 : ∀ s e, o1 (ix2 s e) = m ((c : Thread nD τ).loc main_arg2) (ix2 (row (bat t) (time (chk t) s)) (col 1 e)) := fun s e => by
    subst eo1
    exact (ldAt (S := S128x1024) _ (off := ![0, 256]) (size := ![128, 256]) _ _ (ix2 s (col 1 e)) (ax2 _ _ _ (Nat.zero_add _).symm (by show 1 * 256 + e.val = 256 + e.val; omega))).trans (f2 m c t s _)
  have hg1 : ∀ e, g1 (ix2 0 e) = m ((c : Thread nD τ).loc main_arg10) (ix3 0 1 e) := fun e => by
    subst eg1
    exact (ldAt (S := S1x1024) _ (off := ![0, 256]) (size := ![1, 256]) _ _ (ix2 0 (col 1 e)) (ax2 _ _ _ rfl (by show 1 * 256 + e.val = 256 + e.val; omega))).trans (f10 m c t 1 e)
  have G1 := Cert.KernelIdeal.Good.good (args m c) (bat t) (chk t) 1 (carry (chunksOf (args m c) (bat t) 1) (t.val % 16)) 17 256 (Nat.le_of_ble_eq_true rfl) rfl rfl gi gf
    (iblk m c 8 t) (iblk m c 9 t) (iblk m c 11 t) mr (iblk m c 5 t) w0 w1 w2 w3 L5 L6 L7 L8 wq1 wk1 v1 c1 n1 hgi hgf (f8 m c t) (f9 m c t)
    (f11 m c t) (hmr 1) (f5 m c t) y0 y1 y2 y3 x0 x1 x2 x3 hq1 hk1 hv1 hc1 hn1
  have hc2 : ∀ d e, c2 (ix3 0 d e) = (carry (chunksOf (args m c) (bat t) 2) (t.val % 16)).C d e := fun d e => by
    subst ec2
    exact (ldAt (S := S4x256x256) _ (off := ![2, 0, 0]) (size := ![1, 256, 256]) _ _ (ix3 2 d e) (ax3 _ _ _ rfl (Nat.zero_add _).symm (Nat.zero_add _).symm)).trans ((congrFun (read_unread_whole _ _ _) _).trans (I.C 2 d e))
  have hn2 : ∀ d, n2 (ix3 0 0 d) = (carry (chunksOf (args m c) (bat t) 2) (t.val % 16)).n d := fun d => by
    subst en2
    exact (ldAt (S := S4x8x256) _ (off := ![2, 0, 0]) (size := ![1, 8, 256]) _ _ (ix3 2 0 d) (ax3 _ _ _ rfl rfl (Nat.zero_add _).symm)).trans ((congrFun (read_unread_whole _ _ _) _).trans (I.n 2 0 d))
  have hq2 : ∀ d e, wq2 (ix3 0 d e) = (args m c).wq 2 d e := fun d e => by
    subst eq2
    exact (ldAt (S := S4x256x256) _ (off := ![2, 0, 0]) (size := ![1, 256, 256]) _ _ (ix3 2 d e) (ax3 _ _ _ rfl (Nat.zero_add _).symm (Nat.zero_add _).symm)).trans (f6 m c t 2 d e)
  have hk2 : ∀ d e, wk2 (ix3 0 d e) = (args m c).wk 2 d e := fun d e => by
    subst ek2
    exact (ldAt (S := S4x256x256) _ (off := ![2, 0, 0]) (size := ![1, 256, 256]) _ _ (ix3 2 d e) (ax3 _ _ _ rfl (Nat.zero_add _).symm (Nat.zero_add _).symm)).trans (f7 m c t 2 d e)
  have hv2 : ∀ s e, v2 (ix2 s e) = (args m c).v (row (bat t) (time (chk t) s)) (col 2 e) := fun s e => by
    subst ev2
    exact (ldAt (S := S128x1024) _ (off := ![0, 512]) (size := ![128, 256]) _ _ (ix2 s (col 2 e)) (ax2 _ _ _ (Nat.zero_add _).symm (by show 2 * 256 + e.val = 512 + e.val; omega))).trans (f1 m c t s _)
  have ho2 : ∀ s e, o2 (ix2 s e) = m ((c : Thread nD τ).loc main_arg2) (ix2 (row (bat t) (time (chk t) s)) (col 2 e)) := fun s e => by
    subst eo2
    exact (ldAt (S := S128x1024) _ (off := ![0, 512]) (size := ![128, 256]) _ _ (ix2 s (col 2 e)) (ax2 _ _ _ (Nat.zero_add _).symm (by show 2 * 256 + e.val = 512 + e.val; omega))).trans (f2 m c t s _)
  have hg2 : ∀ e, g2 (ix2 0 e) = m ((c : Thread nD τ).loc main_arg10) (ix3 0 2 e) := fun e => by
    subst eg2
    exact (ldAt (S := S1x1024) _ (off := ![0, 512]) (size := ![1, 256]) _ _ (ix2 0 (col 2 e)) (ax2 _ _ _ rfl (by show 2 * 256 + e.val = 512 + e.val; omega))).trans (f10 m c t 2 e)
  have G2 := Cert.KernelIdeal.Good.good (args m c) (bat t) (chk t) 2 (carry (chunksOf (args m c) (bat t) 2) (t.val % 16)) 18 512 (Nat.le_of_ble_eq_true rfl) rfl rfl gi gf
    (iblk m c 8 t) (iblk m c 9 t) (iblk m c 11 t) mr (iblk m c 5 t) w0 w1 w2 w3 L5 L6 L7 L8 wq2 wk2 v2 c2 n2 hgi hgf (f8 m c t) (f9 m c t)
    (f11 m c t) (hmr 2) (f5 m c t) y0 y1 y2 y3 x0 x1 x2 x3 hq2 hk2 hv2 hc2 hn2
  have hc3 : ∀ d e, c3 (ix3 0 d e) = (carry (chunksOf (args m c) (bat t) 3) (t.val % 16)).C d e := fun d e => by
    subst ec3
    exact (ldAt (S := S4x256x256) _ (off := ![3, 0, 0]) (size := ![1, 256, 256]) _ _ (ix3 3 d e) (ax3 _ _ _ rfl (Nat.zero_add _).symm (Nat.zero_add _).symm)).trans ((congrFun (read_unread_whole _ _ _) _).trans (I.C 3 d e))
  have hn3 : ∀ d, n3 (ix3 0 0 d) = (carry (chunksOf (args m c) (bat t) 3) (t.val % 16)).n d := fun d => by
    subst en3
    exact (ldAt (S := S4x8x256) _ (off := ![3, 0, 0]) (size := ![1, 8, 256]) _ _ (ix3 3 0 d) (ax3 _ _ _ rfl rfl (Nat.zero_add _).symm)).trans ((congrFun (read_unread_whole _ _ _) _).trans (I.n 3 0 d))
  have hq3 : ∀ d e, wq3 (ix3 0 d e) = (args m c).wq 3 d e := fun d e => by
    subst eq3
    exact (ldAt (S := S4x256x256) _ (off := ![3, 0, 0]) (size := ![1, 256, 256]) _ _ (ix3 3 d e) (ax3 _ _ _ rfl (Nat.zero_add _).symm (Nat.zero_add _).symm)).trans (f6 m c t 3 d e)
  have hk3 : ∀ d e, wk3 (ix3 0 d e) = (args m c).wk 3 d e := fun d e => by
    subst ek3
    exact (ldAt (S := S4x256x256) _ (off := ![3, 0, 0]) (size := ![1, 256, 256]) _ _ (ix3 3 d e) (ax3 _ _ _ rfl (Nat.zero_add _).symm (Nat.zero_add _).symm)).trans (f7 m c t 3 d e)
  have hv3 : ∀ s e, v3 (ix2 s e) = (args m c).v (row (bat t) (time (chk t) s)) (col 3 e) := fun s e => by
    subst ev3
    exact (ldAt (S := S128x1024) _ (off := ![0, 768]) (size := ![128, 256]) _ _ (ix2 s (col 3 e)) (ax2 _ _ _ (Nat.zero_add _).symm (by show 3 * 256 + e.val = 768 + e.val; omega))).trans (f1 m c t s _)
  have ho3 : ∀ s e, o3 (ix2 s e) = m ((c : Thread nD τ).loc main_arg2) (ix2 (row (bat t) (time (chk t) s)) (col 3 e)) := fun s e => by
    subst eo3
    exact (ldAt (S := S128x1024) _ (off := ![0, 768]) (size := ![128, 256]) _ _ (ix2 s (col 3 e)) (ax2 _ _ _ (Nat.zero_add _).symm (by show 3 * 256 + e.val = 768 + e.val; omega))).trans (f2 m c t s _)
  have hg3 : ∀ e, g3 (ix2 0 e) = m ((c : Thread nD τ).loc main_arg10) (ix3 0 3 e) := fun e => by
    subst eg3
    exact (ldAt (S := S1x1024) _ (off := ![0, 768]) (size := ![1, 256]) _ _ (ix2 0 (col 3 e)) (ax2 _ _ _ rfl (by show 3 * 256 + e.val = 768 + e.val; omega))).trans (f10 m c t 3 e)
  have G3 := Cert.KernelIdeal.Good.good (args m c) (bat t) (chk t) 3 (carry (chunksOf (args m c) (bat t) 3) (t.val % 16)) 19 768 (Nat.le_of_ble_eq_true rfl) rfl rfl gi gf
    (iblk m c 8 t) (iblk m c 9 t) (iblk m c 11 t) mr (iblk m c 5 t) w0 w1 w2 w3 L5 L6 L7 L8 wq3 wk3 v3 c3 n3 hgi hgf (f8 m c t) (f9 m c t)
    (f11 m c t) (hmr 3) (f5 m c t) y0 y1 y2 y3 x0 x1 x2 x3 hq3 hk3 hv3 hc3 hn3
  clear e6 e7 e5 e8 ew0 ew1 ew2 ew3 egi egf emr ec0 en0 eq0 ek0 ev0 eo0 eg0 ec1 en1 eq1 ek1 ev1 eo1 eg1 ec2 en2 eq2 ek2 ev2 eo2 eg2 ec3 en3 eq3 ek3 ev3 eo3 eg3
  refine ⟨fun h d e => ?_, fun h a d => ?_, fun h => ?_, fun i e r hi hr => ?_, fun s h e => ?_, fun h d e => ?_, fun h a d => ?_, fun a h => ?_⟩
  · skip
    rcases four h with rfl | rfl | rfl | rfl
    · refine (miss (S := S4x256x256) (off := ![3, 0, 0]) (size := ![1, 256, 256]) _ _ _ _ (0 : Fin 3) (Or.inl (by show 0 < 3; omega))).trans ?_
      refine (miss (S := S4x256x256) (off := ![2, 0, 0]) (size := ![1, 256, 256]) _ _ _ _ (0 : Fin 3) (Or.inl (by show 0 < 2; omega))).trans ?_
      refine (miss (S := S4x256x256) (off := ![1, 0, 0]) (size := ![1, 256, 256]) _ _ _ _ (0 : Fin 3) (Or.inl (by show 0 < 1; omega))).trans ?_
      exact (hit (S := S4x256x256) (off := ![0, 0, 0]) (size := ![1, 256, 256]) _ _ _ _ (ix3 (n0 := 1) (n1 := 256) (n2 := 256) 0 d e) (ax3 _ _ _ rfl (Nat.zero_add _).symm (Nat.zero_add _).symm)).trans (One.rCn0 G0 d e)
    · refine (miss (S := S4x256x256) (off := ![3, 0, 0]) (size := ![1, 256, 256]) _ _ _ _ (0 : Fin 3) (Or.inl (by show 1 < 3; omega))).trans ?_
      refine (miss (S := S4x256x256) (off := ![2, 0, 0]) (size := ![1, 256, 256]) _ _ _ _ (0 : Fin 3) (Or.inl (by show 1 < 2; omega))).trans ?_
      exact (hit (S := S4x256x256) (off := ![1, 0, 0]) (size := ![1, 256, 256]) _ _ _ _ (ix3 (n0 := 1) (n1 := 256) (n2 := 256) 0 d e) (ax3 _ _ _ rfl (Nat.zero_add _).symm (Nat.zero_add _).symm)).trans (One.rCn1 G1 d e)
    · refine (miss (S := S4x256x256) (off := ![3, 0, 0]) (size := ![1, 256, 256]) _ _ _ _ (0 : Fin 3) (Or.inl (by show 2 < 3; omega))).trans ?_
      exact (hit (S := S4x256x256) (off := ![2, 0, 0]) (size := ![1, 256, 256]) _ _ _ _ (ix3 (n0 := 1) (n1 := 256) (n2 := 256) 0 d e) (ax3 _ _ _ rfl (Nat.zero_add _).symm (Nat.zero_add _).symm)).trans (One.rCn2 G2 d e)
    · exact (hit (S := S4x256x256) (off := ![3, 0, 0]) (size := ![1, 256, 256]) _ _ _ _ (ix3 (n0 := 1) (n1 := 256) (n2 := 256) 0 d e) (ax3 _ _ _ rfl (Nat.zero_add _).symm (Nat.zero_add _).symm)).trans (One.rCn3 G3 d e)
  · skip
    rcases four h with rfl | rfl | rfl | rfl
    · refine (miss (S := S4x8x256) (off := ![3, 0, 0]) (size := ![1, 8, 256]) _ _ _ _ (0 : Fin 3) (Or.inl (by show 0 < 3; omega))).trans ?_
      refine (miss (S := S4x8x256) (off := ![2, 0, 0]) (size := ![1, 8, 256]) _ _ _ _ (0 : Fin 3) (Or.inl (by show 0 < 2; omega))).trans ?_
      refine (miss (S := S4x8x256) (off := ![1, 0, 0]) (size := ![1, 8, 256]) _ _ _ _ (0 : Fin 3) (Or.inl (by show 0 < 1; omega))).trans ?_
      exact (hit (S := S4x8x256) (off := ![0, 0, 0]) (size := ![1, 8, 256]) _ _ _ _ (ix3 (n0 := 1) (n1 := 8) (n2 := 256) 0 a d) (ax3 _ _ _ rfl (Nat.zero_add _).symm (Nat.zero_add _).symm)).trans (One.rnn0 G0 a d)
    · refine (miss (S := S4x8x256) (off := ![3, 0, 0]) (size := ![1, 8, 256]) _ _ _ _ (0 : Fin 3) (Or.inl (by show 1 < 3; omega))).trans ?_
      refine (miss (S := S4x8x256) (off := ![2, 0, 0]) (size := ![1, 8, 256]) _ _ _ _ (0 : Fin 3) (Or.inl (by show 1 < 2; omega))).trans ?_
      exact (hit (S := S4x8x256) (off := ![1, 0, 0]) (size := ![1, 8, 256]) _ _ _ _ (ix3 (n0 := 1) (n1 := 8) (n2 := 256) 0 a d) (ax3 _ _ _ rfl (Nat.zero_add _).symm (Nat.zero_add _).symm)).trans (One.rnn1 G1 a d)
    · refine (miss (S := S4x8x256) (off := ![3, 0, 0]) (size := ![1, 8, 256]) _ _ _ _ (0 : Fin 3) (Or.inl (by show 2 < 3; omega))).trans ?_
      exact (hit (S := S4x8x256) (off := ![2, 0, 0]) (size := ![1, 8, 256]) _ _ _ _ (ix3 (n0 := 1) (n1 := 8) (n2 := 256) 0 a d) (ax3 _ _ _ rfl (Nat.zero_add _).symm (Nat.zero_add _).symm)).trans (One.rnn2 G2 a d)
    · exact (hit (S := S4x8x256) (off := ![3, 0, 0]) (size := ![1, 8, 256]) _ _ _ _ (ix3 (n0 := 1) (n1 := 8) (n2 := 256) 0 a d) (ax3 _ _ _ rfl (Nat.zero_add _).symm (Nat.zero_add _).symm)).trans (One.rnn3 G3 a d)
  · skip
    rcases four h with rfl | rfl | rfl | rfl
    · exact (pay135_at _ 0 _).trans (One.p19 G0)
    · exact (pay135_at _ 0 _).trans (One.p19 G1)
    · exact (pay135_at _ 0 _).trans (One.p19 G2)
    · exact (pay135_at _ 0 _).trans (One.p19 G3)
  · refine (hit (S := S136x1024) (off := ![0, 0]) (size := ![8, 1024]) _ _ _ _ (ix2 (n0 := 8) (n1 := 1024) ⟨i.val, hi⟩ e) (ax2 _ _ _ (Nat.zero_add _).symm (Nat.zero_add _).symm)).trans ((pay12_at _ _ _).trans ?_)
    refine (load (S := S136x1024) _ _ (off := ![128, 0]) (size := ![8, 1024]) _ _ (ix2 (n0 := 136) (n1 := 1024) ⟨128 + i.val, by omega⟩ e) (ax2 _ _ _ rfl (Nat.zero_add _).symm)).trans ?_
    refine (hit (S := S136x1024) (off := ![8, 0]) (size := ![128, 1024]) _ _ _ _ (ix2 (n0 := 128) (n1 := 1024) ⟨120 + i.val, by omega⟩ e) (ax2 _ _ _ (by show 128 + i.val = 8 + (120 + i.val); omega) (Nat.zero_add _).symm)).trans ((pay9_at _ _ _).trans ((f0 m c t _ _).trans ?_))
    refine congrArg (fun r => (args m c).u r e) (Fin.ext ?_)
    show (bat t).val * 2048 + ((chk t).val * 128 + (120 + i.val)) = r.val
    omega
  · skip
    rcases four h with rfl | rfl | rfl | rfl
    · refine (miss (S := S128x1024) (off := ![0, 768]) (size := ![128, 256]) _ _ _ _ (1 : Fin 2) (Or.inl (by show 0 * 256 + e.val < 768; omega))).trans ?_
      refine (miss (S := S128x1024) (off := ![0, 512]) (size := ![128, 256]) _ _ _ _ (1 : Fin 2) (Or.inl (by show 0 * 256 + e.val < 512; omega))).trans ?_
      refine (miss (S := S128x1024) (off := ![0, 256]) (size := ![128, 256]) _ _ _ _ (1 : Fin 2) (Or.inl (by show 0 * 256 + e.val < 256; omega))).trans ?_
      refine (hit (S := S128x1024) (off := ![0, 0]) (size := ![128, 256]) _ _ _ _ (ix2 (n0 := 128) (n1 := 256) s e) (ax2 _ _ _ (Nat.zero_add _).symm (by show 0 * 256 + e.val = 0 + e.val; omega))).trans ((One.ry0 G0 g0 o0 s e).trans ?_)
      rw [ho0, hg0]
      unfold result
      rw [hk]
    · refine (miss (S := S128x1024) (off := ![0, 768]) (size := ![128, 256]) _ _ _ _ (1 : Fin 2) (Or.inl (by show 1 * 256 + e.val < 768; omega))).trans ?_
      refine (miss (S := S128x1024) (off := ![0, 512]) (size := ![128, 256]) _ _ _ _ (1 : Fin 2) (Or.inl (by show 1 * 256 + e.val < 512; omega))).trans ?_
      refine (hit (S := S128x1024) (off := ![0, 256]) (size := ![128, 256]) _ _ _ _ (ix2 (n0 := 128) (n1 := 256) s e) (ax2 _ _ _ (Nat.zero_add _).symm (by show 1 * 256 + e.val = 256 + e.val; omega))).trans ((One.ry1 G1 g1 o1 s e).trans ?_)
      rw [ho1, hg1]
      unfold result
      rw [hk]
    · refine (miss (S := S128x1024) (off := ![0, 768]) (size := ![128, 256]) _ _ _ _ (1 : Fin 2) (Or.inl (by show 2 * 256 + e.val < 768; omega))).trans ?_
      refine (hit (S := S128x1024) (off := ![0, 512]) (size := ![128, 256]) _ _ _ _ (ix2 (n0 := 128) (n1 := 256) s e) (ax2 _ _ _ (Nat.zero_add _).symm (by show 2 * 256 + e.val = 512 + e.val; omega))).trans ((One.ry2 G2 g2 o2 s e).trans ?_)
      rw [ho2, hg2]
      unfold result
      rw [hk]
    · refine (hit (S := S128x1024) (off := ![0, 768]) (size := ![128, 256]) _ _ _ _ (ix2 (n0 := 128) (n1 := 256) s e) (ax2 _ _ _ (Nat.zero_add _).symm (by show 3 * 256 + e.val = 768 + e.val; omega))).trans ((One.ry3 G3 g3 o3 s e).trans ?_)
      rw [ho3, hg3]
      unfold result
      rw [hk]
  · refine (pay2_at _ h d e).trans ?_
    refine (load (S := S4x256x256) _ _ (off := ![0, 0, 0]) (size := ![4, 256, 256]) _ _ (ix3 (n0 := 4) (n1 := 256) (n2 := 256) h d e) (ax3 _ _ _ (Nat.zero_add _).symm (Nat.zero_add _).symm (Nat.zero_add _).symm)).trans ?_
    rcases four h with rfl | rfl | rfl | rfl
    · refine (miss (S := S4x256x256) (off := ![3, 0, 0]) (size := ![1, 256, 256]) _ _ _ _ (0 : Fin 3) (Or.inl (by show 0 < 3; omega))).trans ?_
      refine (miss (S := S4x256x256) (off := ![2, 0, 0]) (size := ![1, 256, 256]) _ _ _ _ (0 : Fin 3) (Or.inl (by show 0 < 2; omega))).trans ?_
      refine (miss (S := S4x256x256) (off := ![1, 0, 0]) (size := ![1, 256, 256]) _ _ _ _ (0 : Fin 3) (Or.inl (by show 0 < 1; omega))).trans ?_
      exact (hit (S := S4x256x256) (off := ![0, 0, 0]) (size := ![1, 256, 256]) _ _ _ _ (ix3 (n0 := 1) (n1 := 256) (n2 := 256) 0 d e) (ax3 _ _ _ rfl (Nat.zero_add _).symm (Nat.zero_add _).symm)).trans (One.rCn0 G0 d e)
    · refine (miss (S := S4x256x256) (off := ![3, 0, 0]) (size := ![1, 256, 256]) _ _ _ _ (0 : Fin 3) (Or.inl (by show 1 < 3; omega))).trans ?_
      refine (miss (S := S4x256x256) (off := ![2, 0, 0]) (size := ![1, 256, 256]) _ _ _ _ (0 : Fin 3) (Or.inl (by show 1 < 2; omega))).trans ?_
      exact (hit (S := S4x256x256) (off := ![1, 0, 0]) (size := ![1, 256, 256]) _ _ _ _ (ix3 (n0 := 1) (n1 := 256) (n2 := 256) 0 d e) (ax3 _ _ _ rfl (Nat.zero_add _).symm (Nat.zero_add _).symm)).trans (One.rCn1 G1 d e)
    · refine (miss (S := S4x256x256) (off := ![3, 0, 0]) (size := ![1, 256, 256]) _ _ _ _ (0 : Fin 3) (Or.inl (by show 2 < 3; omega))).trans ?_
      exact (hit (S := S4x256x256) (off := ![2, 0, 0]) (size := ![1, 256, 256]) _ _ _ _ (ix3 (n0 := 1) (n1 := 256) (n2 := 256) 0 d e) (ax3 _ _ _ rfl (Nat.zero_add _).symm (Nat.zero_add _).symm)).trans (One.rCn2 G2 d e)
    · exact (hit (S := S4x256x256) (off := ![3, 0, 0]) (size := ![1, 256, 256]) _ _ _ _ (ix3 (n0 := 1) (n1 := 256) (n2 := 256) 0 d e) (ax3 _ _ _ rfl (Nat.zero_add _).symm (Nat.zero_add _).symm)).trans (One.rCn3 G3 d e)
  · refine (pay3_at _ h a d).trans ?_
    refine (load (S := S4x8x256) _ _ (off := ![0, 0, 0]) (size := ![4, 8, 256]) _ _ (ix3 (n0 := 4) (n1 := 8) (n2 := 256) h a d) (ax3 _ _ _ (Nat.zero_add _).symm (Nat.zero_add _).symm (Nat.zero_add _).symm)).trans ?_
    rcases four h with rfl | rfl | rfl | rfl
    · refine (miss (S := S4x8x256) (off := ![3, 0, 0]) (size := ![1, 8, 256]) _ _ _ _ (0 : Fin 3) (Or.inl (by show 0 < 3; omega))).trans ?_
      refine (miss (S := S4x8x256) (off := ![2, 0, 0]) (size := ![1, 8, 256]) _ _ _ _ (0 : Fin 3) (Or.inl (by show 0 < 2; omega))).trans ?_
      refine (miss (S := S4x8x256) (off := ![1, 0, 0]) (size := ![1, 8, 256]) _ _ _ _ (0 : Fin 3) (Or.inl (by show 0 < 1; omega))).trans ?_
      exact (hit (S := S4x8x256) (off := ![0, 0, 0]) (size := ![1, 8, 256]) _ _ _ _ (ix3 (n0 := 1) (n1 := 8) (n2 := 256) 0 a d) (ax3 _ _ _ rfl (Nat.zero_add _).symm (Nat.zero_add _).symm)).trans (One.rnn0 G0 a d)
    · refine (miss (S := S4x8x256) (off := ![3, 0, 0]) (size := ![1, 8, 256]) _ _ _ _ (0 : Fin 3) (Or.inl (by show 1 < 3; omega))).trans ?_
      refine (miss (S := S4x8x256) (off := ![2, 0, 0]) (size := ![1, 8, 256]) _ _ _ _ (0 : Fin 3) (Or.inl (by show 1 < 2; omega))).trans ?_
      exact (hit (S := S4x8x256) (off := ![1, 0, 0]) (size := ![1, 8, 256]) _ _ _ _ (ix3 (n0 := 1) (n1 := 8) (n2 := 256) 0 a d) (ax3 _ _ _ rfl (Nat.zero_add _).symm (Nat.zero_add _).symm)).trans (One.rnn1 G1 a d)
    · refine (miss (S := S4x8x256) (off := ![3, 0, 0]) (size := ![1, 8, 256]) _ _ _ _ (0 : Fin 3) (Or.inl (by show 2 < 3; omega))).trans ?_
      exact (hit (S := S4x8x256) (off := ![2, 0, 0]) (size := ![1, 8, 256]) _ _ _ _ (ix3 (n0 := 1) (n1 := 8) (n2 := 256) 0 a d) (ax3 _ _ _ rfl (Nat.zero_add _).symm (Nat.zero_add _).symm)).trans (One.rnn2 G2 a d)
    · exact (hit (S := S4x8x256) (off := ![3, 0, 0]) (size := ![1, 8, 256]) _ _ _ _ (ix3 (n0 := 1) (n1 := 8) (n2 := 256) 0 a d) (ax3 _ _ _ rfl (Nat.zero_add _).symm (Nat.zero_add _).symm)).trans (One.rnn3 G3 a d)
  · skip
    rcases four h with rfl | rfl | rfl | rfl
    · exact (pay4_at _ a _).trans ((pay135_at _ a _).trans (One.p19 G0))
    · exact (pay4_at _ a _).trans ((pay135_at _ a _).trans (One.p19 G1))
    · exact (pay4_at _ a _).trans ((pay135_at _ a _).trans (One.p19 G2))
    · exact (pay4_at _ a _).trans ((pay135_at _ a _).trans (One.p19 G3))

end Cert.KernelIdeal.StepC
-- ==== Proof.KerOut.lean ====
module

public import proofs.«01_k».proof.Proof.Gen.KernelIdeal.Value
public import proofs.«01_k».proof.Proof.KerBlk
public import proofs.«01_k».proof.Proof.KerOne
public import proofs.«01_k».proof.Proof.KerGood
public import proofs.«01_k».proof.Proof.KerRead
public import proofs.«01_k».proof.Proof.KerInv
public import proofs.«01_k».proof.Proof.KerStepA
public import proofs.«01_k».proof.Proof.KerStepB
public import proofs.«01_k».proof.Proof.KerStepC
public import Idealize.ShloMosaic.Lib.Pointwise
public import Idealize.ShloMosaic.Lib.Pipeline.ValueKit
public import Idealize.ShloMosaic.Lib.Pipeline.ReadBack

@[expose] public section
set_option maxRecDepth 16384
noncomputable section
open Idealize.ShloMosaic Idealize.ShloMosaic.TcCoe Idealize.SL.Sem
open Cert.KernelIdeal Cert.KernelIdeal.Gen Cert.KernelIdeal.Value
open Cert.MemSpec

set_option maxHeartbeats 1000000

namespace Cert.KernelIdeal.Out

open Cert.KernelIdeal.Blk Cert.KernelIdeal.Inv

variable (m : (ℓ : Loc nD τ sig) → Buf (Elt Ideal) ℓ) (c : Dev nD)

/-- The result that the call's first output array is to hold. -/
def res (b : Fin 8) (k : Fin 16) (s : Fin 128) (h : Fin 4) (e : Fin 256) : EReal :=
  result (args m c) (fun h e => m ((c : Thread nD τ).loc main_arg10) (ix3 0 h e)) (fun r e => m ((c : Thread nD τ).loc main_arg2) (ix2 r e)) b k s h e

/-- What a grid point leaves: the carried state in the scratch buffers, its block of the output, and at the last chunk of
    a batch the copies of the carried state. -/
structure All (t : Fin cfg0.N) (y : Vec Ideal S128x1024 .bf16) (oC : Vec Ideal S1x4x256x256 .f32) (on : Vec Ideal S1x4x8x256 .f32)
    (om : Vec Ideal S1x8x128 .f32) (U : Vec Ideal S136x1024 .f32) (C : Vec Ideal S4x256x256 .f32) (n : Vec Ideal S4x8x256 .f32)
    (s : Vec Ideal S8x128 .f32) : Prop where
  I : Holds (args m c) (bat t) (t.val % 16 + 1) U C n s
  y : ∀ (s : Fin 128) (h : Fin 4) (e : Fin 256), y (ix2 s (col h e)) = res m c (bat t) (chk t) s h e
  oC : t.val % 16 = 15 → ∀ (h : Fin 4) (d e : Fin 256), oC (ix4 0 h d e) = (carry (chunksOf (args m c) (bat t) h) 16).C d e
  on : t.val % 16 = 15 → ∀ (h : Fin 4) (a : Fin 8) (d : Fin 256), on (ix4 0 h a d) = (carry (chunksOf (args m c) (bat t) h) 16).n d
  om : t.val % 16 = 15 → ∀ (a : Fin 8) (h : Fin 4), om (ix3 0 a ⟨16 + h.val, by omega⟩) = (carry (chunksOf (args m c) (bat t) h) 16).m

/-- One grid point, over what the point before left. -/
theorem point (t : Fin cfg0.N) (acc)
    (I : ¬ t.val % 16 = 0 → Holds (args m c) (bat t) (t.val % 16) acc.2.2.2.2.1 acc.2.2.2.2.2.1 acc.2.2.2.2.2.2.1 acc.2.2.2.2.2.2.2) :
    All m c t (stAt0 m c t.val t.isLt acc).1 (stAt0 m c t.val t.isLt acc).2.1 (stAt0 m c t.val t.isLt acc).2.2.1
      (stAt0 m c t.val t.isLt acc).2.2.2.1 (stAt0 m c t.val t.isLt acc).2.2.2.2.1 (stAt0 m c t.val t.isLt acc).2.2.2.2.2.1
      (stAt0 m c t.val t.isLt acc).2.2.2.2.2.2.1 (stAt0 m c t.val t.isLt acc).2.2.2.2.2.2.2 := by
  by_cases h0 : t.val % 16 = 0
  · have h1 : ¬ t.val % 16 = 15 := by omega
    obtain ⟨a, b, d, e, f⟩ := StepA.step m c t acc h0 h1
    exact ⟨⟨a, b, d, e⟩, f, fun h => absurd h h1, fun h => absurd h h1, fun h => absurd h h1⟩
  · by_cases h1 : t.val % 16 = 15
    · obtain ⟨a, b, d, e, f, g, i, j⟩ := StepC.step m c t acc h0 h1 (I h0)
      have h16 : t.val % 16 + 1 = 16 := by omega
      rw [h16] at g i j
      exact ⟨⟨a, b, d, e⟩, f, fun _ => g, fun _ => i, fun _ => j⟩
    · obtain ⟨a, b, d, e, f⟩ := StepB.step m c t acc h0 h1 (I h0)
      exact ⟨⟨a, b, d, e⟩, f, fun h => absurd h h1, fun h => absurd h h1, fun h => absurd h h1⟩

/-- Every grid point leaves what it should, by induction over the grid. -/
theorem all (n : ℕ) (hn : n < cfg0.N) :
    All m c ⟨n, hn⟩ (outsAt0 m c n hn).1 (outsAt0 m c n hn).2.1 (outsAt0 m c n hn).2.2.1
      (outsAt0 m c n hn).2.2.2.1 (outsAt0 m c n hn).2.2.2.2.1 (outsAt0 m c n hn).2.2.2.2.2.1
      (outsAt0 m c n hn).2.2.2.2.2.2.1 (outsAt0 m c n hn).2.2.2.2.2.2.2 := by
  induction n with
  | zero =>
    rw [outsAt0_zero]
    exact point m c ⟨0, hn⟩ junk0 (fun h => absurd (Nat.zero_mod 16) h)
  | succ n ih =>
    rw [outsAt0_succ]
    refine point m c ⟨n + 1, hn⟩ _ (fun h => ?_)
    have h' : ¬ (n + 1) % 16 = 0 := h
    have I := (ih (Nat.lt_of_succ_lt hn)).I
    have eb : bat ⟨n + 1, hn⟩ = bat ⟨n, Nat.lt_of_succ_lt hn⟩ := Fin.ext (by show (n + 1) / 16 = n / 16; omega)
    have ek : (n + 1) % 16 = n % 16 + 1 := by omega
    rw [eb]
    show Holds (args m c) _ ((n + 1) % 16) _ _ _ _
    rw [ek]
    exact I

theorem eq_ix4 {a b c d : ℕ} (x : (⟨4, ![a, b, c, d]⟩ : Shape).Idx) (i : Fin a) (j : Fin b) (k : Fin c) (l : Fin d) (h0 : (x 0).val = i.val)
    (h1 : (x 1).val = j.val) (h2 : (x 2).val = k.val) (h3 : (x 3).val = l.val) : x = ix4 i j k l := by
  funext q
  match q with
  | 0 => exact Fin.ext h0
  | 1 => exact Fin.ext h1
  | 2 => exact Fin.ext h2
  | 3 => exact Fin.ext h3

/-- The first output array. -/
theorem y_out (b : Fin 8) (k : Fin 16) (s : Fin 128) (h : Fin 4) (e : Fin 256) :
    G12 m c (ix2 (row b (time k s)) (col h e)) = res m c b k s h e := by
  have hp : pt12Of (ix2 (row b (time k s)) (col h e)) = b.val * 16 + k.val := by
    show 1 * ((b.val * 2048 + (k.val * 128 + s.val)) / 128 - 0) + 1 * ((h.val * 256 + e.val) / 1024 - 0) = _
    omega
  have hN : cfg0.N = 128 := N_0
  have hlt : pt12Of (ix2 (row b (time k s)) (col h e)) < cfg0.N := by rw [hp, hN]; omega
  unfold G12
  rw [dif_pos hlt, ← outsAt0_sweep m c _ hlt]
  have hl : loc12Of (ix2 (row b (time k s)) (col h e)) = ix2 s (col h e) := eq_ix2 _ _ _
    (by show (b.val * 2048 + (k.val * 128 + s.val)) % 128 = s.val; omega) (by show (h.val * 256 + e.val) % 1024 = h.val * 256 + e.val; omega)
  rw [hl]
  refine ((all m c _ hlt).y s h e).trans ?_
  have eb : bat ⟨_, hlt⟩ = b := Fin.ext (by show pt12Of (ix2 (row b (time k s)) (col h e)) / 16 = b.val; rw [hp]; omega)
  have ek : chk ⟨_, hlt⟩ = k := Fin.ext (by rw [chk_val]; show pt12Of (ix2 (row b (time k s)) (col h e)) % 16 = k.val; rw [hp]; omega)
  rw [eb, ek]

/-- The second output array. -/
theorem C_out (b : Fin 8) (h : Fin 4) (d e : Fin 256) : G13 m c (ix4 b h d e) = (carry (chunksOf (args m c) b h) 16).C d e := by
  have hp : pt13Of (ix4 b h d e) = b.val * 16 + 15 := by
    show 16 * (1 * (b.val / 1 - 0) + 1 * (h.val / 4 - 0) + 1 * (d.val / 256 - 0) + 1 * (e.val / 256 - 0)) + 15 = _
    omega
  have hN : cfg0.N = 128 := N_0
  have hlt : pt13Of (ix4 b h d e) < cfg0.N := by rw [hp, hN]; omega
  unfold G13
  rw [dif_pos hlt, ← outsAt0_sweep m c _ hlt]
  have hl : loc13Of (ix4 b h d e) = ix4 0 h d e := eq_ix4 _ _ _ _ _
    (by show b.val % 1 = 0; omega) (by show h.val % 4 = h.val; omega) (by show d.val % 256 = d.val; omega) (by show e.val % 256 = e.val; omega)
  rw [hl]
  refine ((all m c _ hlt).oC (by show pt13Of (ix4 b h d e) % 16 = 15; rw [hp]; omega) h d e).trans ?_
  have eb : bat ⟨_, hlt⟩ = b := Fin.ext (by show pt13Of (ix4 b h d e) / 16 = b.val; rw [hp]; omega)
  rw [eb]

/-- The third output array. -/
theorem n_out (b : Fin 8) (h : Fin 4) (a : Fin 8) (d : Fin 256) : G14 m c (ix4 b h a d) = (carry (chunksOf (args m c) b h) 16).n d := by
  have hp : pt14Of (ix4 b h a d) = b.val * 16 + 15 := by
    show 16 * (1 * (b.val / 1 - 0) + 1 * (h.val / 4 - 0) + 1 * (a.val / 8 - 0) + 1 * (d.val / 256 - 0)) + 15 = _
    omega
  have hN : cfg0.N = 128 := N_0
  have hlt : pt14Of (ix4 b h a d) < cfg0.N := by rw [hp, hN]; omega
  unfold G14
  rw [dif_pos hlt, ← outsAt0_sweep m c _ hlt]
  have hl : loc14Of (ix4 b h a d) = ix4 0 h a d := eq_ix4 _ _ _ _ _
    (by show b.val % 1 = 0; omega) (by show h.val % 4 = h.val; omega) (by show a.val % 8 = a.val; omega) (by show d.val % 256 = d.val; omega)
  rw [hl]
  refine ((all m c _ hlt).on (by show pt14Of (ix4 b h a d) % 16 = 15; rw [hp]; omega) h a d).trans ?_
  have eb : bat ⟨_, hlt⟩ = b := Fin.ext (by show pt14Of (ix4 b h a d) / 16 = b.val; rw [hp]; omega)
  rw [eb]

/-- The fourth output array, in the four lanes of the gates. -/
theorem m_out (b : Fin 8) (a : Fin 8) (h : Fin 4) :
    G15 m c (ix3 b a ⟨16 + h.val, by omega⟩) = (carry (chunksOf (args m c) b h) 16).m := by
  obtain ⟨l, hl⟩ : ∃ l : Fin 128, l = ⟨16 + h.val, by omega⟩ := ⟨_, rfl⟩
  rw [← hl]
  have hp : pt15Of (ix3 b a l) = b.val * 16 + 15 := by
    show 16 * (1 * (b.val / 1 - 0) + 1 * (a.val / 8 - 0) + 1 * (l.val / 128 - 0)) + 15 = _
    omega
  have hN : cfg0.N = 128 := N_0
  have hlt : pt15Of (ix3 b a l) < cfg0.N := by rw [hp, hN]; omega
  unfold G15
  rw [dif_pos hlt, ← outsAt0_sweep m c _ hlt]
  have hl : loc15Of (ix3 b a l) = ix3 0 a l := eq_ix3 _ _ _ _
    (by show b.val % 1 = 0; omega) (by show a.val % 8 = a.val; omega) (by show l.val % 128 = l.val; omega)
  rw [hl]
  subst l
  refine ((all m c _ hlt).om (by show pt15Of (ix3 b a _) % 16 = 15; rw [hp]; omega) a h).trans ?_
  have eb : bat ⟨_, hlt⟩ = b := Fin.ext (by show pt15Of (ix3 b a _) / 16 = b.val; rw [hp]; omega)
  rw [eb]

end Cert.KernelIdeal.Out
-- ==== Proof.Final.lean ====
module

public import proofs.«01_k».proof.Defs
public import proofs.«01_k».proof.Proof.Gates
public import proofs.«01_k».proof.Proof.RefOut
public import proofs.«01_k».proof.Proof.KerOut
public import Idealize.ShloMosaic.Lib.Claim

/-!
The two programs, started from equal arguments, end with equal results.
-/

@[expose] public section
set_option maxRecDepth 16384
noncomputable section
open Idealize.ShloMosaic Idealize.ShloMosaic.TcCoe Idealize.SL.Sem
open Idealize.ShloMosaic.StableHlo Idealize.ShloMosaic.Pipeline
open Cert.MemSpec

set_option maxHeartbeats 1000000

namespace Cert.Final

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two memories hold equal arguments on device `c`. -/
structure Same : Prop where
  h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)

variable {m m' c} (S : Same m m' c)
include S

/-- The recurrence reads the same arguments in both programs. -/
theorem args_eq : Cert.ReferenceIdeal.Pre.args m' c = Cert.KernelIdeal.Inv.args m c := by
  unfold Cert.ReferenceIdeal.Pre.args Cert.KernelIdeal.Inv.args
  rw [S.h0, S.h1, S.h3, S.h4, S.h5, S.h6, S.h7, S.h8, S.h9]

/-- The outputs of the layer agree. -/
theorem y_eq (i : (⟨2, ![16384, 1024]⟩ : Shape).Idx) :
    Cert.ReferenceIdeal.Value.out_main_v112 (Cert.ReferenceIdeal.Value.STEP^[16] (entryContents Cert.ReferenceIdeal.Value.preI m' c)) i
      = Cert.KernelIdeal.Value.G12 m c i := by
  have h0 : (i 0).val < 16384 := (i 0).isLt
  have h1 : (i 1).val < 1024 := (i 1).isLt
  have e : i = ix2 (row ⟨(i 0).val / 2048, by omega⟩ (time ⟨(i 0).val % 2048 / 128, by omega⟩ ⟨(i 0).val % 128, by omega⟩))
      (col ⟨(i 1).val / 256, by omega⟩ ⟨(i 1).val % 256, by omega⟩) :=
    Cert.KernelIdeal.Inv.eq_ix2 _ _ _
      (by show (i 0).val = (i 0).val / 2048 * 2048 + ((i 0).val % 2048 / 128 * 128 + (i 0).val % 128); omega)
      (by show (i 1).val = (i 1).val / 256 * 256 + (i 1).val % 256; omega)
  rw [e, Cert.ReferenceIdeal.Out.y_out, Cert.KernelIdeal.Out.y_out, args_eq S, S.h2, S.h10]
  rfl

/-- The final matrix states agree. -/
theorem C_eq (i : (⟨4, ![8, 4, 256, 256]⟩ : Shape).Idx) :
    (Cert.ReferenceIdeal.Value.STEP^[16] (entryContents Cert.ReferenceIdeal.Value.preI m' c))
      (Proc.devRef .tc Cert.ReferenceIdeal.main_v77_7) i = Cert.KernelIdeal.Value.G13 m c i := by
  have e : i = ix4 (i 0) (i 1) (i 2) (i 3) := Cert.KernelIdeal.Out.eq_ix4 i (i 0) (i 1) (i 2) (i 3) rfl rfl rfl rfl
  rw [e]
  exact (Cert.ReferenceIdeal.Out.C_out m' c (i 0) (i 1) (i 2) (i 3)).trans
    ((congrArg (fun A => (carry (chunksOf A (i 0) (i 1)) 16).C (i 2) (i 3)) (args_eq S)).trans (Cert.KernelIdeal.Out.C_out m c (i 0) (i 1) (i 2) (i 3)).symm)

/-- The final normalisers agree. -/
theorem n_eq (i : (⟨4, ![8, 4, 8, 256]⟩ : Shape).Idx) :
    Cert.ReferenceIdeal.Value.out_main_v114 (Cert.ReferenceIdeal.Value.STEP^[16] (entryContents Cert.ReferenceIdeal.Value.preI m' c)) i
      = Cert.KernelIdeal.Value.G14 m c i := by
  have e : i = ix4 (i 0) (i 1) (i 2) (i 3) := Cert.KernelIdeal.Out.eq_ix4 i (i 0) (i 1) (i 2) (i 3) rfl rfl rfl rfl
  rw [e]
  exact (Cert.ReferenceIdeal.Out.n_out m' c (i 0) (i 1) (i 2) (i 3)).trans
    ((congrArg (fun A => (carry (chunksOf A (i 0) (i 1)) 16).n (i 3)) (args_eq S)).trans (Cert.KernelIdeal.Out.n_out m c (i 0) (i 1) (i 2) (i 3)).symm)

/-- The final stabilisers agree in the gate lanes. -/
theorem m_eq (i : (⟨3, ![8, 8, 128]⟩ : Shape).Idx) (hl : 16 ≤ (i 2).val ∧ (i 2).val < 20) :
    Cert.ReferenceIdeal.Value.out_main_v117 (Cert.ReferenceIdeal.Value.STEP^[16] (entryContents Cert.ReferenceIdeal.Value.preI m' c)) i
      = Cert.KernelIdeal.Value.G15 m c i := by
  have e : i = ix3 (i 0) (i 1) ⟨16 + ((⟨(i 2).val - 16, by omega⟩ : Fin 4)).val, by show 16 + ((i 2).val - 16) < 128; omega⟩ :=
    Cert.KernelIdeal.Inv.eq_ix3 i (i 0) (i 1) _ rfl rfl (by show (i 2).val = 16 + ((i 2).val - 16); omega)
  rw [e]
  exact (Cert.ReferenceIdeal.Out.m_out m' c (i 0) (i 1) ⟨(i 2).val - 16, by omega⟩).trans
    ((congrArg (fun A => (carry (chunksOf A (i 0) ⟨(i 2).val - 16, by omega⟩) 16).m) (args_eq S)).trans (Cert.KernelIdeal.Out.m_out m c (i 0) (i 1) ⟨(i 2).val - 16, by omega⟩).symm)

omit S in
/-- Started from equal arguments, the kernel and the reference end with equal results: the output, the matrix state and the
    normaliser everywhere, the stabiliser in its four gate lanes. -/
theorem algebraic : Cert.algebraic_KernelIdeal_ReferenceIdeal_on_gate_lanes (hKernelIdeal := Cert.KernelIdeal.Gen.facts)
    (hReferenceIdeal := Cert.ReferenceIdeal.Gen.facts) (hOn_gate_lanes := Cert.On_gate_lanes.Gen.facts) := by
  intro m g m' g' _ agree
  have S : ∀ c, Same m m' c := fun c =>
    let ⟨a, b, d, e, f, g, h, i, j, k, l⟩ := agree c
    ⟨a, b, d, e, f, g, h, i, j, k, l⟩
  refine ⟨fun c => Cert.KernelIdeal.Value.G12 m c, fun c => Cert.KernelIdeal.Value.G13 m c, fun c => Cert.KernelIdeal.Value.G14 m c,
    fun c => Cert.KernelIdeal.Value.G15 m c, ?_, ?_⟩
  · refine (θ_run _ _ _).mono (fun r h c => ?_) (Cert.KernelIdeal.Value.run (F := Ideal) m g)
    obtain ⟨y, C, n, s, rest⟩ := h c
    exact ⟨fun i _ => congrFun y i, fun i _ => congrFun C i, fun i _ => congrFun n i, fun i _ => congrFun s i, rest⟩
  · refine (θ_run _ _ _).mono (fun r h c => ?_) (Cert.ReferenceIdeal.Value.run (F := Ideal) m' g')
    obtain ⟨y, C, n, s, rest⟩ := h c
    exact ⟨fun i _ => (congrFun y i).trans (y_eq (S c) i), fun i _ => (congrFun C i).trans (C_eq (S c) i),
      fun i _ => (congrFun n i).trans (n_eq (S c) i),
      fun i hi => (congrFun s i).trans (m_eq (S c) i (Cert.Gates.gate _ _ _ _ _ _ _ _ _ _ _ i hi)), rest⟩

end Cert.Final
-- ==== Proof.InSpec.lean ====
module

public import Idealize.ShloMosaic.Lib.Pointwise
public import Idealize.ShloMosaic.Lib.ValueIdx

/-!
The input projection, written plainly: every token times a column of the weights.
-/

@[expose] public section
noncomputable section
open Idealize.ShloMosaic

namespace Cert.InSpec

/-- The projection of token `r` on column `e` of the weights: the sum over the model's components. -/
def proj (x : (⟨3, ![8, 2048, 1024]⟩ : Shape).Idx → EReal) (w : (⟨3, ![1, 1024, 5656]⟩ : Shape).Idx → EReal) (r : Fin 16384) (e : Fin 5656) : EReal :=
  ∑ d : Fin 1024, x (ix3 ⟨r.val / 2048, by omega⟩ ⟨r.val % 2048, by omega⟩ d) * w (ix3 0 d e)

/-- The columns `off` onwards of the projection, as one array. -/
def part (n off : ℕ) (h : off + n ≤ 5656) (x : (⟨3, ![8, 2048, 1024]⟩ : Shape).Idx → EReal) (w : (⟨3, ![1, 1024, 5656]⟩ : Shape).Idx → EReal) :
    (⟨2, ![16384, n]⟩ : Shape).Idx → EReal :=
  fun i => proj x w (i 0) ⟨off + (i 1).val, by have : (i 1).val < n := (i 1).isLt; omega⟩

/-- The gates: the time steps in lanes 0 to 15, the input gates in lanes 16 to 19, the forget gates in lanes 144 to 147,
    zero elsewhere. -/
def gates (x : (⟨3, ![8, 2048, 1024]⟩ : Shape).Idx → EReal) (w : (⟨3, ![1, 1024, 5656]⟩ : Shape).Idx → EReal) :
    (⟨2, ![16384, 256]⟩ : Shape).Idx → EReal :=
  fun i => if h : (i 1).val < 16 then proj x w (i 0) ⟨2560 + (i 1).val, by omega⟩
    else if h : (i 1).val < 20 then proj x w (i 0) ⟨5632 + (i 1).val, by omega⟩
    else if h : 144 ≤ (i 1).val ∧ (i 1).val < 148 then proj x w (i 0) ⟨5508 + (i 1).val, by omega⟩
    else 0

end Cert.InSpec
-- ==== Proof.InCat.lean ====
module

public import proofs.«01_k».proof.Proof.InSpec

/-!
The weights of the input projection with their columns rearranged, and what the projection is on them.
-/

@[expose] public section
noncomputable section
open Idealize.ShloMosaic

namespace Cert.InSpec

/-- The rearranged weights, column by column. -/
def cat (w : (⟨3, ![1, 1024, 5656]⟩ : Shape).Idx → EReal) (d : Fin 1024) (e : Fin 5888) : EReal :=
  if h : e.val < 2560 then w (ix3 0 d ⟨e.val, by omega⟩)
  else if h : e.val < 5632 then w (ix3 0 d ⟨e.val + 16, by omega⟩)
  else if h : e.val < 5648 then w (ix3 0 d ⟨e.val - 3072, by omega⟩)
  else if h : e.val < 5652 then w (ix3 0 d ⟨e.val, by omega⟩)
  else if h : 5776 ≤ e.val ∧ e.val < 5780 then w (ix3 0 d ⟨e.val - 124, by omega⟩)
  else 0

/-- The projection of token `r` on column `e` of the rearranged weights. -/
def catProj (x : (⟨3, ![8, 2048, 1024]⟩ : Shape).Idx → EReal) (w : (⟨3, ![1, 1024, 5656]⟩ : Shape).Idx → EReal) (r : Fin 16384) (e : Fin 5888) : EReal :=
  ∑ d : Fin 1024, x (ix3 ⟨r.val / 2048, by omega⟩ ⟨r.val % 2048, by omega⟩ d) * cat w d e

/-- On a column that `cat` takes from the weights, the projection is the plain one. -/
theorem catProj_eq (x : (⟨3, ![8, 2048, 1024]⟩ : Shape).Idx → EReal) (w : (⟨3, ![1, 1024, 5656]⟩ : Shape).Idx → EReal) (r : Fin 16384) (e : Fin 5888) (e' : Fin 5656)
    (h : ∀ d, cat w d e = w (ix3 0 d e')) : catProj x w r e = proj x w r e' :=
  Finset.sum_congr rfl fun d _ => by rw [h]

/-- Seven pieces of columns side by side, two of them padded, are the rearranged weights. -/
theorem ladder (w : (⟨3, ![1, 1024, 5656]⟩ : Shape).Idx → EReal) (d : Fin 1024) (e : Fin 5888) :
    (if h : e.val < 1024 then w (ix3 0 d ⟨e.val, by omega⟩)
    else if h : e.val - 1024 < 1536 then w (ix3 0 d ⟨1024 + (e.val - 1024), by omega⟩)
    else if h : e.val - 1024 - 1536 < 1024 then w (ix3 0 d ⟨2576 + (e.val - 1024 - 1536), by omega⟩)
    else if h : e.val - 1024 - 1536 - 1024 < 1024 then w (ix3 0 d ⟨3600 + (e.val - 1024 - 1536 - 1024), by omega⟩)
    else if h : e.val - 1024 - 1536 - 1024 - 1024 < 1024 then w (ix3 0 d ⟨4624 + (e.val - 1024 - 1536 - 1024 - 1024), by omega⟩)
    else if h : e.val - 1024 - 1536 - 1024 - 1024 - 1024 < 128 then
      if h_1 : e.val - 1024 - 1536 - 1024 - 1024 - 1024 < 20 then
        if h_2 : e.val - 1024 - 1536 - 1024 - 1024 - 1024 < 16 then
          if h_3 : e.val - 1024 - 1536 - 1024 - 1024 - 1024 < 16 then w (ix3 0 d ⟨2560 + (e.val - 1024 - 1536 - 1024 - 1024 - 1024), by omega⟩) else 0
        else w (ix3 0 d ⟨5648 + (e.val - 1024 - 1536 - 1024 - 1024 - 1024 - 16), by omega⟩)
      else 0
    else if h_1 : 16 ≤ e.val - 1024 - 1536 - 1024 - 1024 - 1024 - 128 ∧ e.val - 1024 - 1536 - 1024 - 1024 - 1024 - 128 - 16 < 4 then
      w (ix3 0 d ⟨5652 + (e.val - 1024 - 1536 - 1024 - 1024 - 1024 - 128 - 16), by omega⟩) else 0) = cat w d e := by
  have hw : ∀ (a b : ℕ) (ha : a < 5656) (hb : b < 5656), a = b → w (ix3 0 d ⟨a, ha⟩) = w (ix3 0 d ⟨b, hb⟩) := by
    rintro a b ha hb rfl
    rfl
  unfold cat
  split_ifs
  all_goals first
    | omega
    | exact Eq.refl (0 : EReal)
    | exact hw _ _ _ _ (by omega)

/-- Columns that lie within one of the two plain stretches are the weights' own. -/
theorem cat_off {n : ℕ} (off off' : ℕ) (hn' : off' + n ≤ 5656) (ho : off + n ≤ 2560 ∧ off' = off ∨ 2560 ≤ off ∧ off + n ≤ 5632 ∧ off' = off + 16)
    (e : Fin n) (k : Fin 5888) (hk : k.val = off + e.val) (w : (⟨3, ![1, 1024, 5656]⟩ : Shape).Idx → EReal) (d : Fin 1024) :
    cat w d k = w (ix3 0 d ⟨off' + e.val, by omega⟩) := by
  have := e.isLt
  unfold cat
  split_ifs <;> first
    | omega
    | exact congrArg (fun k => w (ix3 0 d k)) (Fin.ext (by dsimp only; omega))

/-- The gates' columns of the rearranged weights give the gates. -/
theorem catProj_gates (x : (⟨3, ![8, 2048, 1024]⟩ : Shape).Idx → EReal) (w : (⟨3, ![1, 1024, 5656]⟩ : Shape).Idx → EReal) (r : Fin 16384) (e : Fin 256) :
    catProj x w r ⟨5632 + e.val, by omega⟩ = gates x w (ix2 r e) := by
  have hz : (∀ d, cat w d ⟨5632 + e.val, by omega⟩ = 0) → catProj x w r ⟨5632 + e.val, by omega⟩ = 0 := fun h =>
    Finset.sum_eq_zero fun d _ => by rw [h, mul_zero]
  have hc' : ∀ (k : Fin 5888) (_ : k.val = 5632 + e.val) (d : Fin 1024), cat w d k = if h : e.val < 16 then w (ix3 0 d ⟨2560 + e.val, by omega⟩)
      else if h : e.val < 20 then w (ix3 0 d ⟨5632 + e.val, by omega⟩)
      else if h : 144 ≤ e.val ∧ e.val < 148 then w (ix3 0 d ⟨5508 + e.val, by omega⟩) else 0 := by
    intro k hk d
    unfold cat
    split_ifs <;> first
      | omega
      | exact Eq.refl (0 : EReal)
      | exact congrArg (fun k => w (ix3 0 d k)) (Fin.ext (by dsimp only; omega))
  have hc := hc' ⟨5632 + e.val, by omega⟩ rfl
  change _ = if h : e.val < 16 then proj x w r ⟨2560 + e.val, by omega⟩
    else if h : e.val < 20 then proj x w r ⟨5632 + e.val, by omega⟩
    else if h : 144 ≤ e.val ∧ e.val < 148 then proj x w r ⟨5508 + e.val, by omega⟩ else 0
  split_ifs with h1 h2 h3
  · exact catProj_eq x w r _ _ fun d => by rw [hc, dif_pos h1]
  · exact catProj_eq x w r _ _ fun d => by rw [hc, dif_neg h1, dif_pos h2]
  · exact catProj_eq x w r _ _ fun d => by rw [hc, dif_neg h1, dif_neg h2, dif_pos h3]
  · exact hz fun d => by rw [hc, dif_neg h1, dif_neg h2, dif_neg h3]

end Cert.InSpec
-- ==== Proof.InKer.lean ====
module

public import proofs.«01_k».proof.Proof.Gen.Kernel2Ideal.Value
public import proofs.«01_k».proof.Proof.InCat
public import Idealize.ShloMosaic.Lib.Pointwise
public import Idealize.ShloMosaic.Lib.Pipeline.ValueKit
public import Idealize.ShloMosaic.Lib.StableHlo.RunRead
public import Idealize.ShloMosaic.Lib.WordCmp

/-!
The input projection kernel leaves the projection in its six result arrays.
-/

@[expose] public section
set_option maxRecDepth 16384
noncomputable section
open Idealize.ShloMosaic Idealize.ShloMosaic.TcCoe Idealize.SL.Sem
open Idealize.ShloMosaic.Pipeline (Dat)
open Cert.Kernel2Ideal Cert.Kernel2Ideal.Gen Cert.Kernel2Ideal.Value Cert.InSpec

set_option maxHeartbeats 1000000

namespace Cert.Kernel2Ideal.In

variable (m : (ℓ : Loc nD τ sig) → Buf (Elt Ideal) ℓ) (c : Dev nD)

/-- Where the blocks stand at each point of the grid. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The last stretch of host code concatenates seven pieces of columns. -/
theorem last (W : Valuation τ sig (Elt Ideal)) (a0 : Vec Ideal S1024x1024 .f32) (a1 : Vec Ideal S1024x1536 .f32) (a2 a3 a4 : Vec Ideal S1024x1024 .f32)
    (a5 a6 : Vec Ideal S1024x128 .f32) (h0 : W (Proc.devRef .tc main_v1) = a0) (h1 : W (Proc.devRef .tc main_v2) = a1) (h2 : W (Proc.devRef .tc main_v4) = a2)
    (h3 : W (Proc.devRef .tc main_v5) = a3) (h4 : W (Proc.devRef .tc main_v6) = a4) (h5 : W (Proc.devRef .tc main_v11) = a5) (h6 : W (Proc.devRef .tc main_v12) = a6) :
    StableHlo.after hostOps0_6 W (Proc.devRef .tc main_v14)
    = truncf (F := Ideal) .bf16 (concatenate S1024x5888 1 [⟨S1024x1024, a0⟩, ⟨S1024x1536, a1⟩, ⟨S1024x1024, a2⟩, ⟨S1024x1024, a3⟩, ⟨S1024x1024, a4⟩,
      ⟨S1024x128, a5⟩, ⟨S1024x128, a6⟩]
      Gen.facts.concatenates_S1024x1024_S1024x1536_S1024x1024_S1024x1024_S1024x1024_S1024x128_S1024x128_S1024x5888_d1) Gen.facts.bitsLt_bf16_f32 := by
  subst h0 h1 h2 h3 h4 h5 h6
  after_reads_simp
  rfl

/-- The stretches between leave a buffer they do not write. -/
theorem keep (W : Valuation τ sig (Elt Ideal)) : StableHlo.after hostOps0_5 (StableHlo.after hostOps0_4 W) (Proc.devRef .tc main_v11) = W (Proc.devRef .tc main_v11) := by
  after_reads_simp

/-- The second padding: the time steps and input gates, then zeros. -/
theorem v11 (W : Valuation τ sig (Elt Ideal)) (a : Vec Ideal S1024x20 .f32) (z : Vec Ideal S_ .i32) (h : W (Proc.devRef .tc main_v10) = a)
    (hz : W (Proc.devRef .tc main_c_0) = z) : StableHlo.after hostOps0_3 W (Proc.devRef .tc main_v11)
    = pad S1024x128 ![0, 0] ![0, 108] ![0, 0] a (sitofp (F := Ideal) .f32 z) Gen.facts.pads_S1024x20_S1024x128_000_01080 Gen.facts.h_S_ := by
  subst h hz
  after_reads_simp
  rfl

/-- The time steps' columns and the input gates' side by side. -/
theorem v10 (W : Valuation τ sig (Elt Ideal)) (a : Vec Ideal S1024x16 .f32) (b : Vec Ideal S1024x4 .f32) (ha : W (Proc.devRef .tc main_v9) = a)
    (hb : W (Proc.devRef .tc main_v7) = b) : StableHlo.after hostOps0_2 W (Proc.devRef .tc main_v10)
    = concatenate S1024x20 1 [⟨S1024x16, a⟩, ⟨S1024x4, b⟩] Gen.facts.concatenates_S1024x16_S1024x4_S1024x20_d1 := by
  subst ha hb
  after_reads_simp
  rfl

/-- The first padding adds nothing. -/
theorem v9 (W : Valuation τ sig (Elt Ideal)) (a : Vec Ideal S1024x16 .f32) (z : Vec Ideal S_ .i32) (h : W (Proc.devRef .tc main_v3) = a)
    (hz : W (Proc.devRef .tc main_c) = z) : StableHlo.after hostOps0_1 W (Proc.devRef .tc main_v9)
    = pad S1024x16 ![0, 0] ![0, 0] ![0, 0] a (sitofp (F := Ideal) .f32 z) Gen.facts.pads_S1024x16_S1024x16_000_000 Gen.facts.h_S_ := by
  subst h hz
  after_reads_simp
  rfl

/-- The third padding: the forget gates between zeros. -/
theorem v12 (W : Valuation τ sig (Elt Ideal)) (a : Vec Ideal S1024x4 .f32) (z : Vec Ideal S_ .i32) (h : W (Proc.devRef .tc main_v8) = a)
    (hz : W (Proc.devRef .tc main_c_1) = z) : StableHlo.after hostOps0_5 W (Proc.devRef .tc main_v12)
    = pad S1024x128 ![0, 16] ![0, 108] ![0, 0] a (sitofp (F := Ideal) .f32 z) Gen.facts.pads_S1024x4_S1024x128_000_161080 Gen.facts.h_S_ := by
  subst h hz
  after_reads_simp
  rfl

/-- The host code lays the weights out as `cat` says. -/
theorem v14 (d : Fin 1024) (e : Fin 5888) : V m c main_v14 (ix2 d e) = cat (m ((c : Thread nD τ).loc main_arg1)) d e := by
  simp only [V, List.flatten_cons, List.flatten_nil, List.append_nil, StableHlo.after_append]
  refine (congrFun (last _ _ _ _ _ _ _ _ (by after_reads_simp; exact rfl) (by after_reads_simp; exact rfl) (by after_reads_simp; exact rfl) (by after_reads_simp; exact rfl)
    (by after_reads_simp; exact rfl)
    ((keep _).trans (v11 _ _ _ (v10 _ _ _ (v9 _ _ _ (by after_reads_simp; exact rfl) (by after_reads_simp; exact rfl)) (by after_reads_simp; exact rfl)) (by after_reads_simp; exact rfl)))
    (v12 _ _ _ (by after_reads_simp; exact rfl) (by after_reads_simp; exact rfl))) _).trans ?_
  pointwise
  have hz : FloatOps.sitofp (F := Ideal) FTy.f32 (0#32) = (0 : EReal) := by
    change (((0#32 : BitVec 32).toInt : ℝ) : EReal) = 0
    simp
  simp only [hz]
  exact ladder (m ((c : Thread nD τ).loc main_arg1)) d e

/-- The tokens, row by row. -/
theorem v15 (r : Fin 16384) (d : Fin 1024) : V m c main_v15 (ix2 r d)
    = m ((c : Thread nD τ).loc main_arg0) (ix3 ⟨r.val / 2048, by omega⟩ ⟨r.val % 2048, by omega⟩ d) := by
  simp only [V, List.flatten_cons, List.flatten_nil, List.append_nil, StableHlo.after_append]
  after_reads_simp
  pointwise

theorem blk0 (t : Fin cfg0.N) (s : Fin 256) (d : Fin 1024) : iblk m c 0 t (ix2 s d)
    = V m c main_v15 (ix2 ⟨t.val * 256 + s.val, by have := lt_of_lt_of_eq t.isLt N_0; omega⟩ d) := by
  blk_ext [iblk, idx t]

theorem blk1 (t : Fin cfg0.N) (d : Fin 1024) (e : Fin 5888) : iblk m c 1 t (ix2 d e) = V m c main_v14 (ix2 d e) := by
  blk_ext [iblk, idx t]

/-- The columns 0 onwards of a block: tokens times weights. -/
theorem pay3_at (x0 : Vec Ideal S256x1024 .f32) (x1 : Vec Ideal S1024x5888 .bf16) (s : Fin 256) (e : Fin 1024) :
    k0_pay3 x0 (View.ld x1 r0_1) (ix2 s e) = ∑ d : Fin 1024, x0 (ix2 s d) * x1 (ix2 d ⟨0 + e.val, by omega⟩) := by
  pointwise [k0_pay3, k0_pay2, k0_pay8]

/-- The columns 1024 onwards of a block: tokens times weights. -/
theorem pay4_at (x0 : Vec Ideal S256x1024 .f32) (x1 : Vec Ideal S1024x5888 .bf16) (s : Fin 256) (e : Fin 1536) :
    k0_pay4 x0 (View.ld x1 r0_2) (ix2 s e) = ∑ d : Fin 1024, x0 (ix2 s d) * x1 (ix2 d ⟨1024 + e.val, by omega⟩) := by
  pointwise [k0_pay4, k0_pay2, k0_pay8]

/-- The columns 2560 onwards of a block: tokens times weights. -/
theorem pay5_at (x0 : Vec Ideal S256x1024 .f32) (x1 : Vec Ideal S1024x5888 .bf16) (s : Fin 256) (e : Fin 1024) :
    k0_pay5 x0 (View.ld x1 r0_4) (ix2 s e) = ∑ d : Fin 1024, x0 (ix2 s d) * x1 (ix2 d ⟨2560 + e.val, by omega⟩) := by
  pointwise [k0_pay5, k0_pay2, k0_pay8]

/-- The columns 3584 onwards of a block: tokens times weights. -/
theorem pay6_at (x0 : Vec Ideal S256x1024 .f32) (x1 : Vec Ideal S1024x5888 .bf16) (s : Fin 256) (e : Fin 1024) :
    k0_pay6 x0 (View.ld x1 r0_5) (ix2 s e) = ∑ d : Fin 1024, x0 (ix2 s d) * x1 (ix2 d ⟨3584 + e.val, by omega⟩) := by
  pointwise [k0_pay6, k0_pay2, k0_pay8]

/-- The columns 4608 onwards of a block: tokens times weights. -/
theorem pay7_at (x0 : Vec Ideal S256x1024 .f32) (x1 : Vec Ideal S1024x5888 .bf16) (s : Fin 256) (e : Fin 1024) :
    k0_pay7 x0 (View.ld x1 r0_6) (ix2 s e) = ∑ d : Fin 1024, x0 (ix2 s d) * x1 (ix2 d ⟨4608 + e.val, by omega⟩) := by
  pointwise [k0_pay7, k0_pay2, k0_pay8]

/-- The columns 5632 onwards of a block: tokens times weights. -/
theorem pay1_at (x0 : Vec Ideal S256x1024 .f32) (x1 : Vec Ideal S1024x5888 .bf16) (s : Fin 256) (e : Fin 256) :
    k0_pay1 (k0_pay2 x0) (k0_pay8 (View.ld x1 r0_7)) (ix2 s e) = ∑ d : Fin 1024, x0 (ix2 s d) * x1 (ix2 d ⟨5632 + e.val, by omega⟩) := by
  pointwise [k0_pay1, k0_pay2, k0_pay8]

/-- One block's product, over the weights as given. -/
theorem prod (t : Fin cfg0.N) (X : S256x1024.Idx → EReal) (W : S1024x5888.Idx → EReal) (hX : iblk m c 0 t = X) (hW : iblk m c 1 t = W) (s : Fin 256) (e : Fin 5888) : (∑ d : Fin 1024, X (ix2 s d) * W (ix2 d e))
    = catProj (m ((c : Thread nD τ).loc main_arg0)) (m ((c : Thread nD τ).loc main_arg1)) ⟨t.val * 256 + s.val, by have := lt_of_lt_of_eq t.isLt N_0; omega⟩ e := by
  refine Finset.sum_congr rfl fun d _ => ?_
  rw [← hX, ← hW, blk0, blk1, v14, v15]

/-- A stored block is the rows and columns of the projection it stands for. -/
theorem fits {n : ℕ} (t : Fin cfg0.N) (off off' : ℕ) (hn : off + n ≤ 5888) (hn' : off' + n ≤ 5656)
    (ho : off + n ≤ 2560 ∧ off' = off ∨ 2560 ≤ off ∧ off + n ≤ 5632 ∧ off' = off + 16)
    (X : S256x1024.Idx → EReal) (W : S1024x5888.Idx → EReal) (hX : iblk m c 0 t = X) (hW : iblk m c 1 t = W)
    (P : (⟨2, ![256, n]⟩ : Shape).Idx → EReal)
    (hP : ∀ (s : Fin 256) (e : Fin n), P (ix2 s e) = ∑ d : Fin 1024, X (ix2 s d) * W (ix2 d ⟨off + e.val, by omega⟩))
    (emb : (⟨2, ![256, n]⟩ : Shape).Idx → (⟨2, ![16384, n]⟩ : Shape).Idx)
    (he : ∀ (s : Fin 256) (e : Fin n), emb (ix2 s e) = ix2 ⟨t.val * 256 + s.val, by have := lt_of_lt_of_eq t.isLt N_0; omega⟩ e)
    (y : (⟨2, ![256, n]⟩ : Shape).Idx) :
    P y = part n off' hn' (m ((c : Thread nD τ).loc main_arg0)) (m ((c : Thread nD τ).loc main_arg1)) (emb y) := by
  obtain ⟨s, e, rfl⟩ : ∃ (s : Fin 256) (e : Fin n), y = ix2 s e := ⟨y 0, y 1, by funext a; fin_cases a <;> rfl⟩
  rw [hP, he, prod m c t X W hX hW]
  exact catProj_eq _ _ _ _ ⟨off' + e.val, by omega⟩ (cat_off off off' hn' ho e _ rfl _)

theorem final2 : (dats m 0 c).arrAt 2 cfg0.N = part 1024 0 (by decide) (m ((c : Thread nD τ).loc main_arg0)) (m ((c : Thread nD τ).loc main_arg1)) := by
  refine (dats m 0 c).arrAt_eq_of_covers 2 _ (by decide +kernel) fun t _ y => ?_
  blk_simp [idx t]
  rw [after0_2]
  frame_out
  exact fits m c t 0 0 (by decide) (by decide) (by decide) _ _ rfl rfl _ (pay3_at _ _) _ (fun s e => by blk_ext [idx t]) y

theorem final3 : (dats m 0 c).arrAt 3 cfg0.N = part 1536 1024 (by decide) (m ((c : Thread nD τ).loc main_arg0)) (m ((c : Thread nD τ).loc main_arg1)) := by
  refine (dats m 0 c).arrAt_eq_of_covers 3 _ (by decide +kernel) fun t _ y => ?_
  blk_simp [idx t]
  rw [after0_3]
  frame_out
  exact fits m c t 1024 1024 (by decide) (by decide) (by decide) _ _ rfl rfl _ (pay4_at _ _) _ (fun s e => by blk_ext [idx t]) y

theorem final4 : (dats m 0 c).arrAt 4 cfg0.N = part 1024 2576 (by decide) (m ((c : Thread nD τ).loc main_arg0)) (m ((c : Thread nD τ).loc main_arg1)) := by
  refine (dats m 0 c).arrAt_eq_of_covers 4 _ (by decide +kernel) fun t _ y => ?_
  blk_simp [idx t]
  rw [after0_4]
  frame_out
  exact fits m c t 2560 2576 (by decide) (by decide) (by decide) _ _ rfl rfl _ (pay5_at _ _) _ (fun s e => by blk_ext [idx t]) y

theorem final5 : (dats m 0 c).arrAt 5 cfg0.N = part 1024 3600 (by decide) (m ((c : Thread nD τ).loc main_arg0)) (m ((c : Thread nD τ).loc main_arg1)) := by
  refine (dats m 0 c).arrAt_eq_of_covers 5 _ (by decide +kernel) fun t _ y => ?_
  blk_simp [idx t]
  rw [after0_5]
  frame_out
  exact fits m c t 3584 3600 (by decide) (by decide) (by decide) _ _ rfl rfl _ (pay6_at _ _) _ (fun s e => by blk_ext [idx t]) y

theorem final6 : (dats m 0 c).arrAt 6 cfg0.N = part 1024 4624 (by decide) (m ((c : Thread nD τ).loc main_arg0)) (m ((c : Thread nD τ).loc main_arg1)) := by
  refine (dats m 0 c).arrAt_eq_of_covers 6 _ (by decide +kernel) fun t _ y => ?_
  blk_simp [idx t]
  rw [after0_6]
  frame_out
  exact fits m c t 4608 4624 (by decide) (by decide) (by decide) _ _ rfl rfl _ (pay7_at _ _) _ (fun s e => by blk_ext [idx t]) y

theorem final7 : (dats m 0 c).arrAt 7 cfg0.N = gates (m ((c : Thread nD τ).loc main_arg0)) (m ((c : Thread nD τ).loc main_arg1)) := by
  refine (dats m 0 c).arrAt_eq_of_covers 7 _ (by decide +kernel) fun t _ y => ?_
  blk_simp [idx t]
  rw [after0_7]
  frame_out
  obtain ⟨s, e, rfl⟩ : ∃ (s : Fin 256) (e : Fin 256), y = ix2 s e := ⟨y 0, y 1, by funext a; fin_cases a <;> rfl⟩
  refine (pay1_at _ _ s e).trans ((prod m c t _ _ rfl rfl s _).trans ((catProj_gates _ _ _ _).trans (congrArg _ ?_)))
  blk_ext [idx t]

end Cert.Kernel2Ideal.In
-- ==== Proof.InRef.lean ====
module

public import proofs.«01_k».proof.Proof.Gen.Reference2Ideal.Run
public import proofs.«01_k».proof.Proof.InSpec
public import Idealize.ShloMosaic.Lib.Pointwise
public import Idealize.ShloMosaic.Lib.Pipeline.ValueKit

/-!
The plain input projection computes `part` and `gates`.
-/

@[expose] public section
set_option maxRecDepth 16384
noncomputable section
open Idealize.ShloMosaic Idealize.ShloMosaic.TcCoe Idealize.SL.Sem
open Cert.Reference2Ideal Cert.Reference2Ideal.Gen Cert.InSpec

set_option maxHeartbeats 1000000

namespace Cert.Reference2Ideal.In

variable (x : S8x2048x1024.Idx → EReal) (w : S1x1024x5656.Idx → EReal)

/-- The product of the tokens and the weights. -/
abbrev dot : S8x2048x5656.Idx → EReal :=
  Host.dotGeneral (F := Ideal) (φ₁ := .f32) (φ₂ := .f32) dot_S8x2048x1024_S1024x5656_S8x2048x5656_2_0_01_1_n_n none x (shapeCast S1024x5656 w shapeCasts_S1x1024x5656_S1024x5656)

/-- Each entry of the product is a projection. -/
theorem dot_at (b : Fin 8) (s : Fin 2048) (e : Fin 5656) : dot x w (ix3 b s e)
    = proj x w ⟨b.val * 2048 + s.val, by omega⟩ e := by
  unfold proj
  have hb : (⟨(b.val * 2048 + s.val) / 2048, by omega⟩ : Fin 8) = b := Fin.ext (by dsimp only; omega)
  have hs : (⟨(b.val * 2048 + s.val) % 2048, by omega⟩ : Fin 2048) = s := Fin.ext (by dsimp only; omega)
  simp only [hb, hs]
  pointwise

/-- The flattened row of an entry belongs to its batch and time step. -/
theorem at_row (D : S8x2048x5656.Idx → EReal) (hD : dot x w = D) (r : Fin 16384) (k : Fin 5656) :
    D (ix3 ⟨r.val / 2048, by omega⟩ ⟨r.val % 2048, by omega⟩ k) = proj x w r k := by
  subst hD
  rw [dot_at]
  exact congrArg (fun q => proj x w q k) (Fin.ext (by dsimp only; omega))

/-- Columns 0 to 1023 of the product, flattened over the batch. -/
theorem v16 : shapeCast S16384x1024 (extractStridedSlice S8x2048x1024 ![0, 0, 0] (dot x w) slices_S8x2048x5656_S8x2048x1024_0_0_0) shapeCasts_S8x2048x1024_S16384x1024
    = part 1024 0 (by decide) x w := by
  funext i
  generalize hD : dot x w = D
  pointwise
  exact (at_row x w D hD (i 0) _).trans (congrArg (proj x w (i 0)) (Fin.ext (by first | omega | (dsimp only; omega))))

/-- Columns 1024 to 2559 of the product, flattened over the batch. -/
theorem v17 : shapeCast S16384x1536 (extractStridedSlice S8x2048x1536 ![0, 0, 1024] (dot x w) slices_S8x2048x5656_S8x2048x1536_0_0_1024) shapeCasts_S8x2048x1536_S16384x1536
    = part 1536 1024 (by decide) x w := by
  funext i
  generalize hD : dot x w = D
  pointwise
  exact (at_row x w D hD (i 0) _).trans (congrArg (proj x w (i 0)) (Fin.ext (by first | omega | (dsimp only; omega))))

/-- Columns 2576 to 3599 of the product, flattened over the batch. -/
theorem v18 : shapeCast S16384x1024 (extractStridedSlice S8x2048x1024 ![0, 0, 2576] (dot x w) slices_S8x2048x5656_S8x2048x1024_0_0_2576) shapeCasts_S8x2048x1024_S16384x1024
    = part 1024 2576 (by decide) x w := by
  funext i
  generalize hD : dot x w = D
  pointwise
  exact (at_row x w D hD (i 0) _).trans (congrArg (proj x w (i 0)) (Fin.ext (by first | omega | (dsimp only; omega))))

/-- Columns 3600 to 4623 of the product, flattened over the batch. -/
theorem v19 : shapeCast S16384x1024 (extractStridedSlice S8x2048x1024 ![0, 0, 3600] (dot x w) slices_S8x2048x5656_S8x2048x1024_0_0_3600) shapeCasts_S8x2048x1024_S16384x1024
    = part 1024 3600 (by decide) x w := by
  funext i
  generalize hD : dot x w = D
  pointwise
  exact (at_row x w D hD (i 0) _).trans (congrArg (proj x w (i 0)) (Fin.ext (by first | omega | (dsimp only; omega))))

/-- Columns 4624 to 5647 of the product, flattened over the batch. -/
theorem v20 : shapeCast S16384x1024 (extractStridedSlice S8x2048x1024 ![0, 0, 4624] (dot x w) slices_S8x2048x5656_S8x2048x1024_0_0_4624) shapeCasts_S8x2048x1024_S16384x1024
    = part 1024 4624 (by decide) x w := by
  funext i
  generalize hD : dot x w = D
  pointwise
  exact (at_row x w D hD (i 0) _).trans (congrArg (proj x w (i 0)) (Fin.ext (by first | omega | (dsimp only; omega))))

/-- The gates put side by side, zeros between and after. -/
theorem v15 : concatenate S16384x256 1 [⟨S16384x16, (shapeCast S16384x16 (extractStridedSlice S8x2048x16 ![0, 0, 2560] (dot x w) slices_S8x2048x5656_S8x2048x16_0_0_2560) shapeCasts_S8x2048x16_S16384x16)⟩,
      ⟨S16384x4, (shapeCast S16384x4 (extractStridedSlice S8x2048x4 ![0, 0, 5648] (dot x w) slices_S8x2048x5656_S8x2048x4_0_0_5648) shapeCasts_S8x2048x4_S16384x4)⟩,
      ⟨S16384x124, (broadcastInDim S16384x124 ![] bcast_S_S16384x124 (constant (F := Ideal) S_ .f32 0x00000000#32))⟩,
      ⟨S16384x4, (shapeCast S16384x4 (extractStridedSlice S8x2048x4 ![0, 0, 5652] (dot x w) slices_S8x2048x5656_S8x2048x4_0_0_5652) shapeCasts_S8x2048x4_S16384x4)⟩,
      ⟨S16384x108, (broadcastInDim S16384x108 ![] bcast_S_S16384x108 (constant (F := Ideal) S_ .f32 0x00000000#32))⟩]
      concatenates_S16384x16_S16384x4_S16384x124_S16384x4_S16384x108_S16384x256_d1 = gates x w := by
  funext i
  obtain ⟨r, l, rfl⟩ : ∃ (r : Fin 16384) (l : Fin 256), i = ix2 r l := ⟨i 0, i 1, by funext a; fin_cases a <;> rfl⟩
  generalize hD : dot x w = D
  pointwise
  simp only [at_row x w D hD]
  have hp : ∀ (a b : ℕ) (ha : a < 5656) (hb : b < 5656), a = b → proj x w r ⟨a, ha⟩ = proj x w r ⟨b, hb⟩ := by
    rintro a b ha hb rfl
    rfl
  change _ = if h : l.val < 16 then proj x w r ⟨2560 + l.val, by omega⟩
    else if h : l.val < 20 then proj x w r ⟨5632 + l.val, by omega⟩
    else if h : 144 ≤ l.val ∧ l.val < 148 then proj x w r ⟨5508 + l.val, by omega⟩ else 0
  by_cases h1 : l.val < 16
  · rw [dif_pos h1, dif_pos h1]
  rw [dif_neg h1, dif_neg h1]
  by_cases h2 : l.val < 20
  · rw [dif_pos (show l.val - 16 < 4 by omega), dif_pos h2]
    exact hp _ _ _ _ (by omega)
  rw [dif_neg (show ¬ l.val - 16 < 4 by omega), dif_neg h2]
  by_cases h3 : 144 ≤ l.val ∧ l.val < 148
  · rw [dif_neg (show ¬ l.val - 16 - 4 < 124 by omega), dif_pos (show l.val - 16 - 4 - 124 < 4 by omega), dif_pos h3]
    exact hp _ _ _ _ (by omega)
  rw [dif_neg h3]
  by_cases h4 : l.val - 16 - 4 < 124
  · rw [dif_pos h4]
  · rw [dif_neg h4, dif_neg (show ¬ l.val - 16 - 4 - 124 < 4 by omega)]

end Cert.Reference2Ideal.In
-- ==== Proof.InFinal.lean ====
module

public import proofs.«01_k».proof.Defs
public import proofs.«01_k».proof.Proof.InKer
public import proofs.«01_k».proof.Proof.InRef
public import Idealize.ShloMosaic.Lib.Claim

/-!
The input projection and its plain form, started from equal arguments, end with equal results.
-/

@[expose] public section
set_option maxRecDepth 16384
noncomputable section
open Idealize.ShloMosaic Idealize.ShloMosaic.TcCoe Idealize.SL.Sem
open Cert.InSpec

namespace Cert.InFinal

/-- Started from equal arguments, the input projection and its plain form end with equal results. -/
theorem algebraic : Cert.algebraic_Kernel2Ideal_Reference2Ideal (hKernel2Ideal := Cert.Kernel2Ideal.Gen.facts)
    (hReference2Ideal := Cert.Reference2Ideal.Gen.facts) := by
  intro m g m' g' _ agree
  refine ⟨fun c => part 1024 0 (by decide) (m (c.tc.loc Cert.Kernel2Ideal.main_arg0)) (m (c.tc.loc Cert.Kernel2Ideal.main_arg1)),
    fun c => part 1536 1024 (by decide) (m (c.tc.loc Cert.Kernel2Ideal.main_arg0)) (m (c.tc.loc Cert.Kernel2Ideal.main_arg1)),
    fun c => part 1024 2576 (by decide) (m (c.tc.loc Cert.Kernel2Ideal.main_arg0)) (m (c.tc.loc Cert.Kernel2Ideal.main_arg1)),
    fun c => part 1024 3600 (by decide) (m (c.tc.loc Cert.Kernel2Ideal.main_arg0)) (m (c.tc.loc Cert.Kernel2Ideal.main_arg1)),
    fun c => part 1024 4624 (by decide) (m (c.tc.loc Cert.Kernel2Ideal.main_arg0)) (m (c.tc.loc Cert.Kernel2Ideal.main_arg1)),
    fun c => gates (m (c.tc.loc Cert.Kernel2Ideal.main_arg0)) (m (c.tc.loc Cert.Kernel2Ideal.main_arg1)), ?_, ?_⟩
  · refine (θ_run _ _ _).mono (fun r h c => ?_) (Cert.Kernel2Ideal.Value.run_blocks (F := Ideal) m g)
    obtain ⟨h0, h1, h2, h3, h4, h5, rest⟩ := h c
    exact ⟨h0.trans (Cert.Kernel2Ideal.In.final2 m c), h1.trans (Cert.Kernel2Ideal.In.final3 m c), h2.trans (Cert.Kernel2Ideal.In.final4 m c),
      h3.trans (Cert.Kernel2Ideal.In.final5 m c), h4.trans (Cert.Kernel2Ideal.In.final6 m c), h5.trans (Cert.Kernel2Ideal.In.final7 m c), rest⟩
  · refine (θ_run _ _ _).mono (fun r h c => ?_) (Cert.Reference2Ideal.Value.run (F := Ideal) m' g')
    obtain ⟨h0, h1, h2, h3, h4, h5, rest⟩ := h c
    obtain ⟨a, b⟩ := agree c
    dsimp only
    rw [← a, ← b]
    exact ⟨h0.trans (Cert.Reference2Ideal.In.v16 _ _), h1.trans (Cert.Reference2Ideal.In.v17 _ _), h2.trans (Cert.Reference2Ideal.In.v18 _ _),
      h3.trans (Cert.Reference2Ideal.In.v19 _ _), h4.trans (Cert.Reference2Ideal.In.v20 _ _), h5.trans (Cert.Reference2Ideal.In.v15 _ _), rest⟩

end Cert.InFinal
-- ==== Proof.LnSpec.lean ====
module

public import Idealize.ShloMosaic.Lib.Pointwise
public import Idealize.ShloMosaic.Lib.ValueIdx

/-!
The output projection with the first layer norm, written plainly.
-/

@[expose] public section
noncomputable section
open Idealize.ShloMosaic

namespace Cert.LnSpec

/-- The residual's weight, the fourth root of two in single precision. -/
abbrev alpha : EReal := Ideal.ofBits FTy.f32 0x3F9837F0#32

/-- The width of a row. -/
abbrev width : EReal := Ideal.ofBits FTy.f32 0x44800000#32

/-- What the layer norm adds to the variance. -/
abbrev eps : EReal := Ideal.ofBits FTy.f32 0x3727C5AC#32

/-- The mean of a row. -/
def mean (f : Fin 1024 → EReal) : EReal := Ideal.div (∑ k, f k) width

/-- The variance of a row. -/
def var (f : Fin 1024 → EReal) : EReal := Ideal.div (∑ k, (f k - mean f) * (f k - mean f)) width

/-- The layer norm of a row at one place, with that place's gain and bias. -/
def ln (f : Fin 1024 → EReal) (g b : EReal) (e : Fin 1024) : EReal := (f e - mean f) * Ideal.rsqrt (var f + eps) * g + b

/-- The residual and the projected mixer outputs of token `r`: the two mixers' outputs, side by side, times the weights. -/
def mix (y h : (⟨2, ![16384, 1024]⟩ : Shape).Idx → EReal) (x : (⟨3, ![8, 2048, 1024]⟩ : Shape).Idx → EReal)
    (w : (⟨3, ![1, 2048, 1024]⟩ : Shape).Idx → EReal) (r : Fin 16384) (e : Fin 1024) : EReal :=
  alpha * x (ix3 ⟨r.val / 2048, by omega⟩ ⟨r.val % 2048, by omega⟩ e)
    + (∑ k : Fin 1024, y (ix2 r k) * w (ix3 0 ⟨k.val, by omega⟩ e) + ∑ k : Fin 1024, h (ix2 r k) * w (ix3 0 ⟨1024 + k.val, by omega⟩ e))

/-- The normed rows, one column per token. -/
def out (y h : (⟨2, ![16384, 1024]⟩ : Shape).Idx → EReal) (x : (⟨3, ![8, 2048, 1024]⟩ : Shape).Idx → EReal)
    (w : (⟨3, ![1, 2048, 1024]⟩ : Shape).Idx → EReal) (g b : (⟨2, ![1, 1024]⟩ : Shape).Idx → EReal) : (⟨2, ![1024, 16384]⟩ : Shape).Idx → EReal :=
  fun i => ln (mix y h x w (i 1)) (g (ix2 0 (i 0))) (b (ix2 0 (i 0))) (i 0)

end Cert.LnSpec
-- ==== Proof.LnKer.lean ====
module

public import proofs.«01_k».proof.Proof.Gen.Kernel3Ideal.Value
public import proofs.«01_k».proof.Proof.LnSpec
public import Idealize.ShloMosaic.Lib.Pointwise
public import Idealize.ShloMosaic.Lib.StableHlo.RunRead
public import Idealize.ShloMosaic.Lib.WordCmp
public import Idealize.ShloMosaic.Lib.Pipeline.ValueKit

/-!
The output projection's kernel leaves the normed rows, one column per token.
-/

@[expose] public section
set_option maxRecDepth 16384
noncomputable section
open Idealize.ShloMosaic Idealize.ShloMosaic.TcCoe Idealize.SL.Sem
open Idealize.ShloMosaic.Pipeline (Dat)
open Cert.Kernel3Ideal Cert.Kernel3Ideal.Gen Cert.Kernel3Ideal.Value Cert.LnSpec

set_option maxHeartbeats 1000000

namespace Cert.Kernel3Ideal.Ln

variable (m : (ℓ : Loc nD τ sig) → Buf (Elt Ideal) ℓ) (c : Dev nD)

/-- Where the blocks stand at each point of the grid. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, t.val] :=
  (by decide +kernel : ∀ t : Fin grid0.N, _)

/-- The weights, rounded: the ideal rounding keeps them. -/
theorem v1 (k : Fin 2048) (e : Fin 1024) : V m c main_v1 (ix2 k e) = m ((c : Thread nD τ).loc main_arg3) (ix3 0 k e) := by
  simp only [V, List.flatten_cons, List.flatten_nil, List.append_nil, StableHlo.after_append]
  after_reads_simp
  pointwise

/-- The gains. -/
theorem v3 (e : Fin 1024) : V m c main_v3 (ix2 0 e) = m ((c : Thread nD τ).loc main_arg4) (ix2 0 e) := by
  simp only [V, List.flatten_cons, List.flatten_nil, List.append_nil, StableHlo.after_append]
  after_reads_simp
  pointwise

/-- The biases. -/
theorem v5 (e : Fin 1024) : V m c main_v5 (ix2 0 e) = m ((c : Thread nD τ).loc main_arg5) (ix2 0 e) := by
  simp only [V, List.flatten_cons, List.flatten_nil, List.append_nil, StableHlo.after_append]
  after_reads_simp
  pointwise

/-- The tokens, row by row. -/
theorem v6 (r : Fin 16384) (d : Fin 1024) : V m c main_v6 (ix2 r d)
    = m ((c : Thread nD τ).loc main_arg2) (ix3 ⟨r.val / 2048, by omega⟩ ⟨r.val % 2048, by omega⟩ d) := by
  simp only [V, List.flatten_cons, List.flatten_nil, List.append_nil, StableHlo.after_append]
  after_reads_simp
  pointwise

/-- The blocks the body reads, as rows of the arguments. -/
theorem blk0 (t : Fin cfg0.N) (s : Fin 512) (d : Fin 1024) : iblk m c 0 t (ix2 s d)
    = m ((c : Thread nD τ).loc main_arg0) (ix2 ⟨t.val * 512 + s.val, by have := lt_of_lt_of_eq t.isLt N_0; omega⟩ d) := by
  blk_ext [iblk, V, idx t]

theorem blk1 (t : Fin cfg0.N) (s : Fin 512) (d : Fin 1024) : iblk m c 1 t (ix2 s d)
    = m ((c : Thread nD τ).loc main_arg1) (ix2 ⟨t.val * 512 + s.val, by have := lt_of_lt_of_eq t.isLt N_0; omega⟩ d) := by
  blk_ext [iblk, V, idx t]

theorem blk2 (t : Fin cfg0.N) (s : Fin 512) (d : Fin 1024) : iblk m c 2 t (ix2 s d)
    = V m c main_v6 (ix2 ⟨t.val * 512 + s.val, by have := lt_of_lt_of_eq t.isLt N_0; omega⟩ d) := by
  blk_ext [iblk, idx t]

theorem blk3 (t : Fin cfg0.N) (k : Fin 2048) (e : Fin 1024) : iblk m c 3 t (ix2 k e) = V m c main_v1 (ix2 k e) := by
  blk_ext [iblk, idx t]

theorem blk4 (t : Fin cfg0.N) (e : Fin 1024) : iblk m c 4 t (ix2 0 e) = V m c main_v3 (ix2 0 e) := by
  blk_ext [iblk, idx t]

theorem blk5 (t : Fin cfg0.N) (e : Fin 1024) : iblk m c 5 t (ix2 0 e) = V m c main_v5 (ix2 0 e) := by
  blk_ext [iblk, idx t]

section body
variable (y : Vec Ideal S256x1024 .bf16) (w0 : Vec Ideal S1024x1024 .bf16) (h : Vec Ideal S256x1024 .bf16) (w1 : Vec Ideal S1024x1024 .bf16)
  (x : Vec Ideal S256x1024 .f32) (g b : Vec Ideal S1x1024 .f32) (s : Fin 256) (e : Fin 1024)

/-- A row before the norm. -/
theorem pay3_at : k0_pay3 y w0 h w1 x (ix2 s e) = alpha * x (ix2 s e)
    + (∑ k : Fin 1024, y (ix2 s k) * w0 (ix2 k e) + ∑ k : Fin 1024, h (ix2 s k) * w1 (ix2 k e)) := by
  pointwise [k0_pay3]

/-- The first half's rows, normed. -/
theorem ln_at : k0_pay6 (k0_pay3 y w0 h w1 x) (k0_pay4 y w0 h w1 x) (k0_pay5 y w0 h w1 x) (Scalar.ofBits .f32 0x44800000#32) g b (ix2 e s)
    = ln (fun k => k0_pay3 y w0 h w1 x (ix2 s k)) (g (ix2 0 e)) (b (ix2 0 e)) e := by
  unfold k0_pay4 k0_pay5 k0_pay4
  generalize k0_pay3 y w0 h w1 x = U
  pointwise [k0_pay6]
  rfl

/-- The second half's rows, normed: the same arithmetic. -/
theorem ln2_at : k0_pay1 (k0_pay7 (k0_pay2 y w0 h w1) x) g b (ix2 e s)
    = ln (fun k => k0_pay3 y w0 h w1 x (ix2 s k)) (g (ix2 0 e)) (b (ix2 0 e)) e :=
  (show _ = k0_pay6 (k0_pay3 y w0 h w1 x) (k0_pay4 y w0 h w1 x) (k0_pay5 y w0 h w1 x) (Scalar.ofBits .f32 0x44800000#32) g b (ix2 e s) from rfl).trans
    (ln_at y w0 h w1 x g b s e)

end body

/-- A stored block's row before the norm is the token's. -/
theorem row_at (t : Fin cfg0.N) (off : ℕ) (ho : off + 256 ≤ 512) (s : Fin 256) (e : Fin 1024)
    (y : Vec Ideal S256x1024 .bf16) (w0 : Vec Ideal S1024x1024 .bf16) (h : Vec Ideal S256x1024 .bf16) (w1 : Vec Ideal S1024x1024 .bf16) (x : Vec Ideal S256x1024 .f32)
    (hy : ∀ k : Fin 1024, y (ix2 s k) = iblk m c 0 t (ix2 ⟨off + s.val, by omega⟩ k))
    (hh : ∀ k : Fin 1024, h (ix2 s k) = iblk m c 1 t (ix2 ⟨off + s.val, by omega⟩ k))
    (hx : x (ix2 s e) = iblk m c 2 t (ix2 ⟨off + s.val, by omega⟩ e))
    (hw0 : ∀ k : Fin 1024, w0 (ix2 k e) = iblk m c 3 t (ix2 ⟨k.val, by omega⟩ e))
    (hw1 : ∀ k : Fin 1024, w1 (ix2 k e) = iblk m c 3 t (ix2 ⟨1024 + k.val, by omega⟩ e)) :
    k0_pay3 y w0 h w1 x (ix2 s e) = mix (m ((c : Thread nD τ).loc main_arg0)) (m ((c : Thread nD τ).loc main_arg1)) (m ((c : Thread nD τ).loc main_arg2))
      (m ((c : Thread nD τ).loc main_arg3)) ⟨t.val * 512 + (off + s.val), by have := lt_of_lt_of_eq t.isLt N_0; omega⟩ e := by
  rw [pay3_at, hx, blk2, v6]
  refine congrArg₂ (· + ·) rfl (congrArg₂ (· + ·) (Finset.sum_congr rfl fun k _ => ?_) (Finset.sum_congr rfl fun k _ => ?_))
  · rw [hy, hw0, blk0, blk3, v1]
  · rw [hh, hw1, blk1, blk3, v1]

/-- A stored block is the normed rows of its tokens. -/
theorem half (t : Fin cfg0.N) (off : ℕ) (ho : off + 256 ≤ 512) (s : Fin 256) (e : Fin 1024)
    (y : Vec Ideal S256x1024 .bf16) (w0 : Vec Ideal S1024x1024 .bf16) (h : Vec Ideal S256x1024 .bf16) (w1 : Vec Ideal S1024x1024 .bf16) (x : Vec Ideal S256x1024 .f32)
    (g b : Vec Ideal S1x1024 .f32)
    (hy : ∀ k : Fin 1024, y (ix2 s k) = iblk m c 0 t (ix2 ⟨off + s.val, by omega⟩ k))
    (hh : ∀ k : Fin 1024, h (ix2 s k) = iblk m c 1 t (ix2 ⟨off + s.val, by omega⟩ k))
    (hx : ∀ k : Fin 1024, x (ix2 s k) = iblk m c 2 t (ix2 ⟨off + s.val, by omega⟩ k))
    (hw0 : ∀ k e : Fin 1024, w0 (ix2 k e) = iblk m c 3 t (ix2 ⟨k.val, by omega⟩ e))
    (hw1 : ∀ k e : Fin 1024, w1 (ix2 k e) = iblk m c 3 t (ix2 ⟨1024 + k.val, by omega⟩ e))
    (hg : g (ix2 0 e) = iblk m c 4 t (ix2 0 e)) (hb : b (ix2 0 e) = iblk m c 5 t (ix2 0 e)) :
    ln (fun k => k0_pay3 y w0 h w1 x (ix2 s k)) (g (ix2 0 e)) (b (ix2 0 e)) e
      = out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (ix2 e ⟨t.val * 512 + (off + s.val), by have := lt_of_lt_of_eq t.isLt N_0; omega⟩) := by
  have hf := funext fun k => row_at m c t off ho s k y w0 h w1 x hy hh (hx k) (fun j => hw0 j k) (fun j => hw1 j k)
  rw [hf, hg, hb, blk4, blk5, v3, v5]
  rfl

theorem final6 : (dats m 0 c).arrAt 6 cfg0.N = out (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp [idx t]
  rw [after0_6]
  obtain ⟨e, q, rfl⟩ : ∃ (e : Fin 1024) (q : Fin 512), y = ix2 e q := ⟨y 0, y 1, by funext a; fin_cases a <;> rfl⟩
  have he : ((View.whole main_v7).slice (win0_6.rect t)).emb (ix2 e q) = ix2 e ⟨t.val * 512 + q.val, by have := lt_of_lt_of_eq t.isLt N_0; omega⟩ := by
    blk_ext [idx t]
  rw [he]
  unfold out0_6
  canon_tiles
  all_goals
    obtain ⟨e', s, rfl⟩ : ∃ (e : Fin 1024) (s : Fin 256), x = ix2 e s := ⟨x 0, x 1, by funext a; fin_cases a <;> rfl⟩
    obtain rfl : e = e' := Fin.ext h0
  · obtain rfl : q = ⟨256 + s.val, Nat.add_lt_add_left s.isLt 256⟩ := Fin.ext h1
    refine (ln2_at _ _ _ _ _ _ _ s e).trans (half m c t 256 (by decide) s e _ _ _ _ _ _ _ ?_ ?_ ?_ ?_ ?_ ?_ ?_)
    all_goals try intros
    all_goals pointwise
  · obtain rfl : q = ⟨0 + s.val, (Nat.zero_add s.val).trans_lt (s.isLt.trans (by decide))⟩ := Fin.ext (h1.trans (Nat.zero_add _).symm)
    refine (ln_at _ _ _ _ _ _ _ s e).trans (half m c t 0 (by decide) s e _ _ _ _ _ _ _ ?_ ?_ ?_ ?_ ?_ ?_ ?_)
    all_goals try intros
    all_goals pointwise

end Cert.Kernel3Ideal.Ln
-- ==== Proof.LnRef.lean ====
module

public import proofs.«01_k».proof.Proof.Gen.Reference3Ideal.Run
public import proofs.«01_k».proof.Proof.LnSpec
public import Idealize.ShloMosaic.Lib.Pointwise
public import Idealize.ShloMosaic.Lib.Pipeline.ValueKit

/-!
The plain output projection with its layer norm computes the normed rows, one column per token.
-/

@[expose] public section
set_option maxRecDepth 16384
noncomputable section
open Idealize.ShloMosaic Idealize.ShloMosaic.TcCoe Idealize.SL.Sem
open Cert.Reference3Ideal Cert.Reference3Ideal.Gen Cert.LnSpec

set_option maxHeartbeats 1000000

namespace Cert.Reference3Ideal.Ln

/-- The residual and the projected mixer outputs, before the norm. -/
def pre (y h : FVec Ideal S16384x1024 .bf16) (x : FVec Ideal S8x2048x1024 .f32) (w : FVec Ideal S1x2048x1024 .f32) : FVec Ideal S8x2048x1024 .f32 :=
  addf (mulf (broadcastInDim S8x2048x1024 ![] bcast_S_S8x2048x1024 (constant S_ .f32 0x3F9837F0#32)) x)
    (Host.dotGeneral dot_S8x2048x2048_S2048x1024_S8x2048x1024_2_0_01_1_n_n none
      (concatenate S8x2048x2048 2 [⟨S8x2048x1024, (shapeCast S8x2048x1024 (extf .f32 y bitsLt_bf16_f32) shapeCasts_S16384x1024_S8x2048x1024 : FVec Ideal S8x2048x1024 .f32)⟩,
        ⟨S8x2048x1024, (shapeCast S8x2048x1024 (extf .f32 h bitsLt_bf16_f32) shapeCasts_S16384x1024_S8x2048x1024 : FVec Ideal S8x2048x1024 .f32)⟩] concatenates_S8x2048x1024_S8x2048x1024_S8x2048x2048_d2)
      (shapeCast S2048x1024 w shapeCasts_S1x2048x1024_S2048x1024))

/-- The mean of each row, repeated along it. -/
def avg (u : FVec Ideal S8x2048x1024 .f32) : FVec Ideal S8x2048x1 .f32 :=
  Host.divf (broadcastInDim S8x2048x1 ![0, 1] bcast_S8x2048_S8x2048x1_0_1 (Host.reduceAdd u (constant S_ .f32 0x00000000#32) reducesTo_S8x2048x1024_S8x2048_d2 h_S_))
    (broadcastInDim S8x2048x1 ![] bcast_S_S8x2048x1 (constant S_ .f32 0x44800000#32))

/-- Each row less its mean. -/
def off (u : FVec Ideal S8x2048x1024 .f32) : FVec Ideal S8x2048x1024 .f32 :=
  subf u (broadcastInDim S8x2048x1024 ![0, 1, 2] bcast_S8x2048x1_S8x2048x1024_0_1_2 (avg u))

/-- The layer norm of every row, one column per token. -/
def norm (u : FVec Ideal S8x2048x1024 .f32) (g b : FVec Ideal S1x1024 .f32) : FVec Ideal S1024x16384 .f32 :=
  transpose S1024x16384 [1, 0] (shapeCast S16384x1024 (addf (mulf (mulf (off u)
      (broadcastInDim S8x2048x1024 ![0, 1, 2] bcast_S8x2048x1_S8x2048x1024_0_1_2 (Host.rsqrt (addf (avg (mulf (off u) (off u))) (broadcastInDim S8x2048x1 ![] bcast_S_S8x2048x1 (constant S_ .f32 0x3727C5AC#32))))))
      (broadcastInDim S8x2048x1024 ![0, 1, 2] bcast_S1x1x1024_S8x2048x1024_0_1_2 (broadcastInDim S1x1x1024 ![2] bcast_S1024_S1x1x1024_2 (shapeCast S1024 g shapeCasts_S1x1024_S1024))))
      (broadcastInDim S8x2048x1024 ![0, 1, 2] bcast_S1x1x1024_S8x2048x1024_0_1_2 (broadcastInDim S1x1x1024 ![2] bcast_S1024_S1x1x1024_2 (shapeCast S1024 b shapeCasts_S1x1024_S1024))))
    shapeCasts_S8x2048x1024_S16384x1024) transposes_S16384x1024_S1024x16384_1_0

/-- The result is the norm of the sum. -/
theorem res_eq (m : (ℓ : Loc nD τ sig) → Buf (Elt Ideal) ℓ) (c : Dev nD) : Cert.Reference3Ideal.Value.res_main_v37 m c
    = norm (pre (m ((c : Thread nD τ).loc main_arg0)) (m ((c : Thread nD τ).loc main_arg1)) (m ((c : Thread nD τ).loc main_arg2)) (m ((c : Thread nD τ).loc main_arg3)))
      (m ((c : Thread nD τ).loc main_arg4)) (m ((c : Thread nD τ).loc main_arg5)) := rfl

/-- A row before the norm. -/
theorem pre_at (y h : FVec Ideal S16384x1024 .bf16) (x : FVec Ideal S8x2048x1024 .f32) (w : FVec Ideal S1x2048x1024 .f32) (r : Fin 16384) (e : Fin 1024) :
    pre y h x w (ix3 ⟨r.val / 2048, by omega⟩ ⟨r.val % 2048, by omega⟩ e) = mix y h x w r e := by
  pointwise [pre]
  rfl

/-- The mean of a row. -/
theorem avg_at (u : FVec Ideal S8x2048x1024 .f32) (b : Fin 8) (s : Fin 2048) : avg u (ix3 b s 0) = mean fun k => u (ix3 b s k) := by
  pointwise [avg]
  rfl

/-- A row less its mean. -/
theorem off_at (u : FVec Ideal S8x2048x1024 .f32) (b : Fin 8) (s : Fin 2048) (e : Fin 1024) : off u (ix3 b s e) = u (ix3 b s e) - mean fun k => u (ix3 b s k) := by
  pointwise [off]
  rw [avg_at]

/-- The normed row of a token stands in its column. -/
theorem norm_at (u : FVec Ideal S8x2048x1024 .f32) (g b : FVec Ideal S1x1024 .f32) (e : Fin 1024) (r : Fin 16384) : norm u g b (ix2 e r)
    = ln (fun k => u (ix3 ⟨r.val / 2048, by omega⟩ ⟨r.val % 2048, by omega⟩ k)) (g (ix2 0 e)) (b (ix2 0 e)) e := by
  pointwise [norm]
  have hv : (fun k => mulf (off u) (off u) (ix3 ⟨r.val / 2048, by omega⟩ ⟨r.val % 2048, by omega⟩ k))
      = fun k => (u (ix3 ⟨r.val / 2048, by omega⟩ ⟨r.val % 2048, by omega⟩ k) - mean fun k => u (ix3 ⟨r.val / 2048, by omega⟩ ⟨r.val % 2048, by omega⟩ k))
        * (u (ix3 ⟨r.val / 2048, by omega⟩ ⟨r.val % 2048, by omega⟩ k) - mean fun k => u (ix3 ⟨r.val / 2048, by omega⟩ ⟨r.val % 2048, by omega⟩ k)) := by
    funext k
    change off u _ * off u _ = _
    rw [off_at]
  rw [avg_at, off_at, hv]
  rfl

/-- The result is the normed rows, one column per token. -/
theorem res (m : (ℓ : Loc nD τ sig) → Buf (Elt Ideal) ℓ) (c : Dev nD) : Cert.Reference3Ideal.Value.res_main_v37 m c
    = out (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) := by
  rw [res_eq]
  funext i
  obtain ⟨e, r, rfl⟩ : ∃ (e : Fin 1024) (r : Fin 16384), i = ix2 e r := ⟨i 0, i 1, by funext a; fin_cases a <;> rfl⟩
  refine (norm_at _ _ _ e r).trans ?_
  rw [funext fun k => pre_at _ _ _ _ r k]
  rfl

end Cert.Reference3Ideal.Ln
-- ==== Proof.LnFinal.lean ====
module

public import proofs.«01_k».proof.Defs
public import proofs.«01_k».proof.Proof.LnKer
public import proofs.«01_k».proof.Proof.LnRef
public import Idealize.ShloMosaic.Lib.Claim

/-!
The output projection with its layer norm and its plain form, started from equal arguments, end with equal results.
-/

@[expose] public section
set_option maxRecDepth 16384
noncomputable section
open Idealize.ShloMosaic Idealize.ShloMosaic.TcCoe Idealize.SL.Sem
open Cert.LnSpec

namespace Cert.LnFinal

/-- Started from equal arguments, the output projection and its plain form end with equal results. -/
theorem algebraic : Cert.algebraic_Kernel3Ideal_Reference3Ideal (hKernel3Ideal := Cert.Kernel3Ideal.Gen.facts)
    (hReference3Ideal := Cert.Reference3Ideal.Gen.facts) := by
  intro m g m' g' _ agree
  refine ⟨fun c => out (m (c.tc.loc Cert.Kernel3Ideal.main_arg0)) (m (c.tc.loc Cert.Kernel3Ideal.main_arg1)) (m (c.tc.loc Cert.Kernel3Ideal.main_arg2))
    (m (c.tc.loc Cert.Kernel3Ideal.main_arg3)) (m (c.tc.loc Cert.Kernel3Ideal.main_arg4)) (m (c.tc.loc Cert.Kernel3Ideal.main_arg5)), ?_, ?_⟩
  · refine (θ_run _ _ _).mono (fun r h c => ?_) (Cert.Kernel3Ideal.Value.run_blocks (F := Ideal) m g)
    obtain ⟨h0, rest⟩ := h c
    exact ⟨h0.trans (Cert.Kernel3Ideal.Ln.final6 m c), rest⟩
  · refine (θ_run _ _ _).mono (fun r h c => ?_) (Cert.Reference3Ideal.Value.run (F := Ideal) m' g')
    obtain ⟨h0, rest⟩ := h c
    obtain ⟨a0, a1, a2, a3, a4, a5⟩ := agree c
    dsimp only
    rw [← a0, ← a1, ← a2, ← a3, ← a4, ← a5]
    exact ⟨h0.trans (Cert.Reference3Ideal.Ln.res m' c), rest⟩

end Cert.LnFinal
-- ==== Proof.PkSpec.lean ====
module

public import Idealize.ShloMosaic.Lib.Pointwise
public import proofs.«01_k».proof.Kernel4Ideal

/-!
The product-key scores: each key's product with its head's half of the token's query.
-/

@[expose] public section
noncomputable section
open Idealize.ShloMosaic
open Cert.Kernel4Ideal

namespace Cert.PkSpec

/-- The query of a token: column `q` of its product with the query weights. -/
def query (x : S1024x16384.Idx → EReal) (w : S1x1024x2048.Idx → EReal) (r : Fin 16384) (q : Fin 2048) : EReal :=
  ∑ d : Fin 1024, w (ix3 0 d q) * x (ix2 d r)

/-- The score of key `k` of head `h` on one side, for a token. -/
def score (x : S1024x16384.Idx → EReal) (w : S1x1024x2048.Idx → EReal) (y : S1x8x2x128x128.Idx → EReal) (z : Fin 2) (h : Fin 8) (k : Fin 128) (r : Fin 16384) : EReal :=
  ∑ d : Fin 128, y (ix5 0 h z k d) * query x w r ⟨h.val * 256 + (z.val * 128 + d.val), by omega⟩

/-- The scores of one side, the tokens in blocks of 128. -/
def out (z : Fin 2) (x : S1024x16384.Idx → EReal) (w : S1x1024x2048.Idx → EReal) (y : S1x8x2x128x128.Idx → EReal) : S8x128x128x128.Idx → EReal :=
  fun i => score x w y z (i 0) (i 2) ⟨(i 1).val * 128 + (i 3).val, by have h1 : (i 1).val < 128 := (i 1).isLt; have h3 : (i 3).val < 128 := (i 3).isLt; omega⟩

end Cert.PkSpec
-- ==== Proof.PkBlk.lean ====
module

public import proofs.«01_k».proof.Proof.Gen.Kernel4Ideal.Frame.Runs
public import proofs.«01_k».proof.Proof.PkSpec
public import Idealize.ShloMosaic.Lib.Pointwise
public import Idealize.ShloMosaic.Lib.StableHlo.RunRead
public import Idealize.ShloMosaic.Lib.Pipeline.ValueKit

/-!
The blocks that the product-key call reads at each point of its grid, as entries of the arguments.
-/

@[expose] public section
set_option maxRecDepth 16384
noncomputable section
open Idealize.ShloMosaic Idealize.ShloMosaic.TcCoe Idealize.SL.Sem
open Cert.Kernel4Ideal Cert.Kernel4Ideal.Gen Cert.PkSpec

set_option maxHeartbeats 1000000

namespace Cert.Kernel4Ideal.Pk

variable (m : (ℓ : Loc nD τ sig) → Buf (Elt Ideal) ℓ) (c : Dev nD)

/-- Where the blocks stand at each point of the grid. -/
theorem idx : ∀ t : Fin cfg0.N, win0_0.index t = ![0, t.val] ∧ win0_1.index t = ![0, 0] ∧ win0_2.index t = ![0, 0, 0, 0]
    ∧ win0_3.index t = ![0, t.val, 0, 0] ∧ win0_4.index t = ![0, t.val, 0, 0] :=
  (by decide +kernel : ∀ t : Fin grid0.N, _)

/-- The query weights, transposed and rounded: the ideal rounding keeps them. -/
theorem v2 (q : Fin 2048) (d : Fin 1024) : V m c main_v2 (ix2 q d) = m ((c : Thread nD τ).loc main_arg1) (ix3 0 d q) := by
  simp only [V, List.flatten_cons, List.flatten_nil, List.append_nil, StableHlo.after_append]
  after_reads_simp
  pointwise

/-- The keys, rounded: the ideal rounding keeps them. -/
theorem v4 (h : Fin 8) (z : Fin 2) (k d : Fin 128) : V m c main_v4 (ix4 h z k d) = m ((c : Thread nD τ).loc main_arg2) (ix5 0 h z k d) := by
  simp only [V, List.flatten_cons, List.flatten_nil, List.append_nil, StableHlo.after_append]
  after_reads_simp
  pointwise

/-- The block of tokens. -/
theorem blk0 (t : Fin cfg0.N) (d : Fin 1024) (l : Fin 256) : iblk m c 0 t (ix2 d l)
    = m ((c : Thread nD τ).loc main_arg0) (ix2 d ⟨t.val * 256 + l.val, by have := lt_of_lt_of_eq t.isLt N_0; omega⟩) := by
  blk_ext [iblk, V, idx t]

/-- The query weights are read whole. -/
theorem blk1 (t : Fin cfg0.N) (q : Fin 2048) (d : Fin 1024) : iblk m c 1 t (ix2 q d) = m ((c : Thread nD τ).loc main_arg1) (ix3 0 d q) := by
  rw [← v2 m c]
  blk_ext [iblk, idx t]

/-- The keys are read whole. -/
theorem blk2 (t : Fin cfg0.N) (h : Fin 8) (z : Fin 2) (k d : Fin 128) : iblk m c 2 t (ix4 h z k d) = m ((c : Thread nD τ).loc main_arg2) (ix5 0 h z k d) := by
  rw [← v4 m c]
  blk_ext [iblk, idx t]

end Cert.Kernel4Ideal.Pk
-- ==== Proof.PkTile.lean ====
module

public import proofs.«01_k».proof.Proof.PkBlk
public import proofs.«01_k».proof.Proof.KerRead

/-!
The value of one stored tile of scores, as the scores of its tokens.
-/

@[expose] public section
set_option maxRecDepth 16384
noncomputable section
open Idealize.ShloMosaic Idealize.ShloMosaic.TcCoe Idealize.SL.Sem
open Cert.Kernel4Ideal Cert.Kernel4Ideal.Gen Cert.PkSpec

set_option maxHeartbeats 1000000

namespace Cert.Kernel4Ideal.Pk

/-- The queries of a block of tokens. -/
theorem pay2_at (v0 : Vec Ideal S2048x1024 .bf16) (v2 : Vec Ideal S1024x256 .f32) (q : Fin 2048) (l : Fin 256) :
    k0_pay2 v0 v2 (ix2 q l) = ∑ d : Fin 1024, v0 (ix2 q d) * v2 (ix2 d l) := by
  pointwise [k0_pay2]

/-- The keys' products with the queries of a block of tokens. -/
theorem pay3_at (v8 : Vec Ideal S1x1x128x128 .bf16) (v10 : Vec Ideal S128x256 .f32) (k : Fin 128) (l : Fin 256) :
    k0_pay3 v8 v10 (ix2 k l) = ∑ d : Fin 128, v8 (ix4 0 0 k d) * v10 (ix2 d l) := by
  pointwise [k0_pay3]

/-- The tile of the block's first half of tokens. -/
theorem pay4_at (v8 : Vec Ideal S1x1x128x128 .bf16) (v10 : Vec Ideal S128x256 .f32) (k l : Fin 128) :
    k0_pay4 v8 v10 (ix4 0 0 k l) = ∑ d : Fin 128, v8 (ix4 0 0 k d) * v10 (ix2 d ⟨0 * 128 + l.val, by omega⟩) := by
  rw [← pay3_at]
  pointwise [k0_pay4]

/-- The tile of the block's second half of tokens. -/
theorem pay412_at (v8 : Vec Ideal S1x1x128x128 .bf16) (v10 : Vec Ideal S128x256 .f32) (k l : Fin 128) :
    k0_pay412 (k0_pay3 v8 v10) (ix4 0 0 k l) = ∑ d : Fin 128, v8 (ix4 0 0 k d) * v10 (ix2 d ⟨1 * 128 + l.val, by omega⟩) := by
  rw [← pay3_at]
  pointwise [k0_pay412]

variable (m : (ℓ : Loc nD τ sig) → Buf (Elt Ideal) ℓ) (c : Dev nD)

/-- The scratch's column of a token is the token's query. -/
theorem query_at (t : Fin cfg0.N) (q : Fin 2048) (l : Fin 256) : k0_pay2 (iblk m c 1 t) (iblk m c 0 t) (ix2 q l)
    = query (m ((c : Thread nD τ).loc main_arg0)) (m ((c : Thread nD τ).loc main_arg1)) ⟨t.val * 256 + l.val, by have := lt_of_lt_of_eq t.isLt N_0; omega⟩ q := by
  rw [pay2_at]
  unfold query
  refine Finset.sum_congr rfl fun e _ => ?_
  rw [blk1, blk0]

/-- The products of a head's keys with its half of the queries are the scores of the tile's tokens. -/
theorem tile (t : Fin cfg0.N) (h : Fin 8) (z b : Fin 2) (k l : Fin 128) (v8 : Vec Ideal S1x1x128x128 .bf16) (v10 : Vec Ideal S128x256 .f32)
    (h8 : ∀ d : Fin 128, v8 (ix4 0 0 k d) = iblk m c 2 t (ix4 h z k d))
    (h10 : ∀ d : Fin 128, v10 (ix2 d ⟨b.val * 128 + l.val, by omega⟩)
      = k0_pay2 (iblk m c 1 t) (iblk m c 0 t) (ix2 ⟨h.val * 256 + (z.val * 128 + d.val), by omega⟩ ⟨b.val * 128 + l.val, by omega⟩)) :
    ∑ d : Fin 128, v8 (ix4 0 0 k d) * v10 (ix2 d ⟨b.val * 128 + l.val, by omega⟩)
      = out z (m ((c : Thread nD τ).loc main_arg0)) (m ((c : Thread nD τ).loc main_arg1)) (m ((c : Thread nD τ).loc main_arg2))
        (ix4 h ⟨t.val * 2 + b.val, by have := lt_of_lt_of_eq t.isLt N_0; omega⟩ k l) := by
  show _ = score _ _ _ z h k ⟨(t.val * 2 + b.val) * 128 + l.val, by have := lt_of_lt_of_eq t.isLt N_0; omega⟩
  unfold score
  refine Finset.sum_congr rfl fun d _ => ?_
  rw [h8, h10, blk2, query_at]
  refine congrArg₂ (fun a b : EReal => a * b) rfl (congrArg (fun r => query _ _ r _) (Fin.ext ?_))
  show t.val * 256 + (b.val * 128 + l.val) = (t.val * 2 + b.val) * 128 + l.val
  omega

/-- A load of one head's keys of one side reads those keys. -/
theorem keys_at (X : Vec Ideal S8x2x128x128 .bf16) {off : Fin 4 → ℕ} (inb) (h : Fin 8) (z : Fin 2) (k d : Fin 128)
    (o0 : off 0 = h.val) (o1 : off 1 = z.val) (o2 : off 2 = 0) (o3 : off 3 = 0) :
    View.ld X (Rect.unit (s := S8x2x128x128) off ![1, 1, 128, 128] inb) (ix4 0 0 k d) = X (ix4 h z k d) := by
  refine congrArg X (funext fun a => Fin.ext ?_)
  fin_cases a
  · exact (Nat.add_zero _).trans o0
  · exact (Nat.add_zero _).trans o1
  · show off 2 + 1 * k.val = k.val
    omega
  · show off 3 + 1 * d.val = d.val
    omega

/-- A load of 128 rows of the scratch reads those rows of what was stored whole. -/
theorem rows_at (w : Vec Ideal S2048x256 .f32) {off : Fin 2 → ℕ} (inb) (inb') (q : Fin 2048) (d : Fin 128) (l : Fin 256)
    (o0 : off 0 + d.val = q.val) (o1 : off 1 = 0) :
    (View.whole cc0_scratch0).readCov (Val := Elt Ideal) [⟨Rect.unit (s := S2048x256) ![0, 0] ![2048, 256] inb', w⟩]
      (Rect.unit (s := S2048x256) off ![128, 256] inb).toLoadRect (ix2 d l) = w (ix2 q l) := by
  refine (Cert.KernelIdeal.Read.load _ _ inb (ix2 d l) (ix2 q l) fun a => ?_).trans
    (Cert.KernelIdeal.Read.hit inb' w [] (ix2 q l) (ix2 q l) fun a => ?_)
  · fin_cases a
    · exact o0.symm
    · show l.val = off 1 + l.val
      omega
  · fin_cases a <;> exact (Nat.zero_add _).symm

/-- An index of a stored tile is a key and a token. -/
theorem split (x : S1x1x128x128.Idx) : x = ix4 0 0 (x 2) (x 3) := by
  funext a
  fin_cases a
  · exact Fin.ext (Nat.lt_one_iff.mp (x 0).isLt)
  · exact Fin.ext (Nat.lt_one_iff.mp (x 1).isLt)
  · rfl
  · rfl

section stored

variable (t : Fin cfg0.N) (h : Fin 8) (z b : Fin 2) (k l : Fin 128) (x : S1x1x128x128.Idx) {off : Fin 4 → ℕ} {row : Fin 2 → ℕ} (inb) (inr) (inw)
  (hk : k.val = (x 2).val) (hl : l.val = (x 3).val) (o0 : h.val = off 0) (o1 : off 1 = z.val) (o2 : off 2 = 0) (o3 : off 3 = 0)
  (r0 : row 0 = h.val * 256 + z.val * 128) (r1 : row 1 = 0)

include hk hl o0 o1 o2 o3 r0 r1

/-- The stored tile of a block's first half of tokens. -/
theorem first (sl) (sc) (hb : b.val = 0) :
    shapeCast S1x1x128x128 (extractStridedSlice S128x128 ![0, 0]
      (k0_pay3 (View.ld (iblk m c 2 t) (Rect.unit (s := S8x2x128x128) off ![1, 1, 128, 128] inb))
        ((View.whole cc0_scratch0).readCov (Val := Elt Ideal) [⟨Rect.unit (s := S2048x256) ![0, 0] ![2048, 256] inw, k0_pay2 (iblk m c 1 t) (iblk m c 0 t)⟩]
          (Rect.unit (s := S2048x256) row ![128, 256] inr).toLoadRect)) sl) sc x
      = out z (m ((c : Thread nD τ).loc main_arg0)) (m ((c : Thread nD τ).loc main_arg1)) (m ((c : Thread nD τ).loc main_arg2))
        (ix4 h ⟨t.val * 2 + b.val, by have := lt_of_lt_of_eq t.isLt N_0; omega⟩ k l) := by
  obtain rfl : k = x 2 := Fin.ext hk
  obtain rfl : l = x 3 := Fin.ext hl
  obtain rfl : b = 0 := Fin.ext hb
  rw [split x]
  refine (pay4_at _ _ _ _).trans (tile m c t h z 0 _ _ _ _ (fun d => keys_at _ inb h z _ d o0.symm o1 o2 o3) fun d => rows_at _ inr inw _ d _ ?_ r1)
  rw [r0]
  exact Nat.add_assoc _ _ _

/-- The stored tile of a block's second half of tokens. -/
theorem second (sl) (sc) (hb : b.val = 1) :
    shapeCast S1x1x128x128 (extractStridedSlice S128x128 ![0, 128]
      (k0_pay3 (View.ld (iblk m c 2 t) (Rect.unit (s := S8x2x128x128) off ![1, 1, 128, 128] inb))
        ((View.whole cc0_scratch0).readCov (Val := Elt Ideal) [⟨Rect.unit (s := S2048x256) ![0, 0] ![2048, 256] inw, k0_pay2 (iblk m c 1 t) (iblk m c 0 t)⟩]
          (Rect.unit (s := S2048x256) row ![128, 256] inr).toLoadRect)) sl) sc x
      = out z (m ((c : Thread nD τ).loc main_arg0)) (m ((c : Thread nD τ).loc main_arg1)) (m ((c : Thread nD τ).loc main_arg2))
        (ix4 h ⟨t.val * 2 + b.val, by have := lt_of_lt_of_eq t.isLt N_0; omega⟩ k l) := by
  obtain rfl : k = x 2 := Fin.ext hk
  obtain rfl : l = x 3 := Fin.ext hl
  obtain rfl : b = 1 := Fin.ext hb
  rw [split x]
  refine (pay412_at _ _ _ _).trans (tile m c t h z 1 _ _ _ _ (fun d => keys_at _ inb h z _ d o0.symm o1 o2 o3) fun d => rows_at _ inr inw _ d _ ?_ r1)
  rw [r0]
  exact Nat.add_assoc _ _ _

end stored

end Cert.Kernel4Ideal.Pk
-- ==== Proof.PkKer.lean ====
module

public import proofs.«01_k».proof.Proof.PkTile
public import proofs.«01_k».proof.Proof.Gen.Kernel4Ideal.Frame
public import Idealize.ShloMosaic.Lib.Pipeline.Value

/-!
The two arrays of product-key scores that the call leaves.
-/

@[expose] public section
set_option maxRecDepth 16384
noncomputable section
open Idealize.ShloMosaic Idealize.ShloMosaic.TcCoe Idealize.SL.Sem
open Cert.Kernel4Ideal Cert.Kernel4Ideal.Gen Cert.PkSpec

set_option maxHeartbeats 400000

namespace Cert.Kernel4Ideal.Pk

/-- The products of the eight heads' keys of the first side are one function of the keys and queries. -/
theorem same3 : @k0_pay1655 Ideal _ = k0_pay3 ∧ @k0_pay3341 Ideal _ = k0_pay3 ∧ @k0_pay4998 Ideal _ = k0_pay3 ∧ @k0_pay6672 Ideal _ = k0_pay3
    ∧ @k0_pay8346 Ideal _ = k0_pay3 ∧ @k0_pay10007 Ideal _ = k0_pay3 ∧ @k0_pay11693 Ideal _ = k0_pay3 :=
  ⟨rfl, rfl, rfl, rfl, rfl, rfl, rfl⟩

/-- The products of the eight heads' keys of the second side are one function of the keys and queries. -/
theorem same4 : @k0_pay817 Ideal _ = k0_pay3 ∧ @k0_pay2512 Ideal _ = k0_pay3 ∧ @k0_pay4155 Ideal _ = k0_pay3 ∧ @k0_pay5849 Ideal _ = k0_pay3
    ∧ @k0_pay9191 Ideal _ = k0_pay3 ∧ @k0_pay12531 Ideal _ = k0_pay3
    ∧ (∀ (a : Vec Ideal S1x1x128x128 .bf16) (b : Vec Ideal S128x256 .f32), k0_pay7494 (k0_pay7493 a) b = k0_pay3 a b)
    ∧ ∀ (a : Vec Ideal S1x1x128x128 .bf16) (b : Vec Ideal S128x256 .f32),
      k0_pay10837 (k0_pay10835 a) (k0_pay10836 b) (constant S128x256 .f32 0x00000000#32) = k0_pay3 a b :=
  ⟨rfl, rfl, rfl, rfl, rfl, rfl, fun _ _ => rfl, fun _ _ => rfl⟩

variable (m : (ℓ : Loc nD τ sig) → Buf (Elt Ideal) ℓ) (c : Dev nD)

/-- The first side's scores. -/
theorem final3 : (dats m 0 c).arrAt 3 cfg0.N = out 0 (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp [idx t]
  rw [after0_3]
  obtain ⟨h, b, k, l, rfl⟩ : ∃ (h : Fin 8) (b : Fin 2) (k l : Fin 128), y = ix4 h b k l := ⟨y 0, y 1, y 2, y 3, by funext a; fin_cases a <;> rfl⟩
  have he : ((View.whole main_v5_0).slice (win0_3.rect t)).emb (ix4 h b k l) = ix4 h ⟨t.val * 2 + b.val, by have := lt_of_lt_of_eq t.isLt N_0; omega⟩ k l := by
    blk_ext [idx t]
  rw [he]
  unfold outsAt0
  dsimp only
  frame_out
  canon_tiles
  all_goals have x0 : (x 0).val = 0 := Nat.lt_one_iff.mp x0_lt
  all_goals have x1 : (x 1).val = 0 := Nat.lt_one_iff.mp x1_lt
  all_goals rw [x0] at h0
  all_goals rw [x1] at h1
  all_goals clear he x0_lt x1_lt x2_lt x3_lt
  all_goals try simp only [k0_pay4, k0_pay412, k0_pay1656, k0_pay1657, k0_pay2083, k0_pay3342, k0_pay3754, k0_pay4999, k0_pay5000, k0_pay5419,
    k0_pay6673, k0_pay7091, k0_pay8347, k0_pay8758, k0_pay10008, k0_pay10431, k0_pay11694, k0_pay12099, same3]
  all_goals have hh : h.val = _ := h0
  all_goals first
    | have hb : b.val = 0 := h1
      refine first m c t h 0 b k l x _ _ _ h2 h3 ?_ ?_ ?_ ?_ ?_ ?_ _ _ hb
    | have hb : b.val = 1 := h1
      refine second m c t h 0 b k l x _ _ _ h2 h3 ?_ ?_ ?_ ?_ ?_ ?_ _ _ hb
  all_goals simp [hh]

/-- The second side's scores. -/
theorem final4 : (dats m 0 c).arrAt 4 cfg0.N = out 1 (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp [idx t]
  rw [after0_4]
  obtain ⟨h, b, k, l, rfl⟩ : ∃ (h : Fin 8) (b : Fin 2) (k l : Fin 128), y = ix4 h b k l := ⟨y 0, y 1, y 2, y 3, by funext a; fin_cases a <;> rfl⟩
  have he : ((View.whole main_v5_1).slice (win0_4.rect t)).emb (ix4 h b k l) = ix4 h ⟨t.val * 2 + b.val, by have := lt_of_lt_of_eq t.isLt N_0; omega⟩ k l := by
    blk_ext [idx t]
  rw [he]
  unfold outsAt0
  dsimp only
  frame_out
  canon_tiles
  all_goals have x0 : (x 0).val = 0 := Nat.lt_one_iff.mp x0_lt
  all_goals have x1 : (x 1).val = 0 := Nat.lt_one_iff.mp x1_lt
  all_goals rw [x0] at h0
  all_goals rw [x1] at h1
  all_goals clear he x0_lt x1_lt x2_lt x3_lt
  all_goals try simp only [k0_pay818, k0_pay1247, k0_pay2513, k0_pay2914, k0_pay2915, k0_pay4156, k0_pay4586, k0_pay5850, k0_pay6252, k0_pay6253,
    k0_pay7495, k0_pay7928, k0_pay9192, k0_pay9596, k0_pay10838, k0_pay11270, k0_pay12532, k0_pay12940, same4]
  all_goals have hh : h.val = _ := h0
  all_goals first
    | have hb : b.val = 0 := h1
      refine first m c t h 1 b k l x _ _ _ h2 h3 ?_ ?_ ?_ ?_ ?_ ?_ _ _ hb
    | have hb : b.val = 1 := h1
      refine second m c t h 1 b k l x _ _ _ h2 h3 ?_ ?_ ?_ ?_ ?_ ?_ _ _ hb
  all_goals simp [hh]

end Cert.Kernel4Ideal.Pk
-- ==== Proof.PkRef.lean ====
module

public import proofs.«01_k».proof.Proof.Gen.Reference4Ideal.Run
public import proofs.«01_k».proof.Proof.PkSpec
public import Idealize.ShloMosaic.Lib.Pointwise
public import Idealize.ShloMosaic.Lib.Pipeline.ValueKit

/-!
The plain product-key scores are `out`.
-/

@[expose] public section
set_option maxRecDepth 16384
noncomputable section
open Idealize.ShloMosaic Idealize.ShloMosaic.TcCoe Idealize.SL.Sem
open Cert.Reference4Ideal Cert.Reference4Ideal.Gen Cert.PkSpec

set_option maxHeartbeats 1000000

namespace Cert.Reference4Ideal.Pk

variable (x : S1024x16384.Idx → EReal) (w : S1x1024x2048.Idx → EReal) (y : S1x8x2x128x128.Idx → EReal)

/-- The queries of all tokens. -/
abbrev queries : S16384x2048.Idx → EReal :=
  Host.dotGeneral (F := Ideal) (φ₁ := .f32) (φ₂ := .f32) dot_S16384x1024_S1024x2048_S16384x2048_1_0_0_1_n_n none
    (transpose S16384x1024 [1, 0] x transposes_S1024x16384_S16384x1024_1_0) (shapeCast S1024x2048 w shapeCasts_S1x1024x2048_S1024x2048)

/-- Each entry of the product is a query. -/
theorem queries_at (r : Fin 16384) (q : Fin 2048) : queries x w (ix2 r q) = query x w r q := by
  unfold query
  pointwise
  exact Finset.sum_congr rfl fun d _ => mul_comm _ _

/-- The scores of all tokens, as the second product leaves them. -/
abbrev scores : S8x2x128x16384.Idx → EReal :=
  Host.dotGeneral (F := Ideal) (φ₁ := .f32) (φ₂ := .f32) dot_S8x2x128x128_S16384x8x2x128_S8x2x128x16384_3_3_2_0_01_12 none
    (shapeCast S8x2x128x128 y shapeCasts_S1x8x2x128x128_S8x2x128x128)
    (shapeCast S16384x8x2x128 (queries x w) shapeCasts_S16384x2048_S16384x8x2x128)

/-- Each entry of the second product is a score. -/
theorem scores_at (h : Fin 8) (z : Fin 2) (k : Fin 128) (r : Fin 16384) : scores x w y (ix4 h z k r) = score x w y z h k r := by
  unfold score
  unfold scores
  generalize hQ : queries x w = Q
  have hq : ∀ r q, Q (ix2 r q) = query x w r q := fun r q => by rw [← hQ, queries_at]
  pointwise
  exact Finset.sum_congr rfl fun d _ => congrArg (_ * ·) ((hq r _).trans (congrArg (query x w r) (Fin.ext (Nat.add_assoc _ _ _))))

/-- The first side's scores in the call's layout. -/
theorem left : transpose S8x128x128x128 [2, 0, 3, 1] (shapeCast S128x128x8x128 (shapeCast S16384x8x128 (extractStridedSlice S16384x8x1x128 ![0, 0, 0, 0]
      (transpose S16384x8x2x128 [3, 0, 1, 2] (scores x w y) transposes_S8x2x128x16384_S16384x8x2x128_3_0_1_2) slices_S16384x8x2x128_S16384x8x1x128_0_0_0_0)
      shapeCasts_S16384x8x1x128_S16384x8x128) shapeCasts_S16384x8x128_S128x128x8x128) transposes_S128x128x8x128_S8x128x128x128_2_0_3_1 = out 0 x w y := by
  funext i
  obtain ⟨h, b, k, l, rfl⟩ : ∃ (h : Fin 8) (b k l : Fin 128), i = ix4 h b k l := ⟨i 0, i 1, i 2, i 3, by funext a; fin_cases a <;> rfl⟩
  generalize hS : scores x w y = S
  have hs : ∀ h z k r, S (ix4 h z k r) = score x w y z h k r := fun h z k r => by rw [← hS, scores_at]
  pointwise
  exact hs h 0 k _

/-- The second side's scores in the call's layout. -/
theorem right : transpose S8x128x128x128 [2, 0, 3, 1] (shapeCast S128x128x8x128 (shapeCast S16384x8x128 (extractStridedSlice S16384x8x1x128 ![0, 0, 1, 0]
      (transpose S16384x8x2x128 [3, 0, 1, 2] (scores x w y) transposes_S8x2x128x16384_S16384x8x2x128_3_0_1_2) slices_S16384x8x2x128_S16384x8x1x128_0_0_1_0)
      shapeCasts_S16384x8x1x128_S16384x8x128) shapeCasts_S16384x8x128_S128x128x8x128) transposes_S128x128x8x128_S8x128x128x128_2_0_3_1 = out 1 x w y := by
  funext i
  obtain ⟨h, b, k, l, rfl⟩ : ∃ (h : Fin 8) (b k l : Fin 128), i = ix4 h b k l := ⟨i 0, i 1, i 2, i 3, by funext a; fin_cases a <;> rfl⟩
  generalize hS : scores x w y = S
  have hs : ∀ h z k r, S (ix4 h z k r) = score x w y z h k r := fun h z k r => by rw [← hS, scores_at]
  pointwise
  exact hs h 1 k _

end Cert.Reference4Ideal.Pk
-- ==== Proof.PkFinal.lean ====
module

public import proofs.«01_k».proof.Defs
public import proofs.«01_k».proof.Proof.PkKer
public import proofs.«01_k».proof.Proof.PkRef
public import proofs.«01_k».proof.Proof.Gen.Kernel4Ideal.Value
public import Idealize.ShloMosaic.Lib.Claim

/-!
The product-key scores and their plain form, started from equal arguments, end with equal results.
-/

@[expose] public section
set_option maxRecDepth 16384
noncomputable section
open Idealize.ShloMosaic Idealize.ShloMosaic.TcCoe Idealize.SL.Sem
open Cert.PkSpec

namespace Cert.PkFinal

/-- Started from equal arguments, the product-key call and its plain form end with equal scores. -/
theorem algebraic : Cert.algebraic_Kernel4Ideal_Reference4Ideal (hKernel4Ideal := Cert.Kernel4Ideal.Gen.facts)
    (hReference4Ideal := Cert.Reference4Ideal.Gen.facts) := by
  intro m g m' g' _ agree
  refine ⟨fun c => out 0 (m (c.tc.loc Cert.Kernel4Ideal.main_arg0)) (m (c.tc.loc Cert.Kernel4Ideal.main_arg1)) (m (c.tc.loc Cert.Kernel4Ideal.main_arg2)),
    fun c => out 1 (m (c.tc.loc Cert.Kernel4Ideal.main_arg0)) (m (c.tc.loc Cert.Kernel4Ideal.main_arg1)) (m (c.tc.loc Cert.Kernel4Ideal.main_arg2)), ?_, ?_⟩
  · refine (θ_run _ _ _).mono (fun r h c => ?_) (Cert.Kernel4Ideal.Value.run_blocks (F := Ideal) m g)
    obtain ⟨h0, h1, -, -, -, rest⟩ := h c
    exact ⟨h0.trans (Cert.Kernel4Ideal.Pk.final3 m c), h1.trans (Cert.Kernel4Ideal.Pk.final4 m c), rest⟩
  · refine (θ_run _ _ _).mono (fun r h c => ?_) (Cert.Reference4Ideal.Value.run (F := Ideal) m' g')
    obtain ⟨h0, h1, rest⟩ := h c
    obtain ⟨a0, a1, a2⟩ := agree c
    dsimp only
    rw [← a0, ← a1, ← a2]
    exact ⟨h0.trans (Cert.Reference4Ideal.Pk.left _ _ _), h1.trans (Cert.Reference4Ideal.Pk.right _ _ _), rest⟩

end Cert.PkFinal
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gates
public import proofs.«01_k».proof.Proof.Final
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.InFinal
public import proofs.«01_k».proof.Proof.LnFinal
public import proofs.«01_k».proof.Proof.PkFinal
public import Idealize.ShloMosaic.Adequacy
public import Idealize.ShloMosaic.Init

@[expose] public section

noncomputable section

namespace Cert.Proof

open Idealize.ShloMosaic Idealize.SL.Sem Cert.Kernel

/-- The reference runs to its end, leaves its arguments alone, and leaves no semaphore raised. -/
theorem quiet_R : quiescent_ReferenceIdeal (hReferenceIdeal := Cert.ReferenceIdeal.Gen.facts) := by
  intro m g _
  refine (θ_run _ _ _).mono (fun r h => ⟨fun c => (h c).2.2.2.2, funext fun s => ?_⟩) (Cert.ReferenceIdeal.Value.run (F := Ideal) m g)
  rcases s with ⟨_, s⟩
  exact nomatch s

/-- The plain form of the input projection runs to its end, leaves its arguments alone, and leaves no semaphore raised. -/
theorem quiet_R2 : quiescent_Reference2Ideal (hReference2Ideal := Cert.Reference2Ideal.Gen.facts) := by
  intro m g _
  refine (θ_run _ _ _).mono (fun r h => ⟨fun c => (h c).2.2.2.2.2.2, funext fun s => ?_⟩) (Cert.Reference2Ideal.Value.run (F := Ideal) m g)
  rcases s with ⟨_, s⟩
  exact nomatch s

/-- The plain form of the output projection runs to its end, leaves its arguments alone, and leaves no semaphore raised. -/
theorem quiet_R3 : quiescent_Reference3Ideal (hReference3Ideal := Cert.Reference3Ideal.Gen.facts) := by
  intro m g _
  refine (θ_run _ _ _).mono (fun r h => ⟨fun c => (h c).2, funext fun s => ?_⟩) (Cert.Reference3Ideal.Value.run (F := Ideal) m g)
  rcases s with ⟨_, s⟩
  exact nomatch s

/-- The plain form of the product-key scores runs to its end, leaves its arguments alone, and leaves no semaphore raised. -/
theorem quiet_R4 : quiescent_Reference4Ideal (hReference4Ideal := Cert.Reference4Ideal.Gen.facts) := by
  intro m g _
  refine (θ_run _ _ _).mono (fun r h => ⟨fun c => (h c).2.2, funext fun s => ?_⟩) (Cert.Reference4Ideal.Value.run (F := Ideal) m g)
  rcases s with ⟨_, s⟩
  exact nomatch s

/-- For each of the four calls: the three frames, that the ideal kernel preserves the printed one, and that the kernel computes
    the reference's results. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts, Cert.On_gate_lanes.Gen.facts,
  fun m ρ _ => Cert.Kernel.Gen.frame m ρ, fun m ρ _ => Cert.KernelIdeal.Gen.frame m ρ, quiet_R,
  fun m ρ _ => Cert.Kernel2.Gen.frame m ρ, fun m ρ _ => Cert.Kernel2Ideal.Gen.frame m ρ, quiet_R2,
  fun m ρ _ => Cert.Kernel3.Gen.frame m ρ, fun m ρ _ => Cert.Kernel3Ideal.Gen.frame m ρ, quiet_R3,
  fun m ρ _ => Cert.Kernel4.Gen.frame m ρ, fun m ρ _ => Cert.Kernel4Ideal.Gen.frame m ρ, quiet_R4,
  trivial, Cert.Final.algebraic, trivial, Cert.InFinal.algebraic, trivial, Cert.LnFinal.algebraic,
  trivial, Cert.PkFinal.algebraic⟩

end Cert.Proof

end
